-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_MixMlp (m : (ℓ : Loc Cert.MixMlp.nD Cert.MixMlp.τ Cert.MixMlp.sig) → Buf (Elt Bits) ℓ) : Prop :=
  True

def Pre_MixMlpIdeal (m : (ℓ : Loc Cert.MixMlpIdeal.nD Cert.MixMlpIdeal.τ Cert.MixMlpIdeal.sig) → Buf (Elt Ideal) ℓ) : Prop :=
  True

def Pre_MixMlpRefIdeal (m : (ℓ : Loc Cert.MixMlpRefIdeal.nD Cert.MixMlpRefIdeal.τ Cert.MixMlpRefIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite_latent [hPre_finite_latent : Cert.Pre_finite_latent.Facts] (m : (ℓ : Loc Cert.LatentIdeal.nD Cert.LatentIdeal.τ Cert.LatentIdeal.sig) → Buf (Elt Ideal) ℓ) : Prop :=
  ∀ c : Dev Cert.LatentIdeal.nD,
    (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4))) = (fun _ => 1#1)

def Pre_LatentRefIdeal (m : (ℓ : Loc Cert.LatentRefIdeal.nD Cert.LatentRefIdeal.τ Cert.LatentRefIdeal.sig) → Buf (Elt Ideal) ℓ) : Prop :=
  True

def Pre_LatentRefIdeal_finite_latent [hPre_finite_latent : Cert.Pre_finite_latent.Facts] (m : (ℓ : Loc Cert.LatentRefIdeal.nD Cert.LatentRefIdeal.τ Cert.LatentRefIdeal.sig) → Buf (Elt Ideal) ℓ) : Prop :=
  ∀ c : Dev Cert.LatentRefIdeal.nD,
    (Cert.Pre_finite_latent.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2)) (m ((c.tc : Thread Cert.LatentRefIdeal.nD Cert.LatentRefIdeal.τ).loc Cert.LatentRefIdeal.main_arg3)) (m ((c.tc : Thread Cert.LatentRefIdeal.nD Cert.LatentRefIdeal.τ).loc Cert.LatentRefIdeal.main_arg4))) = (fun _ => 1#1)

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_GqaPrep (m : (ℓ : Loc Cert.GqaPrep.nD Cert.GqaPrep.τ Cert.GqaPrep.sig) → Buf (Elt Bits) ℓ) : Prop :=
  True

def Pre_GqaPrepIdeal (m : (ℓ : Loc Cert.GqaPrepIdeal.nD Cert.GqaPrepIdeal.τ Cert.GqaPrepIdeal.sig) → Buf (Elt Ideal) ℓ) : Prop :=
  True

def Pre_GqaPrepRefIdeal (m : (ℓ : Loc Cert.GqaPrepRefIdeal.nD Cert.GqaPrepRefIdeal.τ Cert.GqaPrepRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaRefIdeal (m : (ℓ : Loc Cert.MlaRefIdeal.nD Cert.MlaRefIdeal.τ Cert.MlaRefIdeal.sig) → Buf (Elt Ideal) ℓ) : Prop :=
  True

def Pre_GqaPos (m : (ℓ : Loc Cert.GqaPos.nD Cert.GqaPos.τ Cert.GqaPos.sig) → Buf (Elt Bits) ℓ) : Prop :=
  True

def Pre_GqaPosIdeal (m : (ℓ : Loc Cert.GqaPosIdeal.nD Cert.GqaPosIdeal.τ Cert.GqaPosIdeal.sig) → Buf (Elt Ideal) ℓ) : Prop :=
  True

def Pre_GqaPosRefIdeal (m : (ℓ : Loc Cert.GqaPosRefIdeal.nD Cert.GqaPosRefIdeal.τ Cert.GqaPosRefIdeal.sig) → Buf (Elt Ideal) ℓ) : Prop :=
  True

def Pre_MlaPos (m : (ℓ : Loc Cert.MlaPos.nD Cert.MlaPos.τ Cert.MlaPos.sig) → Buf (Elt Bits) ℓ) : Prop :=
  True

def Pre_MlaPosIdeal (m : (ℓ : Loc Cert.MlaPosIdeal.nD Cert.MlaPosIdeal.τ Cert.MlaPosIdeal.sig) → Buf (Elt Ideal) ℓ) : Prop :=
  True

def Pre_MlaPosRefIdeal (m : (ℓ : Loc Cert.MlaPosRefIdeal.nD Cert.MlaPosRefIdeal.τ Cert.MlaPosRefIdeal.sig) → Buf (Elt Ideal) ℓ) : Prop :=
  True

def Pre_MlaCtx (m : (ℓ : Loc Cert.MlaCtx.nD Cert.MlaCtx.τ Cert.MlaCtx.sig) → Buf (Elt Bits) ℓ) : Prop :=
  True

def Pre_MlaCtxIdeal (m : (ℓ : Loc Cert.MlaCtxIdeal.nD Cert.MlaCtxIdeal.τ Cert.MlaCtxIdeal.sig) → Buf (Elt Ideal) ℓ) : Prop :=
  True

def Pre_MlaCtxRefIdeal (m : (ℓ : Loc Cert.MlaCtxRefIdeal.nD Cert.MlaCtxRefIdeal.τ Cert.MlaCtxRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_MixMlp [hMixMlp : Cert.MixMlp.Facts] : Prop :=
  ∀ (m : (ℓ : Loc Cert.MixMlp.nD Cert.MixMlp.τ Cert.MixMlp.sig) → Buf (Elt Bits) ℓ) (g : Dev Cert.MixMlp.nD → PrngReg), Pre_MixMlp m →
    θ_run (Cert.MixMlp.defs (F := Bits)) (onTc (τ := Cert.MixMlp.τ) (Cert.MixMlp.main (F := Bits))) ⟨m, fun _ => 0, g⟩ (fun r => (∀ c : Dev Cert.MixMlp.nD,
      r.2.mem ((c.tc : Thread Cert.MixMlp.nD Cert.MixMlp.τ).loc Cert.MixMlp.main_arg0) = m ((c.tc : Thread Cert.MixMlp.nD Cert.MixMlp.τ).loc Cert.MixMlp.main_arg0)
      ∧ r.2.mem ((c.tc : Thread Cert.MixMlp.nD Cert.MixMlp.τ).loc Cert.MixMlp.main_arg1) = m ((c.tc : Thread Cert.MixMlp.nD Cert.MixMlp.τ).loc Cert.MixMlp.main_arg1)
      ∧ r.2.mem ((c.tc : Thread Cert.MixMlp.nD Cert.MixMlp.τ).loc Cert.MixMlp.main_arg2) = m ((c.tc : Thread Cert.MixMlp.nD Cert.MixMlp.τ).loc Cert.MixMlp.main_arg2)
      ∧ r.2.mem ((c.tc : Thread Cert.MixMlp.nD Cert.MixMlp.τ).loc Cert.MixMlp.main_arg3) = m ((c.tc : Thread Cert.MixMlp.nD Cert.MixMlp.τ).loc Cert.MixMlp.main_arg3)
      ∧ r.2.mem ((c.tc : Thread Cert.MixMlp.nD Cert.MixMlp.τ).loc Cert.MixMlp.main_arg4) = m ((c.tc : Thread Cert.MixMlp.nD Cert.MixMlp.τ).loc Cert.MixMlp.main_arg4)
      ∧ r.2.mem ((c.tc : Thread Cert.MixMlp.nD Cert.MixMlp.τ).loc Cert.MixMlp.main_arg5) = m ((c.tc : Thread Cert.MixMlp.nD Cert.MixMlp.τ).loc Cert.MixMlp.main_arg5)
      ∧ r.2.mem ((c.tc : Thread Cert.MixMlp.nD Cert.MixMlp.τ).loc Cert.MixMlp.main_arg6) = m ((c.tc : Thread Cert.MixMlp.nD Cert.MixMlp.τ).loc Cert.MixMlp.main_arg6))
      ∧ r.2.sem = fun _ => 0)

def quiescent_MixMlpIdeal [hMixMlpIdeal : Cert.MixMlpIdeal.Facts] : Prop :=
  ∀ (m : (ℓ : Loc Cert.MixMlpIdeal.nD Cert.MixMlpIdeal.τ Cert.MixMlpIdeal.sig) → Buf (Elt Ideal) ℓ) (g : Dev Cert.MixMlpIdeal.nD → PrngReg), Pre_MixMlpIdeal m →
    θ_run (Cert.MixMlpIdeal.defs (F := Ideal)) (onTc (τ := Cert.MixMlpIdeal.τ) (Cert.MixMlpIdeal.main (F := Ideal))) ⟨m, fun _ => 0, g⟩ (fun r => (∀ c : Dev Cert.MixMlpIdeal.nD,
      r.2.mem ((c.tc : Thread Cert.MixMlpIdeal.nD Cert.MixMlpIdeal.τ).loc Cert.MixMlpIdeal.main_arg0) = m ((c.tc : Thread Cert.MixMlpIdeal.nD Cert.MixMlpIdeal.τ).loc Cert.MixMlpIdeal.main_arg0)
      ∧ r.2.mem ((c.tc : Thread Cert.MixMlpIdeal.nD Cert.MixMlpIdeal.τ).loc Cert.MixMlpIdeal.main_arg1) = m ((c.tc : Thread Cert.MixMlpIdeal.nD Cert.MixMlpIdeal.τ).loc Cert.MixMlpIdeal.main_arg1)
      ∧ r.2.mem ((c.tc : Thread Cert.MixMlpIdeal.nD Cert.MixMlpIdeal.τ).loc Cert.MixMlpIdeal.main_arg2) = m ((c.tc : Thread Cert.MixMlpIdeal.nD Cert.MixMlpIdeal.τ).loc Cert.MixMlpIdeal.main_arg2)
      ∧ r.2.mem ((c.tc : Thread Cert.MixMlpIdeal.nD Cert.MixMlpIdeal.τ).loc Cert.MixMlpIdeal.main_arg3) = m ((c.tc : Thread Cert.MixMlpIdeal.nD Cert.MixMlpIdeal.τ).loc Cert.MixMlpIdeal.main_arg3)
      ∧ r.2.mem ((c.tc : Thread Cert.MixMlpIdeal.nD Cert.MixMlpIdeal.τ).loc Cert.MixMlpIdeal.main_arg4) = m ((c.tc : Thread Cert.MixMlpIdeal.nD Cert.MixMlpIdeal.τ).loc Cert.MixMlpIdeal.main_arg4)
      ∧ r.2.mem ((c.tc : Thread Cert.MixMlpIdeal.nD Cert.MixMlpIdeal.τ).loc Cert.MixMlpIdeal.main_arg5) = m ((c.tc : Thread Cert.MixMlpIdeal.nD Cert.MixMlpIdeal.τ).loc Cert.MixMlpIdeal.main_arg5)
      ∧ r.2.mem ((c.tc : Thread Cert.MixMlpIdeal.nD Cert.MixMlpIdeal.τ).loc Cert.MixMlpIdeal.main_arg6) = m ((c.tc : Thread Cert.MixMlpIdeal.nD Cert.MixMlpIdeal.τ).loc Cert.MixMlpIdeal.main_arg6))
      ∧ r.2.sem = fun _ => 0)

def quiescent_MixMlpRefIdeal [hMixMlpRefIdeal : Cert.MixMlpRefIdeal.Facts] : Prop :=
  ∀ (m : (ℓ : Loc Cert.MixMlpRefIdeal.nD Cert.MixMlpRefIdeal.τ Cert.MixMlpRefIdeal.sig) → Buf (Elt Ideal) ℓ) (g : Dev Cert.MixMlpRefIdeal.nD → PrngReg), Pre_MixMlpRefIdeal m →
    θ_run (Cert.MixMlpRefIdeal.defs (F := Ideal)) (onTc (τ := Cert.MixMlpRefIdeal.τ) (Cert.MixMlpRefIdeal.main (F := Ideal))) ⟨m, fun _ => 0, g⟩ (fun r => (∀ c : Dev Cert.MixMlpRefIdeal.nD,
      r.2.mem ((c.tc : Thread Cert.MixMlpRefIdeal.nD Cert.MixMlpRefIdeal.τ).loc Cert.MixMlpRefIdeal.main_arg0) = m ((c.tc : Thread Cert.MixMlpRefIdeal.nD Cert.MixMlpRefIdeal.τ).loc Cert.MixMlpRefIdeal.main_arg0)
      ∧ r.2.mem ((c.tc : Thread Cert.MixMlpRefIdeal.nD Cert.MixMlpRefIdeal.τ).loc Cert.MixMlpRefIdeal.main_arg1) = m ((c.tc : Thread Cert.MixMlpRefIdeal.nD Cert.MixMlpRefIdeal.τ).loc Cert.MixMlpRefIdeal.main_arg1)
      ∧ r.2.mem ((c.tc : Thread Cert.MixMlpRefIdeal.nD Cert.MixMlpRefIdeal.τ).loc Cert.MixMlpRefIdeal.main_arg2) = m ((c.tc : Thread Cert.MixMlpRefIdeal.nD Cert.MixMlpRefIdeal.τ).loc Cert.MixMlpRefIdeal.main_arg2)
      ∧ r.2.mem ((c.tc : Thread Cert.MixMlpRefIdeal.nD Cert.MixMlpRefIdeal.τ).loc Cert.MixMlpRefIdeal.main_arg3) = m ((c.tc : Thread Cert.MixMlpRefIdeal.nD Cert.MixMlpRefIdeal.τ).loc Cert.MixMlpRefIdeal.main_arg3)
      ∧ r.2.mem ((c.tc : Thread Cert.MixMlpRefIdeal.nD Cert.MixMlpRefIdeal.τ).loc Cert.MixMlpRefIdeal.main_arg4) = m ((c.tc : Thread Cert.MixMlpRefIdeal.nD Cert.MixMlpRefIdeal.τ).loc Cert.MixMlpRefIdeal.main_arg4)
      ∧ r.2.mem ((c.tc : Thread Cert.MixMlpRefIdeal.nD Cert.MixMlpRefIdeal.τ).loc Cert.MixMlpRefIdeal.main_arg5) = m ((c.tc : Thread Cert.MixMlpRefIdeal.nD Cert.MixMlpRefIdeal.τ).loc Cert.MixMlpRefIdeal.main_arg5)
      ∧ r.2.mem ((c.tc : Thread Cert.MixMlpRefIdeal.nD Cert.MixMlpRefIdeal.τ).loc Cert.MixMlpRefIdeal.main_arg6) = m ((c.tc : Thread Cert.MixMlpRefIdeal.nD Cert.MixMlpRefIdeal.τ).loc Cert.MixMlpRefIdeal.main_arg6))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ r.2.sem = fun _ => 0)

def quiescent_LatentIdeal_pre_finite_latent [hLatentIdeal : Cert.LatentIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite_latent m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3)
      ∧ r.2.mem ((c.tc : Thread Cert.LatentRefIdeal.nD Cert.LatentRefIdeal.τ).loc Cert.LatentRefIdeal.main_arg4) = m ((c.tc : Thread Cert.LatentRefIdeal.nD Cert.LatentRefIdeal.τ).loc Cert.LatentRefIdeal.main_arg4))
      ∧ r.2.sem = fun _ => 0)

def quiescent_LatentRefIdeal_pre_finite_latent [hLatentRefIdeal : Cert.LatentRefIdeal.Facts] [hPre_finite_latent : Cert.Pre_finite_latent.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal_finite_latent m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3)
      ∧ r.2.mem ((c.tc : Thread Cert.LatentRefIdeal.nD Cert.LatentRefIdeal.τ).loc Cert.LatentRefIdeal.main_arg4) = m ((c.tc : Thread Cert.LatentRefIdeal.nD Cert.LatentRefIdeal.τ).loc Cert.LatentRefIdeal.main_arg4))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2)
      ∧ r.2.mem ((c.tc : Thread Cert.NormProj.nD Cert.NormProj.τ).loc Cert.NormProj.main_arg3) = m ((c.tc : Thread Cert.NormProj.nD Cert.NormProj.τ).loc Cert.NormProj.main_arg3)
      ∧ r.2.mem ((c.tc : Thread Cert.NormProj.nD Cert.NormProj.τ).loc Cert.NormProj.main_arg4) = m ((c.tc : Thread Cert.NormProj.nD Cert.NormProj.τ).loc Cert.NormProj.main_arg4))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
      ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3)
      ∧ r.2.mem ((c.tc : Thread Cert.NormProjIdeal.nD Cert.NormProjIdeal.τ).loc Cert.NormProjIdeal.main_arg4) = m ((c.tc : Thread Cert.NormProjIdeal.nD Cert.NormProjIdeal.τ).loc Cert.NormProjIdeal.main_arg4))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2)
      ∧ r.2.mem ((c.tc : Thread Cert.NormProjRefIdeal.nD Cert.NormProjRefIdeal.τ).loc Cert.NormProjRefIdeal.main_arg3) = m ((c.tc : Thread Cert.NormProjRefIdeal.nD Cert.NormProjRefIdeal.τ).loc Cert.NormProjRefIdeal.main_arg3)
      ∧ r.2.mem ((c.tc : Thread Cert.NormProjRefIdeal.nD Cert.NormProjRefIdeal.τ).loc Cert.NormProjRefIdeal.main_arg4) = m ((c.tc : Thread Cert.NormProjRefIdeal.nD Cert.NormProjRefIdeal.τ).loc Cert.NormProjRefIdeal.main_arg4))
      ∧ r.2.sem = fun _ => 0)

def quiescent_GqaPrep [hGqaPrep : Cert.GqaPrep.Facts] : Prop :=
  ∀ (m : (ℓ : Loc Cert.GqaPrep.nD Cert.GqaPrep.τ Cert.GqaPrep.sig) → Buf (Elt Bits) ℓ) (g : Dev Cert.GqaPrep.nD → PrngReg), Pre_GqaPrep m →
    θ_run (Cert.GqaPrep.defs (F := Bits)) (onTc (τ := Cert.GqaPrep.τ) (Cert.GqaPrep.main (F := Bits))) ⟨m, fun _ => 0, g⟩ (fun r => (∀ c : Dev Cert.GqaPrep.nD,
      r.2.mem ((c.tc : Thread Cert.GqaPrep.nD Cert.GqaPrep.τ).loc Cert.GqaPrep.main_arg0) = m ((c.tc : Thread Cert.GqaPrep.nD Cert.GqaPrep.τ).loc Cert.GqaPrep.main_arg0)
      ∧ r.2.mem ((c.tc : Thread Cert.GqaPrep.nD Cert.GqaPrep.τ).loc Cert.GqaPrep.main_arg1) = m ((c.tc : Thread Cert.GqaPrep.nD Cert.GqaPrep.τ).loc Cert.GqaPrep.main_arg1)
      ∧ r.2.mem ((c.tc : Thread Cert.GqaPrep.nD Cert.GqaPrep.τ).loc Cert.GqaPrep.main_arg2) = m ((c.tc : Thread Cert.GqaPrep.nD Cert.GqaPrep.τ).loc Cert.GqaPrep.main_arg2)
      ∧ r.2.mem ((c.tc : Thread Cert.GqaPrep.nD Cert.GqaPrep.τ).loc Cert.GqaPrep.main_arg3) = m ((c.tc : Thread Cert.GqaPrep.nD Cert.GqaPrep.τ).loc Cert.GqaPrep.main_arg3)
      ∧ r.2.mem ((c.tc : Thread Cert.GqaPrep.nD Cert.GqaPrep.τ).loc Cert.GqaPrep.main_arg4) = m ((c.tc : Thread Cert.GqaPrep.nD Cert.GqaPrep.τ).loc Cert.GqaPrep.main_arg4)
      ∧ r.2.mem ((c.tc : Thread Cert.GqaPrep.nD Cert.GqaPrep.τ).loc Cert.GqaPrep.main_arg5) = m ((c.tc : Thread Cert.GqaPrep.nD Cert.GqaPrep.τ).loc Cert.GqaPrep.main_arg5))
      ∧ r.2.sem = fun _ => 0)

def quiescent_GqaPrepIdeal [hGqaPrepIdeal : Cert.GqaPrepIdeal.Facts] : Prop :=
  ∀ (m : (ℓ : Loc Cert.GqaPrepIdeal.nD Cert.GqaPrepIdeal.τ Cert.GqaPrepIdeal.sig) → Buf (Elt Ideal) ℓ) (g : Dev Cert.GqaPrepIdeal.nD → PrngReg), Pre_GqaPrepIdeal m →
    θ_run (Cert.GqaPrepIdeal.defs (F := Ideal)) (onTc (τ := Cert.GqaPrepIdeal.τ) (Cert.GqaPrepIdeal.main (F := Ideal))) ⟨m, fun _ => 0, g⟩ (fun r => (∀ c : Dev Cert.GqaPrepIdeal.nD,
      r.2.mem ((c.tc : Thread Cert.GqaPrepIdeal.nD Cert.GqaPrepIdeal.τ).loc Cert.GqaPrepIdeal.main_arg0) = m ((c.tc : Thread Cert.GqaPrepIdeal.nD Cert.GqaPrepIdeal.τ).loc Cert.GqaPrepIdeal.main_arg0)
      ∧ r.2.mem ((c.tc : Thread Cert.GqaPrepIdeal.nD Cert.GqaPrepIdeal.τ).loc Cert.GqaPrepIdeal.main_arg1) = m ((c.tc : Thread Cert.GqaPrepIdeal.nD Cert.GqaPrepIdeal.τ).loc Cert.GqaPrepIdeal.main_arg1)
      ∧ r.2.mem ((c.tc : Thread Cert.GqaPrepIdeal.nD Cert.GqaPrepIdeal.τ).loc Cert.GqaPrepIdeal.main_arg2) = m ((c.tc : Thread Cert.GqaPrepIdeal.nD Cert.GqaPrepIdeal.τ).loc Cert.GqaPrepIdeal.main_arg2)
      ∧ r.2.mem ((c.tc : Thread Cert.GqaPrepIdeal.nD Cert.GqaPrepIdeal.τ).loc Cert.GqaPrepIdeal.main_arg3) = m ((c.tc : Thread Cert.GqaPrepIdeal.nD Cert.GqaPrepIdeal.τ).loc Cert.GqaPrepIdeal.main_arg3)
      ∧ r.2.mem ((c.tc : Thread Cert.GqaPrepIdeal.nD Cert.GqaPrepIdeal.τ).loc Cert.GqaPrepIdeal.main_arg4) = m ((c.tc : Thread Cert.GqaPrepIdeal.nD Cert.GqaPrepIdeal.τ).loc Cert.GqaPrepIdeal.main_arg4)
      ∧ r.2.mem ((c.tc : Thread Cert.GqaPrepIdeal.nD Cert.GqaPrepIdeal.τ).loc Cert.GqaPrepIdeal.main_arg5) = m ((c.tc : Thread Cert.GqaPrepIdeal.nD Cert.GqaPrepIdeal.τ).loc Cert.GqaPrepIdeal.main_arg5))
      ∧ r.2.sem = fun _ => 0)

def quiescent_GqaPrepRefIdeal [hGqaPrepRefIdeal : Cert.GqaPrepRefIdeal.Facts] : Prop :=
  ∀ (m : (ℓ : Loc Cert.GqaPrepRefIdeal.nD Cert.GqaPrepRefIdeal.τ Cert.GqaPrepRefIdeal.sig) → Buf (Elt Ideal) ℓ) (g : Dev Cert.GqaPrepRefIdeal.nD → PrngReg), Pre_GqaPrepRefIdeal m →
    θ_run (Cert.GqaPrepRefIdeal.defs (F := Ideal)) (onTc (τ := Cert.GqaPrepRefIdeal.τ) (Cert.GqaPrepRefIdeal.main (F := Ideal))) ⟨m, fun _ => 0, g⟩ (fun r => (∀ c : Dev Cert.GqaPrepRefIdeal.nD,
      r.2.mem ((c.tc : Thread Cert.GqaPrepRefIdeal.nD Cert.GqaPrepRefIdeal.τ).loc Cert.GqaPrepRefIdeal.main_arg0) = m ((c.tc : Thread Cert.GqaPrepRefIdeal.nD Cert.GqaPrepRefIdeal.τ).loc Cert.GqaPrepRefIdeal.main_arg0)
      ∧ r.2.mem ((c.tc : Thread Cert.GqaPrepRefIdeal.nD Cert.GqaPrepRefIdeal.τ).loc Cert.GqaPrepRefIdeal.main_arg1) = m ((c.tc : Thread Cert.GqaPrepRefIdeal.nD Cert.GqaPrepRefIdeal.τ).loc Cert.GqaPrepRefIdeal.main_arg1)
      ∧ r.2.mem ((c.tc : Thread Cert.GqaPrepRefIdeal.nD Cert.GqaPrepRefIdeal.τ).loc Cert.GqaPrepRefIdeal.main_arg2) = m ((c.tc : Thread Cert.GqaPrepRefIdeal.nD Cert.GqaPrepRefIdeal.τ).loc Cert.GqaPrepRefIdeal.main_arg2)
      ∧ r.2.mem ((c.tc : Thread Cert.GqaPrepRefIdeal.nD Cert.GqaPrepRefIdeal.τ).loc Cert.GqaPrepRefIdeal.main_arg3) = m ((c.tc : Thread Cert.GqaPrepRefIdeal.nD Cert.GqaPrepRefIdeal.τ).loc Cert.GqaPrepRefIdeal.main_arg3)
      ∧ r.2.mem ((c.tc : Thread Cert.GqaPrepRefIdeal.nD Cert.GqaPrepRefIdeal.τ).loc Cert.GqaPrepRefIdeal.main_arg4) = m ((c.tc : Thread Cert.GqaPrepRefIdeal.nD Cert.GqaPrepRefIdeal.τ).loc Cert.GqaPrepRefIdeal.main_arg4)
      ∧ r.2.mem ((c.tc : Thread Cert.GqaPrepRefIdeal.nD Cert.GqaPrepRefIdeal.τ).loc Cert.GqaPrepRefIdeal.main_arg5) = m ((c.tc : Thread Cert.GqaPrepRefIdeal.nD Cert.GqaPrepRefIdeal.τ).loc Cert.GqaPrepRefIdeal.main_arg5))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7)
      ∧ r.2.mem ((c.tc : Thread Cert.Mla.nD Cert.Mla.τ).loc Cert.Mla.main_arg8) = m ((c.tc : Thread Cert.Mla.nD Cert.Mla.τ).loc Cert.Mla.main_arg8)
      ∧ r.2.mem ((c.tc : Thread Cert.Mla.nD Cert.Mla.τ).loc Cert.Mla.main_arg9) = m ((c.tc : Thread Cert.Mla.nD Cert.Mla.τ).loc Cert.Mla.main_arg9)
      ∧ r.2.mem ((c.tc : Thread Cert.Mla.nD Cert.Mla.τ).loc Cert.Mla.main_arg10) = m ((c.tc : Thread Cert.Mla.nD Cert.Mla.τ).loc Cert.Mla.main_arg10)
      ∧ r.2.mem ((c.tc : Thread Cert.Mla.nD Cert.Mla.τ).loc Cert.Mla.main_arg11) = m ((c.tc : Thread Cert.Mla.nD Cert.Mla.τ).loc Cert.Mla.main_arg11))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
      ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10)
      ∧ r.2.mem ((c.tc : Thread Cert.MlaIdeal.nD Cert.MlaIdeal.τ).loc Cert.MlaIdeal.main_arg11) = m ((c.tc : Thread Cert.MlaIdeal.nD Cert.MlaIdeal.τ).loc Cert.MlaIdeal.main_arg11))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9)
      ∧ r.2.mem ((c.tc : Thread Cert.MlaRefIdeal.nD Cert.MlaRefIdeal.τ).loc Cert.MlaRefIdeal.main_arg10) = m ((c.tc : Thread Cert.MlaRefIdeal.nD Cert.MlaRefIdeal.τ).loc Cert.MlaRefIdeal.main_arg10)
      ∧ r.2.mem ((c.tc : Thread Cert.MlaRefIdeal.nD Cert.MlaRefIdeal.τ).loc Cert.MlaRefIdeal.main_arg11) = m ((c.tc : Thread Cert.MlaRefIdeal.nD Cert.MlaRefIdeal.τ).loc Cert.MlaRefIdeal.main_arg11))
      ∧ r.2.sem = fun _ => 0)

def quiescent_GqaPos [hGqaPos : Cert.GqaPos.Facts] : Prop :=
  ∀ (m : (ℓ : Loc Cert.GqaPos.nD Cert.GqaPos.τ Cert.GqaPos.sig) → Buf (Elt Bits) ℓ) (g : Dev Cert.GqaPos.nD → PrngReg), Pre_GqaPos m →
    θ_run (Cert.GqaPos.defs (F := Bits)) (onTc (τ := Cert.GqaPos.τ) (Cert.GqaPos.main (F := Bits))) ⟨m, fun _ => 0, g⟩ (fun r => (∀ c : Dev Cert.GqaPos.nD,
      r.2.mem ((c.tc : Thread Cert.GqaPos.nD Cert.GqaPos.τ).loc Cert.GqaPos.main_arg0) = m ((c.tc : Thread Cert.GqaPos.nD Cert.GqaPos.τ).loc Cert.GqaPos.main_arg0)
      ∧ r.2.mem ((c.tc : Thread Cert.GqaPos.nD Cert.GqaPos.τ).loc Cert.GqaPos.main_arg1) = m ((c.tc : Thread Cert.GqaPos.nD Cert.GqaPos.τ).loc Cert.GqaPos.main_arg1)
      ∧ r.2.mem ((c.tc : Thread Cert.GqaPos.nD Cert.GqaPos.τ).loc Cert.GqaPos.main_arg2) = m ((c.tc : Thread Cert.GqaPos.nD Cert.GqaPos.τ).loc Cert.GqaPos.main_arg2)
      ∧ r.2.mem ((c.tc : Thread Cert.GqaPos.nD Cert.GqaPos.τ).loc Cert.GqaPos.main_arg3) = m ((c.tc : Thread Cert.GqaPos.nD Cert.GqaPos.τ).loc Cert.GqaPos.main_arg3)
      ∧ r.2.mem ((c.tc : Thread Cert.GqaPos.nD Cert.GqaPos.τ).loc Cert.GqaPos.main_arg4) = m ((c.tc : Thread Cert.GqaPos.nD Cert.GqaPos.τ).loc Cert.GqaPos.main_arg4)
      ∧ r.2.mem ((c.tc : Thread Cert.GqaPos.nD Cert.GqaPos.τ).loc Cert.GqaPos.main_arg5) = m ((c.tc : Thread Cert.GqaPos.nD Cert.GqaPos.τ).loc Cert.GqaPos.main_arg5)
      ∧ r.2.mem ((c.tc : Thread Cert.GqaPos.nD Cert.GqaPos.τ).loc Cert.GqaPos.main_arg6) = m ((c.tc : Thread Cert.GqaPos.nD Cert.GqaPos.τ).loc Cert.GqaPos.main_arg6)
      ∧ r.2.mem ((c.tc : Thread Cert.GqaPos.nD Cert.GqaPos.τ).loc Cert.GqaPos.main_arg7) = m ((c.tc : Thread Cert.GqaPos.nD Cert.GqaPos.τ).loc Cert.GqaPos.main_arg7))
      ∧ r.2.sem = fun _ => 0)

def quiescent_GqaPosIdeal [hGqaPosIdeal : Cert.GqaPosIdeal.Facts] : Prop :=
  ∀ (m : (ℓ : Loc Cert.GqaPosIdeal.nD Cert.GqaPosIdeal.τ Cert.GqaPosIdeal.sig) → Buf (Elt Ideal) ℓ) (g : Dev Cert.GqaPosIdeal.nD → PrngReg), Pre_GqaPosIdeal m →
    θ_run (Cert.GqaPosIdeal.defs (F := Ideal)) (onTc (τ := Cert.GqaPosIdeal.τ) (Cert.GqaPosIdeal.main (F := Ideal))) ⟨m, fun _ => 0, g⟩ (fun r => (∀ c : Dev Cert.GqaPosIdeal.nD,
      r.2.mem ((c.tc : Thread Cert.GqaPosIdeal.nD Cert.GqaPosIdeal.τ).loc Cert.GqaPosIdeal.main_arg0) = m ((c.tc : Thread Cert.GqaPosIdeal.nD Cert.GqaPosIdeal.τ).loc Cert.GqaPosIdeal.main_arg0)
      ∧ r.2.mem ((c.tc : Thread Cert.GqaPosIdeal.nD Cert.GqaPosIdeal.τ).loc Cert.GqaPosIdeal.main_arg1) = m ((c.tc : Thread Cert.GqaPosIdeal.nD Cert.GqaPosIdeal.τ).loc Cert.GqaPosIdeal.main_arg1)
      ∧ r.2.mem ((c.tc : Thread Cert.GqaPosIdeal.nD Cert.GqaPosIdeal.τ).loc Cert.GqaPosIdeal.main_arg2) = m ((c.tc : Thread Cert.GqaPosIdeal.nD Cert.GqaPosIdeal.τ).loc Cert.GqaPosIdeal.main_arg2)
      ∧ r.2.mem ((c.tc : Thread Cert.GqaPosIdeal.nD Cert.GqaPosIdeal.τ).loc Cert.GqaPosIdeal.main_arg3) = m ((c.tc : Thread Cert.GqaPosIdeal.nD Cert.GqaPosIdeal.τ).loc Cert.GqaPosIdeal.main_arg3)
      ∧ r.2.mem ((c.tc : Thread Cert.GqaPosIdeal.nD Cert.GqaPosIdeal.τ).loc Cert.GqaPosIdeal.main_arg4) = m ((c.tc : Thread Cert.GqaPosIdeal.nD Cert.GqaPosIdeal.τ).loc Cert.GqaPosIdeal.main_arg4)
      ∧ r.2.mem ((c.tc : Thread Cert.GqaPosIdeal.nD Cert.GqaPosIdeal.τ).loc Cert.GqaPosIdeal.main_arg5) = m ((c.tc : Thread Cert.GqaPosIdeal.nD Cert.GqaPosIdeal.τ).loc Cert.GqaPosIdeal.main_arg5)
      ∧ r.2.mem ((c.tc : Thread Cert.GqaPosIdeal.nD Cert.GqaPosIdeal.τ).loc Cert.GqaPosIdeal.main_arg6) = m ((c.tc : Thread Cert.GqaPosIdeal.nD Cert.GqaPosIdeal.τ).loc Cert.GqaPosIdeal.main_arg6)
      ∧ r.2.mem ((c.tc : Thread Cert.GqaPosIdeal.nD Cert.GqaPosIdeal.τ).loc Cert.GqaPosIdeal.main_arg7) = m ((c.tc : Thread Cert.GqaPosIdeal.nD Cert.GqaPosIdeal.τ).loc Cert.GqaPosIdeal.main_arg7))
      ∧ r.2.sem = fun _ => 0)

def quiescent_GqaPosRefIdeal [hGqaPosRefIdeal : Cert.GqaPosRefIdeal.Facts] : Prop :=
  ∀ (m : (ℓ : Loc Cert.GqaPosRefIdeal.nD Cert.GqaPosRefIdeal.τ Cert.GqaPosRefIdeal.sig) → Buf (Elt Ideal) ℓ) (g : Dev Cert.GqaPosRefIdeal.nD → PrngReg), Pre_GqaPosRefIdeal m →
    θ_run (Cert.GqaPosRefIdeal.defs (F := Ideal)) (onTc (τ := Cert.GqaPosRefIdeal.τ) (Cert.GqaPosRefIdeal.main (F := Ideal))) ⟨m, fun _ => 0, g⟩ (fun r => (∀ c : Dev Cert.GqaPosRefIdeal.nD,
      r.2.mem ((c.tc : Thread Cert.GqaPosRefIdeal.nD Cert.GqaPosRefIdeal.τ).loc Cert.GqaPosRefIdeal.main_arg0) = m ((c.tc : Thread Cert.GqaPosRefIdeal.nD Cert.GqaPosRefIdeal.τ).loc Cert.GqaPosRefIdeal.main_arg0)
      ∧ r.2.mem ((c.tc : Thread Cert.GqaPosRefIdeal.nD Cert.GqaPosRefIdeal.τ).loc Cert.GqaPosRefIdeal.main_arg1) = m ((c.tc : Thread Cert.GqaPosRefIdeal.nD Cert.GqaPosRefIdeal.τ).loc Cert.GqaPosRefIdeal.main_arg1)
      ∧ r.2.mem ((c.tc : Thread Cert.GqaPosRefIdeal.nD Cert.GqaPosRefIdeal.τ).loc Cert.GqaPosRefIdeal.main_arg2) = m ((c.tc : Thread Cert.GqaPosRefIdeal.nD Cert.GqaPosRefIdeal.τ).loc Cert.GqaPosRefIdeal.main_arg2)
      ∧ r.2.mem ((c.tc : Thread Cert.GqaPosRefIdeal.nD Cert.GqaPosRefIdeal.τ).loc Cert.GqaPosRefIdeal.main_arg3) = m ((c.tc : Thread Cert.GqaPosRefIdeal.nD Cert.GqaPosRefIdeal.τ).loc Cert.GqaPosRefIdeal.main_arg3)
      ∧ r.2.mem ((c.tc : Thread Cert.GqaPosRefIdeal.nD Cert.GqaPosRefIdeal.τ).loc Cert.GqaPosRefIdeal.main_arg4) = m ((c.tc : Thread Cert.GqaPosRefIdeal.nD Cert.GqaPosRefIdeal.τ).loc Cert.GqaPosRefIdeal.main_arg4)
      ∧ r.2.mem ((c.tc : Thread Cert.GqaPosRefIdeal.nD Cert.GqaPosRefIdeal.τ).loc Cert.GqaPosRefIdeal.main_arg5) = m ((c.tc : Thread Cert.GqaPosRefIdeal.nD Cert.GqaPosRefIdeal.τ).loc Cert.GqaPosRefIdeal.main_arg5)
      ∧ r.2.mem ((c.tc : Thread Cert.GqaPosRefIdeal.nD Cert.GqaPosRefIdeal.τ).loc Cert.GqaPosRefIdeal.main_arg6) = m ((c.tc : Thread Cert.GqaPosRefIdeal.nD Cert.GqaPosRefIdeal.τ).loc Cert.GqaPosRefIdeal.main_arg6)
      ∧ r.2.mem ((c.tc : Thread Cert.GqaPosRefIdeal.nD Cert.GqaPosRefIdeal.τ).loc Cert.GqaPosRefIdeal.main_arg7) = m ((c.tc : Thread Cert.GqaPosRefIdeal.nD Cert.GqaPosRefIdeal.τ).loc Cert.GqaPosRefIdeal.main_arg7))
      ∧ r.2.sem = fun _ => 0)

def quiescent_MlaPos [hMlaPos : Cert.MlaPos.Facts] : Prop :=
  ∀ (m : (ℓ : Loc Cert.MlaPos.nD Cert.MlaPos.τ Cert.MlaPos.sig) → Buf (Elt Bits) ℓ) (g : Dev Cert.MlaPos.nD → PrngReg), Pre_MlaPos m →
    θ_run (Cert.MlaPos.defs (F := Bits)) (onTc (τ := Cert.MlaPos.τ) (Cert.MlaPos.main (F := Bits))) ⟨m, fun _ => 0, g⟩ (fun r => (∀ c : Dev Cert.MlaPos.nD,
      r.2.mem ((c.tc : Thread Cert.MlaPos.nD Cert.MlaPos.τ).loc Cert.MlaPos.main_arg0) = m ((c.tc : Thread Cert.MlaPos.nD Cert.MlaPos.τ).loc Cert.MlaPos.main_arg0)
      ∧ r.2.mem ((c.tc : Thread Cert.MlaPos.nD Cert.MlaPos.τ).loc Cert.MlaPos.main_arg1) = m ((c.tc : Thread Cert.MlaPos.nD Cert.MlaPos.τ).loc Cert.MlaPos.main_arg1)
      ∧ r.2.mem ((c.tc : Thread Cert.MlaPos.nD Cert.MlaPos.τ).loc Cert.MlaPos.main_arg2) = m ((c.tc : Thread Cert.MlaPos.nD Cert.MlaPos.τ).loc Cert.MlaPos.main_arg2)
      ∧ r.2.mem ((c.tc : Thread Cert.MlaPos.nD Cert.MlaPos.τ).loc Cert.MlaPos.main_arg3) = m ((c.tc : Thread Cert.MlaPos.nD Cert.MlaPos.τ).loc Cert.MlaPos.main_arg3)
      ∧ r.2.mem ((c.tc : Thread Cert.MlaPos.nD Cert.MlaPos.τ).loc Cert.MlaPos.main_arg4) = m ((c.tc : Thread Cert.MlaPos.nD Cert.MlaPos.τ).loc Cert.MlaPos.main_arg4)
      ∧ r.2.mem ((c.tc : Thread Cert.MlaPos.nD Cert.MlaPos.τ).loc Cert.MlaPos.main_arg5) = m ((c.tc : Thread Cert.MlaPos.nD Cert.MlaPos.τ).loc Cert.MlaPos.main_arg5)
      ∧ r.2.mem ((c.tc : Thread Cert.MlaPos.nD Cert.MlaPos.τ).loc Cert.MlaPos.main_arg6) = m ((c.tc : Thread Cert.MlaPos.nD Cert.MlaPos.τ).loc Cert.MlaPos.main_arg6)
      ∧ r.2.mem ((c.tc : Thread Cert.MlaPos.nD Cert.MlaPos.τ).loc Cert.MlaPos.main_arg7) = m ((c.tc : Thread Cert.MlaPos.nD Cert.MlaPos.τ).loc Cert.MlaPos.main_arg7)
      ∧ r.2.mem ((c.tc : Thread Cert.MlaPos.nD Cert.MlaPos.τ).loc Cert.MlaPos.main_arg8) = m ((c.tc : Thread Cert.MlaPos.nD Cert.MlaPos.τ).loc Cert.MlaPos.main_arg8)
      ∧ r.2.mem ((c.tc : Thread Cert.MlaPos.nD Cert.MlaPos.τ).loc Cert.MlaPos.main_arg9) = m ((c.tc : Thread Cert.MlaPos.nD Cert.MlaPos.τ).loc Cert.MlaPos.main_arg9)
      ∧ r.2.mem ((c.tc : Thread Cert.MlaPos.nD Cert.MlaPos.τ).loc Cert.MlaPos.main_arg10) = m ((c.tc : Thread Cert.MlaPos.nD Cert.MlaPos.τ).loc Cert.MlaPos.main_arg10))
      ∧ r.2.sem = fun _ => 0)

def quiescent_MlaPosIdeal [hMlaPosIdeal : Cert.MlaPosIdeal.Facts] : Prop :=
  ∀ (m : (ℓ : Loc Cert.MlaPosIdeal.nD Cert.MlaPosIdeal.τ Cert.MlaPosIdeal.sig) → Buf (Elt Ideal) ℓ) (g : Dev Cert.MlaPosIdeal.nD → PrngReg), Pre_MlaPosIdeal m →
    θ_run (Cert.MlaPosIdeal.defs (F := Ideal)) (onTc (τ := Cert.MlaPosIdeal.τ) (Cert.MlaPosIdeal.main (F := Ideal))) ⟨m, fun _ => 0, g⟩ (fun r => (∀ c : Dev Cert.MlaPosIdeal.nD,
      r.2.mem ((c.tc : Thread Cert.MlaPosIdeal.nD Cert.MlaPosIdeal.τ).loc Cert.MlaPosIdeal.main_arg0) = m ((c.tc : Thread Cert.MlaPosIdeal.nD Cert.MlaPosIdeal.τ).loc Cert.MlaPosIdeal.main_arg0)
      ∧ r.2.mem ((c.tc : Thread Cert.MlaPosIdeal.nD Cert.MlaPosIdeal.τ).loc Cert.MlaPosIdeal.main_arg1) = m ((c.tc : Thread Cert.MlaPosIdeal.nD Cert.MlaPosIdeal.τ).loc Cert.MlaPosIdeal.main_arg1)
      ∧ r.2.mem ((c.tc : Thread Cert.MlaPosIdeal.nD Cert.MlaPosIdeal.τ).loc Cert.MlaPosIdeal.main_arg2) = m ((c.tc : Thread Cert.MlaPosIdeal.nD Cert.MlaPosIdeal.τ).loc Cert.MlaPosIdeal.main_arg2)
      ∧ r.2.mem ((c.tc : Thread Cert.MlaPosIdeal.nD Cert.MlaPosIdeal.τ).loc Cert.MlaPosIdeal.main_arg3) = m ((c.tc : Thread Cert.MlaPosIdeal.nD Cert.MlaPosIdeal.τ).loc Cert.MlaPosIdeal.main_arg3)
      ∧ r.2.mem ((c.tc : Thread Cert.MlaPosIdeal.nD Cert.MlaPosIdeal.τ).loc Cert.MlaPosIdeal.main_arg4) = m ((c.tc : Thread Cert.MlaPosIdeal.nD Cert.MlaPosIdeal.τ).loc Cert.MlaPosIdeal.main_arg4)
      ∧ r.2.mem ((c.tc : Thread Cert.MlaPosIdeal.nD Cert.MlaPosIdeal.τ).loc Cert.MlaPosIdeal.main_arg5) = m ((c.tc : Thread Cert.MlaPosIdeal.nD Cert.MlaPosIdeal.τ).loc Cert.MlaPosIdeal.main_arg5)
      ∧ r.2.mem ((c.tc : Thread Cert.MlaPosIdeal.nD Cert.MlaPosIdeal.τ).loc Cert.MlaPosIdeal.main_arg6) = m ((c.tc : Thread Cert.MlaPosIdeal.nD Cert.MlaPosIdeal.τ).loc Cert.MlaPosIdeal.main_arg6)
      ∧ r.2.mem ((c.tc : Thread Cert.MlaPosIdeal.nD Cert.MlaPosIdeal.τ).loc Cert.MlaPosIdeal.main_arg7) = m ((c.tc : Thread Cert.MlaPosIdeal.nD Cert.MlaPosIdeal.τ).loc Cert.MlaPosIdeal.main_arg7)
      ∧ r.2.mem ((c.tc : Thread Cert.MlaPosIdeal.nD Cert.MlaPosIdeal.τ).loc Cert.MlaPosIdeal.main_arg8) = m ((c.tc : Thread Cert.MlaPosIdeal.nD Cert.MlaPosIdeal.τ).loc Cert.MlaPosIdeal.main_arg8)
      ∧ r.2.mem ((c.tc : Thread Cert.MlaPosIdeal.nD Cert.MlaPosIdeal.τ).loc Cert.MlaPosIdeal.main_arg9) = m ((c.tc : Thread Cert.MlaPosIdeal.nD Cert.MlaPosIdeal.τ).loc Cert.MlaPosIdeal.main_arg9)
      ∧ r.2.mem ((c.tc : Thread Cert.MlaPosIdeal.nD Cert.MlaPosIdeal.τ).loc Cert.MlaPosIdeal.main_arg10) = m ((c.tc : Thread Cert.MlaPosIdeal.nD Cert.MlaPosIdeal.τ).loc Cert.MlaPosIdeal.main_arg10))
      ∧ r.2.sem = fun _ => 0)

def quiescent_MlaPosRefIdeal [hMlaPosRefIdeal : Cert.MlaPosRefIdeal.Facts] : Prop :=
  ∀ (m : (ℓ : Loc Cert.MlaPosRefIdeal.nD Cert.MlaPosRefIdeal.τ Cert.MlaPosRefIdeal.sig) → Buf (Elt Ideal) ℓ) (g : Dev Cert.MlaPosRefIdeal.nD → PrngReg), Pre_MlaPosRefIdeal m →
    θ_run (Cert.MlaPosRefIdeal.defs (F := Ideal)) (onTc (τ := Cert.MlaPosRefIdeal.τ) (Cert.MlaPosRefIdeal.main (F := Ideal))) ⟨m, fun _ => 0, g⟩ (fun r => (∀ c : Dev Cert.MlaPosRefIdeal.nD,
      r.2.mem ((c.tc : Thread Cert.MlaPosRefIdeal.nD Cert.MlaPosRefIdeal.τ).loc Cert.MlaPosRefIdeal.main_arg0) = m ((c.tc : Thread Cert.MlaPosRefIdeal.nD Cert.MlaPosRefIdeal.τ).loc Cert.MlaPosRefIdeal.main_arg0)
      ∧ r.2.mem ((c.tc : Thread Cert.MlaPosRefIdeal.nD Cert.MlaPosRefIdeal.τ).loc Cert.MlaPosRefIdeal.main_arg1) = m ((c.tc : Thread Cert.MlaPosRefIdeal.nD Cert.MlaPosRefIdeal.τ).loc Cert.MlaPosRefIdeal.main_arg1)
      ∧ r.2.mem ((c.tc : Thread Cert.MlaPosRefIdeal.nD Cert.MlaPosRefIdeal.τ).loc Cert.MlaPosRefIdeal.main_arg2) = m ((c.tc : Thread Cert.MlaPosRefIdeal.nD Cert.MlaPosRefIdeal.τ).loc Cert.MlaPosRefIdeal.main_arg2)
      ∧ r.2.mem ((c.tc : Thread Cert.MlaPosRefIdeal.nD Cert.MlaPosRefIdeal.τ).loc Cert.MlaPosRefIdeal.main_arg3) = m ((c.tc : Thread Cert.MlaPosRefIdeal.nD Cert.MlaPosRefIdeal.τ).loc Cert.MlaPosRefIdeal.main_arg3)
      ∧ r.2.mem ((c.tc : Thread Cert.MlaPosRefIdeal.nD Cert.MlaPosRefIdeal.τ).loc Cert.MlaPosRefIdeal.main_arg4) = m ((c.tc : Thread Cert.MlaPosRefIdeal.nD Cert.MlaPosRefIdeal.τ).loc Cert.MlaPosRefIdeal.main_arg4)
      ∧ r.2.mem ((c.tc : Thread Cert.MlaPosRefIdeal.nD Cert.MlaPosRefIdeal.τ).loc Cert.MlaPosRefIdeal.main_arg5) = m ((c.tc : Thread Cert.MlaPosRefIdeal.nD Cert.MlaPosRefIdeal.τ).loc Cert.MlaPosRefIdeal.main_arg5)
      ∧ r.2.mem ((c.tc : Thread Cert.MlaPosRefIdeal.nD Cert.MlaPosRefIdeal.τ).loc Cert.MlaPosRefIdeal.main_arg6) = m ((c.tc : Thread Cert.MlaPosRefIdeal.nD Cert.MlaPosRefIdeal.τ).loc Cert.MlaPosRefIdeal.main_arg6)
      ∧ r.2.mem ((c.tc : Thread Cert.MlaPosRefIdeal.nD Cert.MlaPosRefIdeal.τ).loc Cert.MlaPosRefIdeal.main_arg7) = m ((c.tc : Thread Cert.MlaPosRefIdeal.nD Cert.MlaPosRefIdeal.τ).loc Cert.MlaPosRefIdeal.main_arg7)
      ∧ r.2.mem ((c.tc : Thread Cert.MlaPosRefIdeal.nD Cert.MlaPosRefIdeal.τ).loc Cert.MlaPosRefIdeal.main_arg8) = m ((c.tc : Thread Cert.MlaPosRefIdeal.nD Cert.MlaPosRefIdeal.τ).loc Cert.MlaPosRefIdeal.main_arg8)
      ∧ r.2.mem ((c.tc : Thread Cert.MlaPosRefIdeal.nD Cert.MlaPosRefIdeal.τ).loc Cert.MlaPosRefIdeal.main_arg9) = m ((c.tc : Thread Cert.MlaPosRefIdeal.nD Cert.MlaPosRefIdeal.τ).loc Cert.MlaPosRefIdeal.main_arg9)
      ∧ r.2.mem ((c.tc : Thread Cert.MlaPosRefIdeal.nD Cert.MlaPosRefIdeal.τ).loc Cert.MlaPosRefIdeal.main_arg10) = m ((c.tc : Thread Cert.MlaPosRefIdeal.nD Cert.MlaPosRefIdeal.τ).loc Cert.MlaPosRefIdeal.main_arg10))
      ∧ r.2.sem = fun _ => 0)

def quiescent_MlaCtx [hMlaCtx : Cert.MlaCtx.Facts] : Prop :=
  ∀ (m : (ℓ : Loc Cert.MlaCtx.nD Cert.MlaCtx.τ Cert.MlaCtx.sig) → Buf (Elt Bits) ℓ) (g : Dev Cert.MlaCtx.nD → PrngReg), Pre_MlaCtx m →
    θ_run (Cert.MlaCtx.defs (F := Bits)) (onTc (τ := Cert.MlaCtx.τ) (Cert.MlaCtx.main (F := Bits))) ⟨m, fun _ => 0, g⟩ (fun r => (∀ c : Dev Cert.MlaCtx.nD,
      r.2.mem ((c.tc : Thread Cert.MlaCtx.nD Cert.MlaCtx.τ).loc Cert.MlaCtx.main_arg0) = m ((c.tc : Thread Cert.MlaCtx.nD Cert.MlaCtx.τ).loc Cert.MlaCtx.main_arg0)
      ∧ r.2.mem ((c.tc : Thread Cert.MlaCtx.nD Cert.MlaCtx.τ).loc Cert.MlaCtx.main_arg1) = m ((c.tc : Thread Cert.MlaCtx.nD Cert.MlaCtx.τ).loc Cert.MlaCtx.main_arg1)
      ∧ r.2.mem ((c.tc : Thread Cert.MlaCtx.nD Cert.MlaCtx.τ).loc Cert.MlaCtx.main_arg2) = m ((c.tc : Thread Cert.MlaCtx.nD Cert.MlaCtx.τ).loc Cert.MlaCtx.main_arg2)
      ∧ r.2.mem ((c.tc : Thread Cert.MlaCtx.nD Cert.MlaCtx.τ).loc Cert.MlaCtx.main_arg3) = m ((c.tc : Thread Cert.MlaCtx.nD Cert.MlaCtx.τ).loc Cert.MlaCtx.main_arg3))
      ∧ r.2.sem = fun _ => 0)

def quiescent_MlaCtxIdeal [hMlaCtxIdeal : Cert.MlaCtxIdeal.Facts] : Prop :=
  ∀ (m : (ℓ : Loc Cert.MlaCtxIdeal.nD Cert.MlaCtxIdeal.τ Cert.MlaCtxIdeal.sig) → Buf (Elt Ideal) ℓ) (g : Dev Cert.MlaCtxIdeal.nD → PrngReg), Pre_MlaCtxIdeal m →
    θ_run (Cert.MlaCtxIdeal.defs (F := Ideal)) (onTc (τ := Cert.MlaCtxIdeal.τ) (Cert.MlaCtxIdeal.main (F := Ideal))) ⟨m, fun _ => 0, g⟩ (fun r => (∀ c : Dev Cert.MlaCtxIdeal.nD,
      r.2.mem ((c.tc : Thread Cert.MlaCtxIdeal.nD Cert.MlaCtxIdeal.τ).loc Cert.MlaCtxIdeal.main_arg0) = m ((c.tc : Thread Cert.MlaCtxIdeal.nD Cert.MlaCtxIdeal.τ).loc Cert.MlaCtxIdeal.main_arg0)
      ∧ r.2.mem ((c.tc : Thread Cert.MlaCtxIdeal.nD Cert.MlaCtxIdeal.τ).loc Cert.MlaCtxIdeal.main_arg1) = m ((c.tc : Thread Cert.MlaCtxIdeal.nD Cert.MlaCtxIdeal.τ).loc Cert.MlaCtxIdeal.main_arg1)
      ∧ r.2.mem ((c.tc : Thread Cert.MlaCtxIdeal.nD Cert.MlaCtxIdeal.τ).loc Cert.MlaCtxIdeal.main_arg2) = m ((c.tc : Thread Cert.MlaCtxIdeal.nD Cert.MlaCtxIdeal.τ).loc Cert.MlaCtxIdeal.main_arg2)
      ∧ r.2.mem ((c.tc : Thread Cert.MlaCtxIdeal.nD Cert.MlaCtxIdeal.τ).loc Cert.MlaCtxIdeal.main_arg3) = m ((c.tc : Thread Cert.MlaCtxIdeal.nD Cert.MlaCtxIdeal.τ).loc Cert.MlaCtxIdeal.main_arg3))
      ∧ r.2.sem = fun _ => 0)

def quiescent_MlaCtxRefIdeal [hMlaCtxRefIdeal : Cert.MlaCtxRefIdeal.Facts] : Prop :=
  ∀ (m : (ℓ : Loc Cert.MlaCtxRefIdeal.nD Cert.MlaCtxRefIdeal.τ Cert.MlaCtxRefIdeal.sig) → Buf (Elt Ideal) ℓ) (g : Dev Cert.MlaCtxRefIdeal.nD → PrngReg), Pre_MlaCtxRefIdeal m →
    θ_run (Cert.MlaCtxRefIdeal.defs (F := Ideal)) (onTc (τ := Cert.MlaCtxRefIdeal.τ) (Cert.MlaCtxRefIdeal.main (F := Ideal))) ⟨m, fun _ => 0, g⟩ (fun r => (∀ c : Dev Cert.MlaCtxRefIdeal.nD,
      r.2.mem ((c.tc : Thread Cert.MlaCtxRefIdeal.nD Cert.MlaCtxRefIdeal.τ).loc Cert.MlaCtxRefIdeal.main_arg0) = m ((c.tc : Thread Cert.MlaCtxRefIdeal.nD Cert.MlaCtxRefIdeal.τ).loc Cert.MlaCtxRefIdeal.main_arg0)
      ∧ r.2.mem ((c.tc : Thread Cert.MlaCtxRefIdeal.nD Cert.MlaCtxRefIdeal.τ).loc Cert.MlaCtxRefIdeal.main_arg1) = m ((c.tc : Thread Cert.MlaCtxRefIdeal.nD Cert.MlaCtxRefIdeal.τ).loc Cert.MlaCtxRefIdeal.main_arg1)
      ∧ r.2.mem ((c.tc : Thread Cert.MlaCtxRefIdeal.nD Cert.MlaCtxRefIdeal.τ).loc Cert.MlaCtxRefIdeal.main_arg2) = m ((c.tc : Thread Cert.MlaCtxRefIdeal.nD Cert.MlaCtxRefIdeal.τ).loc Cert.MlaCtxRefIdeal.main_arg2)
      ∧ r.2.mem ((c.tc : Thread Cert.MlaCtxRefIdeal.nD Cert.MlaCtxRefIdeal.τ).loc Cert.MlaCtxRefIdeal.main_arg3) = m ((c.tc : Thread Cert.MlaCtxRefIdeal.nD Cert.MlaCtxRefIdeal.τ).loc Cert.MlaCtxRefIdeal.main_arg3))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_MixMlp_MixMlpIdeal : Prop :=
  True

def algebraic_MixMlpIdeal_MixMlpRefIdeal [hMixMlpIdeal : Cert.MixMlpIdeal.Facts] [hMixMlpRefIdeal : Cert.MixMlpRefIdeal.Facts] : Prop :=
  ∀ (m : (ℓ : Loc Cert.MixMlpIdeal.nD Cert.MixMlpIdeal.τ Cert.MixMlpIdeal.sig) → Buf (Elt Ideal) ℓ) (g : Dev Cert.MixMlpIdeal.nD → PrngReg)
    (m' : (ℓ : Loc Cert.MixMlpRefIdeal.nD Cert.MixMlpRefIdeal.τ Cert.MixMlpRefIdeal.sig) → Buf (Elt Ideal) ℓ) (g' : Dev Cert.MixMlpRefIdeal.nD → PrngReg), Pre_MixMlpIdeal m →
    (∀ c : Dev Cert.MixMlpIdeal.nD,
      m' ((c.tc : Thread Cert.MixMlpRefIdeal.nD Cert.MixMlpRefIdeal.τ).loc Cert.MixMlpRefIdeal.main_arg0) = m ((c.tc : Thread Cert.MixMlpIdeal.nD Cert.MixMlpIdeal.τ).loc Cert.MixMlpIdeal.main_arg0)
      ∧ m' ((c.tc : Thread Cert.MixMlpRefIdeal.nD Cert.MixMlpRefIdeal.τ).loc Cert.MixMlpRefIdeal.main_arg1) = m ((c.tc : Thread Cert.MixMlpIdeal.nD Cert.MixMlpIdeal.τ).loc Cert.MixMlpIdeal.main_arg1)
      ∧ m' ((c.tc : Thread Cert.MixMlpRefIdeal.nD Cert.MixMlpRefIdeal.τ).loc Cert.MixMlpRefIdeal.main_arg2) = m ((c.tc : Thread Cert.MixMlpIdeal.nD Cert.MixMlpIdeal.τ).loc Cert.MixMlpIdeal.main_arg2)
      ∧ m' ((c.tc : Thread Cert.MixMlpRefIdeal.nD Cert.MixMlpRefIdeal.τ).loc Cert.MixMlpRefIdeal.main_arg3) = m ((c.tc : Thread Cert.MixMlpIdeal.nD Cert.MixMlpIdeal.τ).loc Cert.MixMlpIdeal.main_arg3)
      ∧ m' ((c.tc : Thread Cert.MixMlpRefIdeal.nD Cert.MixMlpRefIdeal.τ).loc Cert.MixMlpRefIdeal.main_arg4) = m ((c.tc : Thread Cert.MixMlpIdeal.nD Cert.MixMlpIdeal.τ).loc Cert.MixMlpIdeal.main_arg4)
      ∧ m' ((c.tc : Thread Cert.MixMlpRefIdeal.nD Cert.MixMlpRefIdeal.τ).loc Cert.MixMlpRefIdeal.main_arg5) = m ((c.tc : Thread Cert.MixMlpIdeal.nD Cert.MixMlpIdeal.τ).loc Cert.MixMlpIdeal.main_arg5)
      ∧ m' ((c.tc : Thread Cert.MixMlpRefIdeal.nD Cert.MixMlpRefIdeal.τ).loc Cert.MixMlpRefIdeal.main_arg6) = m ((c.tc : Thread Cert.MixMlpIdeal.nD Cert.MixMlpIdeal.τ).loc Cert.MixMlpIdeal.main_arg6)) →
    ∃ (v0 : (c : Dev Cert.MixMlpIdeal.nD) → Buf (Elt Ideal) ((c.tc : Thread Cert.MixMlpIdeal.nD Cert.MixMlpIdeal.τ).loc Cert.MixMlpIdeal.main_v0)),
      θ_run (Cert.MixMlpIdeal.defs (F := Ideal)) (onTc (τ := Cert.MixMlpIdeal.τ) (Cert.MixMlpIdeal.main (F := Ideal))) ⟨m, fun _ => 0, g⟩ (fun r => ∀ c : Dev Cert.MixMlpIdeal.nD,
          r.2.mem ((c.tc : Thread Cert.MixMlpIdeal.nD Cert.MixMlpIdeal.τ).loc Cert.MixMlpIdeal.main_v0) = v0 c
          ∧ r.2.mem ((c.tc : Thread Cert.MixMlpIdeal.nD Cert.MixMlpIdeal.τ).loc Cert.MixMlpIdeal.main_arg0) = m ((c.tc : Thread Cert.MixMlpIdeal.nD Cert.MixMlpIdeal.τ).loc Cert.MixMlpIdeal.main_arg0)
          ∧ r.2.mem ((c.tc : Thread Cert.MixMlpIdeal.nD Cert.MixMlpIdeal.τ).loc Cert.MixMlpIdeal.main_arg1) = m ((c.tc : Thread Cert.MixMlpIdeal.nD Cert.MixMlpIdeal.τ).loc Cert.MixMlpIdeal.main_arg1)
          ∧ r.2.mem ((c.tc : Thread Cert.MixMlpIdeal.nD Cert.MixMlpIdeal.τ).loc Cert.MixMlpIdeal.main_arg2) = m ((c.tc : Thread Cert.MixMlpIdeal.nD Cert.MixMlpIdeal.τ).loc Cert.MixMlpIdeal.main_arg2)
          ∧ r.2.mem ((c.tc : Thread Cert.MixMlpIdeal.nD Cert.MixMlpIdeal.τ).loc Cert.MixMlpIdeal.main_arg3) = m ((c.tc : Thread Cert.MixMlpIdeal.nD Cert.MixMlpIdeal.τ).loc Cert.MixMlpIdeal.main_arg3)
          ∧ r.2.mem ((c.tc : Thread Cert.MixMlpIdeal.nD Cert.MixMlpIdeal.τ).loc Cert.MixMlpIdeal.main_arg4) = m ((c.tc : Thread Cert.MixMlpIdeal.nD Cert.MixMlpIdeal.τ).loc Cert.MixMlpIdeal.main_arg4)
          ∧ r.2.mem ((c.tc : Thread Cert.MixMlpIdeal.nD Cert.MixMlpIdeal.τ).loc Cert.MixMlpIdeal.main_arg5) = m ((c.tc : Thread Cert.MixMlpIdeal.nD Cert.MixMlpIdeal.τ).loc Cert.MixMlpIdeal.main_arg5)
          ∧ r.2.mem ((c.tc : Thread Cert.MixMlpIdeal.nD Cert.MixMlpIdeal.τ).loc Cert.MixMlpIdeal.main_arg6) = m ((c.tc : Thread Cert.MixMlpIdeal.nD Cert.MixMlpIdeal.τ).loc Cert.MixMlpIdeal.main_arg6))
      ∧ θ_run (Cert.MixMlpRefIdeal.defs (F := Ideal)) (onTc (τ := Cert.MixMlpRefIdeal.τ) (Cert.MixMlpRefIdeal.main (F := Ideal))) ⟨m', fun _ => 0, g'⟩ (fun r => ∀ c : Dev Cert.MixMlpRefIdeal.nD,
          r.2.mem ((c.tc : Thread Cert.MixMlpRefIdeal.nD Cert.MixMlpRefIdeal.τ).loc Cert.MixMlpRefIdeal.main_v51) = v0 c
          ∧ r.2.mem ((c.tc : Thread Cert.MixMlpRefIdeal.nD Cert.MixMlpRefIdeal.τ).loc Cert.MixMlpRefIdeal.main_arg0) = m' ((c.tc : Thread Cert.MixMlpRefIdeal.nD Cert.MixMlpRefIdeal.τ).loc Cert.MixMlpRefIdeal.main_arg0)
          ∧ r.2.mem ((c.tc : Thread Cert.MixMlpRefIdeal.nD Cert.MixMlpRefIdeal.τ).loc Cert.MixMlpRefIdeal.main_arg1) = m' ((c.tc : Thread Cert.MixMlpRefIdeal.nD Cert.MixMlpRefIdeal.τ).loc Cert.MixMlpRefIdeal.main_arg1)
          ∧ r.2.mem ((c.tc : Thread Cert.MixMlpRefIdeal.nD Cert.MixMlpRefIdeal.τ).loc Cert.MixMlpRefIdeal.main_arg2) = m' ((c.tc : Thread Cert.MixMlpRefIdeal.nD Cert.MixMlpRefIdeal.τ).loc Cert.MixMlpRefIdeal.main_arg2)
          ∧ r.2.mem ((c.tc : Thread Cert.MixMlpRefIdeal.nD Cert.MixMlpRefIdeal.τ).loc Cert.MixMlpRefIdeal.main_arg3) = m' ((c.tc : Thread Cert.MixMlpRefIdeal.nD Cert.MixMlpRefIdeal.τ).loc Cert.MixMlpRefIdeal.main_arg3)
          ∧ r.2.mem ((c.tc : Thread Cert.MixMlpRefIdeal.nD Cert.MixMlpRefIdeal.τ).loc Cert.MixMlpRefIdeal.main_arg4) = m' ((c.tc : Thread Cert.MixMlpRefIdeal.nD Cert.MixMlpRefIdeal.τ).loc Cert.MixMlpRefIdeal.main_arg4)
          ∧ r.2.mem ((c.tc : Thread Cert.MixMlpRefIdeal.nD Cert.MixMlpRefIdeal.τ).loc Cert.MixMlpRefIdeal.main_arg5) = m' ((c.tc : Thread Cert.MixMlpRefIdeal.nD Cert.MixMlpRefIdeal.τ).loc Cert.MixMlpRefIdeal.main_arg5)
          ∧ r.2.mem ((c.tc : Thread Cert.MixMlpRefIdeal.nD Cert.MixMlpRefIdeal.τ).loc Cert.MixMlpRefIdeal.main_arg6) = m' ((c.tc : Thread Cert.MixMlpRefIdeal.nD Cert.MixMlpRefIdeal.τ).loc Cert.MixMlpRefIdeal.main_arg6))

def preserves_Latent_LatentIdeal : Prop :=
  True

def algebraic_LatentIdeal_LatentRefIdeal_pre_finite_latent [hLatentIdeal : Cert.LatentIdeal.Facts] [hLatentRefIdeal : Cert.LatentRefIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal_finite_latent m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)
      ∧ m' ((c.tc : Thread Cert.LatentRefIdeal.nD Cert.LatentRefIdeal.τ).loc Cert.LatentRefIdeal.main_arg3) = m ((c.tc : Thread Cert.LatentIdeal.nD Cert.LatentIdeal.τ).loc Cert.LatentIdeal.main_arg3)
      ∧ m' ((c.tc : Thread Cert.LatentRefIdeal.nD Cert.LatentRefIdeal.τ).loc Cert.LatentRefIdeal.main_arg4) = m ((c.tc : Thread Cert.LatentIdeal.nD Cert.LatentIdeal.τ).loc Cert.LatentIdeal.main_arg4)) →
    ∃ (v0 : (c : Dev Cert.LatentIdeal.nD) → Buf (Elt Ideal) ((c.tc : Thread Cert.LatentIdeal.nD Cert.LatentIdeal.τ).loc Cert.LatentIdeal.main_v0)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v30) = v0 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2)
          ∧ r.2.mem ((c.tc : Thread Cert.LatentRefIdeal.nD Cert.LatentRefIdeal.τ).loc Cert.LatentRefIdeal.main_arg3) = m' ((c.tc : Thread Cert.LatentRefIdeal.nD Cert.LatentRefIdeal.τ).loc Cert.LatentRefIdeal.main_arg3)
          ∧ r.2.mem ((c.tc : Thread Cert.LatentRefIdeal.nD Cert.LatentRefIdeal.τ).loc Cert.LatentRefIdeal.main_arg4) = m' ((c.tc : Thread Cert.LatentRefIdeal.nD Cert.LatentRefIdeal.τ).loc Cert.LatentRefIdeal.main_arg4))

def preserves_NormProj_NormProjIdeal : Prop :=
  True

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)
      ∧ m' ((c.tc : Thread Cert.NormProjRefIdeal.nD Cert.NormProjRefIdeal.τ).loc Cert.NormProjRefIdeal.main_arg3) = m ((c.tc : Thread Cert.NormProjIdeal.nD Cert.NormProjIdeal.τ).loc Cert.NormProjIdeal.main_arg3)
      ∧ m' ((c.tc : Thread Cert.NormProjRefIdeal.nD Cert.NormProjRefIdeal.τ).loc Cert.NormProjRefIdeal.main_arg4) = m ((c.tc : Thread Cert.NormProjIdeal.nD Cert.NormProjIdeal.τ).loc Cert.NormProjIdeal.main_arg4)) →
    ∃ (v0 : (c : Dev Cert.NormProjIdeal.nD) → Buf (Elt Ideal) ((c.tc : Thread Cert.NormProjIdeal.nD Cert.NormProjIdeal.τ).loc Cert.NormProjIdeal.main_v0_0)) (v1 : (c : Dev Cert.NormProjIdeal.nD) → Buf (Elt Ideal) ((c.tc : Thread Cert.NormProjIdeal.nD Cert.NormProjIdeal.τ).loc Cert.NormProjIdeal.main_v0_1)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v0_0) = v0 c
          ∧ r.2.mem ((c.tc : Thread Cert.NormProjIdeal.nD Cert.NormProjIdeal.τ).loc Cert.NormProjIdeal.main_v0_1) = v1 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
          ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3)
          ∧ r.2.mem ((c.tc : Thread Cert.NormProjIdeal.nD Cert.NormProjIdeal.τ).loc Cert.NormProjIdeal.main_arg4) = m ((c.tc : Thread Cert.NormProjIdeal.nD Cert.NormProjIdeal.τ).loc Cert.NormProjIdeal.main_arg4))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v30) = v0 c
          ∧ r.2.mem ((c.tc : Thread Cert.NormProjRefIdeal.nD Cert.NormProjRefIdeal.τ).loc Cert.NormProjRefIdeal.main_v33) = v1 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2)
          ∧ r.2.mem ((c.tc : Thread Cert.NormProjRefIdeal.nD Cert.NormProjRefIdeal.τ).loc Cert.NormProjRefIdeal.main_arg3) = m' ((c.tc : Thread Cert.NormProjRefIdeal.nD Cert.NormProjRefIdeal.τ).loc Cert.NormProjRefIdeal.main_arg3)
          ∧ r.2.mem ((c.tc : Thread Cert.NormProjRefIdeal.nD Cert.NormProjRefIdeal.τ).loc Cert.NormProjRefIdeal.main_arg4) = m' ((c.tc : Thread Cert.NormProjRefIdeal.nD Cert.NormProjRefIdeal.τ).loc Cert.NormProjRefIdeal.main_arg4))

def preserves_GqaPrep_GqaPrepIdeal : Prop :=
  IdealRules.named_const.Statement Cert.GqaPrepIdeal.κ "q_scale" .f32 0x3E0293EE#32 (((Real.log 2)⁻¹ * (Real.sqrt 128)⁻¹ : ℝ) : EReal)

def algebraic_GqaPrepIdeal_GqaPrepRefIdeal [hGqaPrepIdeal : Cert.GqaPrepIdeal.Facts] [hGqaPrepRefIdeal : Cert.GqaPrepRefIdeal.Facts] : Prop :=
  ∀ (m : (ℓ : Loc Cert.GqaPrepIdeal.nD Cert.GqaPrepIdeal.τ Cert.GqaPrepIdeal.sig) → Buf (Elt Ideal) ℓ) (g : Dev Cert.GqaPrepIdeal.nD → PrngReg)
    (m' : (ℓ : Loc Cert.GqaPrepRefIdeal.nD Cert.GqaPrepRefIdeal.τ Cert.GqaPrepRefIdeal.sig) → Buf (Elt Ideal) ℓ) (g' : Dev Cert.GqaPrepRefIdeal.nD → PrngReg), Pre_GqaPrepIdeal m →
    (∀ c : Dev Cert.GqaPrepIdeal.nD,
      m' ((c.tc : Thread Cert.GqaPrepRefIdeal.nD Cert.GqaPrepRefIdeal.τ).loc Cert.GqaPrepRefIdeal.main_arg0) = m ((c.tc : Thread Cert.GqaPrepIdeal.nD Cert.GqaPrepIdeal.τ).loc Cert.GqaPrepIdeal.main_arg0)
      ∧ m' ((c.tc : Thread Cert.GqaPrepRefIdeal.nD Cert.GqaPrepRefIdeal.τ).loc Cert.GqaPrepRefIdeal.main_arg1) = m ((c.tc : Thread Cert.GqaPrepIdeal.nD Cert.GqaPrepIdeal.τ).loc Cert.GqaPrepIdeal.main_arg1)
      ∧ m' ((c.tc : Thread Cert.GqaPrepRefIdeal.nD Cert.GqaPrepRefIdeal.τ).loc Cert.GqaPrepRefIdeal.main_arg2) = m ((c.tc : Thread Cert.GqaPrepIdeal.nD Cert.GqaPrepIdeal.τ).loc Cert.GqaPrepIdeal.main_arg2)
      ∧ m' ((c.tc : Thread Cert.GqaPrepRefIdeal.nD Cert.GqaPrepRefIdeal.τ).loc Cert.GqaPrepRefIdeal.main_arg3) = m ((c.tc : Thread Cert.GqaPrepIdeal.nD Cert.GqaPrepIdeal.τ).loc Cert.GqaPrepIdeal.main_arg3)
      ∧ m' ((c.tc : Thread Cert.GqaPrepRefIdeal.nD Cert.GqaPrepRefIdeal.τ).loc Cert.GqaPrepRefIdeal.main_arg4) = m ((c.tc : Thread Cert.GqaPrepIdeal.nD Cert.GqaPrepIdeal.τ).loc Cert.GqaPrepIdeal.main_arg4)
      ∧ m' ((c.tc : Thread Cert.GqaPrepRefIdeal.nD Cert.GqaPrepRefIdeal.τ).loc Cert.GqaPrepRefIdeal.main_arg5) = m ((c.tc : Thread Cert.GqaPrepIdeal.nD Cert.GqaPrepIdeal.τ).loc Cert.GqaPrepIdeal.main_arg5)) →
    ∃ (v0 : (c : Dev Cert.GqaPrepIdeal.nD) → Buf (Elt Ideal) ((c.tc : Thread Cert.GqaPrepIdeal.nD Cert.GqaPrepIdeal.τ).loc Cert.GqaPrepIdeal.main_v0_0)) (v1 : (c : Dev Cert.GqaPrepIdeal.nD) → Buf (Elt Ideal) ((c.tc : Thread Cert.GqaPrepIdeal.nD Cert.GqaPrepIdeal.τ).loc Cert.GqaPrepIdeal.main_v0_1)) (v2 : (c : Dev Cert.GqaPrepIdeal.nD) → Buf (Elt Ideal) ((c.tc : Thread Cert.GqaPrepIdeal.nD Cert.GqaPrepIdeal.τ).loc Cert.GqaPrepIdeal.main_v0_2)) (v3 : (c : Dev Cert.GqaPrepIdeal.nD) → Buf (Elt Ideal) ((c.tc : Thread Cert.GqaPrepIdeal.nD Cert.GqaPrepIdeal.τ).loc Cert.GqaPrepIdeal.main_v0_3)) (v4 : (c : Dev Cert.GqaPrepIdeal.nD) → Buf (Elt Ideal) ((c.tc : Thread Cert.GqaPrepIdeal.nD Cert.GqaPrepIdeal.τ).loc Cert.GqaPrepIdeal.main_v0_4)),
      θ_run (Cert.GqaPrepIdeal.defs (F := Ideal)) (onTc (τ := Cert.GqaPrepIdeal.τ) (Cert.GqaPrepIdeal.main (F := Ideal))) ⟨m, fun _ => 0, g⟩ (fun r => ∀ c : Dev Cert.GqaPrepIdeal.nD,
          r.2.mem ((c.tc : Thread Cert.GqaPrepIdeal.nD Cert.GqaPrepIdeal.τ).loc Cert.GqaPrepIdeal.main_v0_0) = v0 c
          ∧ r.2.mem ((c.tc : Thread Cert.GqaPrepIdeal.nD Cert.GqaPrepIdeal.τ).loc Cert.GqaPrepIdeal.main_v0_1) = v1 c
          ∧ r.2.mem ((c.tc : Thread Cert.GqaPrepIdeal.nD Cert.GqaPrepIdeal.τ).loc Cert.GqaPrepIdeal.main_v0_2) = v2 c
          ∧ r.2.mem ((c.tc : Thread Cert.GqaPrepIdeal.nD Cert.GqaPrepIdeal.τ).loc Cert.GqaPrepIdeal.main_v0_3) = v3 c
          ∧ r.2.mem ((c.tc : Thread Cert.GqaPrepIdeal.nD Cert.GqaPrepIdeal.τ).loc Cert.GqaPrepIdeal.main_v0_4) = v4 c
          ∧ r.2.mem ((c.tc : Thread Cert.GqaPrepIdeal.nD Cert.GqaPrepIdeal.τ).loc Cert.GqaPrepIdeal.main_arg0) = m ((c.tc : Thread Cert.GqaPrepIdeal.nD Cert.GqaPrepIdeal.τ).loc Cert.GqaPrepIdeal.main_arg0)
          ∧ r.2.mem ((c.tc : Thread Cert.GqaPrepIdeal.nD Cert.GqaPrepIdeal.τ).loc Cert.GqaPrepIdeal.main_arg1) = m ((c.tc : Thread Cert.GqaPrepIdeal.nD Cert.GqaPrepIdeal.τ).loc Cert.GqaPrepIdeal.main_arg1)
          ∧ r.2.mem ((c.tc : Thread Cert.GqaPrepIdeal.nD Cert.GqaPrepIdeal.τ).loc Cert.GqaPrepIdeal.main_arg2) = m ((c.tc : Thread Cert.GqaPrepIdeal.nD Cert.GqaPrepIdeal.τ).loc Cert.GqaPrepIdeal.main_arg2)
          ∧ r.2.mem ((c.tc : Thread Cert.GqaPrepIdeal.nD Cert.GqaPrepIdeal.τ).loc Cert.GqaPrepIdeal.main_arg3) = m ((c.tc : Thread Cert.GqaPrepIdeal.nD Cert.GqaPrepIdeal.τ).loc Cert.GqaPrepIdeal.main_arg3)
          ∧ r.2.mem ((c.tc : Thread Cert.GqaPrepIdeal.nD Cert.GqaPrepIdeal.τ).loc Cert.GqaPrepIdeal.main_arg4) = m ((c.tc : Thread Cert.GqaPrepIdeal.nD Cert.GqaPrepIdeal.τ).loc Cert.GqaPrepIdeal.main_arg4)
          ∧ r.2.mem ((c.tc : Thread Cert.GqaPrepIdeal.nD Cert.GqaPrepIdeal.τ).loc Cert.GqaPrepIdeal.main_arg5) = m ((c.tc : Thread Cert.GqaPrepIdeal.nD Cert.GqaPrepIdeal.τ).loc Cert.GqaPrepIdeal.main_arg5))
      ∧ θ_run (Cert.GqaPrepRefIdeal.defs (F := Ideal)) (onTc (τ := Cert.GqaPrepRefIdeal.τ) (Cert.GqaPrepRefIdeal.main (F := Ideal))) ⟨m', fun _ => 0, g'⟩ (fun r => ∀ c : Dev Cert.GqaPrepRefIdeal.nD,
          r.2.mem ((c.tc : Thread Cert.GqaPrepRefIdeal.nD Cert.GqaPrepRefIdeal.τ).loc Cert.GqaPrepRefIdeal.main_v68) = v0 c
          ∧ r.2.mem ((c.tc : Thread Cert.GqaPrepRefIdeal.nD Cert.GqaPrepRefIdeal.τ).loc Cert.GqaPrepRefIdeal.main_v69) = v1 c
          ∧ r.2.mem ((c.tc : Thread Cert.GqaPrepRefIdeal.nD Cert.GqaPrepRefIdeal.τ).loc Cert.GqaPrepRefIdeal.main_v70) = v2 c
          ∧ r.2.mem ((c.tc : Thread Cert.GqaPrepRefIdeal.nD Cert.GqaPrepRefIdeal.τ).loc Cert.GqaPrepRefIdeal.main_v61) = v3 c
          ∧ r.2.mem ((c.tc : Thread Cert.GqaPrepRefIdeal.nD Cert.GqaPrepRefIdeal.τ).loc Cert.GqaPrepRefIdeal.main_v32) = v4 c
          ∧ r.2.mem ((c.tc : Thread Cert.GqaPrepRefIdeal.nD Cert.GqaPrepRefIdeal.τ).loc Cert.GqaPrepRefIdeal.main_arg0) = m' ((c.tc : Thread Cert.GqaPrepRefIdeal.nD Cert.GqaPrepRefIdeal.τ).loc Cert.GqaPrepRefIdeal.main_arg0)
          ∧ r.2.mem ((c.tc : Thread Cert.GqaPrepRefIdeal.nD Cert.GqaPrepRefIdeal.τ).loc Cert.GqaPrepRefIdeal.main_arg1) = m' ((c.tc : Thread Cert.GqaPrepRefIdeal.nD Cert.GqaPrepRefIdeal.τ).loc Cert.GqaPrepRefIdeal.main_arg1)
          ∧ r.2.mem ((c.tc : Thread Cert.GqaPrepRefIdeal.nD Cert.GqaPrepRefIdeal.τ).loc Cert.GqaPrepRefIdeal.main_arg2) = m' ((c.tc : Thread Cert.GqaPrepRefIdeal.nD Cert.GqaPrepRefIdeal.τ).loc Cert.GqaPrepRefIdeal.main_arg2)
          ∧ r.2.mem ((c.tc : Thread Cert.GqaPrepRefIdeal.nD Cert.GqaPrepRefIdeal.τ).loc Cert.GqaPrepRefIdeal.main_arg3) = m' ((c.tc : Thread Cert.GqaPrepRefIdeal.nD Cert.GqaPrepRefIdeal.τ).loc Cert.GqaPrepRefIdeal.main_arg3)
          ∧ r.2.mem ((c.tc : Thread Cert.GqaPrepRefIdeal.nD Cert.GqaPrepRefIdeal.τ).loc Cert.GqaPrepRefIdeal.main_arg4) = m' ((c.tc : Thread Cert.GqaPrepRefIdeal.nD Cert.GqaPrepRefIdeal.τ).loc Cert.GqaPrepRefIdeal.main_arg4)
          ∧ r.2.mem ((c.tc : Thread Cert.GqaPrepRefIdeal.nD Cert.GqaPrepRefIdeal.τ).loc Cert.GqaPrepRefIdeal.main_arg5) = m' ((c.tc : Thread Cert.GqaPrepRefIdeal.nD Cert.GqaPrepRefIdeal.τ).loc Cert.GqaPrepRefIdeal.main_arg5))

def preserves_Mla_MlaIdeal : Prop :=
  IdealRules.named_const.Statement Cert.MlaIdeal.κ "inv_384" .f32 0x3B2AAAAB#32 ((384⁻¹ : ℝ) : EReal)
  ∧ IdealRules.named_const.Statement Cert.MlaIdeal.κ "q_scale" .f32 0x3DD53B95#32 (((Real.log 2)⁻¹ * (Real.sqrt 192)⁻¹ : ℝ) : EReal)

def algebraic_MlaIdeal_MlaRefIdeal [hMlaIdeal : Cert.MlaIdeal.Facts] [hMlaRefIdeal : Cert.MlaRefIdeal.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)
      ∧ m' ((c.tc : Thread Cert.MlaRefIdeal.nD Cert.MlaRefIdeal.τ).loc Cert.MlaRefIdeal.main_arg7) = m ((c.tc : Thread Cert.MlaIdeal.nD Cert.MlaIdeal.τ).loc Cert.MlaIdeal.main_arg7)
      ∧ m' ((c.tc : Thread Cert.MlaRefIdeal.nD Cert.MlaRefIdeal.τ).loc Cert.MlaRefIdeal.main_arg8) = m ((c.tc : Thread Cert.MlaIdeal.nD Cert.MlaIdeal.τ).loc Cert.MlaIdeal.main_arg8)
      ∧ m' ((c.tc : Thread Cert.MlaRefIdeal.nD Cert.MlaRefIdeal.τ).loc Cert.MlaRefIdeal.main_arg9) = m ((c.tc : Thread Cert.MlaIdeal.nD Cert.MlaIdeal.τ).loc Cert.MlaIdeal.main_arg9)
      ∧ m' ((c.tc : Thread Cert.MlaRefIdeal.nD Cert.MlaRefIdeal.τ).loc Cert.MlaRefIdeal.main_arg10) = m ((c.tc : Thread Cert.MlaIdeal.nD Cert.MlaIdeal.τ).loc Cert.MlaIdeal.main_arg10)
      ∧ m' ((c.tc : Thread Cert.MlaRefIdeal.nD Cert.MlaRefIdeal.τ).loc Cert.MlaRefIdeal.main_arg11) = m ((c.tc : Thread Cert.MlaIdeal.nD Cert.MlaIdeal.τ).loc Cert.MlaIdeal.main_arg11)) →
    ∃ (v0 : (c : Dev Cert.MlaIdeal.nD) → Buf (Elt Ideal) ((c.tc : Thread Cert.MlaIdeal.nD Cert.MlaIdeal.τ).loc Cert.MlaIdeal.main_v16_0)) (v1 : (c : Dev Cert.MlaIdeal.nD) → Buf (Elt Ideal) ((c.tc : Thread Cert.MlaIdeal.nD Cert.MlaIdeal.τ).loc Cert.MlaIdeal.main_v16_1)) (v2 : (c : Dev Cert.MlaIdeal.nD) → Buf (Elt Ideal) ((c.tc : Thread Cert.MlaIdeal.nD Cert.MlaIdeal.τ).loc Cert.MlaIdeal.main_v16_2)) (v3 : (c : Dev Cert.MlaIdeal.nD) → Buf (Elt Ideal) ((c.tc : Thread Cert.MlaIdeal.nD Cert.MlaIdeal.τ).loc Cert.MlaIdeal.main_v16_3)) (v4 : (c : Dev Cert.MlaIdeal.nD) → Buf (Elt Ideal) ((c.tc : Thread Cert.MlaIdeal.nD Cert.MlaIdeal.τ).loc Cert.MlaIdeal.main_v17)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v16_0) = v0 c
          ∧ r.2.mem ((c.tc : Thread Cert.MlaIdeal.nD Cert.MlaIdeal.τ).loc Cert.MlaIdeal.main_v16_1) = v1 c
          ∧ r.2.mem ((c.tc : Thread Cert.MlaIdeal.nD Cert.MlaIdeal.τ).loc Cert.MlaIdeal.main_v16_2) = v2 c
          ∧ r.2.mem ((c.tc : Thread Cert.MlaIdeal.nD Cert.MlaIdeal.τ).loc Cert.MlaIdeal.main_v16_3) = v3 c
          ∧ r.2.mem ((c.tc : Thread Cert.MlaIdeal.nD Cert.MlaIdeal.τ).loc Cert.MlaIdeal.main_v17) = v4 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
          ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
          ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
          ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10)
          ∧ r.2.mem ((c.tc : Thread Cert.MlaIdeal.nD Cert.MlaIdeal.τ).loc Cert.MlaIdeal.main_arg11) = m ((c.tc : Thread Cert.MlaIdeal.nD Cert.MlaIdeal.τ).loc Cert.MlaIdeal.main_arg11))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v132) = v0 c
          ∧ r.2.mem ((c.tc : Thread Cert.MlaRefIdeal.nD Cert.MlaRefIdeal.τ).loc Cert.MlaRefIdeal.main_v133) = v1 c
          ∧ r.2.mem ((c.tc : Thread Cert.MlaRefIdeal.nD Cert.MlaRefIdeal.τ).loc Cert.MlaRefIdeal.main_v134) = v2 c
          ∧ r.2.mem ((c.tc : Thread Cert.MlaRefIdeal.nD Cert.MlaRefIdeal.τ).loc Cert.MlaRefIdeal.main_v40) = v3 c
          ∧ r.2.mem ((c.tc : Thread Cert.MlaRefIdeal.nD Cert.MlaRefIdeal.τ).loc Cert.MlaRefIdeal.main_v54) = v4 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7)
          ∧ r.2.mem ((c.tc : Thread Cert.MlaRefIdeal.nD Cert.MlaRefIdeal.τ).loc Cert.MlaRefIdeal.main_arg8) = m' ((c.tc : Thread Cert.MlaRefIdeal.nD Cert.MlaRefIdeal.τ).loc Cert.MlaRefIdeal.main_arg8)
          ∧ r.2.mem ((c.tc : Thread Cert.MlaRefIdeal.nD Cert.MlaRefIdeal.τ).loc Cert.MlaRefIdeal.main_arg9) = m' ((c.tc : Thread Cert.MlaRefIdeal.nD Cert.MlaRefIdeal.τ).loc Cert.MlaRefIdeal.main_arg9)
          ∧ r.2.mem ((c.tc : Thread Cert.MlaRefIdeal.nD Cert.MlaRefIdeal.τ).loc Cert.MlaRefIdeal.main_arg10) = m' ((c.tc : Thread Cert.MlaRefIdeal.nD Cert.MlaRefIdeal.τ).loc Cert.MlaRefIdeal.main_arg10)
          ∧ r.2.mem ((c.tc : Thread Cert.MlaRefIdeal.nD Cert.MlaRefIdeal.τ).loc Cert.MlaRefIdeal.main_arg11) = m' ((c.tc : Thread Cert.MlaRefIdeal.nD Cert.MlaRefIdeal.τ).loc Cert.MlaRefIdeal.main_arg11))

def preserves_GqaPos_GqaPosIdeal : Prop :=
  IdealRules.named_const.Statement Cert.GqaPosIdeal.κ "q_scale" .f32 0x3E0293EE#32 (((Real.log 2)⁻¹ * (Real.sqrt 128)⁻¹ : ℝ) : EReal)

def algebraic_GqaPosIdeal_GqaPosRefIdeal [hGqaPosIdeal : Cert.GqaPosIdeal.Facts] [hGqaPosRefIdeal : Cert.GqaPosRefIdeal.Facts] : Prop :=
  ∀ (m : (ℓ : Loc Cert.GqaPosIdeal.nD Cert.GqaPosIdeal.τ Cert.GqaPosIdeal.sig) → Buf (Elt Ideal) ℓ) (g : Dev Cert.GqaPosIdeal.nD → PrngReg)
    (m' : (ℓ : Loc Cert.GqaPosRefIdeal.nD Cert.GqaPosRefIdeal.τ Cert.GqaPosRefIdeal.sig) → Buf (Elt Ideal) ℓ) (g' : Dev Cert.GqaPosRefIdeal.nD → PrngReg), Pre_GqaPosIdeal m →
    (∀ c : Dev Cert.GqaPosIdeal.nD,
      m' ((c.tc : Thread Cert.GqaPosRefIdeal.nD Cert.GqaPosRefIdeal.τ).loc Cert.GqaPosRefIdeal.main_arg0) = m ((c.tc : Thread Cert.GqaPosIdeal.nD Cert.GqaPosIdeal.τ).loc Cert.GqaPosIdeal.main_arg0)
      ∧ m' ((c.tc : Thread Cert.GqaPosRefIdeal.nD Cert.GqaPosRefIdeal.τ).loc Cert.GqaPosRefIdeal.main_arg1) = m ((c.tc : Thread Cert.GqaPosIdeal.nD Cert.GqaPosIdeal.τ).loc Cert.GqaPosIdeal.main_arg1)
      ∧ m' ((c.tc : Thread Cert.GqaPosRefIdeal.nD Cert.GqaPosRefIdeal.τ).loc Cert.GqaPosRefIdeal.main_arg2) = m ((c.tc : Thread Cert.GqaPosIdeal.nD Cert.GqaPosIdeal.τ).loc Cert.GqaPosIdeal.main_arg2)
      ∧ m' ((c.tc : Thread Cert.GqaPosRefIdeal.nD Cert.GqaPosRefIdeal.τ).loc Cert.GqaPosRefIdeal.main_arg3) = m ((c.tc : Thread Cert.GqaPosIdeal.nD Cert.GqaPosIdeal.τ).loc Cert.GqaPosIdeal.main_arg3)
      ∧ m' ((c.tc : Thread Cert.GqaPosRefIdeal.nD Cert.GqaPosRefIdeal.τ).loc Cert.GqaPosRefIdeal.main_arg4) = m ((c.tc : Thread Cert.GqaPosIdeal.nD Cert.GqaPosIdeal.τ).loc Cert.GqaPosIdeal.main_arg4)
      ∧ m' ((c.tc : Thread Cert.GqaPosRefIdeal.nD Cert.GqaPosRefIdeal.τ).loc Cert.GqaPosRefIdeal.main_arg5) = m ((c.tc : Thread Cert.GqaPosIdeal.nD Cert.GqaPosIdeal.τ).loc Cert.GqaPosIdeal.main_arg5)
      ∧ m' ((c.tc : Thread Cert.GqaPosRefIdeal.nD Cert.GqaPosRefIdeal.τ).loc Cert.GqaPosRefIdeal.main_arg6) = m ((c.tc : Thread Cert.GqaPosIdeal.nD Cert.GqaPosIdeal.τ).loc Cert.GqaPosIdeal.main_arg6)
      ∧ m' ((c.tc : Thread Cert.GqaPosRefIdeal.nD Cert.GqaPosRefIdeal.τ).loc Cert.GqaPosRefIdeal.main_arg7) = m ((c.tc : Thread Cert.GqaPosIdeal.nD Cert.GqaPosIdeal.τ).loc Cert.GqaPosIdeal.main_arg7)) →
    ∃ (v0 : (c : Dev Cert.GqaPosIdeal.nD) → Buf (Elt Ideal) ((c.tc : Thread Cert.GqaPosIdeal.nD Cert.GqaPosIdeal.τ).loc Cert.GqaPosIdeal.main_v30_0)) (v1 : (c : Dev Cert.GqaPosIdeal.nD) → Buf (Elt Ideal) ((c.tc : Thread Cert.GqaPosIdeal.nD Cert.GqaPosIdeal.τ).loc Cert.GqaPosIdeal.main_v30_1)) (v2 : (c : Dev Cert.GqaPosIdeal.nD) → Buf (Elt Ideal) ((c.tc : Thread Cert.GqaPosIdeal.nD Cert.GqaPosIdeal.τ).loc Cert.GqaPosIdeal.main_v30_2)) (v3 : (c : Dev Cert.GqaPosIdeal.nD) → Buf (Elt Ideal) ((c.tc : Thread Cert.GqaPosIdeal.nD Cert.GqaPosIdeal.τ).loc Cert.GqaPosIdeal.main_v30_3)) (v4 : (c : Dev Cert.GqaPosIdeal.nD) → Buf (Elt Ideal) ((c.tc : Thread Cert.GqaPosIdeal.nD Cert.GqaPosIdeal.τ).loc Cert.GqaPosIdeal.main_v30_4)),
      θ_run (Cert.GqaPosIdeal.defs (F := Ideal)) (onTc (τ := Cert.GqaPosIdeal.τ) (Cert.GqaPosIdeal.main (F := Ideal))) ⟨m, fun _ => 0, g⟩ (fun r => ∀ c : Dev Cert.GqaPosIdeal.nD,
          r.2.mem ((c.tc : Thread Cert.GqaPosIdeal.nD Cert.GqaPosIdeal.τ).loc Cert.GqaPosIdeal.main_v30_0) = v0 c
          ∧ r.2.mem ((c.tc : Thread Cert.GqaPosIdeal.nD Cert.GqaPosIdeal.τ).loc Cert.GqaPosIdeal.main_v30_1) = v1 c
          ∧ r.2.mem ((c.tc : Thread Cert.GqaPosIdeal.nD Cert.GqaPosIdeal.τ).loc Cert.GqaPosIdeal.main_v30_2) = v2 c
          ∧ r.2.mem ((c.tc : Thread Cert.GqaPosIdeal.nD Cert.GqaPosIdeal.τ).loc Cert.GqaPosIdeal.main_v30_3) = v3 c
          ∧ r.2.mem ((c.tc : Thread Cert.GqaPosIdeal.nD Cert.GqaPosIdeal.τ).loc Cert.GqaPosIdeal.main_v30_4) = v4 c
          ∧ r.2.mem ((c.tc : Thread Cert.GqaPosIdeal.nD Cert.GqaPosIdeal.τ).loc Cert.GqaPosIdeal.main_arg0) = m ((c.tc : Thread Cert.GqaPosIdeal.nD Cert.GqaPosIdeal.τ).loc Cert.GqaPosIdeal.main_arg0)
          ∧ r.2.mem ((c.tc : Thread Cert.GqaPosIdeal.nD Cert.GqaPosIdeal.τ).loc Cert.GqaPosIdeal.main_arg1) = m ((c.tc : Thread Cert.GqaPosIdeal.nD Cert.GqaPosIdeal.τ).loc Cert.GqaPosIdeal.main_arg1)
          ∧ r.2.mem ((c.tc : Thread Cert.GqaPosIdeal.nD Cert.GqaPosIdeal.τ).loc Cert.GqaPosIdeal.main_arg2) = m ((c.tc : Thread Cert.GqaPosIdeal.nD Cert.GqaPosIdeal.τ).loc Cert.GqaPosIdeal.main_arg2)
          ∧ r.2.mem ((c.tc : Thread Cert.GqaPosIdeal.nD Cert.GqaPosIdeal.τ).loc Cert.GqaPosIdeal.main_arg3) = m ((c.tc : Thread Cert.GqaPosIdeal.nD Cert.GqaPosIdeal.τ).loc Cert.GqaPosIdeal.main_arg3)
          ∧ r.2.mem ((c.tc : Thread Cert.GqaPosIdeal.nD Cert.GqaPosIdeal.τ).loc Cert.GqaPosIdeal.main_arg4) = m ((c.tc : Thread Cert.GqaPosIdeal.nD Cert.GqaPosIdeal.τ).loc Cert.GqaPosIdeal.main_arg4)
          ∧ r.2.mem ((c.tc : Thread Cert.GqaPosIdeal.nD Cert.GqaPosIdeal.τ).loc Cert.GqaPosIdeal.main_arg5) = m ((c.tc : Thread Cert.GqaPosIdeal.nD Cert.GqaPosIdeal.τ).loc Cert.GqaPosIdeal.main_arg5)
          ∧ r.2.mem ((c.tc : Thread Cert.GqaPosIdeal.nD Cert.GqaPosIdeal.τ).loc Cert.GqaPosIdeal.main_arg6) = m ((c.tc : Thread Cert.GqaPosIdeal.nD Cert.GqaPosIdeal.τ).loc Cert.GqaPosIdeal.main_arg6)
          ∧ r.2.mem ((c.tc : Thread Cert.GqaPosIdeal.nD Cert.GqaPosIdeal.τ).loc Cert.GqaPosIdeal.main_arg7) = m ((c.tc : Thread Cert.GqaPosIdeal.nD Cert.GqaPosIdeal.τ).loc Cert.GqaPosIdeal.main_arg7))
      ∧ θ_run (Cert.GqaPosRefIdeal.defs (F := Ideal)) (onTc (τ := Cert.GqaPosRefIdeal.τ) (Cert.GqaPosRefIdeal.main (F := Ideal))) ⟨m', fun _ => 0, g'⟩ (fun r => ∀ c : Dev Cert.GqaPosRefIdeal.nD,
          r.2.mem ((c.tc : Thread Cert.GqaPosRefIdeal.nD Cert.GqaPosRefIdeal.τ).loc Cert.GqaPosRefIdeal.main_v121) = v0 c
          ∧ r.2.mem ((c.tc : Thread Cert.GqaPosRefIdeal.nD Cert.GqaPosRefIdeal.τ).loc Cert.GqaPosRefIdeal.main_v170) = v1 c
          ∧ r.2.mem ((c.tc : Thread Cert.GqaPosRefIdeal.nD Cert.GqaPosRefIdeal.τ).loc Cert.GqaPosRefIdeal.main_v171) = v2 c
          ∧ r.2.mem ((c.tc : Thread Cert.GqaPosRefIdeal.nD Cert.GqaPosRefIdeal.τ).loc Cert.GqaPosRefIdeal.main_v172) = v3 c
          ∧ r.2.mem ((c.tc : Thread Cert.GqaPosRefIdeal.nD Cert.GqaPosRefIdeal.τ).loc Cert.GqaPosRefIdeal.main_v119) = v4 c
          ∧ r.2.mem ((c.tc : Thread Cert.GqaPosRefIdeal.nD Cert.GqaPosRefIdeal.τ).loc Cert.GqaPosRefIdeal.main_arg0) = m' ((c.tc : Thread Cert.GqaPosRefIdeal.nD Cert.GqaPosRefIdeal.τ).loc Cert.GqaPosRefIdeal.main_arg0)
          ∧ r.2.mem ((c.tc : Thread Cert.GqaPosRefIdeal.nD Cert.GqaPosRefIdeal.τ).loc Cert.GqaPosRefIdeal.main_arg1) = m' ((c.tc : Thread Cert.GqaPosRefIdeal.nD Cert.GqaPosRefIdeal.τ).loc Cert.GqaPosRefIdeal.main_arg1)
          ∧ r.2.mem ((c.tc : Thread Cert.GqaPosRefIdeal.nD Cert.GqaPosRefIdeal.τ).loc Cert.GqaPosRefIdeal.main_arg2) = m' ((c.tc : Thread Cert.GqaPosRefIdeal.nD Cert.GqaPosRefIdeal.τ).loc Cert.GqaPosRefIdeal.main_arg2)
          ∧ r.2.mem ((c.tc : Thread Cert.GqaPosRefIdeal.nD Cert.GqaPosRefIdeal.τ).loc Cert.GqaPosRefIdeal.main_arg3) = m' ((c.tc : Thread Cert.GqaPosRefIdeal.nD Cert.GqaPosRefIdeal.τ).loc Cert.GqaPosRefIdeal.main_arg3)
          ∧ r.2.mem ((c.tc : Thread Cert.GqaPosRefIdeal.nD Cert.GqaPosRefIdeal.τ).loc Cert.GqaPosRefIdeal.main_arg4) = m' ((c.tc : Thread Cert.GqaPosRefIdeal.nD Cert.GqaPosRefIdeal.τ).loc Cert.GqaPosRefIdeal.main_arg4)
          ∧ r.2.mem ((c.tc : Thread Cert.GqaPosRefIdeal.nD Cert.GqaPosRefIdeal.τ).loc Cert.GqaPosRefIdeal.main_arg5) = m' ((c.tc : Thread Cert.GqaPosRefIdeal.nD Cert.GqaPosRefIdeal.τ).loc Cert.GqaPosRefIdeal.main_arg5)
          ∧ r.2.mem ((c.tc : Thread Cert.GqaPosRefIdeal.nD Cert.GqaPosRefIdeal.τ).loc Cert.GqaPosRefIdeal.main_arg6) = m' ((c.tc : Thread Cert.GqaPosRefIdeal.nD Cert.GqaPosRefIdeal.τ).loc Cert.GqaPosRefIdeal.main_arg6)
          ∧ r.2.mem ((c.tc : Thread Cert.GqaPosRefIdeal.nD Cert.GqaPosRefIdeal.τ).loc Cert.GqaPosRefIdeal.main_arg7) = m' ((c.tc : Thread Cert.GqaPosRefIdeal.nD Cert.GqaPosRefIdeal.τ).loc Cert.GqaPosRefIdeal.main_arg7))

def preserves_MlaPos_MlaPosIdeal : Prop :=
  IdealRules.named_const.Statement Cert.MlaPosIdeal.κ "inv_384" .f32 0x3B2AAAAB#32 ((384⁻¹ : ℝ) : EReal)
  ∧ IdealRules.named_const.Statement Cert.MlaPosIdeal.κ "q_scale" .f32 0x3DD53B95#32 (((Real.log 2)⁻¹ * (Real.sqrt 192)⁻¹ : ℝ) : EReal)

def algebraic_MlaPosIdeal_MlaPosRefIdeal [hMlaPosIdeal : Cert.MlaPosIdeal.Facts] [hMlaPosRefIdeal : Cert.MlaPosRefIdeal.Facts] : Prop :=
  ∀ (m : (ℓ : Loc Cert.MlaPosIdeal.nD Cert.MlaPosIdeal.τ Cert.MlaPosIdeal.sig) → Buf (Elt Ideal) ℓ) (g : Dev Cert.MlaPosIdeal.nD → PrngReg)
    (m' : (ℓ : Loc Cert.MlaPosRefIdeal.nD Cert.MlaPosRefIdeal.τ Cert.MlaPosRefIdeal.sig) → Buf (Elt Ideal) ℓ) (g' : Dev Cert.MlaPosRefIdeal.nD → PrngReg), Pre_MlaPosIdeal m →
    (∀ c : Dev Cert.MlaPosIdeal.nD,
      m' ((c.tc : Thread Cert.MlaPosRefIdeal.nD Cert.MlaPosRefIdeal.τ).loc Cert.MlaPosRefIdeal.main_arg0) = m ((c.tc : Thread Cert.MlaPosIdeal.nD Cert.MlaPosIdeal.τ).loc Cert.MlaPosIdeal.main_arg0)
      ∧ m' ((c.tc : Thread Cert.MlaPosRefIdeal.nD Cert.MlaPosRefIdeal.τ).loc Cert.MlaPosRefIdeal.main_arg1) = m ((c.tc : Thread Cert.MlaPosIdeal.nD Cert.MlaPosIdeal.τ).loc Cert.MlaPosIdeal.main_arg1)
      ∧ m' ((c.tc : Thread Cert.MlaPosRefIdeal.nD Cert.MlaPosRefIdeal.τ).loc Cert.MlaPosRefIdeal.main_arg2) = m ((c.tc : Thread Cert.MlaPosIdeal.nD Cert.MlaPosIdeal.τ).loc Cert.MlaPosIdeal.main_arg2)
      ∧ m' ((c.tc : Thread Cert.MlaPosRefIdeal.nD Cert.MlaPosRefIdeal.τ).loc Cert.MlaPosRefIdeal.main_arg3) = m ((c.tc : Thread Cert.MlaPosIdeal.nD Cert.MlaPosIdeal.τ).loc Cert.MlaPosIdeal.main_arg3)
      ∧ m' ((c.tc : Thread Cert.MlaPosRefIdeal.nD Cert.MlaPosRefIdeal.τ).loc Cert.MlaPosRefIdeal.main_arg4) = m ((c.tc : Thread Cert.MlaPosIdeal.nD Cert.MlaPosIdeal.τ).loc Cert.MlaPosIdeal.main_arg4)
      ∧ m' ((c.tc : Thread Cert.MlaPosRefIdeal.nD Cert.MlaPosRefIdeal.τ).loc Cert.MlaPosRefIdeal.main_arg5) = m ((c.tc : Thread Cert.MlaPosIdeal.nD Cert.MlaPosIdeal.τ).loc Cert.MlaPosIdeal.main_arg5)
      ∧ m' ((c.tc : Thread Cert.MlaPosRefIdeal.nD Cert.MlaPosRefIdeal.τ).loc Cert.MlaPosRefIdeal.main_arg6) = m ((c.tc : Thread Cert.MlaPosIdeal.nD Cert.MlaPosIdeal.τ).loc Cert.MlaPosIdeal.main_arg6)
      ∧ m' ((c.tc : Thread Cert.MlaPosRefIdeal.nD Cert.MlaPosRefIdeal.τ).loc Cert.MlaPosRefIdeal.main_arg7) = m ((c.tc : Thread Cert.MlaPosIdeal.nD Cert.MlaPosIdeal.τ).loc Cert.MlaPosIdeal.main_arg7)
      ∧ m' ((c.tc : Thread Cert.MlaPosRefIdeal.nD Cert.MlaPosRefIdeal.τ).loc Cert.MlaPosRefIdeal.main_arg8) = m ((c.tc : Thread Cert.MlaPosIdeal.nD Cert.MlaPosIdeal.τ).loc Cert.MlaPosIdeal.main_arg8)
      ∧ m' ((c.tc : Thread Cert.MlaPosRefIdeal.nD Cert.MlaPosRefIdeal.τ).loc Cert.MlaPosRefIdeal.main_arg9) = m ((c.tc : Thread Cert.MlaPosIdeal.nD Cert.MlaPosIdeal.τ).loc Cert.MlaPosIdeal.main_arg9)
      ∧ m' ((c.tc : Thread Cert.MlaPosRefIdeal.nD Cert.MlaPosRefIdeal.τ).loc Cert.MlaPosRefIdeal.main_arg10) = m ((c.tc : Thread Cert.MlaPosIdeal.nD Cert.MlaPosIdeal.τ).loc Cert.MlaPosIdeal.main_arg10)) →
    ∃ (v0 : (c : Dev Cert.MlaPosIdeal.nD) → Buf (Elt Ideal) ((c.tc : Thread Cert.MlaPosIdeal.nD Cert.MlaPosIdeal.τ).loc Cert.MlaPosIdeal.main_v44_0)) (v1 : (c : Dev Cert.MlaPosIdeal.nD) → Buf (Elt Ideal) ((c.tc : Thread Cert.MlaPosIdeal.nD Cert.MlaPosIdeal.τ).loc Cert.MlaPosIdeal.main_v44_1)) (v2 : (c : Dev Cert.MlaPosIdeal.nD) → Buf (Elt Ideal) ((c.tc : Thread Cert.MlaPosIdeal.nD Cert.MlaPosIdeal.τ).loc Cert.MlaPosIdeal.main_v44_2)) (v3 : (c : Dev Cert.MlaPosIdeal.nD) → Buf (Elt Ideal) ((c.tc : Thread Cert.MlaPosIdeal.nD Cert.MlaPosIdeal.τ).loc Cert.MlaPosIdeal.main_v44_3)) (v4 : (c : Dev Cert.MlaPosIdeal.nD) → Buf (Elt Ideal) ((c.tc : Thread Cert.MlaPosIdeal.nD Cert.MlaPosIdeal.τ).loc Cert.MlaPosIdeal.main_v44_4)),
      θ_run (Cert.MlaPosIdeal.defs (F := Ideal)) (onTc (τ := Cert.MlaPosIdeal.τ) (Cert.MlaPosIdeal.main (F := Ideal))) ⟨m, fun _ => 0, g⟩ (fun r => ∀ c : Dev Cert.MlaPosIdeal.nD,
          r.2.mem ((c.tc : Thread Cert.MlaPosIdeal.nD Cert.MlaPosIdeal.τ).loc Cert.MlaPosIdeal.main_v44_0) = v0 c
          ∧ r.2.mem ((c.tc : Thread Cert.MlaPosIdeal.nD Cert.MlaPosIdeal.τ).loc Cert.MlaPosIdeal.main_v44_1) = v1 c
          ∧ r.2.mem ((c.tc : Thread Cert.MlaPosIdeal.nD Cert.MlaPosIdeal.τ).loc Cert.MlaPosIdeal.main_v44_2) = v2 c
          ∧ r.2.mem ((c.tc : Thread Cert.MlaPosIdeal.nD Cert.MlaPosIdeal.τ).loc Cert.MlaPosIdeal.main_v44_3) = v3 c
          ∧ r.2.mem ((c.tc : Thread Cert.MlaPosIdeal.nD Cert.MlaPosIdeal.τ).loc Cert.MlaPosIdeal.main_v44_4) = v4 c
          ∧ r.2.mem ((c.tc : Thread Cert.MlaPosIdeal.nD Cert.MlaPosIdeal.τ).loc Cert.MlaPosIdeal.main_arg0) = m ((c.tc : Thread Cert.MlaPosIdeal.nD Cert.MlaPosIdeal.τ).loc Cert.MlaPosIdeal.main_arg0)
          ∧ r.2.mem ((c.tc : Thread Cert.MlaPosIdeal.nD Cert.MlaPosIdeal.τ).loc Cert.MlaPosIdeal.main_arg1) = m ((c.tc : Thread Cert.MlaPosIdeal.nD Cert.MlaPosIdeal.τ).loc Cert.MlaPosIdeal.main_arg1)
          ∧ r.2.mem ((c.tc : Thread Cert.MlaPosIdeal.nD Cert.MlaPosIdeal.τ).loc Cert.MlaPosIdeal.main_arg2) = m ((c.tc : Thread Cert.MlaPosIdeal.nD Cert.MlaPosIdeal.τ).loc Cert.MlaPosIdeal.main_arg2)
          ∧ r.2.mem ((c.tc : Thread Cert.MlaPosIdeal.nD Cert.MlaPosIdeal.τ).loc Cert.MlaPosIdeal.main_arg3) = m ((c.tc : Thread Cert.MlaPosIdeal.nD Cert.MlaPosIdeal.τ).loc Cert.MlaPosIdeal.main_arg3)
          ∧ r.2.mem ((c.tc : Thread Cert.MlaPosIdeal.nD Cert.MlaPosIdeal.τ).loc Cert.MlaPosIdeal.main_arg4) = m ((c.tc : Thread Cert.MlaPosIdeal.nD Cert.MlaPosIdeal.τ).loc Cert.MlaPosIdeal.main_arg4)
          ∧ r.2.mem ((c.tc : Thread Cert.MlaPosIdeal.nD Cert.MlaPosIdeal.τ).loc Cert.MlaPosIdeal.main_arg5) = m ((c.tc : Thread Cert.MlaPosIdeal.nD Cert.MlaPosIdeal.τ).loc Cert.MlaPosIdeal.main_arg5)
          ∧ r.2.mem ((c.tc : Thread Cert.MlaPosIdeal.nD Cert.MlaPosIdeal.τ).loc Cert.MlaPosIdeal.main_arg6) = m ((c.tc : Thread Cert.MlaPosIdeal.nD Cert.MlaPosIdeal.τ).loc Cert.MlaPosIdeal.main_arg6)
          ∧ r.2.mem ((c.tc : Thread Cert.MlaPosIdeal.nD Cert.MlaPosIdeal.τ).loc Cert.MlaPosIdeal.main_arg7) = m ((c.tc : Thread Cert.MlaPosIdeal.nD Cert.MlaPosIdeal.τ).loc Cert.MlaPosIdeal.main_arg7)
          ∧ r.2.mem ((c.tc : Thread Cert.MlaPosIdeal.nD Cert.MlaPosIdeal.τ).loc Cert.MlaPosIdeal.main_arg8) = m ((c.tc : Thread Cert.MlaPosIdeal.nD Cert.MlaPosIdeal.τ).loc Cert.MlaPosIdeal.main_arg8)
          ∧ r.2.mem ((c.tc : Thread Cert.MlaPosIdeal.nD Cert.MlaPosIdeal.τ).loc Cert.MlaPosIdeal.main_arg9) = m ((c.tc : Thread Cert.MlaPosIdeal.nD Cert.MlaPosIdeal.τ).loc Cert.MlaPosIdeal.main_arg9)
          ∧ r.2.mem ((c.tc : Thread Cert.MlaPosIdeal.nD Cert.MlaPosIdeal.τ).loc Cert.MlaPosIdeal.main_arg10) = m ((c.tc : Thread Cert.MlaPosIdeal.nD Cert.MlaPosIdeal.τ).loc Cert.MlaPosIdeal.main_arg10))
      ∧ θ_run (Cert.MlaPosRefIdeal.defs (F := Ideal)) (onTc (τ := Cert.MlaPosRefIdeal.τ) (Cert.MlaPosRefIdeal.main (F := Ideal))) ⟨m', fun _ => 0, g'⟩ (fun r => ∀ c : Dev Cert.MlaPosRefIdeal.nD,
          r.2.mem ((c.tc : Thread Cert.MlaPosRefIdeal.nD Cert.MlaPosRefIdeal.τ).loc Cert.MlaPosRefIdeal.main_v205) = v0 c
          ∧ r.2.mem ((c.tc : Thread Cert.MlaPosRefIdeal.nD Cert.MlaPosRefIdeal.τ).loc Cert.MlaPosRefIdeal.main_v206) = v1 c
          ∧ r.2.mem ((c.tc : Thread Cert.MlaPosRefIdeal.nD Cert.MlaPosRefIdeal.τ).loc Cert.MlaPosRefIdeal.main_v207) = v2 c
          ∧ r.2.mem ((c.tc : Thread Cert.MlaPosRefIdeal.nD Cert.MlaPosRefIdeal.τ).loc Cert.MlaPosRefIdeal.main_v19) = v3 c
          ∧ r.2.mem ((c.tc : Thread Cert.MlaPosRefIdeal.nD Cert.MlaPosRefIdeal.τ).loc Cert.MlaPosRefIdeal.main_v208) = v4 c
          ∧ r.2.mem ((c.tc : Thread Cert.MlaPosRefIdeal.nD Cert.MlaPosRefIdeal.τ).loc Cert.MlaPosRefIdeal.main_arg0) = m' ((c.tc : Thread Cert.MlaPosRefIdeal.nD Cert.MlaPosRefIdeal.τ).loc Cert.MlaPosRefIdeal.main_arg0)
          ∧ r.2.mem ((c.tc : Thread Cert.MlaPosRefIdeal.nD Cert.MlaPosRefIdeal.τ).loc Cert.MlaPosRefIdeal.main_arg1) = m' ((c.tc : Thread Cert.MlaPosRefIdeal.nD Cert.MlaPosRefIdeal.τ).loc Cert.MlaPosRefIdeal.main_arg1)
          ∧ r.2.mem ((c.tc : Thread Cert.MlaPosRefIdeal.nD Cert.MlaPosRefIdeal.τ).loc Cert.MlaPosRefIdeal.main_arg2) = m' ((c.tc : Thread Cert.MlaPosRefIdeal.nD Cert.MlaPosRefIdeal.τ).loc Cert.MlaPosRefIdeal.main_arg2)
          ∧ r.2.mem ((c.tc : Thread Cert.MlaPosRefIdeal.nD Cert.MlaPosRefIdeal.τ).loc Cert.MlaPosRefIdeal.main_arg3) = m' ((c.tc : Thread Cert.MlaPosRefIdeal.nD Cert.MlaPosRefIdeal.τ).loc Cert.MlaPosRefIdeal.main_arg3)
          ∧ r.2.mem ((c.tc : Thread Cert.MlaPosRefIdeal.nD Cert.MlaPosRefIdeal.τ).loc Cert.MlaPosRefIdeal.main_arg4) = m' ((c.tc : Thread Cert.MlaPosRefIdeal.nD Cert.MlaPosRefIdeal.τ).loc Cert.MlaPosRefIdeal.main_arg4)
          ∧ r.2.mem ((c.tc : Thread Cert.MlaPosRefIdeal.nD Cert.MlaPosRefIdeal.τ).loc Cert.MlaPosRefIdeal.main_arg5) = m' ((c.tc : Thread Cert.MlaPosRefIdeal.nD Cert.MlaPosRefIdeal.τ).loc Cert.MlaPosRefIdeal.main_arg5)
          ∧ r.2.mem ((c.tc : Thread Cert.MlaPosRefIdeal.nD Cert.MlaPosRefIdeal.τ).loc Cert.MlaPosRefIdeal.main_arg6) = m' ((c.tc : Thread Cert.MlaPosRefIdeal.nD Cert.MlaPosRefIdeal.τ).loc Cert.MlaPosRefIdeal.main_arg6)
          ∧ r.2.mem ((c.tc : Thread Cert.MlaPosRefIdeal.nD Cert.MlaPosRefIdeal.τ).loc Cert.MlaPosRefIdeal.main_arg7) = m' ((c.tc : Thread Cert.MlaPosRefIdeal.nD Cert.MlaPosRefIdeal.τ).loc Cert.MlaPosRefIdeal.main_arg7)
          ∧ r.2.mem ((c.tc : Thread Cert.MlaPosRefIdeal.nD Cert.MlaPosRefIdeal.τ).loc Cert.MlaPosRefIdeal.main_arg8) = m' ((c.tc : Thread Cert.MlaPosRefIdeal.nD Cert.MlaPosRefIdeal.τ).loc Cert.MlaPosRefIdeal.main_arg8)
          ∧ r.2.mem ((c.tc : Thread Cert.MlaPosRefIdeal.nD Cert.MlaPosRefIdeal.τ).loc Cert.MlaPosRefIdeal.main_arg9) = m' ((c.tc : Thread Cert.MlaPosRefIdeal.nD Cert.MlaPosRefIdeal.τ).loc Cert.MlaPosRefIdeal.main_arg9)
          ∧ r.2.mem ((c.tc : Thread Cert.MlaPosRefIdeal.nD Cert.MlaPosRefIdeal.τ).loc Cert.MlaPosRefIdeal.main_arg10) = m' ((c.tc : Thread Cert.MlaPosRefIdeal.nD Cert.MlaPosRefIdeal.τ).loc Cert.MlaPosRefIdeal.main_arg10))

def preserves_MlaCtx_MlaCtxIdeal : Prop :=
  True

def algebraic_MlaCtxIdeal_MlaCtxRefIdeal [hMlaCtxIdeal : Cert.MlaCtxIdeal.Facts] [hMlaCtxRefIdeal : Cert.MlaCtxRefIdeal.Facts] : Prop :=
  ∀ (m : (ℓ : Loc Cert.MlaCtxIdeal.nD Cert.MlaCtxIdeal.τ Cert.MlaCtxIdeal.sig) → Buf (Elt Ideal) ℓ) (g : Dev Cert.MlaCtxIdeal.nD → PrngReg)
    (m' : (ℓ : Loc Cert.MlaCtxRefIdeal.nD Cert.MlaCtxRefIdeal.τ Cert.MlaCtxRefIdeal.sig) → Buf (Elt Ideal) ℓ) (g' : Dev Cert.MlaCtxRefIdeal.nD → PrngReg), Pre_MlaCtxIdeal m →
    (∀ c : Dev Cert.MlaCtxIdeal.nD,
      m' ((c.tc : Thread Cert.MlaCtxRefIdeal.nD Cert.MlaCtxRefIdeal.τ).loc Cert.MlaCtxRefIdeal.main_arg0) = m ((c.tc : Thread Cert.MlaCtxIdeal.nD Cert.MlaCtxIdeal.τ).loc Cert.MlaCtxIdeal.main_arg0)
      ∧ m' ((c.tc : Thread Cert.MlaCtxRefIdeal.nD Cert.MlaCtxRefIdeal.τ).loc Cert.MlaCtxRefIdeal.main_arg1) = m ((c.tc : Thread Cert.MlaCtxIdeal.nD Cert.MlaCtxIdeal.τ).loc Cert.MlaCtxIdeal.main_arg1)
      ∧ m' ((c.tc : Thread Cert.MlaCtxRefIdeal.nD Cert.MlaCtxRefIdeal.τ).loc Cert.MlaCtxRefIdeal.main_arg2) = m ((c.tc : Thread Cert.MlaCtxIdeal.nD Cert.MlaCtxIdeal.τ).loc Cert.MlaCtxIdeal.main_arg2)
      ∧ m' ((c.tc : Thread Cert.MlaCtxRefIdeal.nD Cert.MlaCtxRefIdeal.τ).loc Cert.MlaCtxRefIdeal.main_arg3) = m ((c.tc : Thread Cert.MlaCtxIdeal.nD Cert.MlaCtxIdeal.τ).loc Cert.MlaCtxIdeal.main_arg3)) →
    ∃ (v0 : (c : Dev Cert.MlaCtxIdeal.nD) → Buf (Elt Ideal) ((c.tc : Thread Cert.MlaCtxIdeal.nD Cert.MlaCtxIdeal.τ).loc Cert.MlaCtxIdeal.main_v5_0)) (v1 : (c : Dev Cert.MlaCtxIdeal.nD) → Buf (Elt Ideal) ((c.tc : Thread Cert.MlaCtxIdeal.nD Cert.MlaCtxIdeal.τ).loc Cert.MlaCtxIdeal.main_v5_1)),
      θ_run (Cert.MlaCtxIdeal.defs (F := Ideal)) (onTc (τ := Cert.MlaCtxIdeal.τ) (Cert.MlaCtxIdeal.main (F := Ideal))) ⟨m, fun _ => 0, g⟩ (fun r => ∀ c : Dev Cert.MlaCtxIdeal.nD,
          r.2.mem ((c.tc : Thread Cert.MlaCtxIdeal.nD Cert.MlaCtxIdeal.τ).loc Cert.MlaCtxIdeal.main_v5_0) = v0 c
          ∧ r.2.mem ((c.tc : Thread Cert.MlaCtxIdeal.nD Cert.MlaCtxIdeal.τ).loc Cert.MlaCtxIdeal.main_v5_1) = v1 c
          ∧ r.2.mem ((c.tc : Thread Cert.MlaCtxIdeal.nD Cert.MlaCtxIdeal.τ).loc Cert.MlaCtxIdeal.main_arg0) = m ((c.tc : Thread Cert.MlaCtxIdeal.nD Cert.MlaCtxIdeal.τ).loc Cert.MlaCtxIdeal.main_arg0)
          ∧ r.2.mem ((c.tc : Thread Cert.MlaCtxIdeal.nD Cert.MlaCtxIdeal.τ).loc Cert.MlaCtxIdeal.main_arg1) = m ((c.tc : Thread Cert.MlaCtxIdeal.nD Cert.MlaCtxIdeal.τ).loc Cert.MlaCtxIdeal.main_arg1)
          ∧ r.2.mem ((c.tc : Thread Cert.MlaCtxIdeal.nD Cert.MlaCtxIdeal.τ).loc Cert.MlaCtxIdeal.main_arg2) = m ((c.tc : Thread Cert.MlaCtxIdeal.nD Cert.MlaCtxIdeal.τ).loc Cert.MlaCtxIdeal.main_arg2)
          ∧ r.2.mem ((c.tc : Thread Cert.MlaCtxIdeal.nD Cert.MlaCtxIdeal.τ).loc Cert.MlaCtxIdeal.main_arg3) = m ((c.tc : Thread Cert.MlaCtxIdeal.nD Cert.MlaCtxIdeal.τ).loc Cert.MlaCtxIdeal.main_arg3))
      ∧ θ_run (Cert.MlaCtxRefIdeal.defs (F := Ideal)) (onTc (τ := Cert.MlaCtxRefIdeal.τ) (Cert.MlaCtxRefIdeal.main (F := Ideal))) ⟨m', fun _ => 0, g'⟩ (fun r => ∀ c : Dev Cert.MlaCtxRefIdeal.nD,
          r.2.mem ((c.tc : Thread Cert.MlaCtxRefIdeal.nD Cert.MlaCtxRefIdeal.τ).loc Cert.MlaCtxRefIdeal.main_v21) = v0 c
          ∧ r.2.mem ((c.tc : Thread Cert.MlaCtxRefIdeal.nD Cert.MlaCtxRefIdeal.τ).loc Cert.MlaCtxRefIdeal.main_v24) = v1 c
          ∧ r.2.mem ((c.tc : Thread Cert.MlaCtxRefIdeal.nD Cert.MlaCtxRefIdeal.τ).loc Cert.MlaCtxRefIdeal.main_arg0) = m' ((c.tc : Thread Cert.MlaCtxRefIdeal.nD Cert.MlaCtxRefIdeal.τ).loc Cert.MlaCtxRefIdeal.main_arg0)
          ∧ r.2.mem ((c.tc : Thread Cert.MlaCtxRefIdeal.nD Cert.MlaCtxRefIdeal.τ).loc Cert.MlaCtxRefIdeal.main_arg1) = m' ((c.tc : Thread Cert.MlaCtxRefIdeal.nD Cert.MlaCtxRefIdeal.τ).loc Cert.MlaCtxRefIdeal.main_arg1)
          ∧ r.2.mem ((c.tc : Thread Cert.MlaCtxRefIdeal.nD Cert.MlaCtxRefIdeal.τ).loc Cert.MlaCtxRefIdeal.main_arg2) = m' ((c.tc : Thread Cert.MlaCtxRefIdeal.nD Cert.MlaCtxRefIdeal.τ).loc Cert.MlaCtxRefIdeal.main_arg2)
          ∧ r.2.mem ((c.tc : Thread Cert.MlaCtxRefIdeal.nD Cert.MlaCtxRefIdeal.τ).loc Cert.MlaCtxRefIdeal.main_arg3) = m' ((c.tc : Thread Cert.MlaCtxRefIdeal.nD Cert.MlaCtxRefIdeal.τ).loc Cert.MlaCtxRefIdeal.main_arg3))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v5) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def Claim : Prop :=
  ∃ (hKernel : Cert.Kernel.Facts) (hKernelIdeal : Cert.KernelIdeal.Facts) (hReferenceIdeal : Cert.ReferenceIdeal.Facts) (hMixMlp : Cert.MixMlp.Facts) (hMixMlpIdeal : Cert.MixMlpIdeal.Facts) (hMixMlpRefIdeal : Cert.MixMlpRefIdeal.Facts) (hLatent : Cert.Latent.Facts) (hLatentIdeal : Cert.LatentIdeal.Facts) (hLatentRefIdeal : Cert.LatentRefIdeal.Facts) (hNormProj : Cert.NormProj.Facts) (hNormProjIdeal : Cert.NormProjIdeal.Facts) (hNormProjRefIdeal : Cert.NormProjRefIdeal.Facts) (hGqaPrep : Cert.GqaPrep.Facts) (hGqaPrepIdeal : Cert.GqaPrepIdeal.Facts) (hGqaPrepRefIdeal : Cert.GqaPrepRefIdeal.Facts) (hMla : Cert.Mla.Facts) (hMlaIdeal : Cert.MlaIdeal.Facts) (hMlaRefIdeal : Cert.MlaRefIdeal.Facts) (hGqaPos : Cert.GqaPos.Facts) (hGqaPosIdeal : Cert.GqaPosIdeal.Facts) (hGqaPosRefIdeal : Cert.GqaPosRefIdeal.Facts) (hMlaPos : Cert.MlaPos.Facts) (hMlaPosIdeal : Cert.MlaPosIdeal.Facts) (hMlaPosRefIdeal : Cert.MlaPosRefIdeal.Facts) (hMlaCtx : Cert.MlaCtx.Facts) (hMlaCtxIdeal : Cert.MlaCtxIdeal.Facts) (hMlaCtxRefIdeal : Cert.MlaCtxRefIdeal.Facts) (hAdaln : Cert.Adaln.Facts) (hAdalnIdeal : Cert.AdalnIdeal.Facts) (hAdalnRefIdeal : Cert.AdalnRefIdeal.Facts) (hPre_finite_scores : Cert.Pre_finite_scores.Facts) (hPre_finite_latent : Cert.Pre_finite_latent.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_MixMlp (hMixMlp := hMixMlp)
    ∧ quiescent_MixMlpIdeal (hMixMlpIdeal := hMixMlpIdeal)
    ∧ quiescent_MixMlpRefIdeal (hMixMlpRefIdeal := hMixMlpRefIdeal)
    ∧ quiescent_Latent (hLatent := hLatent)
    ∧ quiescent_LatentIdeal (hLatentIdeal := hLatentIdeal)
    ∧ quiescent_LatentIdeal_pre_finite_latent (hLatentIdeal := hLatentIdeal) (hPre_finite_latent := hPre_finite_latent)
    ∧ quiescent_LatentRefIdeal (hLatentRefIdeal := hLatentRefIdeal)
    ∧ quiescent_LatentRefIdeal_pre_finite_latent (hLatentRefIdeal := hLatentRefIdeal) (hPre_finite_latent := hPre_finite_latent)
    ∧ quiescent_NormProj (hNormProj := hNormProj)
    ∧ quiescent_NormProjIdeal (hNormProjIdeal := hNormProjIdeal)
    ∧ quiescent_NormProjRefIdeal (hNormProjRefIdeal := hNormProjRefIdeal)
    ∧ quiescent_GqaPrep (hGqaPrep := hGqaPrep)
    ∧ quiescent_GqaPrepIdeal (hGqaPrepIdeal := hGqaPrepIdeal)
    ∧ quiescent_GqaPrepRefIdeal (hGqaPrepRefIdeal := hGqaPrepRefIdeal)
    ∧ quiescent_Mla (hMla := hMla)
    ∧ quiescent_MlaIdeal (hMlaIdeal := hMlaIdeal)
    ∧ quiescent_MlaRefIdeal (hMlaRefIdeal := hMlaRefIdeal)
    ∧ quiescent_GqaPos (hGqaPos := hGqaPos)
    ∧ quiescent_GqaPosIdeal (hGqaPosIdeal := hGqaPosIdeal)
    ∧ quiescent_GqaPosRefIdeal (hGqaPosRefIdeal := hGqaPosRefIdeal)
    ∧ quiescent_MlaPos (hMlaPos := hMlaPos)
    ∧ quiescent_MlaPosIdeal (hMlaPosIdeal := hMlaPosIdeal)
    ∧ quiescent_MlaPosRefIdeal (hMlaPosRefIdeal := hMlaPosRefIdeal)
    ∧ quiescent_MlaCtx (hMlaCtx := hMlaCtx)
    ∧ quiescent_MlaCtxIdeal (hMlaCtxIdeal := hMlaCtxIdeal)
    ∧ quiescent_MlaCtxRefIdeal (hMlaCtxRefIdeal := hMlaCtxRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_MixMlp_MixMlpIdeal
    ∧ algebraic_MixMlpIdeal_MixMlpRefIdeal (hMixMlpIdeal := hMixMlpIdeal) (hMixMlpRefIdeal := hMixMlpRefIdeal)
    ∧ preserves_Latent_LatentIdeal
    ∧ algebraic_LatentIdeal_LatentRefIdeal_pre_finite_latent (hLatentIdeal := hLatentIdeal) (hLatentRefIdeal := hLatentRefIdeal) (hPre_finite_latent := hPre_finite_latent)
    ∧ preserves_NormProj_NormProjIdeal
    ∧ algebraic_NormProjIdeal_NormProjRefIdeal (hNormProjIdeal := hNormProjIdeal) (hNormProjRefIdeal := hNormProjRefIdeal)
    ∧ preserves_GqaPrep_GqaPrepIdeal
    ∧ algebraic_GqaPrepIdeal_GqaPrepRefIdeal (hGqaPrepIdeal := hGqaPrepIdeal) (hGqaPrepRefIdeal := hGqaPrepRefIdeal)
    ∧ preserves_Mla_MlaIdeal
    ∧ algebraic_MlaIdeal_MlaRefIdeal (hMlaIdeal := hMlaIdeal) (hMlaRefIdeal := hMlaRefIdeal)
    ∧ preserves_GqaPos_GqaPosIdeal
    ∧ algebraic_GqaPosIdeal_GqaPosRefIdeal (hGqaPosIdeal := hGqaPosIdeal) (hGqaPosRefIdeal := hGqaPosRefIdeal)
    ∧ preserves_MlaPos_MlaPosIdeal
    ∧ algebraic_MlaPosIdeal_MlaPosRefIdeal (hMlaPosIdeal := hMlaPosIdeal) (hMlaPosRefIdeal := hMlaPosRefIdeal)
    ∧ preserves_MlaCtx_MlaCtxIdeal
    ∧ algebraic_MlaCtxIdeal_MlaCtxRefIdeal (hMlaCtxIdeal := hMlaCtxIdeal) (hMlaCtxRefIdeal := hMlaCtxRefIdeal)
    ∧ preserves_Adaln_AdalnIdeal
    ∧ algebraic_AdalnIdeal_AdalnRefIdeal (hAdalnIdeal := hAdalnIdeal) (hAdalnRefIdeal := hAdalnRefIdeal)
-- ==== Pre_finite_latent.lean ====
abbrev S16384x2048 : Shape := ⟨2, ![16384, 2048]⟩
abbrev S16384x1024 : Shape := ⟨2, ![16384, 1024]⟩
abbrev S4096x2048 : Shape := ⟨2, ![4096, 2048]⟩
abbrev S4096x1024 : Shape := ⟨2, ![4096, 1024]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S16384x2048 .bf16) (main_arg1 : FVec F S16384x2048 .bf16) (main_arg2 : FVec F S16384x1024 .bf16) (main_arg3 : FVec F S4096x2048 .bf16) (main_arg4 : FVec F S4096x1024 .bf16) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x2048 .f32 := (extf .f32 · bitsLt_bf16_f32) main_arg1
  let main_v6 : FVec F S16384x2048 .f32 := Host.absf main_v5
  let main_cst_0 : FVec F S_ .f32 := constant S_ .f32 0x7F800000#32
  let main_v7 : FVec F S16384x2048 .f32 := broadcastInDim S16384x2048 ![] bcast_S_S16384x2048 main_cst_0
  let main_v8 : IVec S16384x2048 1 := cmpf .olt main_v6 main_v7
  let main_c_1 : IVec S_ 1 := constantI S_ 1 1#1
  let main_v9 : IVec S_ 1 := (fun x v => Host.reduce IntOp.andi x v reducesTo_S16384x2048_S_d0_1 h_S_) main_v8 main_c_1
  let main_v10 : IVec S_ 1 := andi main_v4 main_v9
  let main_v11 : FVec F S4096x2048 .f32 := (extf .f32 · bitsLt_bf16_f32) main_arg3
  let main_v12 : FVec F S4096x2048 .f32 := Host.absf main_v11
  let main_cst_2 : FVec F S_ .f32 := constant S_ .f32 0x7F800000#32
  let main_v13 : FVec F S4096x2048 .f32 := broadcastInDim S4096x2048 ![] bcast_S_S4096x2048 main_cst_2
  let main_v14 : IVec S4096x2048 1 := cmpf .olt main_v12 main_v13
  let main_c_3 : IVec S_ 1 := constantI S_ 1 1#1
  let main_v15 : IVec S_ 1 := (fun x v => Host.reduce IntOp.andi x v reducesTo_S4096x2048_S_d0_1 h_S_) main_v14 main_c_3
  let main_v16 : IVec S_ 1 := andi main_v10 main_v15
  main_v16
-- ==== Pre_finite_scores.lean ====
abbrev S16384x1024 : Shape := ⟨2, ![16384, 1024]⟩
abbrev S16384x256 : Shape := ⟨2, ![16384, 256]⟩
abbrev S8x512x2x128 : Shape := ⟨4, ![8, 512, 2, 128]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S8x512x2x128 : S_.BroadcastsInDim S8x512x2x128 (![] : Fin 0 → Fin S8x512x2x128.rank)
  reducesTo_S8x512x2x128_S_d0_1_2_3 : S8x512x2x128.ReducesTo [0, 1, 2, 3] S_

variable [Facts]

def fn {F : FTy → Type} [FloatOps F] (main_arg0 : FVec F S16384x1024 .bf16) (main_arg1 : FVec F S16384x256 .bf16) (main_arg2 : FVec F S16384x256 .bf16) (main_arg3 : FVec F S8x512x2x128 .f32) (main_arg4 : FVec F S8x512x2x128 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x256 .f32 := (extf .f32 · bitsLt_bf16_f32) main_arg1
  let main_v6 : FVec F S16384x256 .f32 := Host.absf main_v5
  let main_cst_0 : FVec F S_ .f32 := constant S_ .f32 0x7F800000#32
  let main_v7 : FVec F S16384x256 .f32 := broadcastInDim S16384x256 ![] bcast_S_S16384x256 main_cst_0
  let main_v8 : IVec S16384x256 1 := cmpf .olt main_v6 main_v7
  let main_c_1 : IVec S_ 1 := constantI S_ 1 1#1
  let main_v9 : IVec S_ 1 := (fun x v => Host.reduce IntOp.andi x v reducesTo_S16384x256_S_d0_1 h_S_) main_v8 main_c_1
  let main_v10 : IVec S_ 1 := andi main_v4 main_v9
  let main_v11 : FVec F S8x512x2x128 .f32 := Host.absf main_arg3
  let main_cst_2 : FVec F S_ .f32 := constant S_ .f32 0x7F800000#32
  let main_v12 : FVec F S8x512x2x128 .f32 := broadcastInDim S8x512x2x128 ![] bcast_S_S8x512x2x128 main_cst_2
  let main_v13 : IVec S8x512x2x128 1 := cmpf .olt main_v11 main_v12
  let main_c_3 : IVec S_ 1 := constantI S_ 1 1#1
  let main_v14 : IVec S_ 1 := (fun x v => Host.reduce IntOp.andi x v reducesTo_S8x512x2x128_S_d0_1_2_3 h_S_) main_v13 main_c_3
  let main_v15 : IVec S_ 1 := andi main_v10 main_v14
  main_v15
-- ==== Kernel.lean ====
abbrev S16384x1024 : Shape := ⟨2, ![16384, 1024]⟩
abbrev S16384x256 : Shape := ⟨2, ![16384, 256]⟩
abbrev S8x512x2x128 : Shape := ⟨4, ![8, 512, 2, 128]⟩
abbrev S4096x256 : Shape := ⟨2, ![4096, 256]⟩
abbrev S512x1024 : Shape := ⟨2, ![512, 1024]⟩
abbrev S2048x256 : Shape := ⟨2, ![2048, 256]⟩
abbrev S512x256 : Shape := ⟨2, ![512, 256]⟩
abbrev S2048x128 : Shape := ⟨2, ![2048, 128]⟩
abbrev S512x128 : Shape := ⟨2, ![512, 128]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S8x512x2x128, .f32⟩
  | .hbm, ⟨4, _⟩ => ⟨S8x512x2x128, .f32⟩
  | .hbm, ⟨5, _⟩ => ⟨S4096x256, .f32⟩
  | .hbm, ⟨6, _⟩ => ⟨S4096x256, .bf16⟩
  | .hbm, ⟨7, _⟩ => ⟨S4096x256, .f32⟩
  | .hbm, ⟨8, _⟩ => ⟨S4096x256, .bf16⟩
  | .hbm, ⟨9, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x1024, .bf16⟩
  | .local _ .vmem, ⟨11, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x1024 : Shape := ⟨2, ![16384, 1024]⟩
abbrev S16384x256 : Shape := ⟨2, ![16384, 256]⟩
abbrev S8x512x2x128 : Shape := ⟨4, ![8, 512, 2, 128]⟩
abbrev S8x2048x2x4x128 : Shape := ⟨5, ![8, 2048, 2, 4, 128]⟩
abbrev S8x2048x2x128 : Shape := ⟨4, ![8, 2048, 2, 128]⟩
abbrev S8x2560x2x128 : Shape := ⟨4, ![8, 2560, 2, 128]⟩
abbrev S8x2x2560x2048x4 : Shape := ⟨5, ![8, 2, 2560, 2048, 4]⟩
abbrev S8x2x4x2048x2560 : Shape := ⟨5, ![8, 2, 4, 2048, 2560]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x128x4x2048 : Shape := ⟨5, ![8, 2, 128, 4, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S8x512x2x128, .f32⟩
  | .hbm, ⟨4, _⟩ => ⟨S8x512x2x128, .f32⟩
  | .hbm, ⟨5, _⟩ => ⟨S16384x1024, .f32⟩
  | .hbm, ⟨6, _⟩ => ⟨S8x2048x2x4x128, .f32⟩
  | .hbm, ⟨7, _⟩ => ⟨S16384x256, .f32⟩
  | .hbm, ⟨8, _⟩ => ⟨S8x2048x2x128, .f32⟩
  | .hbm, ⟨9, _⟩ => ⟨S8x2560x2x128, .f32⟩
  | .hbm, ⟨10, _⟩ => ⟨S16384x256, .f32⟩
  | .hbm, ⟨11, _⟩ => ⟨S8x2048x2x128, .f32⟩
  | .hbm, ⟨12, _⟩ => ⟨S8x2560x2x128, .f32⟩
  | .hbm, ⟨13, _⟩ => ⟨S8x2x2560x2048x4, .f32⟩
  | .hbm, ⟨14, _⟩ => ⟨S8x2x4x2048x2560, .f32⟩
  | .hbm, ⟨15, _⟩ => ⟨S_, .f32⟩
  | .hbm, ⟨16, _⟩ => ⟨S_, .f32⟩
  | .hbm, ⟨17, _⟩ => ⟨S8x2x4x2048x2560, .f32⟩
  | .hbm, ⟨18, _⟩ => ⟨S8x2x4x2048x2560, .f32⟩
  | .hbm, ⟨19, _⟩ => ⟨S_, .f32⟩
  | .hbm, ⟨20, _⟩ => ⟨S8x2x4x2048, .f32⟩
  | .hbm, ⟨21, _⟩ => ⟨S_, .f32⟩
  | .hbm, ⟨22, _⟩ => ⟨S8x2x4x2048, .f32⟩
  | .hbm, ⟨23, _⟩ => ⟨S8x2x4x2048, .f32⟩
  | .hbm, ⟨24, _⟩ => ⟨S8x2x4x2048x1, .f32⟩
  | .hbm, ⟨25, _⟩ => ⟨S8x2x4x2048x2560, .f32⟩
  | .hbm, ⟨26, _⟩ => ⟨S8x2x4x2048x2560, .f32⟩
  | .hbm, ⟨27, _⟩ => ⟨S8x2x4x2048x2560, .f32⟩
  | .hbm, ⟨28, _⟩ => ⟨S_, .f32⟩
  | .hbm, ⟨29, _⟩ => ⟨S8x2x4x2048, .f32⟩
  | .hbm, ⟨30, _⟩ => ⟨S8x2x4x2048x1, .f32⟩
  | .hbm, ⟨31, _⟩ => ⟨S8x2x4x2048x2560, .f32⟩
  | .hbm, ⟨32, _⟩ => ⟨S8x2x4x2048x2560, .f32⟩
  | .hbm, ⟨33, _⟩ => ⟨S8x2x128x4x2048, .f32⟩
  | .hbm, ⟨34, _⟩ => ⟨S8x2048x2x4x128, .f32⟩
  | .hbm, ⟨35, _⟩ => ⟨S16384x1024, .f32⟩
  | .hbm, ⟨36, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== MixMlp.lean ====
abbrev S16384x1024 : Shape := ⟨2, ![16384, 1024]⟩
abbrev S16x8x1024 : Shape := ⟨3, ![16, 8, 1024]⟩
abbrev S1x1024 : Shape := ⟨2, ![1, 1024]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S1x8x1024 : Shape := ⟨3, ![1, 8, 1024]⟩
abbrev S1x1024x1024 : Shape := ⟨3, ![1, 1024, 1024]⟩
abbrev S1x1x1024 : Shape := ⟨3, ![1, 1, 1024]⟩
abbrev S8x1024 : Shape := ⟨2, ![8, 1024]⟩
abbrev S1024 : Shape := ⟨1, ![1024]⟩
abbrev S1024x1 : Shape := ⟨2, ![1024, 1]⟩

abbrev nBuf : Space → Nat
  | .hbm => 8
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16x8x1024, .f32⟩
  | .hbm, ⟨3, _⟩ => ⟨S1x1024, .f32⟩
  | .hbm, ⟨4, _⟩ => ⟨S1024x1024, .bf16⟩
  | .hbm, ⟨5, _⟩ => ⟨S4x1024x4096, .bf16⟩
  | .hbm, ⟨6, _⟩ => ⟨S4x4096x1024, .bf16⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MixMlpRefIdeal.lean ====
abbrev S16384x1024 : Shape := ⟨2, ![16384, 1024]⟩
abbrev S16x8x1024 : Shape := ⟨3, ![16, 8, 1024]⟩
abbrev S1x1024 : Shape := ⟨2, ![1, 1024]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S8x6x1024 : Shape := ⟨3, ![8, 6, 1024]⟩
abbrev S8x6x1x1024 : Shape := ⟨4, ![8, 6, 1, 1024]⟩
abbrev S8x2048x1024 : Shape := ⟨3, ![8, 2048, 1024]⟩
abbrev S8x1x1x1024 : Shape := ⟨4, ![8, 1, 1, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16x8x1024, .f32⟩
  | .hbm, ⟨3, _⟩ => ⟨S1x1024, .f32⟩
  | .hbm, ⟨4, _⟩ => ⟨S1024x1024, .bf16⟩
  | .hbm, ⟨5, _⟩ => ⟨S4x1024x4096, .bf16⟩
  | .hbm, ⟨6, _⟩ => ⟨S4x4096x1024, .bf16⟩
  | .hbm, ⟨7, _⟩ => ⟨S8x6x1024, .f32⟩
  | .hbm, ⟨8, _⟩ => ⟨S8x6x1x1024, .f32⟩
  | .hbm, ⟨9, _⟩ => ⟨S8x2048x1024, .f32⟩
  | .hbm, ⟨10, _⟩ => ⟨S16384x1024, .f32⟩
  | .hbm, ⟨11, _⟩ => ⟨S8x2048x1024, .f32⟩
  | .hbm, ⟨12, _⟩ => ⟨S8x1x1x1024, .f32⟩
  | .hbm, ⟨13, _⟩ => ⟨S8x1x1024, .f32⟩
  | .hbm, ⟨14, _⟩ => ⟨S1024x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S8x1x1x1024, .f32⟩
  | .hbm, ⟨37, _⟩ => ⟨S8x1x1024, .f32⟩
  | .hbm, ⟨38, _⟩ => ⟨S_, .f32⟩
  | .hbm, ⟨39, _⟩ => ⟨S8x1x1024, .f32⟩
  | .hbm, ⟨40, _⟩ => ⟨S8x1x1024, .f32⟩
  | .hbm, ⟨41, _⟩ => ⟨S8x2048x1024, .f32⟩
  | .hbm, ⟨42, _⟩ => ⟨S8x2048x1024, .f32⟩
  | .hbm, ⟨43, _⟩ => ⟨S8x1x1x1024, .f32⟩
  | .hbm, ⟨44, _⟩ => ⟨S8x1x1024, .f32⟩
  | .hbm, ⟨45, _⟩ => ⟨S8x2048x1024, .f32⟩
  | .hbm, ⟨46, _⟩ => ⟨S8x2048x1024, .f32⟩
  | .hbm, ⟨47, _⟩ => ⟨S1x1024x4096, .bf16⟩
  | .hbm, ⟨48, _⟩ => ⟨S1024x4096, .bf16⟩
  | .hbm, ⟨49, _⟩ => ⟨S1024x4096, .f32⟩
  | .hbm, ⟨50, _⟩ => ⟨S8x2048x4096, .f32⟩
  | .hbm, ⟨51, _⟩ => ⟨S_, .f32⟩
  | .hbm, ⟨52, _⟩ => ⟨S8x2048x4096, .f32⟩
  | .hbm, ⟨53, _⟩ => ⟨S8x2048x4096, .f32⟩
  | .hbm, ⟨54, _⟩ => ⟨S8x2048x4096, .f32⟩
  | .hbm, ⟨55, _⟩ => ⟨S1x4096x1024, .bf16⟩
  | .hbm, ⟨56, _⟩ => ⟨S4096x1024, .bf16⟩
  | .hbm, ⟨57, _⟩ => ⟨S4096x1024, .f32⟩
  | .hbm, ⟨58, _⟩ => ⟨S8x2048x1024, .f32⟩
  | .hbm, ⟨59, _⟩ => ⟨S8x1x1x1024, .f32⟩
  | .hbm, ⟨60, _⟩ => ⟨S8x1x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_cst : Ref sig .tc := ⟨.hbm, 51, rfl⟩
abbrev main_call0_v0 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Latent.lean ====
abbrev S16384x2048 : Shape := ⟨2, ![16384, 2048]⟩
abbrev S16384x1024 : Shape := ⟨2, ![16384, 1024]⟩
abbrev S4096x2048 : Shape := ⟨2, ![4096, 2048]⟩
abbrev S4096x1024 : Shape := ⟨2, ![4096, 1024]⟩
abbrev S512x1024 : Shape := ⟨2, ![512, 1024]⟩
abbrev S2048x1024 : Shape := ⟨2, ![2048, 1024]⟩
abbrev S2048x512 : Shape := ⟨2, ![2048, 512]⟩
abbrev S512x512 : Shape := ⟨2, ![512, 512]⟩
abbrev S2048x128 : Shape := ⟨2, ![2048, 128]⟩
abbrev S2048x256 : Shape := ⟨2, ![2048, 256]⟩
abbrev S512x128 : Shape := ⟨2, ![512, 128]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S4096x2048, .bf16⟩
  | .hbm, ⟨4, _⟩ => ⟨S4096x1024, .bf16⟩
  | .hbm, ⟨5, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== LatentRefIdeal.lean ====
abbrev S16384x2048 : Shape := ⟨2, ![16384, 2048]⟩
abbrev S16384x1024 : Shape := ⟨2, ![16384, 1024]⟩
abbrev S4096x2048 : Shape := ⟨2, ![4096, 2048]⟩
abbrev S4096x1024 : Shape := ⟨2, ![4096, 1024]⟩
abbrev S8x2048x8x256 : Shape := ⟨4, ![8, 2048, 8, 256]⟩
abbrev S8x512x8x256 : Shape := ⟨4, ![8, 512, 8, 256]⟩
abbrev S8x2560x8x256 : Shape := ⟨4, ![8, 2560, 8, 256]⟩
abbrev S8x512x8x128 : Shape := ⟨4, ![8, 512, 8, 128]⟩
abbrev S8x2048x8x128 : Shape := ⟨4, ![8, 2048, 8, 128]⟩
abbrev S8x2560x8x128 : Shape := ⟨4, ![8, 2560, 8, 128]⟩
abbrev S8x8x2048x2560 : Shape := ⟨4, ![8, 8, 2048, 2560]⟩
abbrev S_ : Shape := ⟨0, ![]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S4096x2048, .bf16⟩
  | .hbm, ⟨4, _⟩ => ⟨S4096x1024, .bf16⟩
  | .hbm, ⟨5, _⟩ => ⟨S16384x2048, .f32⟩
  | .hbm, ⟨6, _⟩ => ⟨S8x2048x8x256, .f32⟩
  | .hbm, ⟨7, _⟩ => ⟨S4096x2048, .f32⟩
  | .hbm, ⟨8, _⟩ => ⟨S8x512x8x256, .f32⟩
  | .hbm, ⟨9, _⟩ => ⟨S16384x2048, .f32⟩
  | .hbm, ⟨10, _⟩ => ⟨S8x2048x8x256, .f32⟩
  | .hbm, ⟨11, _⟩ => ⟨S8x2560x8x256, .f32⟩
  | .hbm, ⟨12, _⟩ => ⟨S4096x1024, .f32⟩
  | .hbm, ⟨13, _⟩ => ⟨S8x512x8x128, .f32⟩
  | .hbm, ⟨14, _⟩ => ⟨S16384x1024, .f32⟩
  | .hbm, ⟨15, _⟩ => ⟨S8x2048x8x128, .f32⟩
  | .hbm, ⟨16, _⟩ => ⟨S8x2560x8x128, .f32⟩
  | .hbm, ⟨17, _⟩ => ⟨S8x8x2048x2560, .f32⟩
  | .hbm, ⟨18, _⟩ => ⟨S_, .f32⟩
  | .hbm, ⟨19, _⟩ => ⟨S_, .f32⟩
  | .hbm, ⟨20, _⟩ => ⟨S8x8x2048x2560, .f32⟩
  | .hbm, ⟨21, _⟩ => ⟨S8x8x2048x2560, .f32⟩
  | .hbm, ⟨22, _⟩ => ⟨S_, .f32⟩
  | .hbm, ⟨23, _⟩ => ⟨S8x8x2048, .f32⟩
  | .hbm, ⟨24, _⟩ => ⟨S_, .f32⟩
  | .hbm, ⟨25, _⟩ => ⟨S8x8x2048, .f32⟩
  | .hbm, ⟨26, _⟩ => ⟨S8x8x2048, .f32⟩
  | .hbm, ⟨27, _⟩ => ⟨S8x8x2048x1, .f32⟩
  | .hbm, ⟨28, _⟩ => ⟨S8x8x2048x2560, .f32⟩
  | .hbm, ⟨29, _⟩ => ⟨S8x8x2048x2560, .f32⟩
  | .hbm, ⟨30, _⟩ => ⟨S8x8x2048x2560, .f32⟩
  | .hbm, ⟨31, _⟩ => ⟨S_, .f32⟩
  | .hbm, ⟨32, _⟩ => ⟨S8x8x2048, .f32⟩
  | .hbm, ⟨33, _⟩ => ⟨S8x8x2048x1, .f32⟩
  | .hbm, ⟨34, _⟩ => ⟨S8x8x2048x2560, .f32⟩
  | .hbm, ⟨35, _⟩ => ⟨S8x8x2048x2560, .f32⟩
  | .hbm, ⟨36, _⟩ => ⟨S8x8x128x2048, .f32⟩
  | .hbm, ⟨37, _⟩ => ⟨S8x2048x8x128, .f32⟩
  | .hbm, ⟨38, _⟩ => ⟨S16384x1024, .f32⟩
  | .hbm, ⟨39, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== NormProj.lean ====
abbrev S16384x1024 : Shape := ⟨2, ![16384, 1024]⟩
abbrev S16x8x1024 : Shape := ⟨3, ![16, 8, 1024]⟩
abbrev S1x1024 : Shape := ⟨2, ![1, 1024]⟩
abbrev S1024x4096 : Shape := ⟨2, ![1024, 4096]⟩
abbrev S1024x128 : Shape := ⟨2, ![1024, 128]⟩
abbrev S16384x4096 : Shape := ⟨2, ![16384, 4096]⟩
abbrev S16384x128 : Shape := ⟨2, ![16384, 128]⟩
abbrev S1024x1024 : Shape := ⟨2, ![1024, 1024]⟩
abbrev S1x8x1024 : Shape := ⟨3, ![1, 8, 1024]⟩
abbrev S8x1024 : Shape := ⟨2, ![8, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16x8x1024, .f32⟩
  | .hbm, ⟨2, _⟩ => ⟨S1x1024, .f32⟩
  | .hbm, ⟨3, _⟩ => ⟨S1024x4096, .bf16⟩
  | .hbm, ⟨4, _⟩ => ⟨S1024x128, .bf16⟩
  | .hbm, ⟨5, _⟩ => ⟨S16384x4096, .bf16⟩
  | .hbm, ⟨6, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x4096, .bf16⟩
  | .local _ .vmem, ⟨6, _⟩ => ⟨S1024x128, .bf16⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x128, .f32⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== NormProjRefIdeal.lean ====
abbrev S16384x1024 : Shape := ⟨2, ![16384, 1024]⟩
abbrev S16x8x1024 : Shape := ⟨3, ![16, 8, 1024]⟩
abbrev S1x1024 : Shape := ⟨2, ![1, 1024]⟩
abbrev S1024x4096 : Shape := ⟨2, ![1024, 4096]⟩
abbrev S1024x128 : Shape := ⟨2, ![1024, 128]⟩
abbrev S8x6x1024 : Shape := ⟨3, ![8, 6, 1024]⟩
abbrev S8x6x1x1024 : Shape := ⟨4, ![8, 6, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x2048x4096 : Shape := ⟨3, ![8, 2048, 4096]⟩
abbrev S16384x4096 : Shape := ⟨2, ![16384, 4096]⟩
abbrev S8x2048x128 : Shape := ⟨3, ![8, 2048, 128]⟩
abbrev S16384x128 : Shape := ⟨2, ![16384, 128]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x8x1024, .f32⟩
  | .hbm, ⟨2, _⟩ => ⟨S1x1024, .f32⟩
  | .hbm, ⟨3, _⟩ => ⟨S1024x4096, .bf16⟩
  | .hbm, ⟨4, _⟩ => ⟨S1024x128, .bf16⟩
  | .hbm, ⟨5, _⟩ => ⟨S8x6x1024, .f32⟩
  | .hbm, ⟨6, _⟩ => ⟨S8x6x1x1024, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x1x1x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x1x1x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S1024x4096, .f32⟩
  | .hbm, ⟨37, _⟩ => ⟨S8x2048x4096, .f32⟩
  | .hbm, ⟨38, _⟩ => ⟨S16384x4096, .f32⟩
  | .hbm, ⟨39, _⟩ => ⟨S16384x4096, .bf16⟩
  | .hbm, ⟨40, _⟩ => ⟨S1024x128, .f32⟩
  | .hbm, ⟨41, _⟩ => ⟨S8x2048x128, .f32⟩
  | .hbm, ⟨42, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== GqaPrep.lean ====
abbrev S4096x1024 : Shape := ⟨2, ![4096, 1024]⟩
abbrev S16x8x1024 : Shape := ⟨3, ![16, 8, 1024]⟩
abbrev S1x1024 : Shape := ⟨2, ![1, 1024]⟩
abbrev S1024x1536 : Shape := ⟨2, ![1024, 1536]⟩
abbrev S1x128 : Shape := ⟨2, ![1, 128]⟩
abbrev S4096x256 : Shape := ⟨2, ![4096, 256]⟩
abbrev S512x1024 : Shape := ⟨2, ![512, 1024]⟩
abbrev S1x8x1024 : Shape := ⟨3, ![1, 8, 1024]⟩
abbrev S512x256 : Shape := ⟨2, ![512, 256]⟩
abbrev S8x1024 : Shape := ⟨2, ![8, 1024]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S16x8x1024, .f32⟩
  | .hbm, ⟨2, _⟩ => ⟨S1x1024, .f32⟩
  | .hbm, ⟨3, _⟩ => ⟨S1024x1536, .bf16⟩
  | .hbm, ⟨4, _⟩ => ⟨S1x128, .f32⟩
  | .hbm, ⟨5, _⟩ => ⟨S1x128, .f32⟩
  | .hbm, ⟨6, _⟩ => ⟨S4096x1024, .bf16⟩
  | .hbm, ⟨7, _⟩ => ⟨S4096x256, .bf16⟩
  | .hbm, ⟨8, _⟩ => ⟨S4096x256, .bf16⟩
  | .hbm, ⟨9, _⟩ => ⟨S4096x256, .f32⟩
  | .hbm, ⟨10, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x1024, .f32⟩
  | .local _ .vmem, ⟨4, _⟩ => ⟨S1024x1536, .bf16⟩
  | .local _ .vmem, ⟨5, _⟩ => ⟨S1x128, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GqaPrepIdeal.lean ====
variable {F : FTy → Type} [FloatOps F] [Named F]
def κ : String → Option EReal := fun
  | "q_scale" => some (((Real.log 2)⁻¹ * (Real.sqrt 128)⁻¹ : ℝ) : EReal)
  | _ => none
-- ==== GqaPrepRefIdeal.lean ====
abbrev S4096x1024 : Shape := ⟨2, ![4096, 1024]⟩
abbrev S16x8x1024 : Shape := ⟨3, ![16, 8, 1024]⟩
abbrev S1x1024 : Shape := ⟨2, ![1, 1024]⟩
abbrev S1024x1536 : Shape := ⟨2, ![1024, 1536]⟩
abbrev S1x128 : Shape := ⟨2, ![1, 128]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1x1024 : Shape := ⟨3, ![1, 1, 1024]⟩
abbrev S4096x1536 : Shape := ⟨2, ![4096, 1536]⟩
abbrev S4096x8x128 : Shape := ⟨3, ![4096, 8, 128]⟩
abbrev S4096x256 : Shape := ⟨2, ![4096, 256]⟩
abbrev S4096x2x128 : Shape := ⟨3, ![4096, 2, 128]⟩
abbrev S4096x8 : Shape := ⟨2, ![4096, 8]⟩
abbrev S4096x8x1 : Shape := ⟨3, ![4096, 8, 1]⟩
abbrev S128 : Shape := ⟨1, ![128]⟩
abbrev S1x1x128 : Shape := ⟨3, ![1, 1, 128]⟩
abbrev S4096x2 : Shape := ⟨2, ![4096, 2]⟩
abbrev S4096x2x1 : Shape := ⟨3, ![4096, 2, 1]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x8x1024, .f32⟩
  | .hbm, ⟨2, _⟩ => ⟨S1x1024, .f32⟩
  | .hbm, ⟨3, _⟩ => ⟨S1024x1536, .bf16⟩
  | .hbm, ⟨4, _⟩ => ⟨S1x128, .f32⟩
  | .hbm, ⟨5, _⟩ => ⟨S1x128, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1x1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1x1x1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1024x1536, .f32⟩
  | .hbm, ⟨37, _⟩ => ⟨S4096x1536, .f32⟩
  | .hbm, ⟨38, _⟩ => ⟨S4096x1024, .f32⟩
  | .hbm, ⟨39, _⟩ => ⟨S4096x8x128, .f32⟩
  | .hbm, ⟨40, _⟩ => ⟨S4096x256, .f32⟩
  | .hbm, ⟨41, _⟩ => ⟨S4096x2x128, .f32⟩
  | .hbm, ⟨42, _⟩ => ⟨S4096x256, .f32⟩
  | .hbm, ⟨43, _⟩ => ⟨S4096x8x128, .f32⟩
  | .hbm, ⟨44, _⟩ => ⟨S_, .f32⟩
  | .hbm, ⟨45, _⟩ => ⟨S4096x8, .f32⟩
  | .hbm, ⟨46, _⟩ => ⟨S4096x8x1, .f32⟩
  | .hbm, ⟨47, _⟩ => ⟨S_, .f32⟩
  | .hbm, ⟨48, _⟩ => ⟨S4096x8x1, .f32⟩
  | .hbm, ⟨49, _⟩ => ⟨S4096x8x1, .f32⟩
  | .hbm, ⟨50, _⟩ => ⟨S_, .f32⟩
  | .hbm, ⟨51, _⟩ => ⟨S4096x8x1, .f32⟩
  | .hbm, ⟨52, _⟩ => ⟨S4096x8x1, .f32⟩
  | .hbm, ⟨53, _⟩ => ⟨S4096x8x1, .f32⟩
  | .hbm, ⟨54, _⟩ => ⟨S4096x8x128, .f32⟩
  | .hbm, ⟨55, _⟩ => ⟨S4096x8x128, .f32⟩
  | .hbm, ⟨56, _⟩ => ⟨S128, .f32⟩
  | .hbm, ⟨57, _⟩ => ⟨S1x1x128, .f32⟩
  | .hbm, ⟨58, _⟩ => ⟨S4096x8x128, .f32⟩
  | .hbm, ⟨59, _⟩ => ⟨S4096x8x128, .f32⟩
  | .hbm, ⟨60, _⟩ => ⟨S4096x2x128, .f32⟩
  | .hbm, ⟨61, _⟩ => ⟨S_, .f32⟩
  | .hbm, ⟨62, _⟩ => ⟨S4096x2, .f32⟩
  | .hbm, ⟨63, _⟩ => ⟨S4096x2x1, .f32⟩
  | .hbm, ⟨64, _⟩ => ⟨S_, .f32⟩
  | .hbm, ⟨65, _⟩ => ⟨S4096x2x1, .f32⟩
  | .hbm, ⟨66, _⟩ => ⟨S4096x2x1, .f32⟩
  | .hbm, ⟨67, _⟩ => ⟨S_, .f32⟩
  | .hbm, ⟨68, _⟩ => ⟨S4096x2x1, .f32⟩
  | .hbm, ⟨69, _⟩ => ⟨S4096x2x1, .f32⟩
  | .hbm, ⟨70, _⟩ => ⟨S4096x2x1, .f32⟩
  | .hbm, ⟨71, _⟩ => ⟨S4096x2x128, .f32⟩
  | .hbm, ⟨72, _⟩ => ⟨S4096x2x128, .f32⟩
  | .hbm, ⟨73, _⟩ => ⟨S128, .f32⟩
  | .hbm, ⟨74, _⟩ => ⟨S1x1x128, .f32⟩
  | .hbm, ⟨75, _⟩ => ⟨S4096x2x128, .f32⟩
  | .hbm, ⟨76, _⟩ => ⟨S4096x2x128, .f32⟩
  | .hbm, ⟨77, _⟩ => ⟨S4096x256, .f32⟩
  | .hbm, ⟨78, _⟩ => ⟨S4096x1024, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S4096x1024, .f32⟩
  | .hbm, ⟨85, _⟩ => ⟨S4096x1024, .f32⟩
  | .hbm, ⟨86, _⟩ => ⟨S4096x1024, .bf16⟩
  | .hbm, ⟨87, _⟩ => ⟨S4096x256, .bf16⟩
  | .hbm, ⟨88, _⟩ => ⟨S4096x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Mla.lean ====
abbrev S4096x1024 : Shape := ⟨2, ![4096, 1024]⟩
abbrev S16x8x1024 : Shape := ⟨3, ![16, 8, 1024]⟩
abbrev S1x1024 : Shape := ⟨2, ![1, 1024]⟩
abbrev S1024x704 : Shape := ⟨2, ![1024, 704]⟩
abbrev S384 : Shape := ⟨1, ![384]⟩
abbrev S256 : Shape := ⟨1, ![256]⟩
abbrev S64 : Shape := ⟨1, ![64]⟩
abbrev S384x1536 : Shape := ⟨2, ![384, 1536]⟩
abbrev S256x2048 : Shape := ⟨2, ![256, 2048]⟩
abbrev S128 : Shape := ⟨1, ![128]⟩
abbrev S384x8x192 : Shape := ⟨3, ![384, 8, 192]⟩
abbrev S_ : Shape := ⟨0, ![]⟩
abbrev S384x8x256 : Shape := ⟨3, ![384, 8, 256]⟩
abbrev S1x384 : Shape := ⟨2, ![1, 384]⟩
abbrev S1x256 : Shape := ⟨2, ![1, 256]⟩
abbrev S1x64 : Shape := ⟨2, ![1, 64]⟩
abbrev S1x128 : Shape := ⟨2, ![1, 128]⟩
abbrev S384x2048 : Shape := ⟨2, ![384, 2048]⟩
abbrev S1024x768 : Shape := ⟨2, ![1024, 768]⟩
abbrev S4096x768 : Shape := ⟨2, ![4096, 768]⟩
abbrev S1024x1024 : Shape := ⟨2, ![1024, 1024]⟩
abbrev S1x8x1024 : Shape := ⟨3, ![1, 8, 1024]⟩
abbrev S8x1024 : Shape := ⟨2, ![8, 1024]⟩
abbrev S1024 : Shape := ⟨1, ![1024]⟩
abbrev S1024x1 : Shape := ⟨2, ![1024, 1]⟩
abbrev S4096x2048 : Shape := ⟨2, ![4096, 2048]⟩
abbrev S4096x256 : Shape := ⟨2, ![4096, 256]⟩
abbrev S4096x128 : Shape := ⟨2, ![4096, 128]⟩
abbrev S512x768 : Shape := ⟨2, ![512, 768]⟩
abbrev S512x2048 : Shape := ⟨2, ![512, 2048]⟩
abbrev S512x1024 : Shape := ⟨2, ![512, 1024]⟩
abbrev S512x256 : Shape := ⟨2, ![512, 256]⟩
abbrev S512x128 : Shape := ⟨2, ![512, 128]⟩
abbrev S512x384 : Shape := ⟨2, ![512, 384]⟩
abbrev S512 : Shape := ⟨1, ![512]⟩
abbrev S512x1 : Shape := ⟨2, ![512, 1]⟩
abbrev S4096x64 : Shape := ⟨2, ![4096, 64]⟩

abbrev nBuf : Space → Nat
  | .hbm => 42
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S16x8x1024, .f32⟩
  | .hbm, ⟨2, _⟩ => ⟨S1x1024, .f32⟩
  | .hbm, ⟨3, _⟩ => ⟨S1024x704, .f32⟩
  | .hbm, ⟨4, _⟩ => ⟨S384, .f32⟩
  | .hbm, ⟨5, _⟩ => ⟨S256, .f32⟩
  | .hbm, ⟨6, _⟩ => ⟨S64, .f32⟩
  | .hbm, ⟨7, _⟩ => ⟨S384x1536, .f32⟩
  | .hbm, ⟨8, _⟩ => ⟨S256x2048, .f32⟩
  | .hbm, ⟨9, _⟩ => ⟨S128, .f32⟩
  | .hbm, ⟨10, _⟩ => ⟨S64, .f32⟩
  | .hbm, ⟨11, _⟩ => ⟨S128, .f32⟩
  | .hbm, ⟨12, _⟩ => ⟨S384x8x192, .f32⟩
  | .hbm, ⟨13, _⟩ => ⟨S_, .i32⟩
  | .hbm, ⟨14, _⟩ => ⟨S_, .f32⟩
  | .hbm, ⟨15, _⟩ => ⟨S384x8x256, .f32⟩
  | .hbm, ⟨16, _⟩ => ⟨S1x384, .f32⟩
  | .hbm, ⟨17, _⟩ => ⟨S1x256, .f32⟩
  | .hbm, ⟨18, _⟩ => ⟨S1x64, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S1x64, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S384x2048, .f32⟩
  | .hbm, ⟨29, _⟩ => ⟨S384x2048, .bf16⟩
  | .hbm, ⟨30, _⟩ => ⟨S256x2048, .bf16⟩
  | .hbm, ⟨31, _⟩ => ⟨S_, .i32⟩
  | .hbm, ⟨32, _⟩ => ⟨S_, .f32⟩
  | .hbm, ⟨33, _⟩ => ⟨S1024x768, .f32⟩
  | .hbm, ⟨34, _⟩ => ⟨S1024x768, .bf16⟩
  | .hbm, ⟨35, _⟩ => ⟨S4096x768, .f32⟩
  | .hbm, ⟨36, _⟩ => ⟨S4096x2048, .bf16⟩
  | .hbm, ⟨37, _⟩ => ⟨S4096x2048, .bf16⟩
  | .hbm, ⟨38, _⟩ => ⟨S4096x1024, .bf16⟩
  | .hbm, ⟨39, _⟩ => ⟨S4096x256, .f32⟩
  | .hbm, ⟨40, _⟩ => ⟨S4096x128, .f32⟩
  | .hbm, ⟨41, _⟩ => ⟨S4096x64, .f32⟩
  | .local _ .vmem, ⟨0, _⟩ => ⟨S1024x1024, .f32⟩
  | .local _ .vmem, ⟨1, _⟩ => ⟨S1024x1024, .f32⟩
  | .local _ .vmem, ⟨2, _⟩ => ⟨S1x8x1024, .f32⟩
  | .local _ .vmem, ⟨3, _⟩ => ⟨S1x1024, .f32⟩
  | .local _ .vmem, ⟨4, _⟩ => ⟨S1024x768, .bf16⟩
  | .local _ .vmem, ⟨5, _⟩ => ⟨S1024x768, .f32⟩
  | .local _ .vmem, ⟨6, _⟩ => ⟨S1024x768, .f32⟩
  | .local _ .vmem, ⟨7, _⟩ => ⟨S1024x1024, .bf16⟩
  | .local _ .vmem, ⟨8, _⟩ => ⟨S512x768, .f32⟩
  | .local _ .vmem, ⟨9, _⟩ => ⟨S512x768, .f32⟩
  | .local _ .vmem, ⟨10, _⟩ => ⟨S1x384, .f32⟩
  | .local _ .vmem, ⟨11, _⟩ => ⟨S1x256, .f32⟩
  | .local _ .vmem, ⟨12, _⟩ => ⟨S1x128, .f32⟩
  | .local _ .vmem, ⟨13, _⟩ => ⟨S384x2048, .bf16⟩
  | .local _ .vmem, ⟨14, _⟩ => ⟨S256x2048, .bf16⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x1024, .bf16⟩
  | .local _ .vmem, ⟨23, _⟩ => ⟨S512x1024, .bf16⟩
  | .local _ .vmem, ⟨24, _⟩ => ⟨S512x256, .f32⟩
  | .local _ .vmem, ⟨25, _⟩ => ⟨S512x256, .f32⟩
  | .local _ .vmem, ⟨26, _⟩ => ⟨S512x128, .f32⟩
  | .local _ .vmem, ⟨27, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_call1_v0 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_call3_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_v16_3 : Ref sig .tc := ⟨.hbm, 39, rfl⟩
abbrev main_v16_4 : Ref sig .tc := ⟨.hbm, 40, rfl⟩
abbrev main_v17 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc1_stg13_0 : Ref sig .tc := ⟨.vmem, 26, rfl⟩
abbrev cc1_stg13_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20
abbrev cc1_sem11_0 : DmaSem sig := 21
abbrev cc1_sem11_1 : DmaSem sig := 22
abbrev cc1_sem12_0 : DmaSem sig := 23
abbrev cc1_sem12_1 : DmaSem sig := 24
abbrev cc1_sem13_0 : DmaSem sig := 25
abbrev cc1_sem13_1 : DmaSem sig := 26

abbrev nD : Nat := 1
abbrev τ : Topo := Topo.v7x

variable {F : FTy → Type} [FloatOps F]

abbrev grid0 : Pipeline.Grid := ⟨2, ![4, 1], ![false, false]⟩

def k0_mult1 (i : grid0.Coords) : BitVec 32 :=
  let arg1 : BitVec 32 := BitVec.ofNat 32 (i 1).val
  let c768_i32 : BitVec 32 := 768#32
  let v3 : BitVec 32 := Scalar.muli arg1 c768_i32
  v3
def k0_off1 (i : grid0.Coords) : Fin 2 → Nat :=
  let c0 : Index := 0#32
  let arg1 : BitVec 32 := BitVec.ofNat 32 (i 1).val
  let c768_i32 : BitVec 32 := 768#32
  let v3 : BitVec 32 := Scalar.muli arg1 c768_i32
  let v4 : BitVec 32 := v3
  let v5 : Index := Scalar.indexCast v4
  ![0, v5.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x2048 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x2048 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== MlaIdeal.lean ====
variable {F : FTy → Type} [FloatOps F] [Named F]
def κ : String → Option EReal := fun
  | "inv_384" => some ((384⁻¹ : ℝ) : EReal)
  | "q_scale" => some (((Real.log 2)⁻¹ * (Real.sqrt 192)⁻¹ : ℝ) : EReal)
  | _ => none
-- ==== MlaRefIdeal.lean ====
abbrev S4096x1024 : Shape := ⟨2, ![4096, 1024]⟩
abbrev S16x8x1024 : Shape := ⟨3, ![16, 8, 1024]⟩
abbrev S1x1024 : Shape := ⟨2, ![1, 1024]⟩
abbrev S1024x704 : Shape := ⟨2, ![1024, 704]⟩
abbrev S384 : Shape := ⟨1, ![384]⟩
abbrev S256 : Shape := ⟨1, ![256]⟩
abbrev S64 : Shape := ⟨1, ![64]⟩
abbrev S384x1536 : Shape := ⟨2, ![384, 1536]⟩
abbrev S256x2048 : Shape := ⟨2, ![256, 2048]⟩
abbrev S128 : Shape := ⟨1, ![128]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1x1024 : Shape := ⟨3, ![1, 1, 1024]⟩
abbrev S4096x704 : Shape := ⟨2, ![4096, 704]⟩
abbrev S4096x256 : Shape := ⟨2, ![4096, 256]⟩
abbrev S1x256 : Shape := ⟨2, ![1, 256]⟩
abbrev S4096x64 : Shape := ⟨2, ![4096, 64]⟩
abbrev S1x64 : Shape := ⟨2, ![1, 64]⟩
abbrev S4096x384 : Shape := ⟨2, ![4096, 384]⟩
abbrev S1x384 : Shape := ⟨2, ![1, 384]⟩
abbrev S4096x1536 : Shape := ⟨2, ![4096, 1536]⟩
abbrev S4096x8x192 : Shape := ⟨3, ![4096, 8, 192]⟩
abbrev S4096x2048 : Shape := ⟨2, ![4096, 2048]⟩
abbrev S4096x8x256 : Shape := ⟨3, ![4096, 8, 256]⟩
abbrev S4096x8x128 : Shape := ⟨3, ![4096, 8, 128]⟩
abbrev S4096x8 : Shape := ⟨2, ![4096, 8]⟩
abbrev S4096x8x1 : Shape := ⟨3, ![4096, 8, 1]⟩
abbrev S1x1x128 : Shape := ⟨3, ![1, 1, 128]⟩
abbrev S4096x8x64 : Shape := ⟨3, ![4096, 8, 64]⟩
abbrev S1x1x64 : Shape := ⟨3, ![1, 1, 64]⟩
abbrev S4096x1x64 : Shape := ⟨3, ![4096, 1, 64]⟩

abbrev nBuf : Space → Nat
  | .hbm => 175
  | .vmem => 0
  | .smem => 0
  | _ => 0

abbrev hbmTy0_0 (i : Nat) : BufTy := match i % 128 with
  | 0 => ⟨S4096x1024, .f32⟩
  | 1 => ⟨S16x8x1024, .f32⟩
  | 2 => ⟨S1x1024, .f32⟩
  | 3 => ⟨S1024x704, .f32⟩
  | 4 => ⟨S384, .f32⟩
  | 5 => ⟨S256, .f32⟩
  | 6 => ⟨S64, .f32⟩
  | 7 => ⟨S384x1536, .f32⟩
  | 8 => ⟨S256x2048, .f32⟩
  | 9 => ⟨S128, .f32⟩
  | 10 => ⟨S64, .f32⟩
  | 11 => ⟨S128, .f32⟩
  | 12 => ⟨S1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S1x1x1024, .f32⟩
  | 30 => ⟨S1024, .f32⟩
  | 31 => ⟨S_, .f32⟩
  | 32 => ⟨S1024, .f32⟩
  | 33 => ⟨S1024, .f32⟩
  | 34 => ⟨S1x1024, .f32⟩
  | 35 => ⟨S4096x1024, .f32⟩
  | 36 => ⟨S4096x1024, .f32⟩
  | 37 => ⟨S1x1x1024, .f32⟩
  | 38 => ⟨S1024, .f32⟩
  | 39 => ⟨S1x1024, .f32⟩
  | 40 => ⟨S4096x1024, .f32⟩
  | 41 => ⟨S4096x1024, .f32⟩
  | 42 => ⟨S4096x704, .f32⟩
  | 43 => ⟨S4096x256, .f32⟩
  | 44 => ⟨S4096x256, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x256, .f32⟩
  | 56 => ⟨S4096x256, .f32⟩
  | 57 => ⟨S1x256, .f32⟩
  | 58 => ⟨S4096x256, .f32⟩
  | 59 => ⟨S4096x256, .f32⟩
  | 60 => ⟨S4096x64, .f32⟩
  | 61 => ⟨S4096x64, .f32⟩
  | 62 => ⟨S_, .f32⟩
  | 63 => ⟨S4096, .f32⟩
  | 64 => ⟨S4096x1, .f32⟩
  | 65 => ⟨S_, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1, .f32⟩
  | 72 => ⟨S4096x64, .f32⟩
  | 73 => ⟨S4096x64, .f32⟩
  | 74 => ⟨S1x64, .f32⟩
  | 75 => ⟨S4096x64, .f32⟩
  | 76 => ⟨S4096x64, .f32⟩
  | 77 => ⟨S4096x384, .f32⟩
  | 78 => ⟨S4096x384, .f32⟩
  | 79 => ⟨S_, .f32⟩
  | 80 => ⟨S4096, .f32⟩
  | 81 => ⟨S4096x1, .f32⟩
  | 82 => ⟨S_, .f32⟩
  | 83 => ⟨S4096x1, .f32⟩
  | 84 => ⟨S4096x1, .f32⟩
  | 85 => ⟨S_, .f32⟩
  | 86 => ⟨S4096x1, .f32⟩
  | 87 => ⟨S4096x1, .f32⟩
  | 88 => ⟨S4096x1, .f32⟩
  | 89 => ⟨S4096x384, .f32⟩
  | 90 => ⟨S4096x384, .f32⟩
  | 91 => ⟨S1x384, .f32⟩
  | 92 => ⟨S4096x384, .f32⟩
  | 93 => ⟨S4096x384, .f32⟩
  | 94 => ⟨S4096x1536, .f32⟩
  | 95 => ⟨S4096x8x192, .f32⟩
  | 96 => ⟨S4096x2048, .f32⟩
  | 97 => ⟨S4096x8x256, .f32⟩
  | 98 => ⟨S_, .f32⟩
  | 99 => ⟨S_, .f32⟩
  | 100 => ⟨S_, .f32⟩
  | 101 => ⟨S_, .f32⟩
  | 102 => ⟨S_, .f32⟩
  | 103 => ⟨S4096x8x128, .f32⟩
  | 104 => ⟨S4096x8x128, .f32⟩
  | 105 => ⟨S_, .f32⟩
  | 106 => ⟨S4096x8, .f32⟩
  | 107 => ⟨S4096x8x1, .f32⟩
  | 108 => ⟨S_, .f32⟩
  | 109 => ⟨S4096x8x1, .f32⟩
  | 110 => ⟨S4096x8x1, .f32⟩
  | 111 => ⟨S_, .f32⟩
  | 112 => ⟨S4096x8x1, .f32⟩
  | 113 => ⟨S4096x8x1, .f32⟩
  | 114 => ⟨S4096x8x1, .f32⟩
  | 115 => ⟨S4096x8x128, .f32⟩
  | 116 => ⟨S4096x8x128, .f32⟩
  | 117 => ⟨S1x1x128, .f32⟩
  | 118 => ⟨S4096x8x128, .f32⟩
  | 119 => ⟨S4096x8x128, .f32⟩
  | 120 => ⟨S4096x8x128, .f32⟩
  | 121 => ⟨S4096x8x128, .f32⟩
  | 122 => ⟨S4096x8x64, .f32⟩
  | 123 => ⟨S4096x8x64, .f32⟩
  | 124 => ⟨S_, .f32⟩
  | 125 => ⟨S4096x8, .f32⟩
  | 126 => ⟨S4096x8x1, .f32⟩
  | 127 => ⟨S_, .f32⟩
  | _ => ⟨S4096x1024, .f32⟩

abbrev hbmTy0_1 (i : Nat) : BufTy := match i % 128 with
  | 0 => ⟨S4096x8x1, .f32⟩
  | 1 => ⟨S4096x8x1, .f32⟩
  | 2 => ⟨S_, .f32⟩
  | 3 => ⟨S4096x8x1, .f32⟩
  | 4 => ⟨S4096x8x1, .f32⟩
  | 5 => ⟨S4096x8x1, .f32⟩
  | 6 => ⟨S4096x8x64, .f32⟩
  | 7 => ⟨S4096x8x64, .f32⟩
  | 8 => ⟨S1x1x64, .f32⟩
  | 9 => ⟨S4096x8x64, .f32⟩
  | 10 => ⟨S4096x8x64, .f32⟩
  | 11 => ⟨S4096x8x64, .f32⟩
  | 12 => ⟨S4096x8x64, .f32⟩
  | 13 => ⟨S4096x8x192, .f32⟩
  | 14 => ⟨S_, .i32⟩
  | 15 => ⟨S_, .f32⟩
  | 16 => ⟨S4096x8x256, .f32⟩
  | 17 => ⟨S4096x2048, .f32⟩
  | 18 => ⟨S4096x8x128, .f32⟩
  | 19 => ⟨S4096x8x128, .f32⟩
  | 20 => ⟨S_, .f32⟩
  | 21 => ⟨S4096x8, .f32⟩
  | 22 => ⟨S4096x8x1, .f32⟩
  | 23 => ⟨S_, .f32⟩
  | 24 => ⟨S4096x8x1, .f32⟩
  | 25 => ⟨S4096x8x1, .f32⟩
  | 26 => ⟨S_, .f32⟩
  | 27 => ⟨S4096x8x1, .f32⟩
  | 28 => ⟨S4096x8x1, .f32⟩
  | 29 => ⟨S4096x8x1, .f32⟩
  | 30 => ⟨S4096x8x128, .f32⟩
  | 31 => ⟨S4096x8x128, .f32⟩
  | 32 => ⟨S1x1x128, .f32⟩
  | 33 => ⟨S4096x8x128, .f32⟩
  | 34 => ⟨S4096x8x128, .f32⟩
  | 35 => ⟨S4096x1x64, .f32⟩
  | 36 => ⟨S4096x8x64, .f32⟩
  | 37 => ⟨S4096x8x192, .f32⟩
  | 38 => ⟨S_, .i32⟩
  | 39 => ⟨S_, .f32⟩
  | 40 => ⟨S4096x8x256, .f32⟩
  | 41 => ⟨S4096x2048, .f32⟩
  | 42 => ⟨S4096x8x128, .f32⟩
  | 43 => ⟨S4096x1024, .f32⟩
  | 44 => ⟨S4096x2048, .bf16⟩
  | 45 => ⟨S4096x2048, .bf16⟩
  | 46 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_17 : Ref sig .tc := ⟨.hbm, 124, rfl⟩
abbrev main_v94 : Ref sig .tc := ⟨.hbm, 125, rfl⟩
abbrev main_v95 : Ref sig .tc := ⟨.hbm, 126, rfl⟩
abbrev main_cst_18 : Ref sig .tc := ⟨.hbm, 127, rfl⟩
abbrev main_v96 : Ref sig .tc := ⟨.hbm, 128, rfl⟩
abbrev main_v97 : Ref sig .tc := ⟨.hbm, 129, rfl⟩
abbrev main_cst_19 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_c : Ref sig .tc := ⟨.hbm, 142, rfl⟩
abbrev main_call0_v0 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_20 : Ref sig .tc := ⟨.hbm, 148, rfl⟩
abbrev main_v113 : Ref sig .tc := ⟨.hbm, 149, rfl⟩
abbrev main_v114 : Ref sig .tc := ⟨.hbm, 150, rfl⟩
abbrev main_cst_21 : Ref sig .tc := ⟨.hbm, 151, rfl⟩
abbrev main_v115 : Ref sig .tc := ⟨.hbm, 152, rfl⟩
abbrev main_v116 : Ref sig .tc := ⟨.hbm, 153, rfl⟩
abbrev main_cst_22 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_c_23 : Ref sig .tc := ⟨.hbm, 166, rfl⟩
abbrev main_call1_v0 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩

abbrev nD : Nat := 1
abbrev τ : Topo := Topo.v7x

variable {F : FTy → Type} [FloatOps F]
-- ==== GqaPos.lean ====
abbrev S16384x1024 : Shape := ⟨2, ![16384, 1024]⟩
abbrev S16x8x1024 : Shape := ⟨3, ![16, 8, 1024]⟩
abbrev S1x1024 : Shape := ⟨2, ![1, 1024]⟩
abbrev S1024x1536 : Shape := ⟨2, ![1024, 1536]⟩
abbrev S1x128 : Shape := ⟨2, ![1, 128]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16384x256 : Shape := ⟨2, ![16384, 256]⟩
abbrev S512x1024 : Shape := ⟨2, ![512, 1024]⟩
abbrev S1x8x1024 : Shape := ⟨3, ![1, 8, 1024]⟩
abbrev S512x128 : Shape := ⟨2, ![512, 128]⟩
abbrev S512x256 : Shape := ⟨2, ![512, 256]⟩
abbrev S8x1024 : Shape := ⟨2, ![8, 1024]⟩
abbrev S512 : Shape := ⟨1, ![512]⟩
abbrev S512x1 : Shape := ⟨2, ![512, 1]⟩
abbrev S512x1536 : Shape := ⟨2, ![512, 1536]⟩

abbrev nBuf : Space → Nat
  | .hbm => 49
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16x8x1024, .f32⟩
  | .hbm, ⟨2, _⟩ => ⟨S1x1024, .f32⟩
  | .hbm, ⟨3, _⟩ => ⟨S1024x1536, .bf16⟩
  | .hbm, ⟨4, _⟩ => ⟨S1x128, .f32⟩
  | .hbm, ⟨5, _⟩ => ⟨S1x128, .f32⟩
  | .hbm, ⟨6, _⟩ => ⟨S2048, .f32⟩
  | .hbm, ⟨7, _⟩ => ⟨S2048, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2048x1, .f32⟩
  | .hbm, ⟨17, _⟩ => ⟨S1x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x128, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x128, .f32⟩
  | .hbm, ⟨38, _⟩ => ⟨S_, .i32⟩
  | .hbm, ⟨39, _⟩ => ⟨S_, .f32⟩
  | .hbm, ⟨40, _⟩ => ⟨S2048x128, .f32⟩
  | .hbm, ⟨41, _⟩ => ⟨S_, .i32⟩
  | .hbm, ⟨42, _⟩ => ⟨S_, .f32⟩
  | .hbm, ⟨43, _⟩ => ⟨S2048x128, .f32⟩
  | .hbm, ⟨44, _⟩ => ⟨S16384x1024, .bf16⟩
  | .hbm, ⟨45, _⟩ => ⟨S16384x256, .bf16⟩
  | .hbm, ⟨46, _⟩ => ⟨S16384x256, .bf16⟩
  | .hbm, ⟨47, _⟩ => ⟨S16384x256, .f32⟩
  | .hbm, ⟨48, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x1536, .bf16⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_c_1 : Ref sig .tc := ⟨.hbm, 41, rfl⟩
abbrev main_call1_v0 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v30_3 : Ref sig .tc := ⟨.hbm, 47, rfl⟩
abbrev main_v30_4 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== GqaPosIdeal.lean ====
variable {F : FTy → Type} [FloatOps F] [Named F]
def κ : String → Option EReal := fun
  | "q_scale" => some (((Real.log 2)⁻¹ * (Real.sqrt 128)⁻¹ : ℝ) : EReal)
  | _ => none
-- ==== GqaPosRefIdeal.lean ====
abbrev S16384x1024 : Shape := ⟨2, ![16384, 1024]⟩
abbrev S16x8x1024 : Shape := ⟨3, ![16, 8, 1024]⟩
abbrev S1x1024 : Shape := ⟨2, ![1, 1024]⟩
abbrev S1024x1536 : Shape := ⟨2, ![1024, 1536]⟩
abbrev S1x128 : Shape := ⟨2, ![1, 128]⟩
abbrev S2048 : Shape := ⟨1, ![2048]⟩
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S8x2048x1536 : Shape := ⟨3, ![8, 2048, 1536]⟩
abbrev S8x2048x12x128 : Shape := ⟨4, ![8, 2048, 12, 128]⟩
abbrev S32 : Shape := ⟨1, ![32]⟩
abbrev S8x2048x8x128 : Shape := ⟨4, ![8, 2048, 8, 128]⟩
abbrev S128 : Shape := ⟨1, ![128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048x8x64 : Shape := ⟨4, ![8, 2048, 8, 64]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8x2048x2x128 : Shape := ⟨4, ![8, 2048, 2, 128]⟩
abbrev S8x2048x2 : Shape := ⟨3, ![8, 2048, 2]⟩
abbrev S8x2048x2x1 : Shape := ⟨4, ![8, 2048, 2, 1]⟩
abbrev S16384x256 : Shape := ⟨2, ![16384, 256]⟩
abbrev S8x2048x2x64 : Shape := ⟨4, ![8, 2048, 2, 64]⟩
abbrev S8x2048x2x32 : Shape := ⟨4, ![8, 2048, 2, 32]⟩

abbrev nBuf : Space → Nat
  | .hbm => 195
  | .vmem => 0
  | .smem => 0
  | _ => 0

abbrev hbmTy0_0 (i : Nat) : BufTy := match i % 128 with
  | 0 => ⟨S16384x1024, .f32⟩
  | 1 => ⟨S16x8x1024, .f32⟩
  | 2 => ⟨S1x1024, .f32⟩
  | 3 => ⟨S1024x1536, .bf16⟩
  | 4 => ⟨S1x128, .f32⟩
  | 5 => ⟨S1x128, .f32⟩
  | 6 => ⟨S2048, .f32⟩
  | 7 => ⟨S2048, .f32⟩
  | 8 => ⟨S8x2048x1024, .f32⟩
  | 9 => ⟨S1024, .f32⟩
  | 10 => ⟨S8x2048x1024, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S_, .f32⟩
  | 18 => ⟨S8x2048x1, .f32⟩
  | 19 => ⟨S8x2048x1, .f32⟩
  | 20 => ⟨S8x2048x1, .f32⟩
  | 21 => ⟨S8x2048x1024, .f32⟩
  | 22 => ⟨S8x2048x1024, .f32⟩
  | 23 => ⟨S1x1x1024, .f32⟩
  | 24 => ⟨S8x2048x1024, .f32⟩
  | 25 => ⟨S8x2048x1024, .f32⟩
  | 26 => ⟨S8x1x1024, .f32⟩
  | 27 => ⟨S8x1024, .f32⟩
  | 28 => ⟨S8x1x1024, .f32⟩
  | 29 => ⟨S_, .f32⟩
  | 30 => ⟨S8x1x1024, .f32⟩
  | 31 => ⟨S8x1x1024, .f32⟩
  | 32 => ⟨S8x2048x1024, .f32⟩
  | 33 => ⟨S8x2048x1024, .f32⟩
  | 34 => ⟨S8x1x1024, .f32⟩
  | 35 => ⟨S8x1024, .f32⟩
  | 36 => ⟨S8x1x1024, .f32⟩
  | 37 => ⟨S8x2048x1024, .f32⟩
  | 38 => ⟨S8x2048x1024, .f32⟩
  | 39 => ⟨S1024x1536, .f32⟩
  | 40 => ⟨S8x2048x1536, .f32⟩
  | 41 => ⟨S8x2048x12x128, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S8x2048x8x128, .f32⟩
  | 51 => ⟨S128, .f32⟩
  | 52 => ⟨S8x2048x8x128, .f32⟩
  | 53 => ⟨S_, .f32⟩
  | 54 => ⟨S8x2048x8, .f32⟩
  | 55 => ⟨S8x2048x8x1, .f32⟩
  | 56 => ⟨S_, .f32⟩
  | 57 => ⟨S8x2048x8x1, .f32⟩
  | 58 => ⟨S8x2048x8x1, .f32⟩
  | 59 => ⟨S_, .f32⟩
  | 60 => ⟨S8x2048x8x1, .f32⟩
  | 61 => ⟨S8x2048x8x1, .f32⟩
  | 62 => ⟨S8x2048x8x1, .f32⟩
  | 63 => ⟨S8x2048x8x128, .f32⟩
  | 64 => ⟨S8x2048x8x128, .f32⟩
  | 65 => ⟨S1x1x1x128, .f32⟩
  | 66 => ⟨S8x2048x8x128, .f32⟩
  | 67 => ⟨S8x2048x8x128, .f32⟩
  | 68 => ⟨S8x2048x8x64, .f32⟩
  | 69 => ⟨S2048x1, .f32⟩
  | 70 => ⟨S1x32, .f32⟩
  | 71 => ⟨S2048x32, .f32⟩
  | 72 => ⟨S2048x32, .f32⟩
  | 73 => ⟨S2048x32, .f32⟩
  | 74 => ⟨S2048x32, .f32⟩
  | 75 => ⟨S1x2048x1x32, .f32⟩
  | 76 => ⟨S2048x32, .f32⟩
  | 77 => ⟨S1x2048x1x32, .f32⟩
  | 78 => ⟨S8x2048x8x32, .f32⟩
  | 79 => ⟨S8x2048x8x32, .f32⟩
  | 80 => ⟨S8x2048x8x32, .f32⟩
  | 81 => ⟨S8x2048x8x32, .f32⟩
  | 82 => ⟨S8x2048x8x32, .f32⟩
  | 83 => ⟨S8x2048x8x32, .f32⟩
  | 84 => ⟨S8x2048x8x32, .f32⟩
  | 85 => ⟨S8x2048x8x32, .f32⟩
  | 86 => ⟨S8x2048x8x32, .f32⟩
  | 87 => ⟨S8x2048x8x32, .f32⟩
  | 88 => ⟨S8x2048x8x32, .f32⟩
  | 89 => ⟨S8x2048x8x32, .f32⟩
  | 90 => ⟨S8x2048x8x64, .f32⟩
  | 91 => ⟨S8x2048x8x64, .f32⟩
  | 92 => ⟨S2048x1, .f32⟩
  | 93 => ⟨S1x32, .f32⟩
  | 94 => ⟨S2048x32, .f32⟩
  | 95 => ⟨S2048x32, .f32⟩
  | 96 => ⟨S2048x32, .f32⟩
  | 97 => ⟨S2048x32, .f32⟩
  | 98 => ⟨S1x2048x1x32, .f32⟩
  | 99 => ⟨S2048x32, .f32⟩
  | 100 => ⟨S1x2048x1x32, .f32⟩
  | 101 => ⟨S8x2048x8x32, .f32⟩
  | 102 => ⟨S8x2048x8x32, .f32⟩
  | 103 => ⟨S8x2048x8x32, .f32⟩
  | 104 => ⟨S8x2048x8x32, .f32⟩
  | 105 => ⟨S8x2048x8x32, .f32⟩
  | 106 => ⟨S8x2048x8x32, .f32⟩
  | 107 => ⟨S8x2048x8x32, .f32⟩
  | 108 => ⟨S8x2048x8x32, .f32⟩
  | 109 => ⟨S8x2048x8x32, .f32⟩
  | 110 => ⟨S8x2048x8x32, .f32⟩
  | 111 => ⟨S8x2048x8x32, .f32⟩
  | 112 => ⟨S8x2048x8x32, .f32⟩
  | 113 => ⟨S8x2048x8x64, .f32⟩
  | 114 => ⟨S8x2048x8x128, .f32⟩
  | 115 => ⟨S_, .f32⟩
  | 116 => ⟨S_, .f32⟩
  | 117 => ⟨S_, .f32⟩
  | 118 => ⟨S_, .f32⟩
  | 119 => ⟨S_, .f32⟩
  | 120 => ⟨S8x2048x8x128, .f32⟩
  | 121 => ⟨S8x2048x8x128, .f32⟩
  | 122 => ⟨S8x2048x2x128, .f32⟩
  | 123 => ⟨S128, .f32⟩
  | 124 => ⟨S8x2048x2x128, .f32⟩
  | 125 => ⟨S_, .f32⟩
  | 126 => ⟨S8x2048x2, .f32⟩
  | 127 => ⟨S8x2048x2x1, .f32⟩
  | _ => ⟨S16384x1024, .f32⟩

abbrev hbmTy0_1 (i : Nat) : BufTy := match i % 128 with
  | 0 => ⟨S_, .f32⟩
  | 1 => ⟨S8x2048x2x1, .f32⟩
  | 2 => ⟨S8x2048x2x1, .f32⟩
  | 3 => ⟨S_, .f32⟩
  | 4 => ⟨S8x2048x2x1, .f32⟩
  | 5 => ⟨S8x2048x2x1, .f32⟩
  | 6 => ⟨S8x2048x2x1, .f32⟩
  | 7 => ⟨S8x2048x2x128, .f32⟩
  | 8 => ⟨S8x2048x2x128, .f32⟩
  | 9 => ⟨S1x1x1x128, .f32⟩
  | 10 => ⟨S8x2048x2x128, .f32⟩
  | 11 => ⟨S8x2048x2x128, .f32⟩
  | 12 => ⟨S8x2048x2x128, .f32⟩
  | 13 => ⟨S16384x256, .f32⟩
  | 14 => ⟨S16384x1024, .f32⟩
  | 15 => ⟨S16384x1024, .bf16⟩
  | 16 => ⟨S8x2048x2x64, .f32⟩
  | 17 => ⟨S2048x1, .f32⟩
  | 18 => ⟨S1x32, .f32⟩
  | 19 => ⟨S2048x32, .f32⟩
  | 20 => ⟨S2048x32, .f32⟩
  | 21 => ⟨S2048x32, .f32⟩
  | 22 => ⟨S2048x32, .f32⟩
  | 23 => ⟨S1x2048x1x32, .f32⟩
  | 24 => ⟨S2048x32, .f32⟩
  | 25 => ⟨S1x2048x1x32, .f32⟩
  | 26 => ⟨S8x2048x2x32, .f32⟩
  | 27 => ⟨S8x2048x2x32, .f32⟩
  | 28 => ⟨S8x2048x2x32, .f32⟩
  | 29 => ⟨S8x2048x2x32, .f32⟩
  | 30 => ⟨S8x2048x2x32, .f32⟩
  | 31 => ⟨S8x2048x2x32, .f32⟩
  | 32 => ⟨S8x2048x2x32, .f32⟩
  | 33 => ⟨S8x2048x2x32, .f32⟩
  | 34 => ⟨S8x2048x2x32, .f32⟩
  | 35 => ⟨S8x2048x2x32, .f32⟩
  | 36 => ⟨S8x2048x2x32, .f32⟩
  | 37 => ⟨S8x2048x2x32, .f32⟩
  | 38 => ⟨S8x2048x2x64, .f32⟩
  | 39 => ⟨S8x2048x2x64, .f32⟩
  | 40 => ⟨S2048x1, .f32⟩
  | 41 => ⟨S1x32, .f32⟩
  | 42 => ⟨S2048x32, .f32⟩
  | 43 => ⟨S2048x32, .f32⟩
  | 44 => ⟨S2048x32, .f32⟩
  | 45 => ⟨S2048x32, .f32⟩
  | 46 => ⟨S1x2048x1x32, .f32⟩
  | 47 => ⟨S2048x32, .f32⟩
  | 48 => ⟨S1x2048x1x32, .f32⟩
  | 49 => ⟨S8x2048x2x32, .f32⟩
  | 50 => ⟨S8x2048x2x32, .f32⟩
  | 51 => ⟨S8x2048x2x32, .f32⟩
  | 52 => ⟨S8x2048x2x32, .f32⟩
  | 53 => ⟨S8x2048x2x32, .f32⟩
  | 54 => ⟨S8x2048x2x32, .f32⟩
  | 55 => ⟨S8x2048x2x32, .f32⟩
  | 56 => ⟨S8x2048x2x32, .f32⟩
  | 57 => ⟨S8x2048x2x32, .f32⟩
  | 58 => ⟨S8x2048x2x32, .f32⟩
  | 59 => ⟨S8x2048x2x32, .f32⟩
  | 60 => ⟨S8x2048x2x32, .f32⟩
  | 61 => ⟨S8x2048x2x64, .f32⟩
  | 62 => ⟨S8x2048x2x128, .f32⟩
  | 63 => ⟨S16384x256, .f32⟩
  | 64 => ⟨S16384x256, .bf16⟩
  | 65 => ⟨S16384x256, .bf16⟩
  | 66 => ⟨S16384x256, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_cst_8 : Ref sig .tc := ⟨.hbm, 115, rfl⟩
abbrev main_v98 : Ref sig .tc := ⟨.hbm, 116, rfl⟩
abbrev main_cst_9 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_10 : Ref sig .tc := ⟨.hbm, 125, rfl⟩
abbrev main_v106 : Ref sig .tc := ⟨.hbm, 126, rfl⟩
abbrev main_v107 : Ref sig .tc := ⟨.hbm, 127, rfl⟩
abbrev main_cst_11 : Ref sig .tc := ⟨.hbm, 128, rfl⟩
abbrev main_v108 : Ref sig .tc := ⟨.hbm, 129, rfl⟩
abbrev main_v109 : Ref sig .tc := ⟨.hbm, 130, rfl⟩
abbrev main_cst_12 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩

abbrev nD : Nat := 1
abbrev τ : Topo := Topo.v7x

variable {F : FTy → Type} [FloatOps F]
-- ==== MlaPos.lean ====
abbrev S16384x704 : Shape := ⟨2, ![16384, 704]⟩
abbrev S384 : Shape := ⟨1, ![384]⟩
abbrev S256 : Shape := ⟨1, ![256]⟩
abbrev S64 : Shape := ⟨1, ![64]⟩
abbrev S384x1536 : Shape := ⟨2, ![384, 1536]⟩
abbrev S256x2048 : Shape := ⟨2, ![256, 2048]⟩
abbrev S128 : Shape := ⟨1, ![128]⟩
abbrev S2048 : Shape := ⟨1, ![2048]⟩
abbrev S384x8x192 : Shape := ⟨3, ![384, 8, 192]⟩
abbrev S_ : Shape := ⟨0, ![]⟩
abbrev S384x8x256 : Shape := ⟨3, ![384, 8, 256]⟩
abbrev S1x384 : Shape := ⟨2, ![1, 384]⟩
abbrev S1x256 : Shape := ⟨2, ![1, 256]⟩
abbrev S1x64 : Shape := ⟨2, ![1, 64]⟩
abbrev S1x128 : Shape := ⟨2, ![1, 128]⟩
abbrev S384x2048 : Shape := ⟨2, ![384, 2048]⟩
abbrev S16384x768 : Shape := ⟨2, ![16384, 768]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S16384x2048 : Shape := ⟨2, ![16384, 2048]⟩
abbrev S16384x1024 : Shape := ⟨2, ![16384, 1024]⟩
abbrev S16384x256 : Shape := ⟨2, ![16384, 256]⟩
abbrev S16384x128 : Shape := ⟨2, ![16384, 128]⟩
abbrev S512x768 : Shape := ⟨2, ![512, 768]⟩
abbrev S512x128 : Shape := ⟨2, ![512, 128]⟩
abbrev S512x2048 : Shape := ⟨2, ![512, 2048]⟩
abbrev S512x1024 : Shape := ⟨2, ![512, 1024]⟩
abbrev S512x256 : Shape := ⟨2, ![512, 256]⟩
abbrev S512x384 : Shape := ⟨2, ![512, 384]⟩
abbrev S512 : Shape := ⟨1, ![512]⟩
abbrev S512x1 : Shape := ⟨2, ![512, 1]⟩

abbrev nBuf : Space → Nat
  | .hbm => 74
  | .vmem => 24
  | .smem => 0
  | _ => 0

abbrev bufTy : (tb : Table) → Fin (tcTables nBuf tb) → BufTy
  | .hbm, ⟨0, _⟩ => ⟨S16384x704, .f32⟩
  | .hbm, ⟨1, _⟩ => ⟨S384, .f32⟩
  | .hbm, ⟨2, _⟩ => ⟨S256, .f32⟩
  | .hbm, ⟨3, _⟩ => ⟨S64, .f32⟩
  | .hbm, ⟨4, _⟩ => ⟨S384x1536, .f32⟩
  | .hbm, ⟨5, _⟩ => ⟨S256x2048, .f32⟩
  | .hbm, ⟨6, _⟩ => ⟨S128, .f32⟩
  | .hbm, ⟨7, _⟩ => ⟨S64, .f32⟩
  | .hbm, ⟨8, _⟩ => ⟨S128, .f32⟩
  | .hbm, ⟨9, _⟩ => ⟨S2048, .f32⟩
  | .hbm, ⟨10, _⟩ => ⟨S2048, .f32⟩
  | .hbm, ⟨11, _⟩ => ⟨S384x8x192, .f32⟩
  | .hbm, ⟨12, _⟩ => ⟨S_, .i32⟩
  | .hbm, ⟨13, _⟩ => ⟨S_, .f32⟩
  | .hbm, ⟨14, _⟩ => ⟨S384x8x256, .f32⟩
  | .hbm, ⟨15, _⟩ => ⟨S1x384, .f32⟩
  | .hbm, ⟨16, _⟩ => ⟨S1x256, .f32⟩
  | .hbm, ⟨17, _⟩ => ⟨S1x64, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S1x64, .f32⟩
  | .hbm, ⟨22, _⟩ => ⟨S_, .i32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S384x2048, .f32⟩
  | .hbm, ⟨28, _⟩ => ⟨S384x2048, .bf16⟩
  | .hbm, ⟨29, _⟩ => ⟨S256x2048, .bf16⟩
  | .hbm, ⟨30, _⟩ => ⟨S_, .i32⟩
  | .hbm, ⟨31, _⟩ => ⟨S_, .f32⟩
  | .hbm, ⟨32, _⟩ => ⟨S16384x768, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S2048x1, .f32⟩
  | .hbm, ⟨42, _⟩ => ⟨S1x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x1, .f32⟩
  | .hbm, ⟨47, _⟩ => ⟨S1x16, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S2048x16, .f32⟩
  | .hbm, ⟨53, _⟩ => ⟨S2048x16, .f32⟩
  | .hbm, ⟨54, _⟩ => ⟨S2048x16, .f32⟩
  | .hbm, ⟨55, _⟩ => ⟨S2048x64, .f32⟩
  | .hbm, ⟨56, _⟩ => ⟨S2048x16, .f32⟩
  | .hbm, ⟨57, _⟩ => ⟨S2048x16, .f32⟩
  | .hbm, ⟨58, _⟩ => ⟨S2048x16, .f32⟩
  | .hbm, ⟨59, _⟩ => ⟨S2048x16, .f32⟩
  | .hbm, ⟨60, _⟩ => ⟨S2048x16, .f32⟩
  | .hbm, ⟨61, _⟩ => ⟨S2048x16, .f32⟩
  | .hbm, ⟨62, _⟩ => ⟨S2048x64, .f32⟩
  | .hbm, ⟨63, _⟩ => ⟨S_, .i32⟩
  | .hbm, ⟨64, _⟩ => ⟨S_, .f32⟩
  | .hbm, ⟨65, _⟩ => ⟨S2048x128, .f32⟩
  | .hbm, ⟨66, _⟩ => ⟨S_, .i32⟩
  | .hbm, ⟨67, _⟩ => ⟨S_, .f32⟩
  | .hbm, ⟨68, _⟩ => ⟨S2048x128, .f32⟩
  | .hbm, ⟨69, _⟩ => ⟨S16384x2048, .bf16⟩
  | .hbm, ⟨70, _⟩ => ⟨S16384x2048, .bf16⟩
  | .hbm, ⟨71, _⟩ => ⟨S16384x1024, .bf16⟩
  | .hbm, ⟨72, _⟩ => ⟨S16384x256, .f32⟩
  | .hbm, ⟨73, _⟩ => ⟨S16384x128, .f32⟩
  | .local _ .vmem, ⟨0, _⟩ => ⟨S512x768, .f32⟩
  | .local _ .vmem, ⟨1, _⟩ => ⟨S512x768, .f32⟩
  | .local _ .vmem, ⟨2, _⟩ => ⟨S1x384, .f32⟩
  | .local _ .vmem, ⟨3, _⟩ => ⟨S1x256, .f32⟩
  | .local _ .vmem, ⟨4, _⟩ => ⟨S1x128, .f32⟩
  | .local _ .vmem, ⟨5, _⟩ => ⟨S384x2048, .bf16⟩
  | .local _ .vmem, ⟨6, _⟩ => ⟨S256x2048, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x1024, .bf16⟩
  | .local _ .vmem, ⟨19, _⟩ => ⟨S512x1024, .bf16⟩
  | .local _ .vmem, ⟨20, _⟩ => ⟨S512x256, .f32⟩
  | .local _ .vmem, ⟨21, _⟩ => ⟨S512x256, .f32⟩
  | .local _ .vmem, ⟨22, _⟩ => ⟨S512x128, .f32⟩
  | .local _ .vmem, ⟨23, _⟩ => ⟨S512x128, .f32⟩
  | _, _ => ⟨S16384x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_call2_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_call3_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_4 : Ref sig .tc := ⟨.hbm, 63, rfl⟩
abbrev main_call4_v0 : Ref sig .tc := ⟨.hbm, 64, rfl⟩
abbrev main_v42 : Ref sig .tc := ⟨.hbm, 65, rfl⟩
abbrev main_c_5 : Ref sig .tc := ⟨.hbm, 66, rfl⟩
abbrev main_call5_v0 : Ref sig .tc := ⟨.hbm, 67, rfl⟩
abbrev main_v43 : Ref sig .tc := ⟨.hbm, 68, rfl⟩
abbrev main_v44_0 : Ref sig .tc := ⟨.hbm, 69, rfl⟩
abbrev main_v44_1 : Ref sig .tc := ⟨.hbm, 70, rfl⟩
abbrev main_v44_2 : Ref sig .tc := ⟨.hbm, 71, rfl⟩
abbrev main_v44_3 : Ref sig .tc := ⟨.hbm, 72, rfl⟩
abbrev main_v44_4 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MlaPosIdeal.lean ====
variable {F : FTy → Type} [FloatOps F] [Named F]
def κ : String → Option EReal := fun
  | "inv_384" => some ((384⁻¹ : ℝ) : EReal)
  | "q_scale" => some (((Real.log 2)⁻¹ * (Real.sqrt 192)⁻¹ : ℝ) : EReal)
  | _ => none
-- ==== MlaPosRefIdeal.lean ====
abbrev S16384x704 : Shape := ⟨2, ![16384, 704]⟩
abbrev S384 : Shape := ⟨1, ![384]⟩
abbrev S256 : Shape := ⟨1, ![256]⟩
abbrev S64 : Shape := ⟨1, ![64]⟩
abbrev S384x1536 : Shape := ⟨2, ![384, 1536]⟩
abbrev S256x2048 : Shape := ⟨2, ![256, 2048]⟩
abbrev S128 : Shape := ⟨1, ![128]⟩
abbrev S2048 : Shape := ⟨1, ![2048]⟩
abbrev S16 : Shape := ⟨1, ![16]⟩
abbrev S_ : Shape := ⟨0, ![]⟩
abbrev S16384x256 : Shape := ⟨2, ![16384, 256]⟩
abbrev S16384 : Shape := ⟨1, ![16384]⟩
abbrev S16384x1 : Shape := ⟨2, ![16384, 1]⟩
abbrev S1x256 : Shape := ⟨2, ![1, 256]⟩
abbrev S16384x64 : Shape := ⟨2, ![16384, 64]⟩
abbrev S1x64 : Shape := ⟨2, ![1, 64]⟩
abbrev S16384x384 : Shape := ⟨2, ![16384, 384]⟩
abbrev S1x384 : Shape := ⟨2, ![1, 384]⟩
abbrev S16384x1536 : Shape := ⟨2, ![16384, 1536]⟩
abbrev S8x2048x8x192 : Shape := ⟨4, ![8, 2048, 8, 192]⟩
abbrev S16384x2048 : Shape := ⟨2, ![16384, 2048]⟩
abbrev S8x2048x8x256 : Shape := ⟨4, ![8, 2048, 8, 256]⟩
abbrev S8x2048x8x128 : Shape := ⟨4, ![8, 2048, 8, 128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048x8x64 : Shape := ⟨4, ![8, 2048, 8, 64]⟩
abbrev S1x1x1x64 : Shape := ⟨4, ![1, 1, 1, 64]⟩
abbrev S8x2048x8x32 : Shape := ⟨4, ![8, 2048, 8, 32]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x8x16 : Shape := ⟨4, ![8, 2048, 8, 16]⟩
abbrev S8x2048x1x64 : Shape := ⟨4, ![8, 2048, 1, 64]⟩
abbrev S8x2048x1x32 : Shape := ⟨4, ![8, 2048, 1, 32]⟩
abbrev S8x2048x1x16 : Shape := ⟨4, ![8, 2048, 1, 16]⟩
abbrev S16384x1024 : Shape := ⟨2, ![16384, 1024]⟩
abbrev S16384x128 : Shape := ⟨2, ![16384, 128]⟩

abbrev nBuf : Space → Nat
  | .hbm => 248
  | .vmem => 0
  | .smem => 0
  | _ => 0

abbrev hbmTy0_0 (i : Nat) : BufTy := match i % 128 with
  | 0 => ⟨S16384x704, .f32⟩
  | 1 => ⟨S384, .f32⟩
  | 2 => ⟨S256, .f32⟩
  | 3 => ⟨S64, .f32⟩
  | 4 => ⟨S384x1536, .f32⟩
  | 5 => ⟨S256x2048, .f32⟩
  | 6 => ⟨S128, .f32⟩
  | 7 => ⟨S64, .f32⟩
  | 8 => ⟨S128, .f32⟩
  | 9 => ⟨S2048, .f32⟩
  | 10 => ⟨S2048, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S16384x256, .f32⟩
  | 20 => ⟨S16384x256, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S_, .f32⟩
  | 28 => ⟨S16384x1, .f32⟩
  | 29 => ⟨S16384x1, .f32⟩
  | 30 => ⟨S16384x1, .f32⟩
  | 31 => ⟨S16384x256, .f32⟩
  | 32 => ⟨S16384x256, .f32⟩
  | 33 => ⟨S1x256, .f32⟩
  | 34 => ⟨S16384x256, .f32⟩
  | 35 => ⟨S16384x256, .f32⟩
  | 36 => ⟨S16384x64, .f32⟩
  | 37 => ⟨S16384x64, .f32⟩
  | 38 => ⟨S_, .f32⟩
  | 39 => ⟨S16384, .f32⟩
  | 40 => ⟨S16384x1, .f32⟩
  | 41 => ⟨S_, .f32⟩
  | 42 => ⟨S16384x1, .f32⟩
  | 43 => ⟨S16384x1, .f32⟩
  | 44 => ⟨S_, .f32⟩
  | 45 => ⟨S16384x1, .f32⟩
  | 46 => ⟨S16384x1, .f32⟩
  | 47 => ⟨S16384x1, .f32⟩
  | 48 => ⟨S16384x64, .f32⟩
  | 49 => ⟨S16384x64, .f32⟩
  | 50 => ⟨S1x64, .f32⟩
  | 51 => ⟨S16384x64, .f32⟩
  | 52 => ⟨S16384x64, .f32⟩
  | 53 => ⟨S16384x384, .f32⟩
  | 54 => ⟨S16384x384, .f32⟩
  | 55 => ⟨S_, .f32⟩
  | 56 => ⟨S16384, .f32⟩
  | 57 => ⟨S16384x1, .f32⟩
  | 58 => ⟨S_, .f32⟩
  | 59 => ⟨S16384x1, .f32⟩
  | 60 => ⟨S16384x1, .f32⟩
  | 61 => ⟨S_, .f32⟩
  | 62 => ⟨S16384x1, .f32⟩
  | 63 => ⟨S16384x1, .f32⟩
  | 64 => ⟨S16384x1, .f32⟩
  | 65 => ⟨S16384x384, .f32⟩
  | 66 => ⟨S16384x384, .f32⟩
  | 67 => ⟨S1x384, .f32⟩
  | 68 => ⟨S16384x384, .f32⟩
  | 69 => ⟨S16384x384, .f32⟩
  | 70 => ⟨S16384x1536, .f32⟩
  | 71 => ⟨S8x2048x8x192, .f32⟩
  | 72 => ⟨S16384x2048, .f32⟩
  | 73 => ⟨S8x2048x8x256, .f32⟩
  | 74 => ⟨S_, .f32⟩
  | 75 => ⟨S_, .f32⟩
  | 76 => ⟨S_, .f32⟩
  | 77 => ⟨S_, .f32⟩
  | 78 => ⟨S_, .f32⟩
  | 79 => ⟨S8x2048x8x128, .f32⟩
  | 80 => ⟨S8x2048x8x128, .f32⟩
  | 81 => ⟨S_, .f32⟩
  | 82 => ⟨S8x2048x8, .f32⟩
  | 83 => ⟨S8x2048x8x1, .f32⟩
  | 84 => ⟨S_, .f32⟩
  | 85 => ⟨S8x2048x8x1, .f32⟩
  | 86 => ⟨S8x2048x8x1, .f32⟩
  | 87 => ⟨S_, .f32⟩
  | 88 => ⟨S8x2048x8x1, .f32⟩
  | 89 => ⟨S8x2048x8x1, .f32⟩
  | 90 => ⟨S8x2048x8x1, .f32⟩
  | 91 => ⟨S8x2048x8x128, .f32⟩
  | 92 => ⟨S8x2048x8x128, .f32⟩
  | 93 => ⟨S1x1x1x128, .f32⟩
  | 94 => ⟨S8x2048x8x128, .f32⟩
  | 95 => ⟨S8x2048x8x128, .f32⟩
  | 96 => ⟨S8x2048x8x128, .f32⟩
  | 97 => ⟨S8x2048x8x128, .f32⟩
  | 98 => ⟨S8x2048x8x64, .f32⟩
  | 99 => ⟨S8x2048x8x64, .f32⟩
  | 100 => ⟨S_, .f32⟩
  | 101 => ⟨S8x2048x8, .f32⟩
  | 102 => ⟨S8x2048x8x1, .f32⟩
  | 103 => ⟨S_, .f32⟩
  | 104 => ⟨S8x2048x8x1, .f32⟩
  | 105 => ⟨S8x2048x8x1, .f32⟩
  | 106 => ⟨S_, .f32⟩
  | 107 => ⟨S8x2048x8x1, .f32⟩
  | 108 => ⟨S8x2048x8x1, .f32⟩
  | 109 => ⟨S8x2048x8x1, .f32⟩
  | 110 => ⟨S8x2048x8x64, .f32⟩
  | 111 => ⟨S8x2048x8x64, .f32⟩
  | 112 => ⟨S1x1x1x64, .f32⟩
  | 113 => ⟨S8x2048x8x64, .f32⟩
  | 114 => ⟨S8x2048x8x64, .f32⟩
  | 115 => ⟨S8x2048x8x32, .f32⟩
  | 116 => ⟨S2048x1, .f32⟩
  | 117 => ⟨S1x16, .f32⟩
  | 118 => ⟨S2048x16, .f32⟩
  | 119 => ⟨S2048x16, .f32⟩
  | 120 => ⟨S2048x16, .f32⟩
  | 121 => ⟨S2048x16, .f32⟩
  | 122 => ⟨S1x2048x1x16, .f32⟩
  | 123 => ⟨S2048x16, .f32⟩
  | 124 => ⟨S1x2048x1x16, .f32⟩
  | 125 => ⟨S8x2048x8x16, .f32⟩
  | 126 => ⟨S8x2048x8x16, .f32⟩
  | 127 => ⟨S8x2048x8x16, .f32⟩
  | _ => ⟨S16384x704, .f32⟩

abbrev hbmTy0_1 (i : Nat) : BufTy := match i % 128 with
  | 0 => ⟨S8x2048x8x16, .f32⟩
  | 1 => ⟨S8x2048x8x16, .f32⟩
  | 2 => ⟨S8x2048x8x16, .f32⟩
  | 3 => ⟨S8x2048x8x16, .f32⟩
  | 4 => ⟨S8x2048x8x16, .f32⟩
  | 5 => ⟨S8x2048x8x16, .f32⟩
  | 6 => ⟨S8x2048x8x16, .f32⟩
  | 7 => ⟨S8x2048x8x16, .f32⟩
  | 8 => ⟨S8x2048x8x16, .f32⟩
  | 9 => ⟨S8x2048x8x32, .f32⟩
  | 10 => ⟨S8x2048x8x32, .f32⟩
  | 11 => ⟨S2048x1, .f32⟩
  | 12 => ⟨S1x16, .f32⟩
  | 13 => ⟨S2048x16, .f32⟩
  | 14 => ⟨S2048x16, .f32⟩
  | 15 => ⟨S2048x16, .f32⟩
  | 16 => ⟨S2048x16, .f32⟩
  | 17 => ⟨S1x2048x1x16, .f32⟩
  | 18 => ⟨S2048x16, .f32⟩
  | 19 => ⟨S1x2048x1x16, .f32⟩
  | 20 => ⟨S8x2048x8x16, .f32⟩
  | 21 => ⟨S8x2048x8x16, .f32⟩
  | 22 => ⟨S8x2048x8x16, .f32⟩
  | 23 => ⟨S8x2048x8x16, .f32⟩
  | 24 => ⟨S8x2048x8x16, .f32⟩
  | 25 => ⟨S8x2048x8x16, .f32⟩
  | 26 => ⟨S8x2048x8x16, .f32⟩
  | 27 => ⟨S8x2048x8x16, .f32⟩
  | 28 => ⟨S8x2048x8x16, .f32⟩
  | 29 => ⟨S8x2048x8x16, .f32⟩
  | 30 => ⟨S8x2048x8x16, .f32⟩
  | 31 => ⟨S8x2048x8x16, .f32⟩
  | 32 => ⟨S8x2048x8x32, .f32⟩
  | 33 => ⟨S8x2048x8x64, .f32⟩
  | 34 => ⟨S8x2048x8x64, .f32⟩
  | 35 => ⟨S8x2048x8x64, .f32⟩
  | 36 => ⟨S8x2048x8x192, .f32⟩
  | 37 => ⟨S_, .i32⟩
  | 38 => ⟨S_, .f32⟩
  | 39 => ⟨S8x2048x8x256, .f32⟩
  | 40 => ⟨S16384x2048, .f32⟩
  | 41 => ⟨S8x2048x8x128, .f32⟩
  | 42 => ⟨S8x2048x8x128, .f32⟩
  | 43 => ⟨S_, .f32⟩
  | 44 => ⟨S8x2048x8, .f32⟩
  | 45 => ⟨S8x2048x8x1, .f32⟩
  | 46 => ⟨S_, .f32⟩
  | 47 => ⟨S8x2048x8x1, .f32⟩
  | 48 => ⟨S8x2048x8x1, .f32⟩
  | 49 => ⟨S_, .f32⟩
  | 50 => ⟨S8x2048x8x1, .f32⟩
  | 51 => ⟨S8x2048x8x1, .f32⟩
  | 52 => ⟨S8x2048x8x1, .f32⟩
  | 53 => ⟨S8x2048x8x128, .f32⟩
  | 54 => ⟨S8x2048x8x128, .f32⟩
  | 55 => ⟨S1x1x1x128, .f32⟩
  | 56 => ⟨S8x2048x8x128, .f32⟩
  | 57 => ⟨S8x2048x8x128, .f32⟩
  | 58 => ⟨S8x2048x1x64, .f32⟩
  | 59 => ⟨S8x2048x1x32, .f32⟩
  | 60 => ⟨S2048x1, .f32⟩
  | 61 => ⟨S1x16, .f32⟩
  | 62 => ⟨S2048x16, .f32⟩
  | 63 => ⟨S2048x16, .f32⟩
  | 64 => ⟨S2048x16, .f32⟩
  | 65 => ⟨S2048x16, .f32⟩
  | 66 => ⟨S1x2048x1x16, .f32⟩
  | 67 => ⟨S2048x16, .f32⟩
  | 68 => ⟨S1x2048x1x16, .f32⟩
  | 69 => ⟨S8x2048x1x16, .f32⟩
  | 70 => ⟨S8x2048x1x16, .f32⟩
  | 71 => ⟨S8x2048x1x16, .f32⟩
  | 72 => ⟨S8x2048x1x16, .f32⟩
  | 73 => ⟨S8x2048x1x16, .f32⟩
  | 74 => ⟨S8x2048x1x16, .f32⟩
  | 75 => ⟨S8x2048x1x16, .f32⟩
  | 76 => ⟨S8x2048x1x16, .f32⟩
  | 77 => ⟨S8x2048x1x16, .f32⟩
  | 78 => ⟨S8x2048x1x16, .f32⟩
  | 79 => ⟨S8x2048x1x16, .f32⟩
  | 80 => ⟨S8x2048x1x16, .f32⟩
  | 81 => ⟨S8x2048x1x32, .f32⟩
  | 82 => ⟨S8x2048x1x32, .f32⟩
  | 83 => ⟨S2048x1, .f32⟩
  | 84 => ⟨S1x16, .f32⟩
  | 85 => ⟨S2048x16, .f32⟩
  | 86 => ⟨S2048x16, .f32⟩
  | 87 => ⟨S2048x16, .f32⟩
  | 88 => ⟨S2048x16, .f32⟩
  | 89 => ⟨S1x2048x1x16, .f32⟩
  | 90 => ⟨S2048x16, .f32⟩
  | 91 => ⟨S1x2048x1x16, .f32⟩
  | 92 => ⟨S8x2048x1x16, .f32⟩
  | 93 => ⟨S8x2048x1x16, .f32⟩
  | 94 => ⟨S8x2048x1x16, .f32⟩
  | 95 => ⟨S8x2048x1x16, .f32⟩
  | 96 => ⟨S8x2048x1x16, .f32⟩
  | 97 => ⟨S8x2048x1x16, .f32⟩
  | 98 => ⟨S8x2048x1x16, .f32⟩
  | 99 => ⟨S8x2048x1x16, .f32⟩
  | 100 => ⟨S8x2048x1x16, .f32⟩
  | 101 => ⟨S8x2048x1x16, .f32⟩
  | 102 => ⟨S8x2048x1x16, .f32⟩
  | 103 => ⟨S8x2048x1x16, .f32⟩
  | 104 => ⟨S8x2048x1x32, .f32⟩
  | 105 => ⟨S8x2048x1x64, .f32⟩
  | 106 => ⟨S8x2048x8x64, .f32⟩
  | 107 => ⟨S8x2048x8x192, .f32⟩
  | 108 => ⟨S_, .i32⟩
  | 109 => ⟨S_, .f32⟩
  | 110 => ⟨S8x2048x8x256, .f32⟩
  | 111 => ⟨S16384x2048, .f32⟩
  | 112 => ⟨S8x2048x8x128, .f32⟩
  | 113 => ⟨S16384x1024, .f32⟩
  | 114 => ⟨S16384x2048, .bf16⟩
  | 115 => ⟨S16384x2048, .bf16⟩
  | 116 => ⟨S16384x1024, .bf16⟩
  | 117 => ⟨S_, .i32⟩
  | 118 => ⟨S_, .f32⟩
  | 119 => ⟨S16384x128, .f32⟩
  | _ => ⟨S16384x704, .f32⟩

abbrev hbmTy (i : Nat) : BufTy := match i / 128 with
  | 0 => hbmTy0_0 i
  | 1 => hbmTy0_1 i
  | _ => ⟨S16384x704, .f32⟩

abbrev bufTy : (tb : Table) → Fin (tcTables nBuf tb) → BufTy
  | .hbm, ⟨i, _⟩ => hbmTy i
  | _, _ => ⟨S16384x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_cst_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_c : Ref sig .tc := ⟨.hbm, 165, rfl⟩
abbrev main_call0_v0 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_18 : Ref sig .tc := ⟨.hbm, 171, rfl⟩
abbrev main_v139 : Ref sig .tc := ⟨.hbm, 172, rfl⟩
abbrev main_v140 : Ref sig .tc := ⟨.hbm, 173, rfl⟩
abbrev main_cst_19 : Ref sig .tc := ⟨.hbm, 174, rfl⟩
abbrev main_v141 : Ref sig .tc := ⟨.hbm, 175, rfl⟩
abbrev main_v142 : Ref sig .tc := ⟨.hbm, 176, rfl⟩
abbrev main_cst_20 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_c_21 : Ref sig .tc := ⟨.hbm, 236, rfl⟩
abbrev main_call1_v0 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_c_22 : Ref sig .tc := ⟨.hbm, 245, rfl⟩
abbrev main_call2_v0 : Ref sig .tc := ⟨.hbm, 246, rfl⟩
abbrev main_v208 : Ref sig .tc := ⟨.hbm, 247, rfl⟩

abbrev nD : Nat := 1
abbrev τ : Topo := Topo.v7x

variable {F : FTy → Type} [FloatOps F]
-- ==== MlaCtx.lean ====
abbrev S8x512x256 : Shape := ⟨3, ![8, 512, 256]⟩
abbrev S8x512x64 : Shape := ⟨3, ![8, 512, 64]⟩
abbrev S256x2048 : Shape := ⟨2, ![256, 2048]⟩
abbrev S128 : Shape := ⟨1, ![128]⟩
abbrev S1x128 : Shape := ⟨2, ![1, 128]⟩
abbrev S4096x256 : Shape := ⟨2, ![4096, 256]⟩
abbrev S4096x64 : Shape := ⟨2, ![4096, 64]⟩
abbrev S_ : Shape := ⟨0, ![]⟩
abbrev S4096x128 : Shape := ⟨2, ![4096, 128]⟩
abbrev S4096x2048 : Shape := ⟨2, ![4096, 2048]⟩
abbrev S4096x1024 : Shape := ⟨2, ![4096, 1024]⟩
abbrev S512x256 : Shape := ⟨2, ![512, 256]⟩
abbrev S512x128 : Shape := ⟨2, ![512, 128]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S8x512x256, .f32⟩
  | .hbm, ⟨1, _⟩ => ⟨S8x512x64, .f32⟩
  | .hbm, ⟨2, _⟩ => ⟨S256x2048, .f32⟩
  | .hbm, ⟨3, _⟩ => ⟨S128, .f32⟩
  | .hbm, ⟨4, _⟩ => ⟨S256x2048, .bf16⟩
  | .hbm, ⟨5, _⟩ => ⟨S1x128, .f32⟩
  | .hbm, ⟨6, _⟩ => ⟨S4096x256, .f32⟩
  | .hbm, ⟨7, _⟩ => ⟨S4096x64, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S4096x2048, .bf16⟩
  | .hbm, ⟨12, _⟩ => ⟨S4096x1024, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S256x2048, .bf16⟩
  | .local _ .vmem, ⟨5, _⟩ => ⟨S1x128, .f32⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlaCtxRefIdeal.lean ====
abbrev S8x512x256 : Shape := ⟨3, ![8, 512, 256]⟩
abbrev S8x512x64 : Shape := ⟨3, ![8, 512, 64]⟩
abbrev S256x2048 : Shape := ⟨2, ![256, 2048]⟩
abbrev S128 : Shape := ⟨1, ![128]⟩
abbrev S8x512x2048 : Shape := ⟨3, ![8, 512, 2048]⟩
abbrev S8x512x8x256 : Shape := ⟨4, ![8, 512, 8, 256]⟩
abbrev S8x512x1x64 : Shape := ⟨4, ![8, 512, 1, 64]⟩
abbrev S8x512x8x64 : Shape := ⟨4, ![8, 512, 8, 64]⟩
abbrev S8x512x8x128 : Shape := ⟨4, ![8, 512, 8, 128]⟩
abbrev S_ : Shape := ⟨0, ![]⟩
abbrev S8x512x8 : Shape := ⟨3, ![8, 512, 8]⟩
abbrev S8x512x8x1 : Shape := ⟨4, ![8, 512, 8, 1]⟩
abbrev S1x1x1x128 : Shape := ⟨4, ![1, 1, 1, 128]⟩
abbrev S8x512x8x192 : Shape := ⟨4, ![8, 512, 8, 192]⟩
abbrev S4096x2048 : Shape := ⟨2, ![4096, 2048]⟩
abbrev S4096x1024 : Shape := ⟨2, ![4096, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x512x256, .f32⟩
  | .hbm, ⟨1, _⟩ => ⟨S8x512x64, .f32⟩
  | .hbm, ⟨2, _⟩ => ⟨S256x2048, .f32⟩
  | .hbm, ⟨3, _⟩ => ⟨S128, .f32⟩
  | .hbm, ⟨4, _⟩ => ⟨S8x512x2048, .f32⟩
  | .hbm, ⟨5, _⟩ => ⟨S8x512x8x256, .f32⟩
  | .hbm, ⟨6, _⟩ => ⟨S8x512x1x64, .f32⟩
  | .hbm, ⟨7, _⟩ => ⟨S8x512x8x64, .f32⟩
  | .hbm, ⟨8, _⟩ => ⟨S8x512x8x128, .f32⟩
  | .hbm, ⟨9, _⟩ => ⟨S8x512x8x128, .f32⟩
  | .hbm, ⟨10, _⟩ => ⟨S_, .f32⟩
  | .hbm, ⟨11, _⟩ => ⟨S8x512x8, .f32⟩
  | .hbm, ⟨12, _⟩ => ⟨S8x512x8x1, .f32⟩
  | .hbm, ⟨13, _⟩ => ⟨S_, .f32⟩
  | .hbm, ⟨14, _⟩ => ⟨S8x512x8x1, .f32⟩
  | .hbm, ⟨15, _⟩ => ⟨S8x512x8x1, .f32⟩
  | .hbm, ⟨16, _⟩ => ⟨S_, .f32⟩
  | .hbm, ⟨17, _⟩ => ⟨S8x512x8x1, .f32⟩
  | .hbm, ⟨18, _⟩ => ⟨S8x512x8x1, .f32⟩
  | .hbm, ⟨19, _⟩ => ⟨S8x512x8x1, .f32⟩
  | .hbm, ⟨20, _⟩ => ⟨S8x512x8x128, .f32⟩
  | .hbm, ⟨21, _⟩ => ⟨S8x512x8x128, .f32⟩
  | .hbm, ⟨22, _⟩ => ⟨S1x1x1x128, .f32⟩
  | .hbm, ⟨23, _⟩ => ⟨S8x512x8x128, .f32⟩
  | .hbm, ⟨24, _⟩ => ⟨S8x512x8x128, .f32⟩
  | .hbm, ⟨25, _⟩ => ⟨S8x512x8x192, .f32⟩
  | .hbm, ⟨26, _⟩ => ⟨S_, .i32⟩
  | .hbm, ⟨27, _⟩ => ⟨S_, .f32⟩
  | .hbm, ⟨28, _⟩ => ⟨S8x512x8x256, .f32⟩
  | .hbm, ⟨29, _⟩ => ⟨S4096x2048, .f32⟩
  | .hbm, ⟨30, _⟩ => ⟨S4096x2048, .bf16⟩
  | .hbm, ⟨31, _⟩ => ⟨S8x512x8x128, .f32⟩
  | .hbm, ⟨32, _⟩ => ⟨S4096x1024, .f32⟩
  | .hbm, ⟨33, _⟩ => ⟨S4096x1024, .bf16⟩
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Adaln.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnRefIdeal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Softmax.lean ====
/- The arithmetic of one softmax row over the extended reals: the base-2 exponentials of scores shifted by any real
   number, divided once at the end, against the natural exponentials of the scores times ln 2, divided one by one. -/
module

public import Idealize.ShloMosaic.Lib.Pointwise

@[expose] public section

noncomputable section

open Idealize.ShloMosaic

namespace Cert.Softmax

/-- The sum of real numbers, taken among the extended reals. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A sum of real numbers is a real number. -/
theorem sum_real {ι : Type*} (s : Finset ι) (f : ι → EReal) (hf : ∀ i, ∃ r : ℝ, f i = r) :
    ∃ r : ℝ, ∑ i ∈ s, f i = r := by
  choose g hg using hf
  exact ⟨∑ i ∈ s, g i, by rw [coe_sum]; exact Finset.sum_congr rfl fun i _ => hg i⟩

/-- The largest of finitely many real numbers, the fold starting at −∞, is a real number. -/
theorem fold_max_real {ι : Type*} [Fintype ι] [Nonempty ι] (f : ι → EReal) (hf : ∀ i, ∃ r : ℝ, f i = r) :
    ∃ r : ℝ, Finset.univ.fold max ⊥ f = r := by
  classical
  have key : ∀ s : Finset ι, s.fold max ⊥ f = ⊥ ∧ s = ∅ ∨ ∃ r : ℝ, s.fold max ⊥ f = r := by
    intro s
    induction s using Finset.induction_on with
    | empty => exact .inl ⟨Finset.fold_empty, rfl⟩
    | insert a s ha ih =>
      right
      obtain ⟨r, hr⟩ := hf a
      rw [Finset.fold_insert ha, hr]
      rcases ih with ⟨h, _⟩ | ⟨t, h⟩
      · exact ⟨r, by rw [h, max_bot_right]⟩
      · exact ⟨max r t, by rw [h]; exact (EReal.coe_strictMono.monotone.map_max).symm⟩
  rcases key Finset.univ with ⟨_, h⟩ | h
  · exact absurd h (Finset.univ_nonempty.ne_empty)
  · exact h

/-- A nonnegative real factor goes into a finite sum of extended reals. -/
theorem mul_sum_real {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- The base-2 exponential of a difference of reals, as a natural exponential. -/
theorem exp2_sub (s m : ℝ) : Ideal.exp2 ((s : EReal) - m) = (Real.exp (s * Real.log 2 - m * Real.log 2) : ℝ) := by
  rw [← EReal.coe_sub]
  show ((Real.rpow 2 (s - m) : ℝ) : EReal) = _
  congr 1
  show (2 : ℝ) ^ (s - m) = _
  rw [Real.rpow_def_of_pos (by norm_num)]
  congr 1; ring

/-- The natural exponential of a difference of reals. -/
theorem exp_sub (s m : ℝ) : Ideal.exp ((s : EReal) - m) = (Real.exp (s - m) : ℝ) := by
  rw [← EReal.coe_sub]; rfl

/-- Division by a positive real is multiplication by its inverse. -/
theorem div_real (x : EReal) (l : ℝ) (hl : 0 < l) : Ideal.div x l = ((l⁻¹ : ℝ) : EReal) * x := by
  unfold Ideal.div
  rw [if_neg (by exact_mod_cast hl.ne'), EReal.coe_inv, mul_comm]

/-- One row: numerator and denominator accumulated with base-2 exponentials shifted by `m`, divided once, against
    the probabilities of the scores times ln 2 shifted by `M`, weighing the values. -/
theorem row {ι : Type*} [Fintype ι] [Nonempty ι] (s : ι → EReal) (hs : ∀ i, ∃ r : ℝ, s i = r)
    (m M : EReal) (hm : ∃ r : ℝ, m = r) (hM : ∃ r : ℝ, M = r) (v : ι → EReal) :
    Ideal.div (∑ i, Ideal.exp2 (s i - m) * v i) (∑ i, Ideal.exp2 (s i - m))
      = ∑ i, Ideal.div (Ideal.exp (s i * (Real.log 2 : ℝ) - M))
          (∑ j, Ideal.exp (s j * (Real.log 2 : ℝ) - M)) * v i := by
  choose S hS using hs
  obtain ⟨m, rfl⟩ := hm
  obtain ⟨M, rfl⟩ := hM
  obtain rfl : s = fun i => (S i : EReal) := funext hS
  set e : ι → ℝ := fun i => Real.exp (S i * Real.log 2 - M) with he
  set c : ℝ := Real.exp (M - m * Real.log 2) with hc
  have h2 : ∀ i, Ideal.exp2 ((S i : EReal) - m) = ((c * e i : ℝ) : EReal) := fun i => by
    rw [exp2_sub, hc, he]; congr 1; simp only []; rw [← Real.exp_add]; congr 1; ring
  have h1 : ∀ i, Ideal.exp ((S i : EReal) * (Real.log 2 : ℝ) - M) = (e i : EReal) := fun i => by
    rw [← EReal.coe_mul, exp_sub]
  have hL : 0 < ∑ i, e i := Finset.sum_pos (fun i _ => Real.exp_pos _) Finset.univ_nonempty
  have hc0 : 0 < c := Real.exp_pos _
  simp only [h1, h2]
  rw [← coe_sum, ← coe_sum, ← Finset.mul_sum, div_real _ _ (mul_pos hc0 hL),
    mul_sum_real _ _ (inv_nonneg.mpr (mul_pos hc0 hL).le)]
  refine Finset.sum_congr rfl fun i _ => ?_
  rw [div_real _ _ hL, ← mul_assoc, ← EReal.coe_mul, ← EReal.coe_mul]
  congr 2
  field_simp

/-- The pattern of −∞ denotes the least extended real. -/
theorem ofBits_neg_inf : Ideal.ofBits .f32 0xFF800000#32 = ⊥ := by
  simp [Ideal.ofBits, Ideal.ieee]

/-- One row whose tokens lie in two pieces (`b` latent tokens, `a` context tokens), shifted by the larger of the two
    pieces' largest scores, against the same row over all `N = a + b` tokens, context first. -/
theorem row_two {a b N : ℕ} (hN : a + b = N) [Nonempty (Fin a)] [Nonempty (Fin b)]
    (s v : Fin b → EReal) (sc vc : Fin a → EReal) (S V : Fin N → EReal)
    (h1 : ∀ j : Fin a, S ⟨j.val, by omega⟩ = sc j) (h2 : ∀ j : Fin b, S ⟨a + j.val, by omega⟩ = s j)
    (k1 : ∀ j : Fin a, V ⟨j.val, by omega⟩ = vc j) (k2 : ∀ j : Fin b, V ⟨a + j.val, by omega⟩ = v j)
    (hs : ∀ j, ∃ r : ℝ, S j = r) (M : EReal) (hM : ∃ r : ℝ, M = r) :
    Ideal.div
        (∑ j, Ideal.exp2 (s j - max (Finset.univ.fold max ⊥ s) (Finset.univ.fold max ⊥ sc)) * v j
          + ∑ j, Ideal.exp2 (sc j - max (Finset.univ.fold max ⊥ s) (Finset.univ.fold max ⊥ sc)) * vc j)
        (∑ j, Ideal.exp2 (s j - max (Finset.univ.fold max ⊥ s) (Finset.univ.fold max ⊥ sc))
          + ∑ j, Ideal.exp2 (sc j - max (Finset.univ.fold max ⊥ s) (Finset.univ.fold max ⊥ sc)))
      = ∑ j, Ideal.div (Ideal.exp (S j * (Real.log 2 : ℝ) - M)) (∑ i, Ideal.exp (S i * (Real.log 2 : ℝ) - M)) * V j := by
  have : Nonempty (Fin N) := ⟨⟨(Classical.arbitrary (Fin a)).val, by have := (Classical.arbitrary (Fin a)).isLt; omega⟩⟩
  have hm : ∃ r : ℝ, max (Finset.univ.fold max ⊥ s) (Finset.univ.fold max ⊥ sc) = (r : EReal) := by
    obtain ⟨x, hx⟩ := fold_max_real s fun j => by rw [← h2]; exact hs _
    obtain ⟨y, hy⟩ := fold_max_real sc fun j => by rw [← h1]; exact hs _
    exact ⟨max x y, by rw [hx, hy]; exact (EReal.coe_strictMono.monotone.map_max).symm⟩
  rw [← row S hs _ M hm hM V]
  generalize max (Finset.univ.fold max ⊥ s) (Finset.univ.fold max ⊥ sc) = m
  rw [Fin.sum_univ_two_halves a b hN fun j => Ideal.exp2 (S j - m) * V j,
    Fin.sum_univ_two_halves a b hN fun j => Ideal.exp2 (S j - m)]
  simp only [h1, h2, k1, k2]
  congr 1 <;> exact add_comm _ _

end Cert.Softmax

end
-- ==== Proof.Head.lean ====
/- One head of the attention kernel's body at an element: the payloads of its stores are one function of the head's
   query, key, value and context tiles, and that function is a softmax row over the context and the latent tokens. -/
module

public import proofs.«01_k».proof.Proof.Gen.KernelIdeal.Frame
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem

namespace Cert.KernelIdeal.Head
open Cert.KernelIdeal Cert.KernelIdeal.Gen

/-- What the body stores for one head, from the head's tiles: queries, keys, values, context keys and values. -/
def headOut (q : Vec Ideal S512x128 .bf16) (k v : Vec Ideal S2048x128 .bf16) (kc vc : Vec Ideal S512x128 .bf16) :
    FVec Ideal S512x128 .bf16 :=
  k0_pay11 (k0_pay2 v) (k0_pay4 vc) (k0_pay6 q k) (k0_pay7 q kc) (k0_pay10 q k)

/-- The scores of the latent tokens. -/
theorem score_at (q : Vec Ideal S512x128 .bf16) (k : Vec Ideal S2048x128 .bf16) (r : Fin 512) (j : Fin 2048) :
    k0_pay6 (F := Ideal) q k (ix2 r j) = ∑ e : Fin 128, q (ix2 r e) * k (ix2 j e) := by
  pointwise [k0_pay6]

/-- The scores of the context tokens. -/
theorem ctxScore_at (q kc : Vec Ideal S512x128 .bf16) (r j : Fin 512) :
    k0_pay7 (F := Ideal) q kc (ix2 r j) = ∑ e : Fin 128, q (ix2 r e) * kc (ix2 j e) := by
  pointwise [k0_pay7]

/-- The first factor of the shift: the largest latent score of a row. -/
theorem top_at (q : Vec Ideal S512x128 .bf16) (k : Vec Ideal S2048x128 .bf16) (r : Fin 512) :
    k0_pay10 (F := Ideal) q k (ix2 r 0)
      = Finset.univ.fold max ⊥ fun j : Fin 2048 => k0_pay6 (F := Ideal) q k (ix2 r j) := by
  unfold k0_pay10
  generalize k0_pay6 (F := Ideal) q k = s
  pointwise [Softmax.ofBits_neg_inf]

/-- One element of a head's output, from the scores. -/
theorem weigh_at (v : Vec Ideal S2048x128 .bf16) (vc : Vec Ideal S512x128 .bf16) (s : FVec Ideal S512x2048 .f32)
    (sc : FVec Ideal S512x512 .f32) (m : FVec Ideal S512x1 .f32) (r : Fin 512) (d : Fin 128)
    (M : EReal) (hM : M = max (m (ix2 r 0)) (Finset.univ.fold max ⊥ fun x => sc (ix2 r x))) :
    k0_pay11 (F := Ideal) (k0_pay2 v) (k0_pay4 vc) s sc m (ix2 r d)
      = Ideal.div
          (∑ x, Ideal.exp2 (s (ix2 r x) - M) * v (ix2 x d) + ∑ x, Ideal.exp2 (sc (ix2 r x) - M) * vc (ix2 x d))
          (∑ x, Ideal.exp2 (s (ix2 r x) - M) + ∑ x, Ideal.exp2 (sc (ix2 r x) - M)) := by
  subst hM
  pointwise [k0_pay11, k0_pay2, k0_pay4, Softmax.ofBits_neg_inf]
  rfl

/-- A head's output at an element is the softmax row over all tokens, context first. `S` and `V` are the scores and
    the values of that row, read from the tiles; `M` is any real shift. -/
theorem headOut_at (q : Vec Ideal S512x128 .bf16) (k v : Vec Ideal S2048x128 .bf16) (kc vc : Vec Ideal S512x128 .bf16)
    (r : Fin 512) (d : Fin 128) (S V : Fin 2560 → EReal)
    (h1 : ∀ j : Fin 512, S ⟨j.val, by omega⟩ = ∑ e : Fin 128, q (ix2 r e) * kc (ix2 j e))
    (h2 : ∀ j : Fin 2048, S ⟨512 + j.val, by omega⟩ = ∑ e : Fin 128, q (ix2 r e) * k (ix2 j e))
    (k1 : ∀ j : Fin 512, V ⟨j.val, by omega⟩ = vc (ix2 j d))
    (k2 : ∀ j : Fin 2048, V ⟨512 + j.val, by omega⟩ = v (ix2 j d))
    (hs : ∀ j, ∃ x : ℝ, S j = x) (M : EReal) (hM : ∃ x : ℝ, M = x) :
    headOut q k v kc vc (ix2 r d)
      = ∑ j, Ideal.div (Ideal.exp (S j * (Real.log 2 : ℝ) - M)) (∑ i, Ideal.exp (S i * (Real.log 2 : ℝ) - M)) * V j := by
  have e : k0_pay10 (F := Ideal) q k (ix2 r 0)
      = Finset.univ.fold max ⊥ fun j : Fin 2048 => ∑ e : Fin 128, q (ix2 r e) * k (ix2 j e) := by
    rw [top_at]; simp only [score_at]
  have w := weigh_at v vc (k0_pay6 q k) (k0_pay7 q kc) (k0_pay10 q k) r d
    (max (Finset.univ.fold max ⊥ fun j : Fin 2048 => ∑ e : Fin 128, q (ix2 r e) * k (ix2 j e))
      (Finset.univ.fold max ⊥ fun j : Fin 512 => ∑ e : Fin 128, q (ix2 r e) * kc (ix2 j e)))
    (by rw [e]; simp only [ctxScore_at])
  simp only [score_at, ctxScore_at] at w
  refine w.trans ?_
  exact Softmax.row_two (by norm_num) (fun j : Fin 2048 => ∑ e : Fin 128, q (ix2 r e) * k (ix2 j e))
    (fun j => v (ix2 j d)) (fun j : Fin 512 => ∑ e : Fin 128, q (ix2 r e) * kc (ix2 j e)) (fun j => vc (ix2 j d))
    S V h1 h2 k1 k2 hs M hM

section
variable (q : Vec Ideal S512x128 .bf16) (k v : Vec Ideal S2048x128 .bf16) (kc vc : Vec Ideal S512x128 .bf16)

theorem head1 :
    k0_pay15 (k0_pay14 (k0_pay2 v) (k0_pay4 vc) (k0_pay8 q k) (k0_pay9 q kc))
      = headOut q k v kc vc := rfl
theorem head2 :
    k0_pay18 (k0_pay2 v) (k0_pay4 vc) (k0_pay12 q k) (k0_pay13 q kc)
      = headOut q k v kc vc := rfl
theorem head3 :
    k0_pay21 (k0_pay2 v) (k0_pay4 vc) (k0_pay16 q k) (k0_pay17 q kc)
      = headOut q k v kc vc := rfl
theorem head4 :
    k0_pay27 (k0_pay3 v) (k0_pay5 vc) (k0_pay19 q k) (k0_pay25 q (k0_pay19 q k) kc) (k0_pay26 q (k0_pay19 q k) kc)
      = headOut q k v kc vc := rfl
theorem head5 :
    k0_pay30 (k0_pay3 v) (k0_pay5 vc) (k0_pay22 q k) (k0_pay23 q kc)
      = headOut q k v kc vc := rfl
theorem head6 :
    k0_pay33 (k0_pay3 v) (k0_pay5 vc) (k0_pay28 q k) (k0_pay29 q kc)
      = headOut q k v kc vc := rfl
theorem head7 :
    k0_pay1 (k0_pay5 vc) (k0_pay35 q k kc) (k0_pay36 (k0_pay3 v) q k kc)
      = headOut q k v kc vc := rfl
end

/-- `headOut` at equal tiles and equal indices. -/
theorem headOut_congr {q q' : Vec Ideal S512x128 .bf16} {k k' v v' : Vec Ideal S2048x128 .bf16}
    {kc kc' vc vc' : Vec Ideal S512x128 .bf16} {x x' : S512x128.Idx} (hq : ∀ i, q i = q' i) (hk : ∀ i, k i = k' i)
    (hv : ∀ i, v i = v' i) (hkc : ∀ i, kc i = kc' i) (hvc : ∀ i, vc i = vc' i) (hx : x = x') :
    headOut q k v kc vc x = headOut q' k' v' kc' vc' x' := by
  rw [funext hq, funext hk, funext hv, funext hkc, funext hvc, hx]

section
variable (x0 : Vec Ideal S512x1024 .bf16) (x1 x2 : Vec Ideal S2048x256 .bf16) (x3 x4 : Vec Ideal S512x256 .bf16)

/-- The columns of the output block: head `h` holds columns `128 h` to `128 h + 127`, and is `headOut` of its query
    columns and of the key and value columns of its group of four heads. -/
theorem out_at (r : Fin 512) (c : Fin 1024) :
    out0_5 x0 x1 x2 x3 x4 (ix2 r c)
      = headOut (fun i => x0 (ix2 (i 0) ⟨c.val / 128 * 128 + (i 1).val, by have := (i 1).isLt; simp at this; omega⟩))
          (fun i => x1 (ix2 (i 0) ⟨c.val / 512 * 128 + (i 1).val, by have := (i 1).isLt; simp at this; omega⟩))
          (fun i => x2 (ix2 (i 0) ⟨c.val / 512 * 128 + (i 1).val, by have := (i 1).isLt; simp at this; omega⟩))
          (fun i => x3 (ix2 (i 0) ⟨c.val / 512 * 128 + (i 1).val, by have := (i 1).isLt; simp at this; omega⟩))
          (fun i => x4 (ix2 (i 0) ⟨c.val / 512 * 128 + (i 1).val, by have := (i 1).isLt; simp at this; omega⟩))
          (ix2 r ⟨c.val % 128, by omega⟩) := by
  unfold_out out0_5
  rw [head1, head2, head3, head4, head5, head6, head7, ← headOut]
  canon_tiles x h
  all_goals
    replace h0 : r.val = _ := h0
    replace h1 : c.val = _ := h1
    refine headOut_congr ?_ ?_ ?_ ?_ ?_ ?_
    · intro i
      have := (i 1).isLt
      refine congrArg x0 (funext fun a => Fin.ext ?_)
      fin_cases a <;> simp [Rect.unit, Rect.emb] <;> omega
    · intro i
      refine congrArg x1 (funext fun a => Fin.ext ?_)
      fin_cases a <;> simp [Rect.unit, Rect.emb] <;> omega
    · intro i
      refine congrArg x2 (funext fun a => Fin.ext ?_)
      fin_cases a <;> simp [Rect.unit, Rect.emb] <;> omega
    · intro i
      refine congrArg x3 (funext fun a => Fin.ext ?_)
      fin_cases a <;> simp [Rect.unit, Rect.emb] <;> omega
    · intro i
      refine congrArg x4 (funext fun a => Fin.ext ?_)
      fin_cases a <;> simp [Rect.unit, Rect.emb] <;> omega
    · refine funext fun a => Fin.ext ?_
      fin_cases a <;> simp <;> omega
end

end Cert.KernelIdeal.Head

end
-- ==== Proof.Attn.lean ====
/- The reference's attention at an element: the softmax row over the context and the latent tokens of one query. -/
module

public import proofs.«01_k».proof.Proof.Gen.ReferenceIdeal.Read
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem

namespace Cert.ReferenceIdeal.Attn
open Cert.ReferenceIdeal Cert.ReferenceIdeal.Read

variable (x0 : Vec Ideal S16384x1024 .bf16) (x1 x2 : Vec Ideal S16384x256 .bf16)
  (x3 x4 : Vec Ideal S8x512x2x128 .f32)

/-- The pattern of 2. -/
theorem ofBits_two : Ideal.ofBits .f32 0x40000000#32 = ((2 : ℝ) : EReal) := by
  simp [Ideal.ofBits, Ideal.ieee]
  rw [← EReal.coe_mul]
  norm_num

/-- A scaled score: the key of a token against the query, times the logarithm of two. -/
theorem scaled_at (b : Fin 8) (kv : Fin 2) (g : Fin 4) (t : Fin 2048) (j : Fin 2560) :
    val_main_v12 (F := Ideal) x0 x1 x3 (ix5 b kv g t j)
      = (∑ e : Fin 128, val_main_v4 (F := Ideal) x1 x3 (ix4 b j kv e)
          * x0 (ix2 ⟨b.val * 2048 + t.val, by omega⟩ ⟨(kv.val * 4 + g.val) * 128 + e.val, by omega⟩))
        * (Real.log 2 : ℝ) := by
  rw [val_main_v12_apply, val_main_v9_apply, val_main_v8_apply, val_main_v11_apply, val_main_v10_apply,
    val_main_cst_apply]
  simp only [val_main_v1_apply, val_main_v0_apply]
  refine congrArg₂ (· * ·) (Finset.sum_congr rfl fun e _ => congrArg₂ (· * ·) (congrArg _ ?_) (congrArg x0 ?_)) ?_
  · refine funext fun a => Fin.ext ?_
    fin_cases a <;> simp
  · refine funext fun a => Fin.ext ?_
    fin_cases a <;> simp <;> omega
  · show Ideal.log (Ideal.ofBits .f32 0x40000000#32) = _
    rw [ofBits_two]
    rw [Ideal.log_coe, if_neg (by norm_num)]

/-- The keys of the context tokens. -/
theorem key_ctx (b : Fin 8) (kv : Fin 2) (j : Fin 512) (e : Fin 128) :
    val_main_v4 (F := Ideal) x1 x3 (ix4 b ⟨j.val, by omega⟩ kv e) = x3 (ix4 b j kv e) := by
  pointwise [val_main_v4]

/-- The keys of the latent tokens. -/
theorem key_lat (b : Fin 8) (kv : Fin 2) (j : Fin 2048) (e : Fin 128) :
    val_main_v4 (F := Ideal) x1 x3 (ix4 b ⟨512 + j.val, by omega⟩ kv e)
      = x1 (ix2 ⟨b.val * 2048 + j.val, by omega⟩ ⟨kv.val * 128 + e.val, by omega⟩) := by
  have h : val_main_v4 (F := Ideal) x1 x3 (ix4 b ⟨512 + j.val, by omega⟩ kv e)
      = val_main_v3 (F := Ideal) x1 (ix4 b j kv e) := by
    unfold val_main_v4
    generalize val_main_v3 (F := Ideal) x1 = y
    pointwise
    blk_ext
  rw [h, val_main_v3_apply, val_main_v2_apply]
  refine congrArg x1 (funext fun a => Fin.ext ?_)
  fin_cases a <;> simp <;> omega

/-- The values of the context tokens. -/
theorem val_ctx (b : Fin 8) (kv : Fin 2) (j : Fin 512) (e : Fin 128) :
    val_main_v7 (F := Ideal) x2 x4 (ix4 b ⟨j.val, by omega⟩ kv e) = x4 (ix4 b j kv e) := key_ctx x2 x4 b kv j e

/-- The values of the latent tokens. -/
theorem val_lat (b : Fin 8) (kv : Fin 2) (j : Fin 2048) (e : Fin 128) :
    val_main_v7 (F := Ideal) x2 x4 (ix4 b ⟨512 + j.val, by omega⟩ kv e)
      = x2 (ix2 ⟨b.val * 2048 + j.val, by omega⟩ ⟨kv.val * 128 + e.val, by omega⟩) := key_lat x2 x4 b kv j e

/-- The shift of a row is real when its scaled scores are. -/
theorem shift_real (b : Fin 8) (kv : Fin 2) (g : Fin 4) (t : Fin 2048)
    (h : ∀ j, ∃ r : ℝ, val_main_v12 (F := Ideal) x0 x1 x3 (ix5 b kv g t j) = r) :
    ∃ r : ℝ, val_main_v15 (F := Ideal) x0 x1 x3 (ix4 b kv g t) = r := by
  have e : val_main_v15 (F := Ideal) x0 x1 x3 (ix4 b kv g t)
      = max ⊥ (Finset.univ.fold max ⊥ fun j => val_main_v12 (F := Ideal) x0 x1 x3 (ix5 b kv g t j)) := by
    rw [val_main_v15_apply]
    unfold val_main_v13 val_main_v14 val_main_cst_1 val_main_cst_0
    generalize val_main_v12 (F := Ideal) x0 x1 x3 = y
    pointwise [Softmax.ofBits_neg_inf]
  obtain ⟨r, hr⟩ := Softmax.fold_max_real _ h
  exact ⟨r, by rw [e, hr]; simp⟩

/-- An attention weight. -/
theorem weight_at (b : Fin 8) (kv : Fin 2) (g : Fin 4) (t : Fin 2048) (j : Fin 2560) :
    val_main_v23 (F := Ideal) x0 x1 x3 (ix5 b kv g t j)
      = Ideal.div (Ideal.exp (val_main_v12 (F := Ideal) x0 x1 x3 (ix5 b kv g t j)
            - val_main_v15 (F := Ideal) x0 x1 x3 (ix4 b kv g t)))
          (∑ i, Ideal.exp (val_main_v12 (F := Ideal) x0 x1 x3 (ix5 b kv g t i)
            - val_main_v15 (F := Ideal) x0 x1 x3 (ix4 b kv g t))) := by
  have e : ∀ j, val_main_v19 (F := Ideal) x0 x1 x3 (ix5 b kv g t j)
      = Ideal.exp (val_main_v12 (F := Ideal) x0 x1 x3 (ix5 b kv g t j)
            - val_main_v15 (F := Ideal) x0 x1 x3 (ix4 b kv g t)) := by
    intro j
    rw [val_main_v19_apply, val_main_v18_apply, val_main_v17_apply, val_main_v16_apply]
    refine congrArg Ideal.exp (congrArg _ (congrArg _ (funext fun a => Fin.ext ?_)))
    fin_cases a <;> simp
  rw [val_main_v23_apply, val_main_v22_apply, val_main_v21_apply, val_main_v20_apply]
  simp only [← e]
  have z : val_main_cst_2 (F := Ideal) (Shape.Idx.first Gen.h_S_) = 0 := by
    show Ideal.ofBits .f32 0x00000000#32 = 0
    simp [Ideal.ofBits, Ideal.ieee]
  rw [z, zero_add]
  refine congrArg (Ideal.div _) (Finset.sum_congr rfl fun k _ => congrArg _ (funext fun a => Fin.ext ?_))
  fin_cases a <;> simp

/-- The score of token `j` for the query in row `n` and the head that column `c` belongs to. -/
def score (n : Fin 16384) (c : Fin 1024) (j : Fin 2560) : EReal :=
  ∑ e : Fin 128, x0 (ix2 n ⟨c.val / 128 * 128 + e.val, by omega⟩)
    * val_main_v4 (F := Ideal) x1 x3 (ix4 ⟨n.val / 2048, by omega⟩ j ⟨c.val / 512, by omega⟩ e)

/-- The value of token `j` in column `c`. -/
def value (n : Fin 16384) (c : Fin 1024) (j : Fin 2560) : EReal :=
  val_main_v7 (F := Ideal) x2 x4 (ix4 ⟨n.val / 2048, by omega⟩ j ⟨c.val / 512, by omega⟩ ⟨c.val % 128, by omega⟩)

/-- The shift of the row of `n` and `c`. -/
def shift (n : Fin 16384) (c : Fin 1024) : EReal :=
  val_main_v15 (F := Ideal) x0 x1 x3
    (ix4 ⟨n.val / 2048, by omega⟩ ⟨c.val / 512, by omega⟩ ⟨c.val / 128 % 4, by omega⟩ ⟨n.val % 2048, by omega⟩)

/-- A scaled score, from `score`. -/
theorem scaled_eq (n : Fin 16384) (c : Fin 1024) (j : Fin 2560) :
    val_main_v12 (F := Ideal) x0 x1 x3
        (ix5 ⟨n.val / 2048, by omega⟩ ⟨c.val / 512, by omega⟩ ⟨c.val / 128 % 4, by omega⟩ ⟨n.val % 2048, by omega⟩ j)
      = score x0 x1 x3 n c j * (Real.log 2 : ℝ) := by
  rw [scaled_at]
  refine congrArg (· * _) (Finset.sum_congr rfl fun e _ => ?_)
  rw [mul_comm]
  refine congrArg (· * _) (congrArg x0 (funext fun a => Fin.ext ?_))
  fin_cases a <;> simp <;> omega

/-- The shift is real when the row's scores are. -/
theorem shift_real' (n : Fin 16384) (c : Fin 1024) (h : ∀ j, ∃ r : ℝ, score x0 x1 x3 n c j = r) :
    ∃ r : ℝ, shift x0 x1 x3 n c = r := by
  refine shift_real x0 x1 x3 _ _ _ _ fun j => ?_
  obtain ⟨r, hr⟩ := h j
  exact ⟨r * Real.log 2, by rw [scaled_eq, hr, EReal.coe_mul]⟩

/-- The reference at an element: one softmax row times the values. -/
theorem att_at (n : Fin 16384) (c : Fin 1024) :
    val_main_v27 (F := Ideal) x0 x1 x2 x3 x4 (ix2 n c)
      = ∑ j, Ideal.div (Ideal.exp (score x0 x1 x3 n c j * (Real.log 2 : ℝ) - shift x0 x1 x3 n c))
          (∑ i, Ideal.exp (score x0 x1 x3 n c i * (Real.log 2 : ℝ) - shift x0 x1 x3 n c)) * value x2 x4 n c j := by
  rw [val_main_v27_apply, val_main_v26_apply, val_main_v25_apply, val_main_v24_apply]
  show (∑ k, _ : EReal) = _
  refine Finset.sum_congr rfl fun j _ => ?_
  rw [mul_comm]
  refine congrArg₂ (· * ·) ?_ ?_
  · simp only [← scaled_eq]
    refine Eq.trans ?_ (weight_at x0 x1 x3 _ _ _ _ j)
    refine congrArg _ (funext fun a => Fin.ext ?_)
    fin_cases a <;> simp <;> omega
  · refine congrArg _ (funext fun a => Fin.ext ?_)
    fin_cases a <;> simp <;> omega

end Cert.ReferenceIdeal.Attn
-- ==== Proof.AttnValue.lean ====
/- The attention kernel's final array is the reference's, when the queries and the keys are finite. -/
module

public import proofs.«01_k».proof.Proof.Head
public import proofs.«01_k».proof.Proof.Attn
public import proofs.«01_k».proof.Pre_finite_scores
public import Idealize.ShloMosaic.Lib.Pipeline.ValueKit
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen
open Cert.ReferenceIdeal.Attn (score value shift)

variable (m : (ℓ : Loc nD τ sig) → Buf (Elt Ideal) ℓ)

/-- The block of every window at every grid point. -/
theorem idx : ∀ t : Fin cfg0.N, win0_0.index t = ![t.val, 0] ∧ win0_1.index t = ![t.val / 4, 0]
    ∧ win0_2.index t = ![t.val / 4, 0] ∧ win0_3.index t = ![t.val / 4, 0] ∧ win0_4.index t = ![t.val / 4, 0]
    ∧ win0_5.index t = ![t.val, 0] ∧ t.val < 32 :=
  (by decide +kernel : ∀ t : Fin grid0.N, _)

/-- A query block at an element. -/
theorem q_at (c : Dev nD) (t : Fin cfg0.N) (r : Fin 512) (k : Fin 1024) (n : Fin 16384) (hn : n.val = t.val * 512 + r.val) :
    iblk m c 0 t (ix2 r k) = m ((c : Thread nD τ).loc main_arg0) (ix2 n k) := by
  blk_ext [iblk, V, idx t]

/-- A key block at an element. -/
theorem k_at (c : Dev nD) (t : Fin cfg0.N) (r : Fin 2048) (k : Fin 256) (n : Fin 16384)
    (hn : n.val = t.val / 4 * 2048 + r.val) :
    iblk m c 1 t (ix2 r k) = m ((c : Thread nD τ).loc main_arg1) (ix2 n k) := by
  blk_ext [iblk, V, idx t]

/-- A value block at an element. -/
theorem v_at (c : Dev nD) (t : Fin cfg0.N) (r : Fin 2048) (k : Fin 256) (n : Fin 16384)
    (hn : n.val = t.val / 4 * 2048 + r.val) :
    iblk m c 2 t (ix2 r k) = m ((c : Thread nD τ).loc main_arg2) (ix2 n k) := by
  blk_ext [iblk, V, idx t]

/-- A context key block at an element. -/
theorem kc_at (c : Dev nD) (t : Fin cfg0.N) (r : Fin 512) (k : Fin 256) (b : Fin 8) (kv : Fin 2) (e : Fin 128)
    (hb : b.val = t.val / 4) (hk : k.val = kv.val * 128 + e.val) :
    iblk m c 3 t (ix2 r k) = m ((c : Thread nD τ).loc main_arg3) (ix4 b r kv e) := by
  blk_simp [iblk]
  entry_read
  pointwise
  blk_ext [idx t]

/-- A context value block at an element. -/
theorem vc_at (c : Dev nD) (t : Fin cfg0.N) (r : Fin 512) (k : Fin 256) (b : Fin 8) (kv : Fin 2) (e : Fin 128)
    (hb : b.val = t.val / 4) (hk : k.val = kv.val * 128 + e.val) :
    iblk m c 4 t (ix2 r k) = m ((c : Thread nD τ).loc main_arg4) (ix4 b r kv e) := by
  blk_simp [iblk]
  entry_read
  pointwise
  blk_ext [idx t]

section
variable (x0 : Vec Ideal S16384x1024 .bf16) (x1 x2 : Vec Ideal S16384x256 .bf16)
  (x3 x4 : Vec Ideal S8x512x2x128 .f32)

/-- The side conditions of the precondition's operations. -/
theorem preFacts : Cert.Pre_finite_scores.Facts := by constructor <;> decide

/-- An absolute value below the pattern of +∞ belongs to a real number. -/
theorem real_of_lt {x : EReal} (h : BitVec.ofBool (decide (max x (-x) < Ideal.ofBits .f32 0x7F800000#32)) = 1#1) :
    ∃ r : ℝ, x = r := by
  have e : Ideal.ofBits .f32 0x7F800000#32 = ⊤ := by simp [Ideal.ofBits, Ideal.ieee]
  rw [e] at h
  induction x using EReal.rec with
  | bot => simp at h
  | top => simp at h
  | coe r => exact ⟨r, rfl⟩

/-- The precondition read at elements: the queries, the keys and the context keys are real numbers. -/
theorem finite (h : letI := preFacts; Cert.Pre_finite_scores.fn (F := Ideal) x0 x1 x2 x3 x4 = fun _ => 1#1) :
    (∀ i, ∃ r : ℝ, x0 i = r) ∧ (∀ i, ∃ r : ℝ, x1 i = r) ∧ ∀ i, ∃ r : ℝ, x3 i = r := by
  have h' := congrFun h ix0
  unfold Cert.Pre_finite_scores.fn at h'
  obtain ⟨h01, h3⟩ := IntOp.andi_eq_one.1 h'
  obtain ⟨h0, h1⟩ := IntOp.andi_eq_one.1 h01
  refine ⟨fun i => real_of_lt ?_, fun i => real_of_lt ?_, fun i => real_of_lt ?_⟩
  · exact Host.reduce_andi_all _ _ _ _ _ h0 i
  · exact Host.reduce_andi_all _ _ _ _ _ h1 i
  · exact Host.reduce_andi_all _ _ _ _ _ h3 i

/-- Every score is real when the queries and the keys are. -/
theorem score_real (h0 : ∀ i, ∃ r : ℝ, x0 i = r) (h1 : ∀ i, ∃ r : ℝ, x1 i = r) (h3 : ∀ i, ∃ r : ℝ, x3 i = r)
    (n : Fin 16384) (k : Fin 1024) (j : Fin 2560) : ∃ r : ℝ, score x0 x1 x3 n k j = r := by
  refine Softmax.sum_real _ _ fun e => ?_
  obtain ⟨a, ha⟩ := h0 (ix2 n ⟨k.val / 128 * 128 + e.val, by omega⟩)
  have hb : ∃ r : ℝ, Cert.ReferenceIdeal.Read.val_main_v4 (F := Ideal) x1 x3
      (ix4 ⟨n.val / 2048, by omega⟩ j ⟨k.val / 512, by omega⟩ e) = r := by
    rcases Nat.lt_or_ge j.val 512 with hj | hj
    · rw [show j = ⟨(⟨j.val, hj⟩ : Fin 512).val, by omega⟩ from rfl, Cert.ReferenceIdeal.Attn.key_ctx]
      exact h3 _
    · rw [show j = ⟨512 + (⟨j.val - 512, by omega⟩ : Fin 2048).val, by have := j.isLt; simp; omega⟩ from
        Fin.ext (by simp; omega), Cert.ReferenceIdeal.Attn.key_lat]
      exact h1 _
  obtain ⟨b, hb⟩ := hb
  exact ⟨a * b, by rw [ha, hb, EReal.coe_mul]⟩

end

/-- What a point leaves in its output block is the reference there. -/
theorem point (c : Dev nD) (t : Fin cfg0.N)
    (h0 : ∀ i, ∃ r : ℝ, m ((c : Thread nD τ).loc main_arg0) i = (r : EReal))
    (h1 : ∀ i, ∃ r : ℝ, m ((c : Thread nD τ).loc main_arg1) i = (r : EReal))
    (h3 : ∀ i, ∃ r : ℝ, m ((c : Thread nD τ).loc main_arg3) i = (r : EReal))
    (r : Fin 512) (k : Fin 1024) (n : Fin 16384) (hn : n.val = t.val * 512 + r.val) :
    out0_5 (iblk m c 0 t) (iblk m c 1 t) (iblk m c 2 t) (iblk m c 3 t) (iblk m c 4 t) (ix2 r k)
      = Cert.ReferenceIdeal.Read.val_main_v27 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) (ix2 n k) := by
  have ht : t.val < 32 := (idx t).2.2.2.2.2.2
  have hs := score_real _ _ _ h0 h1 h3 n k
  rw [Head.out_at, Cert.ReferenceIdeal.Attn.att_at]
  refine Head.headOut_at _ _ _ _ _ _ _ _ _ ?_ ?_ ?_ ?_ hs _ (Cert.ReferenceIdeal.Attn.shift_real' _ _ _ _ _ hs)
  · intro j
    refine Finset.sum_congr rfl fun e _ => congrArg₂ (· * ·) (q_at m c t _ _ _ hn).symm ?_
    rw [Cert.ReferenceIdeal.Attn.key_ctx]
    exact (kc_at m c t _ _ _ _ _ (by simp; omega) rfl).symm
  · intro j
    refine Finset.sum_congr rfl fun e _ => congrArg₂ (· * ·) (q_at m c t _ _ _ hn).symm ?_
    rw [Cert.ReferenceIdeal.Attn.key_lat]
    exact (k_at m c t _ _ _ (by simp; omega)).symm
  · intro j
    refine (Cert.ReferenceIdeal.Attn.val_ctx _ _ _ _ _ _).trans ?_
    exact (vc_at m c t _ _ _ _ _ (by simp; omega) rfl).symm
  · intro j
    refine (Cert.ReferenceIdeal.Attn.val_lat _ _ _ _ _ _).trans ?_
    exact (v_at m c t _ _ _ (by simp; omega)).symm

/-- The kernel's result is the reference's. -/
theorem final (c : Dev nD)
    (h0 : ∀ i, ∃ r : ℝ, m ((c : Thread nD τ).loc main_arg0) i = (r : EReal))
    (h1 : ∀ i, ∃ r : ℝ, m ((c : Thread nD τ).loc main_arg1) i = (r : EReal))
    (h3 : ∀ i, ∃ r : ℝ, m ((c : Thread nD τ).loc main_arg3) i = (r : EReal)) :
    (dats m 0 c).arrAt 5 (cfgs 0).N
      = Cert.ReferenceIdeal.Read.val_main_v27 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  have ht : t.val < 32 := (idx t).2.2.2.2.2.2
  blk_simp
  rw [after0_5]
  have hy0 : (y 0).val < 512 := (y 0).isLt
  refine Eq.trans ?_ ((point m c t h0 h1 h3 (y 0) (y 1) ⟨t.val * 512 + (y 0).val, by omega⟩ rfl).trans ?_)
  · blk_ext
  · blk_ext [idx t]

end Cert.KernelIdeal.Attn
-- ==== Proof.Mlp.lean ====
/- The residual, modulated norm and MLP kernel's payloads at an element. -/
module

public import proofs.«01_k».proof.Proof.Gen.MixMlpIdeal.Frame
public import Idealize.ShloMosaic.Lib.Pipeline.ValueKit

@[expose] public section

set_option maxRecDepth 16384

noncomputable section

open Idealize.ShloMosaic Idealize.ShloMosaic.TcCoe Idealize.SL.Sem

namespace Cert.MixMlpIdeal.Mlp
open Cert.MixMlpIdeal Cert.MixMlpIdeal.Gen

/-- The residual: the layer input plus the modulated projection. -/
theorem residual_at (x : Vec Ideal S1024x1024 .f32) (w : Vec Ideal S1x1x1024 .f32) (a wo : Vec Ideal S1024x1024 .bf16)
    (r c : Fin 1024) :
    k0_pay5 (F := Ideal) x w a wo (ix2 r c)
      = x (ix2 r c) + w (ix3 0 0 c) * ∑ e : Fin 1024, a (ix2 r e) * wo (ix2 e c) := by
  pointwise [k0_pay5]

/-- The modulated norm of the residual. -/
theorem norm_at (o : Vec Ideal S1024x1024 .f32) (g : Vec Ideal S1x1024 .f32) (w : Vec Ideal S1x8x1024 .f32)
    (r c : Fin 1024) :
    k0_pay1 (F := Ideal) (k0_pay6 o g w) (ix2 r c)
      = ((o (ix2 r c) * Ideal.rsqrt ((∑ d : Fin 1024, o (ix2 r d) * o (ix2 r d)) * Ideal.ofBits .f32 0x3A800000#32
            + Ideal.ofBits .f32 0x358637BD#32)) * g (ix2 0 c)) * (Ideal.ofBits .f32 0x3F800000#32 + w (ix3 0 4 c)) + w (ix3 0 3 c) := by
  pointwise [k0_pay1, k0_pay6]

/-- One slice of the hidden units, added to what the accumulator holds. -/
theorem hidden_at (h : Vec Ideal S1024x1024 .bf16) (wi : Vec Ideal S1x1024x1024 .bf16) (acc : Vec Ideal S1024x1024 .f32)
    (wo : Vec Ideal S1x1024x1024 .bf16) (r c : Fin 1024) :
    k0_pay3 (F := Ideal) h wi acc wo (ix2 r c)
      = acc (ix2 r c) + ∑ j : Fin 1024, (max (∑ e : Fin 1024, h (ix2 r e) * wi (ix3 0 e j)) 0
          * max (∑ e : Fin 1024, h (ix2 r e) * wi (ix3 0 e j)) 0) * wo (ix3 0 j c) := by
  pointwise [k0_pay3]

/-- The block's output. -/
theorem out_at (o : Vec Ideal S1024x1024 .f32) (w : Vec Ideal S1x1x1024 .f32) (acc : Vec Ideal S1024x1024 .f32)
    (r c : Fin 1024) :
    k0_pay4 (F := Ideal) o w acc (ix2 r c) = o (ix2 r c) + w (ix3 0 0 c) * acc (ix2 r c) := by
  pointwise [k0_pay4]

/-- The accumulator starts at zero. -/
theorem zero_at (r c : Fin 1024) : k0_pay2 (F := Ideal) (ix2 r c) = 0 := by
  pointwise [k0_pay2]

end Cert.MixMlpIdeal.Mlp
-- ==== Proof.MlpRef.lean ====
/- The reference's residual, modulated norm and MLP at an element. -/
module

public import proofs.«01_k».proof.Proof.Gen.MixMlpRefIdeal.Read
public import Idealize.ShloMosaic.Lib.Pipeline.ValueKit

@[expose] public section

set_option maxRecDepth 16384

noncomputable section

open Idealize.ShloMosaic Idealize.ShloMosaic.TcCoe Idealize.SL.Sem

namespace Cert.MixMlpRefIdeal.Mlp
open Cert.MixMlpRefIdeal Cert.MixMlpRefIdeal.Read

variable (x : Vec Ideal S16384x1024 .f32) (a : Vec Ideal S16384x1024 .bf16) (w : Vec Ideal S16x8x1024 .f32)
  (g : Vec Ideal S1x1024 .f32) (wo : Vec Ideal S1024x1024 .bf16) (wi : Vec Ideal S4x1024x4096 .bf16)
  (wu : Vec Ideal S4x4096x1024 .bf16)

/-- The residual stream after the mixer: input plus modulated projection. -/
def mid (n : Fin 16384) (c : Fin 1024) : EReal :=
  x (ix2 n c) + w (ix3 ⟨n.val / 2048, by omega⟩ 2 c) * ∑ e : Fin 1024, a (ix2 n e) * wo (ix2 e c)

/-- The modulated norm of the residual stream. -/
def hid (n : Fin 16384) (c : Fin 1024) : EReal :=
  ((mid x a w wo n c * Ideal.rsqrt ((∑ d : Fin 1024, mid x a w wo n d * mid x a w wo n d) * Ideal.ofBits .f32 0x3A800000#32
      + Ideal.ofBits .f32 0x358637BD#32)) * g (ix2 0 c))
    * (Ideal.ofBits .f32 0x3F800000#32 + w (ix3 ⟨n.val / 2048, by omega⟩ 4 c)) + w (ix3 ⟨n.val / 2048, by omega⟩ 3 c)

/-- One hidden unit: the squared positive part of its input. -/
def act (n : Fin 16384) (l : Fin 4096) : EReal :=
  max (∑ e : Fin 1024, hid x a w g wo n e * wi (ix3 3 e l)) 0 * max (∑ e : Fin 1024, hid x a w g wo n e * wi (ix3 3 e l)) 0

/-- The layer's output. -/
def out (n : Fin 16384) (c : Fin 1024) : EReal :=
  mid x a w wo n c + w (ix3 ⟨n.val / 2048, by omega⟩ 5 c)
    * ∑ l : Fin 4096, act x a w g wo wi n l * wu (ix3 3 l c)

/-- Division by 1024 is multiplication by its reciprocal, a power of two. -/
theorem div_1024 (s : EReal) : Ideal.div s (Ideal.ofBits .f32 0x44800000#32) = s * Ideal.ofBits .f32 0x3A800000#32 := by
  have e1 : Ideal.ofBits .f32 0x44800000#32 = ((1024 : ℝ) : EReal) := by
    simp [Ideal.ofBits, Ideal.ieee]
    rw [← EReal.coe_mul]
    norm_num
  have e2 : Ideal.ofBits .f32 0x3A800000#32 = ((1024⁻¹ : ℝ) : EReal) := by
    simp [Ideal.ofBits, Ideal.ieee]
    rw [← EReal.coe_mul]
    norm_num
  rw [e1, e2]
  unfold Ideal.div
  rw [if_neg (by norm_num), EReal.coe_inv]

/-- `val_main_v11` at an element. -/
theorem mid_at (b : Fin 8) (t : Fin 2048) (c : Fin 1024) (n : Fin 16384) (hn : n.val = b.val * 2048 + t.val) :
    val_main_v11 (F := Ideal) x a w wo (ix3 b t c) = mid x a w wo n c := by
  rw [val_main_v11_apply, val_main_v10_apply, val_main_v8_apply, val_main_v9_apply, val_main_v6_apply, val_main_v5_apply,
    val_main_v1_apply, val_main_v0_apply, val_main_v2_apply]
  simp only [val_main_v4_apply, val_main_v3_apply, val_main_v7_apply]
  refine congrArg₂ (· + ·) (congrArg x ?_) (congrArg₂ (· * ·) (congrArg w ?_)
    (Finset.sum_congr rfl fun e _ => congrArg₂ (· * ·) (congrArg a ?_) (congrArg wo ?_)))
  all_goals
    refine funext fun i => Fin.ext ?_
    fin_cases i <;> simp <;> omega

/-- The scale of the norm. -/
theorem scale_at (b : Fin 8) (t : Fin 2048) (c : Fin 1024) (n : Fin 16384) (hn : n.val = b.val * 2048 + t.val) :
    val_main_v20 (F := Ideal) x a w wo (ix3 b t c)
      = Ideal.rsqrt ((∑ d : Fin 1024, mid x a w wo n d * mid x a w wo n d) * Ideal.ofBits .f32 0x3A800000#32
      + Ideal.ofBits .f32 0x358637BD#32) := by
  rw [val_main_v20_apply, val_main_v19_apply, val_main_v18_apply, val_main_v17_apply, val_main_cst_1_apply,
    val_main_v16_apply, val_main_v15_apply, val_main_cst_0_apply, val_main_v14_apply, val_main_v13_apply]
  simp only [val_main_v12_apply, val_main_cst_apply]
  have z : FloatOps.ofBits (F := Ideal) FTy.f32 0#32 = 0 := by
    show Ideal.ofBits .f32 0#32 = 0
    simp [Ideal.ofBits, Ideal.ieee]
  have e : ∀ k : Fin 1024, val_main_v11 (F := Ideal) x a w wo (idx_main_v13 (idx_main_v14 (idx_main_v20 (ix3 b t c))) k)
      = mid x a w wo n k := fun k => by
    refine Eq.trans (congrArg _ (funext fun i => Fin.ext ?_)) (mid_at x a w wo b t k n hn)
    fin_cases i <;> simp
  simp only [e, z]
  show Ideal.rsqrt (Ideal.div (0 + ∑ k, mid x a w wo n k * mid x a w wo n k) (Ideal.ofBits .f32 0x44800000#32)
    + Ideal.ofBits .f32 0x358637BD#32) = _
  rw [zero_add, div_1024]

/-- `val_main_v35` at an element. -/
theorem hid_at (b : Fin 8) (t : Fin 2048) (c : Fin 1024) (n : Fin 16384) (hn : n.val = b.val * 2048 + t.val) :
    val_main_v35 (F := Ideal) x a w g wo (ix3 b t c) = hid x a w g wo n c := by
  rw [val_main_v35_apply, val_main_v31_apply, val_main_v25_apply, val_main_v21_apply, scale_at x a w wo b t c n hn,
    mid_at x a w wo b t c n hn]
  rw [val_main_v24_apply, val_main_v23_apply, val_main_v22_apply, val_main_v30_apply, val_main_v29_apply,
    val_main_v28_apply, val_main_cst_2_apply, val_main_v27_apply, val_main_v26_apply, val_main_v34_apply,
    val_main_v33_apply, val_main_v32_apply]
  simp only [val_main_v1_apply, val_main_v0_apply]
  refine congrArg₂ (· + ·) (congrArg₂ (· * ·) (congrArg₂ (· * ·) rfl (congrArg g ?_))
    (congrArg₂ (· + ·) rfl (congrArg w ?_))) (congrArg w ?_)
  all_goals
    refine funext fun i => Fin.ext ?_
    fin_cases i <;> simp <;> omega

/-- `val_main_v41` at an element. -/
theorem act_at (b : Fin 8) (t : Fin 2048) (l : Fin 4096) (n : Fin 16384) (hn : n.val = b.val * 2048 + t.val) :
    val_main_v41 (F := Ideal) x a w g wo wi (ix3 b t l) = act x a w g wo wi n l := by
  have e : val_main_v39 (F := Ideal) x a w g wo wi (ix3 b t l)
      = ∑ e : Fin 1024, hid x a w g wo n e * wi (ix3 3 e l) := by
    rw [val_main_v39_apply]
    simp only [val_main_v38_apply, val_main_v37_apply, val_main_v36_apply]
    refine Finset.sum_congr rfl fun k _ => congrArg₂ (· * ·) ?_ (congrArg wi ?_)
    · refine Eq.trans (congrArg _ (funext fun i => Fin.ext ?_)) (hid_at x a w g wo b t k n hn)
      fin_cases i <;> simp
    · refine funext fun i => Fin.ext ?_
      fin_cases i <;> simp <;> omega
  have z : val_main_call0_v0 (F := Ideal) (ix3 b t l) = 0 := by
    rw [val_main_call0_v0_apply, val_main_call0_cst_apply]
    show Ideal.ofBits .f32 0#32 = 0
    simp [Ideal.ofBits, Ideal.ieee]
  unfold act
  rw [val_main_v41_apply, val_main_v40_apply, e, z]
  rfl

/-- `val_main_v51` at an element. -/
theorem ref_at (n : Fin 16384) (c : Fin 1024) :
    val_main_v51 (F := Ideal) x a w g wo wi wu (ix2 n c) = out x a w g wo wi wu n c := by
  have hn : n.val = (⟨n.val / 2048, by omega⟩ : Fin 8).val * 2048 + (⟨n.val % 2048, by omega⟩ : Fin 2048).val := by
    simp; omega
  have i0 : idx_main_v51 (ix2 n c) = ix3 ⟨n.val / 2048, by omega⟩ ⟨n.val % 2048, by omega⟩ c := by
    refine funext fun i => Fin.ext ?_
    fin_cases i <;> simp <;> omega
  rw [val_main_v51_apply, i0, val_main_v50_apply, mid_at x a w wo _ _ c n hn, val_main_v49_apply, val_main_v48_apply,
    val_main_v47_apply, val_main_v46_apply, val_main_v45_apply]
  simp only [val_main_v1_apply, val_main_v0_apply, val_main_v44_apply, val_main_v43_apply, val_main_v42_apply]
  refine congrArg₂ (· + ·) rfl (congrArg₂ (· * ·) (congrArg w ?_)
    (Finset.sum_congr rfl fun k _ => congrArg₂ (· * ·) ?_ (congrArg wu ?_)))
  · refine funext fun i => Fin.ext ?_
    fin_cases i <;> simp <;> omega
  · refine Eq.trans (congrArg _ (funext fun i => Fin.ext ?_)) (act_at x a w g wo wi _ _ k n hn)
    fin_cases i <;> simp
  · refine funext fun i => Fin.ext ?_
    fin_cases i <;> simp <;> omega

end Cert.MixMlpRefIdeal.Mlp
-- ==== Proof.MlpValue.lean ====
/- The residual, modulated norm and MLP kernel's final array is the reference's. -/
module

public import proofs.«01_k».proof.Proof.Gen.MixMlpIdeal.Frame
public import proofs.«01_k».proof.Proof.Mlp
public import proofs.«01_k».proof.Proof.MlpRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixMlpIdeal.Mlp
open Cert.MixMlpIdeal Cert.MixMlpIdeal.Gen

variable (m : (ℓ : Loc nD τ sig) → Buf (Elt Ideal) ℓ)

/-- The block of every window at every grid point. -/
theorem idx : ∀ t : Fin cfg0.N, win0_0.index t = ![t.val / 4, 0] ∧ win0_1.index t = ![t.val / 4, 0]
    ∧ win0_2.index t = ![t.val / 8, 0, 0] ∧ win0_3.index t = ![0, 0] ∧ win0_4.index t = ![0, 0]
    ∧ win0_5.index t = ![3, 0, t.val % 4] ∧ win0_6.index t = ![3, t.val % 4, 0]
    ∧ win0_7.index t = ![t.val / 4, 0] ∧ t.val < 64 :=
  (by decide +kernel : ∀ t : Fin grid0.N, _)

open Cert.MixMlpRefIdeal.Mlp (mid hid act out)

section
variable (c : Dev nD)

/-- The residual stream at an element, from the kernel's arguments. -/
abbrev M (n : Fin 16384) (k : Fin 1024) : EReal :=
  mid (m ((c : Thread nD τ).loc main_arg0)) (m ((c : Thread nD τ).loc main_arg1)) (m ((c : Thread nD τ).loc main_arg2))
    (m ((c : Thread nD τ).loc main_arg4)) n k

/-- Its modulated norm. -/
abbrev H (n : Fin 16384) (k : Fin 1024) : EReal :=
  hid (m ((c : Thread nD τ).loc main_arg0)) (m ((c : Thread nD τ).loc main_arg1)) (m ((c : Thread nD τ).loc main_arg2))
    (m ((c : Thread nD τ).loc main_arg3)) (m ((c : Thread nD τ).loc main_arg4)) n k

/-- The summand of hidden unit `l`. -/
abbrev T (n : Fin 16384) (k : Fin 1024) (l : Fin 4096) : EReal :=
  act (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) n l
    * m ((c : Thread nD τ).loc main_arg6) (ix3 3 l k)

/-- The summands of slice `s` of the hidden units, added up. -/
def part (n : Fin 16384) (k : Fin 1024) (s : ℕ) : EReal :=
  ∑ j : Fin 1024, if h : s * 1024 + j.val < 4096 then T m c n k ⟨s * 1024 + j.val, h⟩ else 0

variable (t : Fin cfg0.N)

theorem x_at (r k : Fin 1024) (n : Fin 16384) (hn : n.val = t.val / 4 * 1024 + r.val) :
    iblk m c 0 t (ix2 r k) = m ((c : Thread nD τ).loc main_arg0) (ix2 n k) := by
  blk_ext [iblk, V, idx t]

theorem a_at (r k : Fin 1024) (n : Fin 16384) (hn : n.val = t.val / 4 * 1024 + r.val) :
    iblk m c 1 t (ix2 r k) = m ((c : Thread nD τ).loc main_arg1) (ix2 n k) := by
  blk_ext [iblk, V, idx t]

theorem w_at (r : Fin 8) (k : Fin 1024) (b : Fin 16) (hb : b.val = t.val / 8) :
    iblk m c 2 t (ix3 0 r k) = m ((c : Thread nD τ).loc main_arg2) (ix3 b r k) := by
  blk_ext [iblk, V, idx t]

theorem g_at (k : Fin 1024) : iblk m c 3 t (ix2 0 k) = m ((c : Thread nD τ).loc main_arg3) (ix2 0 k) := by
  blk_ext [iblk, V, idx t]

theorem wo_at (r k : Fin 1024) : iblk m c 4 t (ix2 r k) = m ((c : Thread nD τ).loc main_arg4) (ix2 r k) := by
  blk_ext [iblk, V, idx t]

theorem wi_at (r k : Fin 1024) (l : Fin 4096) (hl : l.val = t.val % 4 * 1024 + k.val) :
    iblk m c 5 t (ix3 0 r k) = m ((c : Thread nD τ).loc main_arg5) (ix3 3 r l) := by
  blk_ext [iblk, V, idx t]

theorem wu_at (r k : Fin 1024) (l : Fin 4096) (hl : l.val = t.val % 4 * 1024 + r.val) :
    iblk m c 6 t (ix3 0 r k) = m ((c : Thread nD τ).loc main_arg6) (ix3 3 l k) := by
  blk_ext [iblk, V, idx t]

/-- The residual the first point of a run leaves in the output block. -/
theorem first_out (h0 : t.val % 4 = 0) (r k : Fin 1024) (n : Fin 16384) (hn : n.val = t.val / 4 * 1024 + r.val) :
    (outsAt0 m c t.val t.isLt).1 (ix2 r k) = M m c n k := by
  have ht : t.val < 64 := (idx t).2.2.2.2.2.2.2.2
  rw [outsAt0_A m c t h0 (by omega)]
  dsimp only
  frame_out
  rw [residual_at]
  refine congrArg₂ (· + ·) (x_at m c t r k n hn) (congrArg₂ (· * ·) ?_ (Finset.sum_congr rfl fun e _ =>
    congrArg₂ (· * ·) (a_at m c t r e n hn) (wo_at m c t e k)))
  refine Eq.trans (congrArg (iblk m c 2 t) (?_ : _ = ix3 0 2 k)) (w_at m c t 2 k _ (by simp; omega))
  refine funext fun i => Fin.ext ?_
  fin_cases i <;> simp

/-- The norm of that residual, which the run's points hold. -/
theorem first_hid (h0 : t.val % 4 = 0) (r k : Fin 1024) (n : Fin 16384) (hn : n.val = t.val / 4 * 1024 + r.val) :
    (outsAt0 m c t.val t.isLt).2.1 (ix2 r k) = H m c n k := by
  have ht : t.val < 64 := (idx t).2.2.2.2.2.2.2.2
  have e := fun k => first_out m c t h0 r k n hn
  rw [outsAt0_A m c t h0 (by omega)] at e ⊢
  dsimp only at e ⊢
  frame_out at e
  frame_out
  rw [norm_at]
  simp only [e]
  refine congrArg₂ (· + ·) (congrArg₂ (· * ·) (congrArg₂ (· * ·) rfl (g_at m c t k)) (congrArg₂ (· + ·) rfl
    (w_at m c t 4 k _ (by simp; omega)))) (w_at m c t 3 k _ (by simp; omega))

/-- What a point adds to the accumulator, whose slice of the hidden units it is. -/
theorem part_at (h : Vec Ideal S1024x1024 .bf16) (acc : Vec Ideal S1024x1024 .f32) (r k : Fin 1024) (n : Fin 16384)
    (hn : n.val = t.val / 4 * 1024 + r.val) (hh : ∀ k, h (ix2 r k) = H m c n k) :
    k0_pay3 (F := Ideal) h (iblk m c 5 t) acc (iblk m c 6 t) (ix2 r k) = acc (ix2 r k) + part m c n k (t.val % 4) := by
  rw [hidden_at]
  refine congrArg (_ + ·) (Finset.sum_congr rfl fun j _ => ?_)
  rw [dif_pos (by omega)]
  refine congrArg₂ (· * ·) ?_ (wu_at m c t j k _ rfl)
  have e : (∑ e : Fin 1024, h (ix2 r e) * (iblk m c 5 t (ix3 0 e j) : EReal))
      = ∑ e : Fin 1024, H m c n e * m ((c : Thread nD τ).loc main_arg5) (ix3 3 e ⟨t.val % 4 * 1024 + j.val, by omega⟩) :=
    Finset.sum_congr rfl fun e _ => congrArg₂ (· * ·) (hh e) (wi_at m c t e j _ rfl)
  exact congrArg (fun z : EReal => max z 0 * max z 0) e

/-- The accumulator after the first point of a run. -/
theorem first_acc (h0 : t.val % 4 = 0) (r k : Fin 1024) (n : Fin 16384) (hn : n.val = t.val / 4 * 1024 + r.val) :
    (outsAt0 m c t.val t.isLt).2.2 (ix2 r k) = part m c n k 0 := by
  have e := fun k => first_hid m c t h0 r k n hn
  rw [outsAt0_A m c t h0 (by omega)] at e ⊢
  dsimp only at e ⊢
  frame_out at e
  frame_out
  rw [part_at m c t _ _ r k n hn e, zero_at, zero_add, h0]

end

/-- What the buffers hold after point `n` of a run that is not its last: the residual, its norm, and the sum of the
    slices of the hidden units so far. -/
theorem held (c : Dev nD) : ∀ (n : ℕ) (hn : n < cfg0.N), n % 4 ≠ 3 → ∀ (r : Fin 1024) (i : Fin 16384),
    i.val = n / 4 * 1024 + r.val →
    (∀ k, (outsAt0 m c n hn).1 (ix2 r k) = M m c i k) ∧ (∀ k, (outsAt0 m c n hn).2.1 (ix2 r k) = H m c i k)
      ∧ ∀ k, (outsAt0 m c n hn).2.2 (ix2 r k) = ∑ s ∈ Finset.range (n % 4 + 1), part m c i k s := by
  intro n
  induction n with
  | zero =>
    intro hn _ r i hi
    refine ⟨fun k => first_out m c ⟨0, hn⟩ rfl r k i hi, fun k => first_hid m c ⟨0, hn⟩ rfl r k i hi, fun k => ?_⟩
    rw [first_acc m c ⟨0, hn⟩ rfl r k i hi]
    simp
  | succ n ih =>
    intro hn h3 r i hi
    by_cases h0 : (n + 1) % 4 = 0
    · refine ⟨fun k => first_out m c ⟨n + 1, hn⟩ h0 r k i hi, fun k => first_hid m c ⟨n + 1, hn⟩ h0 r k i hi, fun k => ?_⟩
      rw [first_acc m c ⟨n + 1, hn⟩ h0 r k i hi, h0]
      simp
    · obtain ⟨p1, p2, p3⟩ := ih (Nat.lt_of_succ_lt hn) (by omega) r i (by omega)
      have e := outsAt0_B m c ⟨n + 1, hn⟩ h0 h3
      refine ⟨fun k => ?_, fun k => ?_, fun k => ?_⟩
      · refine Eq.trans (congrArg (fun z => z.1 (ix2 r k)) e) ?_
        exact p1 k
      · refine Eq.trans (congrArg (fun z => z.2.1 (ix2 r k)) e) ?_
        exact p2 k
      · refine Eq.trans (congrArg (fun z => z.2.2 (ix2 r k)) e) ?_
        dsimp only
        frame_out
        rw [part_at m c ⟨n + 1, hn⟩ _ _ r k i hi (fun k => ?_)]
        · rw [show (n + 1) % 4 + 1 = (n % 4 + 1) + 1 by omega, Finset.sum_range_succ _ (n % 4 + 1)]
          refine congrArg₂ (· + ·) ((congrFun ((Memref.isWhole_whole _).read_unread _) _).trans (p3 k)) ?_
          rw [show (n + 1) % 4 = n % 4 + 1 by omega]
        · exact (congrFun ((Memref.isWhole_whole _).read_unread _) _).trans (p2 k)

/-- The four slices are all the hidden units. -/
theorem parts (c : Dev nD) (i : Fin 16384) (k : Fin 1024) :
    ∑ s ∈ Finset.range 4, part m c i k s = ∑ l : Fin 4096, T m c i k l := by
  rw [Finset.sum_range]
  unfold part
  refine Fin.sum_mul_add_congr fun s j h => ?_
  rw [dif_pos]

/-- What the last point of a run leaves in the output block. -/
theorem last_out (c : Dev nD) (t : Fin cfg0.N) (h3 : t.val % 4 = 3) (r k : Fin 1024) (n : Fin 16384)
    (hn : n.val = t.val / 4 * 1024 + r.val) :
    (outsAt0 m c t.val t.isLt).1 (ix2 r k)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) n k := by
  have ht : t.val < 64 := (idx t).2.2.2.2.2.2.2.2
  obtain ⟨p1, p2, p3⟩ := held m c (t.val - 1) (Nat.lt_of_le_of_lt (Nat.sub_le _ _) t.isLt) (by omega) r n (by omega)
  rw [outsAt0_C m c t (by omega) h3]
  dsimp only
  frame_out
  rw [out_at, part_at m c t _ _ r k n hn (fun k => ?_)]
  · refine congrArg₂ (· + ·) (p1 k) (congrArg₂ (· * ·) ?_ ?_)
    · refine Eq.trans (congrArg (iblk m c 2 t) (?_ : _ = ix3 0 5 k)) (w_at m c t 5 k _ (by simp; omega))
      refine funext fun i => Fin.ext ?_
      fin_cases i <;> simp
    · refine Eq.trans ?_ (parts m c n k)
      rw [Finset.sum_range_succ _ 3, h3]
      refine congrArg (· + _) (((congrFun ((Memref.isWhole_whole _).read_unread _) _).trans (p3 k)).trans ?_)
      rw [show (t.val - 1) % 4 + 1 = 3 by omega]
  · exact (congrFun ((Memref.isWhole_whole _).read_unread _) _).trans (p2 k)

/-- The kernel's result is the reference's. -/
theorem final (c : Dev nD) :
    (dats m 0 c).arrAt 7 (cfgs 0).N
      = Cert.MixMlpRefIdeal.Read.val_main_v51 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  refine (dats m 0 c).arrAt_eq_of_covers 7 _ (by decide +kernel) fun t hf y => ?_
  have h3 : t.val % 4 = 3 := (flush0_7 t).mp hf
  have ht : t.val < 64 := (idx t).2.2.2.2.2.2.2.2
  blk_simp
  rw [after0_7]
  have hy0 : (y 0).val < 1024 := (y 0).isLt
  refine Eq.trans ?_ ((last_out m c t h3 (y 0) (y 1) ⟨t.val / 4 * 1024 + (y 0).val, by omega⟩ rfl).trans
    (Eq.trans (Cert.MixMlpRefIdeal.Mlp.ref_at _ _ _ _ _ _ _ _ _).symm ?_))
  · blk_ext
  · blk_ext [idx t]

end Cert.MixMlpIdeal.Mlp
-- ==== Proof.LatentHead.lean ====
/- One head of the latent attention kernel's body at an element: the payloads of its four stores are one function of
   the head's query, key, value and context tiles, and that function is a softmax row over the context and the latent
   tokens. -/
module

public import proofs.«01_k».proof.Proof.Gen.LatentIdeal.Frame
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem

namespace Cert.LatentIdeal.Head
open Cert.LatentIdeal Cert.LatentIdeal.Gen

/-- What the body stores for one head, from the head's tiles: queries, keys, values, context keys and values. -/
def headOut (q : Vec Ideal S512x256 .bf16) (k : Vec Ideal S2048x256 .bf16) (v : Vec Ideal S2048x128 .bf16)
    (kc : Vec Ideal S512x256 .bf16) (vc : Vec Ideal S512x128 .bf16) : FVec Ideal S512x128 .bf16 :=
  k0_pay17 (k0_pay4 v) (k0_pay8 vc) (k0_pay12 q k) (k0_pay13 q kc)

/-- The scores of the latent tokens. -/
theorem score_at (q : Vec Ideal S512x256 .bf16) (k : Vec Ideal S2048x256 .bf16) (r : Fin 512) (j : Fin 2048) :
    k0_pay12 (F := Ideal) q k (ix2 r j) = ∑ e : Fin 256, q (ix2 r e) * k (ix2 j e) := by
  pointwise [k0_pay12]

/-- The scores of the context tokens. -/
theorem ctxScore_at (q kc : Vec Ideal S512x256 .bf16) (r j : Fin 512) :
    k0_pay13 (F := Ideal) q kc (ix2 r j) = ∑ e : Fin 256, q (ix2 r e) * kc (ix2 j e) := by
  pointwise [k0_pay13]

/-- One element of a head's output, from the scores. -/
theorem weigh_at (v : Vec Ideal S2048x128 .bf16) (vc : Vec Ideal S512x128 .bf16) (s : FVec Ideal S512x2048 .f32)
    (sc : FVec Ideal S512x512 .f32) (r : Fin 512) (d : Fin 128) (M : EReal)
    (hM : M = max (Finset.univ.fold max ⊥ fun x => s (ix2 r x)) (Finset.univ.fold max ⊥ fun x => sc (ix2 r x))) :
    k0_pay17 (F := Ideal) (k0_pay4 v) (k0_pay8 vc) s sc (ix2 r d)
      = Ideal.div
          (∑ x, Ideal.exp2 (s (ix2 r x) - M) * v (ix2 x d) + ∑ x, Ideal.exp2 (sc (ix2 r x) - M) * vc (ix2 x d))
          (∑ x, Ideal.exp2 (s (ix2 r x) - M) + ∑ x, Ideal.exp2 (sc (ix2 r x) - M)) := by
  subst hM
  pointwise [k0_pay17, k0_pay4, k0_pay8, Softmax.ofBits_neg_inf]
  rfl

/-- A head's output at an element is the softmax row over all tokens, context first. `S` and `V` are the scores and
    the values of that row, read from the tiles; `M` is any real shift. -/
theorem headOut_at (q : Vec Ideal S512x256 .bf16) (k : Vec Ideal S2048x256 .bf16) (v : Vec Ideal S2048x128 .bf16)
    (kc : Vec Ideal S512x256 .bf16) (vc : Vec Ideal S512x128 .bf16)
    (r : Fin 512) (d : Fin 128) (S V : Fin 2560 → EReal)
    (h1 : ∀ j : Fin 512, S ⟨j.val, by omega⟩ = ∑ e : Fin 256, q (ix2 r e) * kc (ix2 j e))
    (h2 : ∀ j : Fin 2048, S ⟨512 + j.val, by omega⟩ = ∑ e : Fin 256, q (ix2 r e) * k (ix2 j e))
    (k1 : ∀ j : Fin 512, V ⟨j.val, by omega⟩ = vc (ix2 j d))
    (k2 : ∀ j : Fin 2048, V ⟨512 + j.val, by omega⟩ = v (ix2 j d))
    (hs : ∀ j, ∃ x : ℝ, S j = x) (M : EReal) (hM : ∃ x : ℝ, M = x) :
    headOut q k v kc vc (ix2 r d)
      = ∑ j, Ideal.div (Ideal.exp (S j * (Real.log 2 : ℝ) - M)) (∑ i, Ideal.exp (S i * (Real.log 2 : ℝ) - M)) * V j := by
  have w := weigh_at v vc (k0_pay12 q k) (k0_pay13 q kc) r d _ rfl
  simp only [score_at, ctxScore_at] at w
  refine w.trans ?_
  exact Softmax.row_two (by norm_num) (fun j : Fin 2048 => ∑ e : Fin 256, q (ix2 r e) * k (ix2 j e))
    (fun j => v (ix2 j d)) (fun j : Fin 512 => ∑ e : Fin 256, q (ix2 r e) * kc (ix2 j e)) (fun j => vc (ix2 j d))
    S V h1 h2 k1 k2 hs M hM

section
variable (q : Vec Ideal S512x256 .bf16) (k : Vec Ideal S2048x256 .bf16) (v : Vec Ideal S2048x128 .bf16)
  (kc : Vec Ideal S512x256 .bf16) (vc : Vec Ideal S512x128 .bf16)

/-- The store of head 0. -/
theorem head0 : k0_pay14 (k0_pay3 v) (k0_pay7 vc) q (k0_pay11 q k) kc = headOut q k v kc vc := rfl
/-- The store of head 2. -/
theorem head2 :
    k0_pay1 (k0_pay21 (k0_pay5 v) (k0_pay15 q k) (k0_pay16 q kc)) (k0_pay22 (k0_pay9 vc) (k0_pay15 q k) (k0_pay16 q kc))
      = headOut q k v kc vc := rfl
/-- The store of head 3. -/
theorem head3 : k0_pay2 (k0_pay6 v) (k0_pay10 vc) (k0_pay18 q k) (k0_pay19 q kc) = headOut q k v kc vc := rfl
end

/-- `headOut` at equal tiles and equal indices. -/
theorem headOut_congr {q q' : Vec Ideal S512x256 .bf16} {k k' : Vec Ideal S2048x256 .bf16}
    {v v' : Vec Ideal S2048x128 .bf16} {kc kc' : Vec Ideal S512x256 .bf16} {vc vc' : Vec Ideal S512x128 .bf16}
    {x x' : S512x128.Idx} (hq : ∀ i, q i = q' i) (hk : ∀ i, k i = k' i)
    (hv : ∀ i, v i = v' i) (hkc : ∀ i, kc i = kc' i) (hvc : ∀ i, vc i = vc' i) (hx : x = x') :
    headOut q k v kc vc x = headOut q' k' v' kc' vc' x' := by
  rw [funext hq, funext hk, funext hv, funext hkc, funext hvc, hx]

section
variable (x0 : Vec Ideal S512x1024 .bf16) (x1 : Vec Ideal S2048x1024 .bf16) (x2 : Vec Ideal S2048x512 .bf16)
  (x3 : Vec Ideal S512x1024 .bf16) (x4 : Vec Ideal S512x512 .bf16)

/-- The columns of the output block: head `h` holds columns `128 h` to `128 h + 127`, and is `headOut` of its 256
    query and key columns and its 128 value columns. -/
theorem out_at (r : Fin 512) (c : Fin 512) :
    out0_5 x0 x1 x2 x3 x4 (ix2 r c)
      = headOut (fun i => x0 (ix2 (i 0) ⟨c.val / 128 * 256 + (i 1).val, by have := (i 1).isLt; simp at this; omega⟩))
          (fun i => x1 (ix2 (i 0) ⟨c.val / 128 * 256 + (i 1).val, by have := (i 1).isLt; simp at this; omega⟩))
          (fun i => x2 (ix2 (i 0) ⟨c.val / 128 * 128 + (i 1).val, by have := (i 1).isLt; simp at this; omega⟩))
          (fun i => x3 (ix2 (i 0) ⟨c.val / 128 * 256 + (i 1).val, by have := (i 1).isLt; simp at this; omega⟩))
          (fun i => x4 (ix2 (i 0) ⟨c.val / 128 * 128 + (i 1).val, by have := (i 1).isLt; simp at this; omega⟩))
          (ix2 r ⟨c.val % 128, by omega⟩) := by
  unfold_out out0_5
  rw [head0, head2, head3, ← headOut]
  canon_tiles x h
  all_goals
    replace h0 : r.val = _ := h0
    replace h1 : c.val = _ := h1
    refine headOut_congr ?_ ?_ ?_ ?_ ?_ ?_
    · intro i
      refine congrArg x0 (funext fun a => Fin.ext ?_)
      fin_cases a <;> simp [Rect.unit, Rect.emb] <;> omega
    · intro i
      refine congrArg x1 (funext fun a => Fin.ext ?_)
      fin_cases a <;> simp [Rect.unit, Rect.emb] <;> omega
    · intro i
      refine congrArg x2 (funext fun a => Fin.ext ?_)
      fin_cases a <;> simp [Rect.unit, Rect.emb] <;> omega
    · intro i
      refine congrArg x3 (funext fun a => Fin.ext ?_)
      fin_cases a <;> simp [Rect.unit, Rect.emb] <;> omega
    · intro i
      refine congrArg x4 (funext fun a => Fin.ext ?_)
      fin_cases a <;> simp [Rect.unit, Rect.emb] <;> omega
    · refine funext fun a => Fin.ext ?_
      fin_cases a <;> simp <;> omega
end

end Cert.LatentIdeal.Head

end
-- ==== Proof.LatentRef.lean ====
/- The reference's latent attention at an element: the softmax row over the context and the latent tokens of one
   query. -/
module

public import proofs.«01_k».proof.Proof.Gen.LatentRefIdeal.Read
public import proofs.«01_k».proof.Proof.Attn

@[expose] public section

set_option maxRecDepth 16384

noncomputable section

open Idealize.ShloMosaic Idealize.ShloMosaic.TcCoe Idealize.SL.Sem

namespace Cert.LatentRefIdeal.Attn
open Cert.LatentRefIdeal Cert.LatentRefIdeal.Read

variable (x0 x1 : Vec Ideal S16384x2048 .bf16) (x2 : Vec Ideal S16384x1024 .bf16)
  (x3 : Vec Ideal S4096x2048 .bf16) (x4 : Vec Ideal S4096x1024 .bf16)

/-- A scaled score: the query against the key of a token, times the logarithm of two. -/
theorem scaled_at (b h : Fin 8) (t : Fin 2048) (j : Fin 2560) :
    val_main_v15 (F := Ideal) x0 x1 x3 (ix4 b h t j)
      = (∑ e : Fin 256, x0 (ix2 ⟨b.val * 2048 + t.val, by omega⟩ ⟨h.val * 256 + e.val, by omega⟩)
          * val_main_v6 (F := Ideal) x1 x3 (ix4 b j h e)) * (Real.log 2 : ℝ) := by
  rw [val_main_v15_apply, val_main_v12_apply, val_main_v14_apply, val_main_v13_apply, val_main_cst_apply]
  simp only [val_main_v1_apply, val_main_v0_apply]
  refine congrArg₂ (· * ·) (Finset.sum_congr rfl fun e _ => congrArg₂ (· * ·) (congrArg x0 ?_) (congrArg _ ?_)) ?_
  · refine funext fun a => Fin.ext ?_
    fin_cases a <;> simp <;> omega
  · refine funext fun a => Fin.ext ?_
    fin_cases a <;> simp
  · show Ideal.log (Ideal.ofBits .f32 0x40000000#32) = _
    rw [Cert.ReferenceIdeal.Attn.ofBits_two]
    rw [Ideal.log_coe, if_neg (by norm_num)]

/-- The keys of the context tokens. -/
theorem key_ctx (b h : Fin 8) (j : Fin 512) (e : Fin 256) :
    val_main_v6 (F := Ideal) x1 x3 (ix4 b ⟨j.val, by omega⟩ h e)
      = x3 (ix2 ⟨b.val * 512 + j.val, by omega⟩ ⟨h.val * 256 + e.val, by omega⟩) := by
  have w : val_main_v6 (F := Ideal) x1 x3 (ix4 b ⟨j.val, by omega⟩ h e)
      = val_main_v3 (F := Ideal) x3 (ix4 b j h e) := by
    unfold val_main_v6
    generalize val_main_v3 (F := Ideal) x3 = y
    generalize val_main_v5 (F := Ideal) x1 = z
    pointwise
  rw [w, val_main_v3_apply, val_main_v2_apply]
  refine congrArg x3 (funext fun a => Fin.ext ?_)
  fin_cases a <;> simp <;> omega

/-- The keys of the latent tokens. -/
theorem key_lat (b h : Fin 8) (j : Fin 2048) (e : Fin 256) :
    val_main_v6 (F := Ideal) x1 x3 (ix4 b ⟨512 + j.val, by omega⟩ h e)
      = x1 (ix2 ⟨b.val * 2048 + j.val, by omega⟩ ⟨h.val * 256 + e.val, by omega⟩) := by
  have w : val_main_v6 (F := Ideal) x1 x3 (ix4 b ⟨512 + j.val, by omega⟩ h e)
      = val_main_v5 (F := Ideal) x1 (ix4 b j h e) := by
    unfold val_main_v6
    generalize val_main_v3 (F := Ideal) x3 = y
    generalize val_main_v5 (F := Ideal) x1 = z
    pointwise
    blk_ext
  rw [w, val_main_v5_apply, val_main_v4_apply]
  refine congrArg x1 (funext fun a => Fin.ext ?_)
  fin_cases a <;> simp <;> omega

/-- The values of the context tokens. -/
theorem val_ctx (b h : Fin 8) (j : Fin 512) (e : Fin 128) :
    val_main_v11 (F := Ideal) x2 x4 (ix4 b ⟨j.val, by omega⟩ h e)
      = x4 (ix2 ⟨b.val * 512 + j.val, by omega⟩ ⟨h.val * 128 + e.val, by omega⟩) := by
  have w : val_main_v11 (F := Ideal) x2 x4 (ix4 b ⟨j.val, by omega⟩ h e)
      = val_main_v8 (F := Ideal) x4 (ix4 b j h e) := by
    unfold val_main_v11
    generalize val_main_v8 (F := Ideal) x4 = y
    generalize val_main_v10 (F := Ideal) x2 = z
    pointwise
  rw [w, val_main_v8_apply, val_main_v7_apply]
  refine congrArg x4 (funext fun a => Fin.ext ?_)
  fin_cases a <;> simp <;> omega

/-- The values of the latent tokens. -/
theorem val_lat (b h : Fin 8) (j : Fin 2048) (e : Fin 128) :
    val_main_v11 (F := Ideal) x2 x4 (ix4 b ⟨512 + j.val, by omega⟩ h e)
      = x2 (ix2 ⟨b.val * 2048 + j.val, by omega⟩ ⟨h.val * 128 + e.val, by omega⟩) := by
  have w : val_main_v11 (F := Ideal) x2 x4 (ix4 b ⟨512 + j.val, by omega⟩ h e)
      = val_main_v10 (F := Ideal) x2 (ix4 b j h e) := by
    unfold val_main_v11
    generalize val_main_v8 (F := Ideal) x4 = y
    generalize val_main_v10 (F := Ideal) x2 = z
    pointwise
    blk_ext
  rw [w, val_main_v10_apply, val_main_v9_apply]
  refine congrArg x2 (funext fun a => Fin.ext ?_)
  fin_cases a <;> simp <;> omega

/-- The shift of a row is real when its scaled scores are. -/
theorem shift_real (b h : Fin 8) (t : Fin 2048)
    (hr : ∀ j, ∃ r : ℝ, val_main_v15 (F := Ideal) x0 x1 x3 (ix4 b h t j) = r) :
    ∃ r : ℝ, val_main_v18 (F := Ideal) x0 x1 x3 (ix3 b h t) = r := by
  have e : val_main_v18 (F := Ideal) x0 x1 x3 (ix3 b h t)
      = max ⊥ (Finset.univ.fold max ⊥ fun j => val_main_v15 (F := Ideal) x0 x1 x3 (ix4 b h t j)) := by
    rw [val_main_v18_apply]
    unfold val_main_v16 val_main_v17 val_main_cst_1 val_main_cst_0
    generalize val_main_v15 (F := Ideal) x0 x1 x3 = y
    pointwise [Softmax.ofBits_neg_inf]
  obtain ⟨r, hr⟩ := Softmax.fold_max_real _ hr
  exact ⟨r, by rw [e, hr]; simp⟩

/-- An attention weight. -/
theorem weight_at (b h : Fin 8) (t : Fin 2048) (j : Fin 2560) :
    val_main_v26 (F := Ideal) x0 x1 x3 (ix4 b h t j)
      = Ideal.div (Ideal.exp (val_main_v15 (F := Ideal) x0 x1 x3 (ix4 b h t j)
            - val_main_v18 (F := Ideal) x0 x1 x3 (ix3 b h t)))
          (∑ i, Ideal.exp (val_main_v15 (F := Ideal) x0 x1 x3 (ix4 b h t i)
            - val_main_v18 (F := Ideal) x0 x1 x3 (ix3 b h t))) := by
  have e : ∀ j, val_main_v22 (F := Ideal) x0 x1 x3 (ix4 b h t j)
      = Ideal.exp (val_main_v15 (F := Ideal) x0 x1 x3 (ix4 b h t j)
            - val_main_v18 (F := Ideal) x0 x1 x3 (ix3 b h t)) := by
    intro j
    rw [val_main_v22_apply, val_main_v21_apply, val_main_v20_apply, val_main_v19_apply]
    refine congrArg Ideal.exp (congrArg _ (congrArg _ (funext fun a => Fin.ext ?_)))
    fin_cases a <;> simp
  rw [val_main_v26_apply, val_main_v25_apply, val_main_v24_apply, val_main_v23_apply]
  simp only [← e]
  have z : val_main_cst_2 (F := Ideal) (Shape.Idx.first Gen.h_S_) = 0 := by
    show Ideal.ofBits .f32 0x00000000#32 = 0
    simp [Ideal.ofBits, Ideal.ieee]
  rw [z, zero_add]
  refine congrArg (Ideal.div _) (Finset.sum_congr rfl fun k _ => congrArg _ (funext fun a => Fin.ext ?_))
  fin_cases a <;> simp

/-- The score of token `j` for the query in row `n` and the head that column `c` belongs to. -/
def score (n : Fin 16384) (c : Fin 1024) (j : Fin 2560) : EReal :=
  ∑ e : Fin 256, x0 (ix2 n ⟨c.val / 128 * 256 + e.val, by omega⟩)
    * val_main_v6 (F := Ideal) x1 x3 (ix4 ⟨n.val / 2048, by omega⟩ j ⟨c.val / 128, by omega⟩ e)

/-- The value of token `j` in column `c`. -/
def value (n : Fin 16384) (c : Fin 1024) (j : Fin 2560) : EReal :=
  val_main_v11 (F := Ideal) x2 x4 (ix4 ⟨n.val / 2048, by omega⟩ j ⟨c.val / 128, by omega⟩ ⟨c.val % 128, by omega⟩)

/-- The shift of the row of `n` and `c`. -/
def shift (n : Fin 16384) (c : Fin 1024) : EReal :=
  val_main_v18 (F := Ideal) x0 x1 x3
    (ix3 ⟨n.val / 2048, by omega⟩ ⟨c.val / 128, by omega⟩ ⟨n.val % 2048, by omega⟩)

/-- A scaled score, from `score`. -/
theorem scaled_eq (n : Fin 16384) (c : Fin 1024) (j : Fin 2560) :
    val_main_v15 (F := Ideal) x0 x1 x3
        (ix4 ⟨n.val / 2048, by omega⟩ ⟨c.val / 128, by omega⟩ ⟨n.val % 2048, by omega⟩ j)
      = score x0 x1 x3 n c j * (Real.log 2 : ℝ) := by
  rw [scaled_at]
  refine congrArg (· * _) (Finset.sum_congr rfl fun e _ => ?_)
  refine congrArg (· * _) (congrArg x0 (funext fun a => Fin.ext ?_))
  fin_cases a <;> simp <;> omega

/-- The shift is real when the row's scores are. -/
theorem shift_real' (n : Fin 16384) (c : Fin 1024) (h : ∀ j, ∃ r : ℝ, score x0 x1 x3 n c j = r) :
    ∃ r : ℝ, shift x0 x1 x3 n c = r := by
  refine shift_real x0 x1 x3 _ _ _ fun j => ?_
  obtain ⟨r, hr⟩ := h j
  exact ⟨r * Real.log 2, by rw [scaled_eq, hr, EReal.coe_mul]⟩

/-- The reference at an element: one softmax row times the values. -/
theorem att_at (n : Fin 16384) (c : Fin 1024) :
    val_main_v30 (F := Ideal) x0 x1 x2 x3 x4 (ix2 n c)
      = ∑ j, Ideal.div (Ideal.exp (score x0 x1 x3 n c j * (Real.log 2 : ℝ) - shift x0 x1 x3 n c))
          (∑ i, Ideal.exp (score x0 x1 x3 n c i * (Real.log 2 : ℝ) - shift x0 x1 x3 n c)) * value x2 x4 n c j := by
  rw [val_main_v30_apply, val_main_v29_apply, val_main_v28_apply, val_main_v27_apply]
  show (∑ k, _ : EReal) = _
  refine Finset.sum_congr rfl fun j _ => ?_
  rw [mul_comm]
  refine congrArg₂ (· * ·) ?_ ?_
  · simp only [← scaled_eq]
    refine Eq.trans ?_ (weight_at x0 x1 x3 _ _ _ j)
    refine congrArg _ (funext fun a => Fin.ext ?_)
    fin_cases a <;> simp <;> omega
  · refine congrArg _ (funext fun a => Fin.ext ?_)
    fin_cases a <;> simp <;> omega

end Cert.LatentRefIdeal.Attn
-- ==== Proof.LatentValue.lean ====
/- The latent attention kernel's final array is the reference's, when the queries and the keys are finite. -/
module

public import proofs.«01_k».proof.Proof.LatentHead
public import proofs.«01_k».proof.Proof.LatentRef
public import proofs.«01_k».proof.Proof.AttnValue
public import proofs.«01_k».proof.Pre_finite_latent
public import Idealize.ShloMosaic.Lib.Pipeline.ValueKit
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.LatentIdeal.Attn
open Cert.LatentIdeal Cert.LatentIdeal.Gen
open Cert.LatentRefIdeal.Attn (score value shift)

variable (m : (ℓ : Loc nD τ sig) → Buf (Elt Ideal) ℓ)

/-- The block of every window at every grid point: eight points per batch element, four per half of the heads. -/
theorem idx : ∀ t : Fin cfg0.N, win0_0.index t = ![t.val / 8 * 4 + t.val % 4, t.val / 4 % 2]
    ∧ win0_1.index t = ![t.val / 8, t.val / 4 % 2] ∧ win0_2.index t = ![t.val / 8, t.val / 4 % 2]
    ∧ win0_3.index t = ![t.val / 8, t.val / 4 % 2] ∧ win0_4.index t = ![t.val / 8, t.val / 4 % 2]
    ∧ win0_5.index t = ![t.val / 8 * 4 + t.val % 4, t.val / 4 % 2] ∧ t.val < 64 :=
  (by decide +kernel : ∀ t : Fin grid0.N, _)

/-- A query block at an element. -/
theorem q_at (c : Dev nD) (t : Fin cfg0.N) (r : Fin 512) (k : Fin 1024) (n : Fin 16384) (l : Fin 2048)
    (hn : n.val = (t.val / 8 * 4 + t.val % 4) * 512 + r.val) (hl : l.val = t.val / 4 % 2 * 1024 + k.val) :
    iblk m c 0 t (ix2 r k) = m ((c : Thread nD τ).loc main_arg0) (ix2 n l) := by
  blk_ext [iblk, V, idx t]

/-- A key block at an element. -/
theorem k_at (c : Dev nD) (t : Fin cfg0.N) (r : Fin 2048) (k : Fin 1024) (n : Fin 16384) (l : Fin 2048)
    (hn : n.val = t.val / 8 * 2048 + r.val) (hl : l.val = t.val / 4 % 2 * 1024 + k.val) :
    iblk m c 1 t (ix2 r k) = m ((c : Thread nD τ).loc main_arg1) (ix2 n l) := by
  blk_ext [iblk, V, idx t]

/-- A value block at an element. -/
theorem v_at (c : Dev nD) (t : Fin cfg0.N) (r : Fin 2048) (k : Fin 512) (n : Fin 16384) (l : Fin 1024)
    (hn : n.val = t.val / 8 * 2048 + r.val) (hl : l.val = t.val / 4 % 2 * 512 + k.val) :
    iblk m c 2 t (ix2 r k) = m ((c : Thread nD τ).loc main_arg2) (ix2 n l) := by
  blk_ext [iblk, V, idx t]

/-- A context key block at an element. -/
theorem kc_at (c : Dev nD) (t : Fin cfg0.N) (r : Fin 512) (k : Fin 1024) (n : Fin 4096) (l : Fin 2048)
    (hn : n.val = t.val / 8 * 512 + r.val) (hl : l.val = t.val / 4 % 2 * 1024 + k.val) :
    iblk m c 3 t (ix2 r k) = m ((c : Thread nD τ).loc main_arg3) (ix2 n l) := by
  blk_ext [iblk, V, idx t]

/-- A context value block at an element. -/
theorem vc_at (c : Dev nD) (t : Fin cfg0.N) (r : Fin 512) (k : Fin 512) (n : Fin 4096) (l : Fin 1024)
    (hn : n.val = t.val / 8 * 512 + r.val) (hl : l.val = t.val / 4 % 2 * 512 + k.val) :
    iblk m c 4 t (ix2 r k) = m ((c : Thread nD τ).loc main_arg4) (ix2 n l) := by
  blk_ext [iblk, V, idx t]

section
variable (x0 x1 : Vec Ideal S16384x2048 .bf16) (x2 : Vec Ideal S16384x1024 .bf16)
  (x3 : Vec Ideal S4096x2048 .bf16) (x4 : Vec Ideal S4096x1024 .bf16)

/-- The side conditions of the precondition's operations. -/
theorem preFacts : Cert.Pre_finite_latent.Facts := by constructor <;> decide

/-- The precondition read at elements: the queries, the keys and the context keys are real numbers. -/
theorem finite (h : letI := preFacts; Cert.Pre_finite_latent.fn (F := Ideal) x0 x1 x2 x3 x4 = fun _ => 1#1) :
    (∀ i, ∃ r : ℝ, x0 i = r) ∧ (∀ i, ∃ r : ℝ, x1 i = r) ∧ ∀ i, ∃ r : ℝ, x3 i = r := by
  have h' := congrFun h ix0
  unfold Cert.Pre_finite_latent.fn at h'
  obtain ⟨h01, h3⟩ := IntOp.andi_eq_one.1 h'
  obtain ⟨h0, h1⟩ := IntOp.andi_eq_one.1 h01
  refine ⟨fun i => Cert.KernelIdeal.Attn.real_of_lt ?_, fun i => Cert.KernelIdeal.Attn.real_of_lt ?_,
    fun i => Cert.KernelIdeal.Attn.real_of_lt ?_⟩
  · exact Host.reduce_andi_all _ _ _ _ _ h0 i
  · exact Host.reduce_andi_all _ _ _ _ _ h1 i
  · exact Host.reduce_andi_all _ _ _ _ _ h3 i

/-- Every score is real when the queries and the keys are. -/
theorem score_real (h0 : ∀ i, ∃ r : ℝ, x0 i = r) (h1 : ∀ i, ∃ r : ℝ, x1 i = r) (h3 : ∀ i, ∃ r : ℝ, x3 i = r)
    (n : Fin 16384) (k : Fin 1024) (j : Fin 2560) : ∃ r : ℝ, score x0 x1 x3 n k j = r := by
  refine Softmax.sum_real _ _ fun e => ?_
  obtain ⟨a, ha⟩ := h0 (ix2 n ⟨k.val / 128 * 256 + e.val, by omega⟩)
  have hb : ∃ r : ℝ, Cert.LatentRefIdeal.Read.val_main_v6 (F := Ideal) x1 x3
      (ix4 ⟨n.val / 2048, by omega⟩ j ⟨k.val / 128, by omega⟩ e) = r := by
    rcases Nat.lt_or_ge j.val 512 with hj | hj
    · rw [show j = ⟨(⟨j.val, hj⟩ : Fin 512).val, by omega⟩ from rfl, Cert.LatentRefIdeal.Attn.key_ctx]
      exact h3 _
    · rw [show j = ⟨512 + (⟨j.val - 512, by omega⟩ : Fin 2048).val, by have := j.isLt; simp; omega⟩ from
        Fin.ext (by simp; omega), Cert.LatentRefIdeal.Attn.key_lat]
      exact h1 _
  obtain ⟨b, hb⟩ := hb
  exact ⟨a * b, by rw [ha, hb, EReal.coe_mul]⟩

end

/-- What a point leaves in its output block is the reference there. -/
theorem point (c : Dev nD) (t : Fin cfg0.N)
    (h0 : ∀ i, ∃ r : ℝ, m ((c : Thread nD τ).loc main_arg0) i = (r : EReal))
    (h1 : ∀ i, ∃ r : ℝ, m ((c : Thread nD τ).loc main_arg1) i = (r : EReal))
    (h3 : ∀ i, ∃ r : ℝ, m ((c : Thread nD τ).loc main_arg3) i = (r : EReal))
    (r : Fin 512) (k : Fin 512) (n : Fin 16384) (l : Fin 1024)
    (hn : n.val = (t.val / 8 * 4 + t.val % 4) * 512 + r.val) (hl : l.val = t.val / 4 % 2 * 512 + k.val) :
    out0_5 (iblk m c 0 t) (iblk m c 1 t) (iblk m c 2 t) (iblk m c 3 t) (iblk m c 4 t) (ix2 r k)
      = Cert.LatentRefIdeal.Read.val_main_v30 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) (ix2 n l) := by
  have ht : t.val < 64 := (idx t).2.2.2.2.2.2
  have hs := score_real _ _ _ h0 h1 h3 n l
  rw [Head.out_at, Cert.LatentRefIdeal.Attn.att_at]
  refine Head.headOut_at _ _ _ _ _ _ _ _ _ ?_ ?_ ?_ ?_ hs _ (Cert.LatentRefIdeal.Attn.shift_real' _ _ _ _ _ hs)
  · intro j
    refine Finset.sum_congr rfl fun e _ => congrArg₂ (· * ·) (q_at m c t _ _ _ _ hn (by simp; omega)).symm ?_
    rw [Cert.LatentRefIdeal.Attn.key_ctx]
    exact (kc_at m c t _ _ _ _ (by simp; omega) (by simp; omega)).symm
  · intro j
    refine Finset.sum_congr rfl fun e _ => congrArg₂ (· * ·) (q_at m c t _ _ _ _ hn (by simp; omega)).symm ?_
    rw [Cert.LatentRefIdeal.Attn.key_lat]
    exact (k_at m c t _ _ _ _ (by simp; omega) (by simp; omega)).symm
  · intro j
    refine (Cert.LatentRefIdeal.Attn.val_ctx _ _ _ _ _ _).trans ?_
    exact (vc_at m c t _ _ _ _ (by simp; omega) (by simp; omega)).symm
  · intro j
    refine (Cert.LatentRefIdeal.Attn.val_lat _ _ _ _ _ _).trans ?_
    exact (v_at m c t _ _ _ _ (by simp; omega) (by simp; omega)).symm

/-- The kernel's result is the reference's. -/
theorem final (c : Dev nD)
    (h0 : ∀ i, ∃ r : ℝ, m ((c : Thread nD τ).loc main_arg0) i = (r : EReal))
    (h1 : ∀ i, ∃ r : ℝ, m ((c : Thread nD τ).loc main_arg1) i = (r : EReal))
    (h3 : ∀ i, ∃ r : ℝ, m ((c : Thread nD τ).loc main_arg3) i = (r : EReal)) :
    (dats m 0 c).arrAt 5 (cfgs 0).N
      = Cert.LatentRefIdeal.Read.val_main_v30 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  have ht : t.val < 64 := (idx t).2.2.2.2.2.2
  blk_simp
  rw [after0_5]
  have hy0 : (y 0).val < 512 := (y 0).isLt
  have hy1 : (y 1).val < 512 := (y 1).isLt
  refine Eq.trans ?_ ((point m c t h0 h1 h3 (y 0) (y 1)
    ⟨(t.val / 8 * 4 + t.val % 4) * 512 + (y 0).val, by omega⟩ ⟨t.val / 4 % 2 * 512 + (y 1).val, by omega⟩ rfl rfl).trans ?_)
  · blk_ext
  · blk_ext [idx t]

end Cert.LatentIdeal.Attn
-- ==== Proof.NormProjIdealFrame.lean ====
/- The frame of the projection kernel: its body run once per case of its one branch, what its buffers hold after every point of
   the grid, and that every run ends with the arguments unchanged. The second result's block is stored at the first column
   block of a row block only, stays in place through the other three, and is written back after the last of them. -/
module

public import proofs.«01_k».proof.Proof.Gen.NormProjIdeal.Launch
public import proofs.«01_k».proof.Proof.Gen.NormProjIdeal.Skeleton
public import proofs.«01_k».proof.Proof.Gen.NormProjIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.NormProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What core `c`'s buffers hold when the region is entered: what they were launched with. -/
abbrev V (c : Dev nD) (b : Ref sig .tc) : Buf (Elt F) ((c : Thread nD τ).loc b) := m ((c : Thread nD τ).loc b)

set_option maxHeartbeats 800000 in
/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Each argument's array is found as it was launched. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-- The block of window `w` at point `t`, as the region finds its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of an input holds its block at every point (one statement per input). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- A run which leaves the arrays as the proof data say leaves the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c)))⟩) h

/-- The body's one condition: this is the first column block of a row block. -/
abbrev cond0_0 (i : grid0.Coords) : Prop := k0_cond1 i = 1#1
/-- It holds at every fourth point. -/
theorem hcond0_0 : ∀ t : Fin cfg0.N, cond0_0 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The body may touch the inputs and the first result at every point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
/-- Whether the second result's buffer is unwritten since its last write-back, position by position. -/
def freshTab0_6 : ℕ → Bool
  | 0 => true
  | n + 1 => (0x8888888888888888 : ℕ).testBit n
/-- The table follows the configuration's own rule. -/
theorem freshTab0_6_step : ∀ t : Fin cfg0.N,
    freshTab0_6 (t.val + 1) = ((cfg0.win 6).flush t || (cfg0.idle 6 (cfg0.grid.coords t) && freshTab0_6 t.val)) := by decide +kernel
/-- So the table is the configuration's. -/
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the first column block the second result is stored; -/
theorem liveAt0_6_A : ∀ t : Fin cfg0.N, cond0_0 (grid0.coords t) → cfg0.idle 6 (grid0.coords t) = false := by decide +kernel
/-- at the others it is not, -/
theorem idleAt0_6_B : ∀ t : Fin cfg0.N, ¬cond0_0 (grid0.coords t) → cfg0.idle 6 (grid0.coords t) = true := by decide +kernel
/-- and its buffer still holds what was stored. -/
theorem notFresh0_6_B : ∀ t : Fin cfg0.N, ¬cond0_0 (grid0.coords t) → cfg0.fresh 6 t.val = false := by
  intro t; rw [fresh0_6_eq t]; revert t; decide +kernel

/-- A buffer of the first result, through which its contents are stated. -/
abbrev VO0_5 : View sig .tc .vmem S1024x1024 .bf16 := (Memref.whole cc0_stg5_0 : Memref sig .tc .vmem S1024x1024 .bf16).view
/-- A buffer of the second result, through which its contents are stated. -/
abbrev VO0_6 : View sig .tc .vmem S1024x128 .f32 := (Memref.whole cc0_stg6_0 : Memref sig .tc .vmem S1024x128 .f32).view
/-- The buffer of each window at a point, and that it is a whole one. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
/-- The buffer of the normed rows, carried from point to point. -/
abbrev scM0_0 : Memref sig .tc .vmem S1024x1024 .bf16 := Memref.whole cc0_scratch0
/-- The same buffer, as a view. -/
abbrev VS0_0 : View sig .tc .vmem S1024x1024 .bf16 := scM0_0.view

/-- What the region hands the body besides the windows. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body run at a first column block: the stores it makes into each buffer, and that it makes them. -/
noncomputable def kernelRun0_A (c : Dev nD) (i : grid0.Coords) (arg2 : Memref sig .tc .vmem S1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x1024 .bf16) (harg9 : arg9.IsWhole) (hc0 : cond0_0 i)
    (x0 : Vec F S1024x1024 .f32) (x1 : Vec F S1x8x1024 .f32) (x2 : Vec F S1x1024 .f32) (x3 : Vec F S1024x4096 .bf16) (x4 : Vec F S1024x128 .bf16) :
    Σ' (L5 : List (View.Piece (Elt F) S1024x1024 .bf16)), Σ' (L6 : List (View.Piece (Elt F) S1024x128 .f32)), { LS0 : List (View.Piece (Elt F) S1024x1024 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_normproj i arg2 harg2 arg3 harg3 arg4 harg4 arg5 harg5 arg6 harg6 arg7 harg7 arg8 harg8 arg9 harg9) K } := by
  refine ⟨?_, ?_, ?_, fun E K => ?run⟩
  case run =>
    simp only [cc0_normproj_eq_skeleton]; unfold cc0_normproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

set_option maxHeartbeats 1000000 in
/-- The body run at another column block. -/
noncomputable def kernelRun0_B (c : Dev nD) (i : grid0.Coords) (arg2 : Memref sig .tc .vmem S1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x1024 .bf16) (harg9 : arg9.IsWhole) (hc0 : ¬cond0_0 i)
    (x0 : Vec F S1024x1024 .f32) (x1 : Vec F S1x8x1024 .f32) (x2 : Vec F S1x1024 .f32) (x3 : Vec F S1024x4096 .bf16) (x4 : Vec F S1024x128 .bf16) (xs0 : Vec F S1024x1024 .bf16) :
    Σ' (L5 : List (View.Piece (Elt F) S1024x1024 .bf16)), Σ' (L6 : List (View.Piece (Elt F) S1024x128 .f32)), { LS0 : List (View.Piece (Elt F) S1024x1024 .bf16) //
      ∀ (xi6 : Vec F S1024x128 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xs0) -∗ K ⟨⟩))
          ⊢ wp frame (wpE (defs₀ (F := F)) Variants.none c none) E (cc0_normproj i arg2 harg2 arg3 harg3 arg4 harg4 arg5 harg5 arg6 harg6 arg7 harg7 arg8 harg8 arg9 harg9) K } := by
  refine ⟨?_, [], [], fun xi6 E K => ?run⟩
  case run =>
    simp only [cc0_normproj_eq_skeleton]; unfold cc0_normproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; isplitr; · ipureintro; exact harg9.read_unread _
    iexact HS0

/-- At a first column block the stores cover the first result's block. -/
theorem cover0_A_5 (c : Dev nD) (i : grid0.Coords) (arg2 : Memref sig .tc .vmem S1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x1024 .bf16) (harg9 : arg9.IsWhole) (hc0 : cond0_0 i)
    (x0 : Vec F S1024x1024 .f32) (x1 : Vec F S1x8x1024 .f32) (x2 : Vec F S1x1024 .f32) (x3 : Vec F S1024x4096 .bf16) (x4 : Vec F S1024x128 .bf16) (y : S1024x1024.Idx) :
    ∃ pc ∈ (kernelRun0_A c i arg2 harg2 arg3 harg3 arg4 harg4 arg5 harg5 arg6 harg6 arg7 harg7 arg8 harg8 arg9 harg9 hc0 x0 x1 x2 x3 x4).1, y ∈ pc.1.set :=
  View.cover_of_tiledL (kernelRun0_A c i arg2 harg2 arg3 harg3 arg4 harg4 arg5 harg5 arg6 harg6 arg7 harg7 arg8 harg8 arg9 harg9 hc0 x0 x1 x2 x3 x4).1 S1024x1024.size (by sl_kernel_rfl) y

/-- What they leave in it. -/
def out0_A_5 (c : Dev nD) (i : grid0.Coords) (arg2 : Memref sig .tc .vmem S1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x1024 .bf16) (harg9 : arg9.IsWhole) (hc0 : cond0_0 i)
    (x0 : Vec F S1024x1024 .f32) (x1 : Vec F S1x8x1024 .f32) (x2 : Vec F S1x1024 .f32) (x3 : Vec F S1024x4096 .bf16) (x4 : Vec F S1024x128 .bf16) : Vec F S1024x1024 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3 x4).1)

/-- They cover the second result's block. -/
theorem cover0_A_6 (c : Dev nD) (i : grid0.Coords) (arg2 : Memref sig .tc .vmem S1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x1024 .bf16) (harg9 : arg9.IsWhole) (hc0 : cond0_0 i)
    (x0 : Vec F S1024x1024 .f32) (x1 : Vec F S1x8x1024 .f32) (x2 : Vec F S1x1024 .f32) (x3 : Vec F S1024x4096 .bf16) (x4 : Vec F S1024x128 .bf16) (y : S1024x128.Idx) :
    ∃ pc ∈ (kernelRun0_A c i arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.1 S1024x128.size (by sl_kernel_rfl) y

/-- What they leave in it. -/
def out0_A_6 (c : Dev nD) (i : grid0.Coords) (arg2 : Memref sig .tc .vmem S1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x1024 .bf16) (harg9 : arg9.IsWhole) (hc0 : cond0_0 i)
    (x0 : Vec F S1024x1024 .f32) (x1 : Vec F S1x8x1024 .f32) (x2 : Vec F S1x1024 .f32) (x3 : Vec F S1024x4096 .bf16) (x4 : Vec F S1024x128 .bf16) : Vec F S1024x128 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4).2.1)

/-- They cover the carried rows. -/
theorem scover0_A_0 (c : Dev nD) (i : grid0.Coords) (arg2 : Memref sig .tc .vmem S1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x1024 .bf16) (harg9 : arg9.IsWhole) (hc0 : cond0_0 i)
    (x0 : Vec F S1024x1024 .f32) (x1 : Vec F S1x8x1024 .f32) (x2 : Vec F S1x1024 .f32) (x3 : Vec F S1024x4096 .bf16) (x4 : Vec F S1024x128 .bf16) (y : S1024x1024.Idx) :
    ∃ pc ∈ (kernelRun0_A c i arg2 harg2 arg3 harg3 arg4 harg4 arg5 harg5 arg6 harg6 arg7 harg7 arg8 harg8 arg9 harg9 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.2.1 S1024x1024.size (by sl_kernel_rfl) y

/-- What they leave there. -/
def sout0_A_0 (c : Dev nD) (i : grid0.Coords) (arg2 : Memref sig .tc .vmem S1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x1024 .bf16) (harg9 : arg9.IsWhole) (hc0 : cond0_0 i)
    (x0 : Vec F S1024x1024 .f32) (x1 : Vec F S1x8x1024 .f32) (x2 : Vec F S1x1024 .f32) (x3 : Vec F S1024x4096 .bf16) (x4 : Vec F S1024x128 .bf16) : Vec F S1024x1024 .bf16 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4).2.2.1)

/-- At the other column blocks the stores cover the first result's block. -/
theorem cover0_B_5 (c : Dev nD) (i : grid0.Coords) (arg2 : Memref sig .tc .vmem S1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x1024 .bf16) (harg9 : arg9.IsWhole) (hc0 : ¬cond0_0 i)
    (x0 : Vec F S1024x1024 .f32) (x1 : Vec F S1x8x1024 .f32) (x2 : Vec F S1x1024 .f32) (x3 : Vec F S1024x4096 .bf16) (x4 : Vec F S1024x128 .bf16) (xs0 : Vec F S1024x1024 .bf16) (y : S1024x1024.Idx) :
    ∃ pc ∈ (kernelRun0_B c i arg2 harg2 arg3 harg3 arg4 harg4 arg5 harg5 arg6 harg6 arg7 harg7 arg8 harg8 arg9 harg9 hc0 x0 x1 x2 x3 x4 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 xs0).1 S1024x1024.size (by sl_kernel_rfl) y

/-- What they leave in it. -/
def out0_B_5 (c : Dev nD) (i : grid0.Coords) (arg2 : Memref sig .tc .vmem S1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x1024 .bf16) (harg9 : arg9.IsWhole) (hc0 : ¬cond0_0 i)
    (x0 : Vec F S1024x1024 .f32) (x1 : Vec F S1x8x1024 .f32) (x2 : Vec F S1x1024 .f32) (x3 : Vec F S1024x4096 .bf16) (x4 : Vec F S1024x128 .bf16) (xs0 : Vec F S1024x1024 .bf16) : Vec F S1024x1024 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 x4 xs0).1)

/-- The second result's block stays as the point before left it, -/
def out0_B_6 (c : Dev nD) (i : grid0.Coords) (arg2 : Memref sig .tc .vmem S1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x1024 .bf16) (harg9 : arg9.IsWhole) (hc0 : ¬cond0_0 i)
    (x0 : Vec F S1024x1024 .f32) (x1 : Vec F S1x8x1024 .f32) (x2 : Vec F S1x1024 .f32) (x3 : Vec F S1024x4096 .bf16) (x4 : Vec F S1024x128 .bf16) (xs0 : Vec F S1024x1024 .bf16) (xo6 : Vec F S1024x128 .f32) : Vec F S1024x128 .f32 := xo6

/-- and so do the carried rows. -/
def sout0_B_0 (c : Dev nD) (i : grid0.Coords) (arg2 : Memref sig .tc .vmem S1024x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x1024 .bf16) (harg9 : arg9.IsWhole) (hc0 : ¬cond0_0 i)
    (x0 : Vec F S1024x1024 .f32) (x1 : Vec F S1x8x1024 .f32) (x2 : Vec F S1x1024 .f32) (x3 : Vec F S1024x4096 .bf16) (x4 : Vec F S1024x128 .bf16) (xs0 : Vec F S1024x1024 .bf16) : Vec F S1024x1024 .bf16 := xs0

/-- What the two results' buffers and the carried rows hold after point `n`. -/
def outsAt0 (c : Dev nD) : (n : ℕ) → n < cfg0.N → Vec F S1024x1024 .bf16 × Vec F S1024x128 .f32 × Vec F S1024x1024 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2 (outsAt0 c n (Nat.lt_of_succ_lt hn)).2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)

/-- At a first column block. -/
theorem outsAt0_A (c : Dev nD) (t : Fin cfg0.N) (h0 : t.val % 4 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- At another column block, from what the point before left. -/
theorem outsAt0_B (c : Dev nD) (t : Fin cfg0.N) (h0 : ¬t.val % 4 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2 (outsAt0 m c (t.val - 1) (Nat.lt_of_le_of_lt (Nat.sub_le _ _) t.isLt)).2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- What is kept between the points: the carried rows at their contents. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2)) ∗ (∃ r, prngReg c r))

/-- Before the first point nothing is known of them. -/
theorem PhiS_zero (c : Dev nD) (n : ℕ) (h : n ≤ cfg0.N) (hz : n = 0) : PhiS m c n h = Pipeline.ΦA spec0 c := by
  subst hz; rfl

/-- After a point they are at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a later point they are at the contents of the point before. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The proof data: what every buffer holds after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

/-- The kept part before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- What the body finds in the inputs' buffers. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Where the second result is not stored its contents stay. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  rw [after0_6, after0_6]
  by_cases h0 : t.val % 4 = 0
  · rw [liveAt0_6_A t ((hcond0_0 t).mpr h0)] at hi
    exact absurd hi Bool.false_ne_true
  · rw [outsAt0_B m c t h0]
    dsimp only
    unfold out0_B_6
    rfl

/-- There the body finds in its buffer what the point before left. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.1 := by
  rw [Dat.before_out_traj _ 6 rfl (fun _ _ => rfl) (hcarry0_6 m c) t.val t rfl d,
    if_neg (by rw [notFresh0_6_B t (fun h => h0 ((hcond0_0 t).mp h))]; exact Bool.false_ne_true)]
  dsimp only [dats]

/-- There the buffer handed back untouched is what the point owes, written back at it or not. -/
theorem leaves6_B (c : Dev nD) (t : Fin cfg0.N) (h0 : ¬t.val % 4 = 0) (d) :
    (owns (c : Thread nD τ) (ms0_6 t) fullShare ((dats m 0 c).before 6 t d) : sProp (MT nD τ sig Unit (Elt F) ℕ (UR sig nD τ) ℕ)) ⊢ (dats m 0 c).leavesExact 6 t := by
  have hi := idleAt0_6_B t (fun h => h0 ((hcond0_0 t).mp h))
  by_cases hf : (cfg0.win 6).flush t = true
  · rw [show (dats m 0 c).leavesExact 6 t = owns (c : Thread nD τ) (ms0_6 t) fullShare ((dats m 0 c).after 6 t) from by
      unfold Dat.leavesExact; rw [hi, hf]]
    rw [before0_6_B m c t h0, after0_6, outsAt0_B m c t h0]
    unfold out0_B_6
    exact .rfl
  · rw [Dat.leavesExact_idle (dats m 0 c) 6 t hi (Bool.eq_false_of_not_eq_true hf)]
    iintro H
    iexists _; iexact H

/-- What the body is called with. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · rw [show (dats m 0 c).leavesExact 0 t = owns (c : Thread nD τ) (ms0_0 t) fullShare ((dats m 0 c).after 0 t) from by
    unfold Dat.leavesExact; rw [liveAt0_0 t], after0_0]
    rw [show (dats m 0 c).leavesExact 1 t = owns (c : Thread nD τ) (ms0_1 t) fullShare ((dats m 0 c).after 1 t) from by
    unfold Dat.leavesExact; rw [liveAt0_1 t], after0_1]
    rw [show (dats m 0 c).leavesExact 2 t = owns (c : Thread nD τ) (ms0_2 t) fullShare ((dats m 0 c).after 2 t) from by
    unfold Dat.leavesExact; rw [liveAt0_2 t], after0_2]
    rw [show (dats m 0 c).leavesExact 3 t = owns (c : Thread nD τ) (ms0_3 t) fullShare ((dats m 0 c).after 3 t) from by
    unfold Dat.leavesExact; rw [liveAt0_3 t], after0_3]
    rw [show (dats m 0 c).leavesExact 4 t = owns (c : Thread nD τ) (ms0_4 t) fullShare ((dats m 0 c).after 4 t) from by
    unfold Dat.leavesExact; rw [liveAt0_4 t], after0_4]
    rw [show (dats m 0 c).leavesExact 5 t = owns (c : Thread nD τ) (ms0_5 t) fullShare ((dats m 0 c).after 5 t) from by
    unfold Dat.leavesExact; rw [liveAt0_5 t], after0_5]
    rw [show (dats m 0 c).leavesExact 6 t = owns (c : Thread nD τ) (ms0_6 t) fullShare ((dats m 0 c).after 6 t) from by
    unfold Dat.leavesExact; rw [liveAt0_6_A t ((hcond0_0 t).mpr h0)], after0_6]
    by_cases hz : t.val = 0
    · rw [PhiS_castSucc m c t, PhiS_zero m c _ _ hz, PhiA0_eq]
      rw [outsAt0_A m c t h0]
      unfold out0_A_5 out0_A_6 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _)
    · rw [PhiS_castSucc m c t, PhiS_pos m c _ _ hz]
      rw [outsAt0_A m c t h0]
      unfold out0_A_5 out0_A_6 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _)
  · rw [show (dats m 0 c).leavesExact 0 t = owns (c : Thread nD τ) (ms0_0 t) fullShare ((dats m 0 c).after 0 t) from by
    unfold Dat.leavesExact; rw [liveAt0_0 t], after0_0]
    rw [show (dats m 0 c).leavesExact 1 t = owns (c : Thread nD τ) (ms0_1 t) fullShare ((dats m 0 c).after 1 t) from by
    unfold Dat.leavesExact; rw [liveAt0_1 t], after0_1]
    rw [show (dats m 0 c).leavesExact 2 t = owns (c : Thread nD τ) (ms0_2 t) fullShare ((dats m 0 c).after 2 t) from by
    unfold Dat.leavesExact; rw [liveAt0_2 t], after0_2]
    rw [show (dats m 0 c).leavesExact 3 t = owns (c : Thread nD τ) (ms0_3 t) fullShare ((dats m 0 c).after 3 t) from by
    unfold Dat.leavesExact; rw [liveAt0_3 t], after0_3]
    rw [show (dats m 0 c).leavesExact 4 t = owns (c : Thread nD τ) (ms0_4 t) fullShare ((dats m 0 c).after 4 t) from by
    unfold Dat.leavesExact; rw [liveAt0_4 t], after0_4]
    rw [show (dats m 0 c).leavesExact 5 t = owns (c : Thread nD τ) (ms0_5 t) fullShare ((dats m 0 c).after 5 t) from by
    unfold Dat.leavesExact; rw [liveAt0_5 t], after0_5]
    by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_5 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) _).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _)
      iapply (leaves6_B m c t h0 d6); iexact H6

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body at every point, as the region asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what is kept before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- What is kept after a point gives it back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- So it does after the last point. -/
theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- Every run ends with the arrays as the proof data say and with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The first half of it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.NormProjIdeal.Gen

end
-- ==== Proof.Norm.lean ====
/- The root-mean-square norms of a row over the extended reals, as the kernels and the references both come to spell
   them: the sum of squares times the reciprocal of the length, plus the small constant, under a reciprocal root. -/
module

public import Idealize.ShloMosaic.Lib.Pointwise

@[expose] public section

noncomputable section

open Idealize.ShloMosaic

namespace Cert.Norm

/-- A row divided by its root mean square; `k` is the pattern of the reciprocal of the length. -/
def rms {n : ℕ} (k : BitVec 32) (x : Fin n → EReal) (c : Fin n) : EReal :=
  x c * Ideal.rsqrt ((∑ d, x d * x d) * Ideal.ofBits .f32 k + Ideal.ofBits .f32 0x358637BD#32)

/-- The modulated norm of a row of 1024: gain, then one plus the scale row, then the shift row. -/
def modRow (x g scale shift : Fin 1024 → EReal) (c : Fin 1024) : EReal :=
  (rms 0x3A800000#32 x c * g c) * (Ideal.ofBits .f32 0x3F800000#32 + scale c) + shift c

/-- The pattern of zero. -/
theorem ofBits_zero : Ideal.ofBits .f32 0x00000000#32 = 0 := by simp [Ideal.ofBits, Ideal.ieee]

/-- The pattern of 128. -/
theorem ofBits_128 : Ideal.ofBits .f32 0x43000000#32 = ((128 : ℝ) : EReal) := by
  simp [Ideal.ofBits, Ideal.ieee]
  rw [← EReal.coe_mul]
  norm_num

/-- Division by 128 is multiplication by its reciprocal, a power of two. -/
theorem div_128 (s : EReal) : Ideal.div s (Ideal.ofBits .f32 0x43000000#32) = s * Ideal.ofBits .f32 0x3C000000#32 := by
  have e2 : Ideal.ofBits .f32 0x3C000000#32 = ((128⁻¹ : ℝ) : EReal) := by
    simp [Ideal.ofBits, Ideal.ieee]
    rw [← EReal.coe_mul]
    norm_num
  rw [ofBits_128, e2]
  unfold Ideal.div
  rw [if_neg (by norm_num), EReal.coe_inv]

/-- `rms` at equal rows. -/
theorem rms_congr {n : ℕ} (k : BitVec 32) {x y : Fin n → EReal} (h : ∀ d, x d = y d) {c c' : Fin n} (hc : c = c') :
    rms k x c = rms k y c' := by rw [funext h, hc]

/-- `modRow` at equal rows. -/
theorem modRow_congr {x y g g' a a' b b' : Fin 1024 → EReal} (h : ∀ d, x d = y d) (hg : ∀ d, g d = g' d)
    (ha : ∀ d, a d = a' d) (hb : ∀ d, b d = b' d) (c : Fin 1024) : modRow x g a b c = modRow y g' a' b' c := by
  rw [funext h, funext hg, funext ha, funext hb]

end Cert.Norm

end
-- ==== Proof.NormProjRef.lean ====
/- The reference of the modulated norm and its two projections at an element. -/
module

public import proofs.«01_k».proof.Proof.Norm
public import proofs.«01_k».proof.Proof.MlpRef
public import proofs.«01_k».proof.Proof.Gen.NormProjRefIdeal.Read
public import Idealize.ShloMosaic.Lib.Pipeline.ValueKit

@[expose] public section

set_option maxRecDepth 16384

noncomputable section

open Idealize.ShloMosaic Idealize.ShloMosaic.TcCoe Idealize.SL.Sem

namespace Cert.NormProjRefIdeal.Proj
open Cert.NormProjRefIdeal Cert.NormProjRefIdeal.Read Cert.Norm

variable (x0 : Vec Ideal S16384x1024 .f32) (x1 : Vec Ideal S16x8x1024 .f32) (x2 : Vec Ideal S1x1024 .f32)
  (x3 : Vec Ideal S1024x4096 .bf16) (x4 : Vec Ideal S1024x128 .bf16)

/-- The modulated norm of token `n`, with the row of its sample in the modulation table. -/
def hid (n : Fin 16384) (e : Fin 1024) : EReal :=
  modRow (fun d => x0 (ix2 n d)) (fun d => x2 (ix2 0 d)) (fun d => x1 (ix3 ⟨n.val / 2048, by omega⟩ 1 d))
    (fun d => x1 (ix3 ⟨n.val / 2048, by omega⟩ 0 d)) e

/-- The reference's norm at an element. -/
theorem hid_at (b : Fin 8) (t : Fin 2048) (e : Fin 1024) (n : Fin 16384) (hn : n.val = b.val * 2048 + t.val) :
    val_main_v26 (F := Ideal) x0 x1 x2 (ix3 b t e) = hid x0 x1 x2 n e := by
  rw [val_main_v26_apply, val_main_v22_apply, val_main_v16_apply, val_main_v12_apply, val_main_v11_apply, val_main_v10_apply,
    val_main_v9_apply, val_main_v8_apply, val_main_cst_1_apply, val_main_v7_apply, val_main_v6_apply, val_main_cst_0_apply,
    val_main_v5_apply, val_main_v4_apply, val_main_cst_apply, val_main_v15_apply, val_main_v14_apply, val_main_v13_apply,
    val_main_v21_apply, val_main_v20_apply, val_main_v19_apply, val_main_cst_2_apply, val_main_v18_apply,
    val_main_v17_apply, val_main_v25_apply, val_main_v24_apply, val_main_v23_apply]
  simp only [val_main_v3_apply, val_main_v2_apply, val_main_v1_apply, val_main_v0_apply]
  unfold hid modRow rms
  rw [← MixMlpRefIdeal.Mlp.div_1024]
  refine congrArg₂ (· + ·) (congrArg₂ (· * ·) (congrArg₂ (· * ·) (congrArg₂ (· * ·) (congrArg x0 ?_) ?_) (congrArg x2 ?_))
    (congrArg (Ideal.ofBits .f32 0x3F800000#32 + ·) (congrArg x1 ?_))) (congrArg x1 ?_)
  case refine_2 =>
    refine congrArg (fun s => Ideal.rsqrt (Ideal.div s (Ideal.ofBits .f32 0x44800000#32) + Ideal.ofBits .f32 0x358637BD#32)) ?_
    refine (congrArg₂ (· + ·) ofBits_zero (Finset.sum_congr rfl fun d _ => ?_)).trans (zero_add _)
    refine congrArg₂ (· * ·) (congrArg x0 ?_) (congrArg x0 ?_)
    all_goals
      refine funext fun a => Fin.ext ?_
      fin_cases a <;> simp <;> omega
  all_goals
    refine funext fun a => Fin.ext ?_
    fin_cases a <;> simp <;> omega

/-- The wide projection at an element. -/
theorem wide_at (n : Fin 16384) (j : Fin 4096) :
    val_main_v30 (F := Ideal) x0 x1 x2 x3 (ix2 n j) = ∑ e : Fin 1024, hid x0 x1 x2 n e * x3 (ix2 e j) := by
  have hn : n.val = (⟨n.val / 2048, by omega⟩ : Fin 8).val * 2048 + (⟨n.val % 2048, by omega⟩ : Fin 2048).val := by
    simp; omega
  rw [val_main_v30_apply, val_main_v29_apply, val_main_v28_apply]
  refine Finset.sum_congr rfl fun e _ => congrArg₂ (· * ·) ?_ ?_
  · refine Eq.trans (congrArg _ (funext fun a => Fin.ext ?_)) (hid_at x0 x1 x2 _ _ e n hn)
    fin_cases a <;> simp <;> omega
  · rw [val_main_v27_apply]
    refine congrArg x3 (funext fun a => Fin.ext ?_)
    fin_cases a <;> simp <;> omega

/-- The narrow projection at an element. -/
theorem narrow_at (n : Fin 16384) (j : Fin 128) :
    val_main_v33 (F := Ideal) x0 x1 x2 x4 (ix2 n j) = ∑ e : Fin 1024, hid x0 x1 x2 n e * x4 (ix2 e j) := by
  have hn : n.val = (⟨n.val / 2048, by omega⟩ : Fin 8).val * 2048 + (⟨n.val % 2048, by omega⟩ : Fin 2048).val := by
    simp; omega
  rw [val_main_v33_apply, val_main_v32_apply]
  refine Finset.sum_congr rfl fun e _ => congrArg₂ (· * ·) ?_ ?_
  · refine Eq.trans (congrArg _ (funext fun a => Fin.ext ?_)) (hid_at x0 x1 x2 _ _ e n hn)
    fin_cases a <;> simp <;> omega
  · rw [val_main_v31_apply]
    refine congrArg x4 (funext fun a => Fin.ext ?_)
    fin_cases a <;> simp <;> omega

end Cert.NormProjRefIdeal.Proj

end
-- ==== Proof.NormProjValue.lean ====
/- The two results of the modulated norm and projection kernel are the reference's. -/
module

public import proofs.«01_k».proof.Proof.NormProjIdealFrame
public import proofs.«01_k».proof.Proof.NormProjRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormProjIdeal.Proj
open Cert.NormProjIdeal Cert.NormProjIdeal.Gen Cert.Norm

/-- The modulated norm of a block. -/
theorem norm_at (x : Vec Ideal S1024x1024 .f32) (g : Vec Ideal S1x1024 .f32) (w : Vec Ideal S1x8x1024 .f32)
    (r c : Fin 1024) :
    k0_pay1 (F := Ideal) x g w (ix2 r c)
      = modRow (fun d => x (ix2 r d)) (fun d => g (ix2 0 d)) (fun d => w (ix3 0 1 d)) (fun d => w (ix3 0 0 d)) c := by
  unfold modRow rms
  pointwise [k0_pay1]

/-- The narrow projection of a block. -/
theorem narrow_pay (h : Vec Ideal S1024x1024 .bf16) (w : Vec Ideal S1024x128 .bf16) (r : Fin 1024) (j : Fin 128) :
    k0_pay2 (F := Ideal) h w (ix2 r j) = ∑ e : Fin 1024, h (ix2 r e) * w (ix2 e j) := by
  pointwise [k0_pay2]

/-- One column block of the wide projection. -/
theorem wide_pay (w h : Vec Ideal S1024x1024 .bf16) (r j : Fin 1024) :
    k0_pay3 (F := Ideal) w h (ix2 r j) = ∑ e : Fin 1024, h (ix2 r e) * w (ix2 e j) := by
  pointwise [k0_pay3]

variable (m : (ℓ : Loc nD τ sig) → Buf (Elt Ideal) ℓ)

/-- The block of every window at every grid point, and the column block the point works on. -/
theorem idx : ∀ t : Fin cfg0.N, win0_0.index t = ![t.val / 4, 0] ∧ win0_1.index t = ![t.val / 8, 0, 0]
    ∧ win0_2.index t = ![0, 0] ∧ win0_3.index t = ![0, 0] ∧ win0_4.index t = ![0, 0]
    ∧ win0_5.index t = ![t.val / 4, t.val % 4] ∧ win0_6.index t = ![t.val / 4, 0]
    ∧ (grid0.coords t 1).val = t.val % 4 ∧ t.val < 64 :=
  (by decide +kernel : ∀ t : Fin grid0.N, _)

section
variable (c : Dev nD)

/-- The modulated norm at an element, from the kernel's arguments. -/
abbrev H (n : Fin 16384) (e : Fin 1024) : EReal :=
  NormProjRefIdeal.Proj.hid (m ((c : Thread nD τ).loc main_arg0)) (m ((c : Thread nD τ).loc main_arg1))
    (m ((c : Thread nD τ).loc main_arg2)) n e

variable (t : Fin cfg0.N)

theorem x_at (r k : Fin 1024) (n : Fin 16384) (hn : n.val = t.val / 4 * 1024 + r.val) :
    iblk m c 0 t (ix2 r k) = m ((c : Thread nD τ).loc main_arg0) (ix2 n k) := by
  blk_ext [iblk, V, idx t]

theorem m_at (r : Fin 8) (k : Fin 1024) (b : Fin 16) (hb : b.val = t.val / 8) :
    iblk m c 1 t (ix3 0 r k) = m ((c : Thread nD τ).loc main_arg1) (ix3 b r k) := by
  blk_ext [iblk, V, idx t]

theorem g_at (k : Fin 1024) : iblk m c 2 t (ix2 0 k) = m ((c : Thread nD τ).loc main_arg2) (ix2 0 k) := by
  blk_ext [iblk, V, idx t]

theorem w_at (r : Fin 1024) (k : Fin 4096) : iblk m c 3 t (ix2 r k) = m ((c : Thread nD τ).loc main_arg3) (ix2 r k) := by
  blk_ext [iblk, V, idx t]

theorem v_at (r : Fin 1024) (k : Fin 128) : iblk m c 4 t (ix2 r k) = m ((c : Thread nD τ).loc main_arg4) (ix2 r k) := by
  blk_ext [iblk, V, idx t]

/-- The rows the first point of a run leaves to the others. -/
theorem first_hid (h0 : t.val % 4 = 0) (r k : Fin 1024) (n : Fin 16384) (hn : n.val = t.val / 4 * 1024 + r.val) :
    (outsAt0 m c t.val t.isLt).2.2 (ix2 r k) = H m c n k := by
  have ht : t.val < 64 := (idx t).2.2.2.2.2.2.2.2
  rw [outsAt0_A m c t h0]
  dsimp only
  frame_out
  rw [norm_at]
  exact modRow_congr (fun d => x_at m c t r d n hn) (fun d => g_at m c t d) (fun d => m_at m c t 1 d _ (by simp; omega))
    (fun d => m_at m c t 0 d _ (by simp; omega)) k

/-- The narrow projection, which the first point of a run leaves in its block. -/
theorem first_narrow (h0 : t.val % 4 = 0) (r : Fin 1024) (j : Fin 128) (n : Fin 16384)
    (hn : n.val = t.val / 4 * 1024 + r.val) :
    (outsAt0 m c t.val t.isLt).2.1 (ix2 r j) = ∑ e : Fin 1024, H m c n e * m ((c : Thread nD τ).loc main_arg4) (ix2 e j) := by
  have e := fun k => first_hid m c t h0 r k n hn
  rw [outsAt0_A m c t h0] at e ⊢
  dsimp only at e ⊢
  frame_out at e
  frame_out
  rw [narrow_pay]
  exact Finset.sum_congr rfl fun d _ => congrArg₂ (· * ·) (e d) (v_at m c t d j)

/-- A column block of the wide projection, of rows that are the norm's. -/
theorem wide_blk (h : Vec Ideal S1024x1024 .bf16) (r j : Fin 1024) (n : Fin 16384) (l : Fin 4096)
    (hl : l.val = t.val % 4 * 1024 + j.val) (hh : ∀ k, h (ix2 r k) = H m c n k) :
    k0_pay3 (F := Ideal) (View.ld (iblk m c 3 t) (Rect.unit (s := S1024x4096) (k0_off1 (grid0.coords t)) S1024x1024.size
        (k0_off1_inb (grid0.coords t)))) h (ix2 r j)
      = ∑ e : Fin 1024, H m c n e * m ((c : Thread nD τ).loc main_arg3) (ix2 e l) := by
  have hj : (grid0.coords t 1).val = t.val % 4 := (idx t).2.2.2.2.2.2.2.1
  rw [wide_pay]
  refine Finset.sum_congr rfl fun e _ => congrArg₂ (· * ·) (hh e) (Eq.trans ?_ (w_at m c t e l))
  refine congrArg (iblk m c 3 t) (funext fun a => Fin.ext ?_)
  have := congrFun (k0_off1_eq (grid0.coords t)) a
  fin_cases a <;> simp [Rect.unit, Rect.emb] at this ⊢ <;> omega

end

/-- After every point of a run the carried rows are the norm's and the second block is the narrow projection. -/
theorem held (c : Dev nD) : ∀ (n : ℕ) (hn : n < cfg0.N) (r : Fin 1024) (i : Fin 16384), i.val = n / 4 * 1024 + r.val →
    (∀ j, (outsAt0 m c n hn).2.1 (ix2 r j) = ∑ e : Fin 1024, H m c i e * m ((c : Thread nD τ).loc main_arg4) (ix2 e j))
      ∧ ∀ k, (outsAt0 m c n hn).2.2 (ix2 r k) = H m c i k := by
  intro n
  induction n with
  | zero =>
    intro hn r i hi
    exact ⟨fun j => first_narrow m c ⟨0, hn⟩ rfl r j i hi, fun k => first_hid m c ⟨0, hn⟩ rfl r k i hi⟩
  | succ n ih =>
    intro hn r i hi
    by_cases h0 : (n + 1) % 4 = 0
    · exact ⟨fun j => first_narrow m c ⟨n + 1, hn⟩ h0 r j i hi, fun k => first_hid m c ⟨n + 1, hn⟩ h0 r k i hi⟩
    · obtain ⟨p1, p2⟩ := ih (Nat.lt_of_succ_lt hn) r i (by omega)
      have e := outsAt0_B m c ⟨n + 1, hn⟩ h0
      exact ⟨fun j => (congrArg (fun z => z.2.1 (ix2 r j)) e).trans (p1 j),
        fun k => (congrArg (fun z => z.2.2 (ix2 r k)) e).trans (p2 k)⟩

/-- What every point leaves in the first block. -/
theorem wide_out (c : Dev nD) (t : Fin cfg0.N) (r j : Fin 1024) (n : Fin 16384) (l : Fin 4096)
    (hn : n.val = t.val / 4 * 1024 + r.val) (hl : l.val = t.val % 4 * 1024 + j.val) :
    (outsAt0 m c t.val t.isLt).1 (ix2 r j) = ∑ e : Fin 1024, H m c n e * m ((c : Thread nD τ).loc main_arg3) (ix2 e l) := by
  by_cases h0 : t.val % 4 = 0
  · have e := fun k => first_hid m c t h0 r k n hn
    rw [outsAt0_A m c t h0] at e ⊢
    dsimp only at e ⊢
    frame_out at e
    frame_out
    exact wide_blk m c t _ r j n l hl e
  · obtain ⟨p1, p2⟩ := held m c (t.val - 1) (Nat.lt_of_le_of_lt (Nat.sub_le _ _) t.isLt) r n (by omega)
    rw [outsAt0_B m c t h0]
    dsimp only
    frame_out
    exact wide_blk m c t _ r j n l hl fun k => (congrFun ((Memref.isWhole_whole _).read_unread _) _).trans (p2 k)

/-- The first result is the reference's. -/
theorem final5 (c : Dev nD) :
    (dats m 0 c).arrAt 5 (cfgs 0).N
      = Cert.NormProjRefIdeal.Read.val_main_v30 (F := Ideal) (m ((c : Thread nD τ).loc main_arg0))
          (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 64 := (idx t).2.2.2.2.2.2.2.2
  have hy0 : (y 0).val < 1024 := (y 0).isLt
  have hy1 : (y 1).val < 1024 := (y 1).isLt
  blk_simp
  rw [after0_5]
  refine Eq.trans ?_ ((wide_out m c t (y 0) (y 1) ⟨t.val / 4 * 1024 + (y 0).val, by omega⟩
    ⟨t.val % 4 * 1024 + (y 1).val, by omega⟩ rfl rfl).trans
    (Eq.trans (Cert.NormProjRefIdeal.Proj.wide_at _ _ _ _ _ _).symm ?_))
  · blk_ext
  · blk_ext [idx t]

/-- The second result is the reference's. -/
theorem final6 (c : Dev nD) :
    (dats m 0 c).arrAt 6 (cfgs 0).N
      = Cert.NormProjRefIdeal.Read.val_main_v33 (F := Ideal) (m ((c : Thread nD τ).loc main_arg0))
          (m ((c : Thread nD τ).loc main_arg1)) (m ((c : Thread nD τ).loc main_arg2)) (m ((c : Thread nD τ).loc main_arg4)) := by
  refine (dats m 0 c).arrAt_eq_of_covers 6 _ (by decide +kernel) fun t hf y => ?_
  have ht : t.val < 64 := (idx t).2.2.2.2.2.2.2.2
  have hy0 : (y 0).val < 1024 := (y 0).isLt
  blk_simp
  rw [after0_6]
  refine Eq.trans ?_ (((held m c t.val t.isLt (y 0) ⟨t.val / 4 * 1024 + (y 0).val, by omega⟩ rfl).1 (y 1)).trans
    (Eq.trans (Cert.NormProjRefIdeal.Proj.narrow_at _ _ _ _ _ _).symm ?_))
  · blk_ext
  · blk_ext [idx t]

end Cert.NormProjIdeal.Proj

end
-- ==== Proof.GqaHead.lean ====
/- The payloads of the kernel that prepares queries, keys and values, at an element. -/
module

public import proofs.«01_k».proof.Proof.Gen.GqaPrepIdeal.Frame
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem

namespace Cert.GqaPrepIdeal.Prep
open Cert.GqaPrepIdeal Cert.GqaPrepIdeal.Gen Cert.Norm

/-- What the queries are scaled by: the reciprocals of ln 2 and of the root of the head width. -/
abbrev qScale : EReal := (((Real.log 2)⁻¹ * (Real.sqrt 128)⁻¹ : ℝ) : EReal)

/-- The named constant denotes it. -/
theorem named_scale : Named.named (F := Ideal) κ "q_scale" (φ := .f32) 0x3E0293EE#32 = qScale :=
  IdealRules.named_const.ideal_named_scalar _ _ _ _ rfl

/-- The projection of the modulated norm. -/
theorem proj_at (x : Vec Ideal S512x1024 .f32) (g : Vec Ideal S1x1024 .f32) (w : Vec Ideal S1x8x1024 .f32)
    (p : Vec Ideal S1024x1536 .bf16) (r : Fin 512) (j : Fin 1536) :
    k0_pay5 (F := Ideal) x g w p (ix2 r j)
      = ∑ e : Fin 1024, modRow (fun d => x (ix2 r d)) (fun d => g (ix2 0 d)) (fun d => w (ix3 0 1 d))
          (fun d => w (ix3 0 0 d)) e * p (ix2 e j) := by
  unfold modRow rms
  pointwise [k0_pay5]

/-- The normalized columns from `o` on, with their gain. -/
def nrm (o : ℕ) (ho : o + 128 ≤ 1536) (y : FVec Ideal S512x1536 .f32) (g : Vec Ideal S1x128 .f32) :
    FVec Ideal S512x128 .f32 :=
  fun i => rms 0x3C000000#32 (fun d : Fin 128 => y (ix2 (i 0) ⟨o + d.val, by omega⟩)) (i 1) * g (ix2 0 (i 1))

/-- The same, scaled: a head of the queries. -/
def qry (o : ℕ) (ho : o + 128 ≤ 1536) (y : FVec Ideal S512x1536 .f32) (g : Vec Ideal S1x128 .f32) :
    FVec Ideal S512x128 .bf16 := fun i => nrm o ho y g i * qScale

/-- Two tiles with equal elements are equal. -/
theorem tile_ext {φ : FTy} {a b : FVec Ideal S512x128 φ} (h : ∀ r c, a (ix2 r c) = b (ix2 r c)) : a = b := by
  funext i
  rw [eq_ix2 i]
  exact h _ _

/-- Head 0 of the queries. -/
theorem q0 (x : Vec Ideal S512x1024 .f32) (gg : Vec Ideal S1x1024 .f32) (w : Vec Ideal S1x8x1024 .f32)
    (p : Vec Ideal S1024x1536 .bf16) (g : Vec Ideal S1x128 .f32) :
    k0_pay8 (F := Ideal) (k0_pay6 x gg w p) (k0_pay7 g) = qry 0 (by norm_num) (k0_pay5 x gg w p) g := by
  unfold k0_pay6
  generalize k0_pay5 (F := Ideal) x gg w p = y
  refine tile_ext fun r c => ?_
  unfold qry nrm rms
  pointwise [k0_pay8, k0_pay7, named_scale]

section
variable (y : FVec Ideal S512x1536 .f32) (g : Vec Ideal S1x128 .f32)

/-- Head 1 of the queries. -/
theorem q1 : k0_pay9 (F := Ideal) y g = qry 128 (by norm_num) y g := by
  refine tile_ext fun r c => ?_
  unfold qry nrm rms
  pointwise [k0_pay9, named_scale]

/-- Head 2 of the queries. -/
theorem q2 : k0_pay10 (F := Ideal) y g = qry 256 (by norm_num) y g := by
  refine tile_ext fun r c => ?_
  unfold qry nrm rms
  pointwise [k0_pay10, named_scale]

/-- Head 3 of the queries. -/
theorem q3 : k0_pay11 (F := Ideal) y g = qry 384 (by norm_num) y g := by
  refine tile_ext fun r c => ?_
  unfold qry nrm rms
  pointwise [k0_pay11, named_scale]

/-- Head 4 of the queries. -/
theorem q4 : k0_pay12 (F := Ideal) y g = qry 512 (by norm_num) y g := by
  refine tile_ext fun r c => ?_
  unfold qry nrm rms
  pointwise [k0_pay12, named_scale]

/-- Head 5 of the queries. -/
theorem q5 : k0_pay15 (F := Ideal) (k0_pay13 y) (k0_pay14 y) g = qry 640 (by norm_num) y g := by
  refine tile_ext fun r c => ?_
  unfold qry nrm rms
  pointwise [k0_pay15, k0_pay13, k0_pay14, named_scale]

/-- Head 6 of the queries. -/
theorem q6 : k0_pay16 (F := Ideal) y g = qry 768 (by norm_num) y g := by
  refine tile_ext fun r c => ?_
  unfold qry nrm rms
  pointwise [k0_pay16, named_scale]

/-- Head 7 of the queries. -/
theorem q7 : k0_pay19 (F := Ideal) (k0_pay17 y) (k0_pay18 y) (Scalar.ofBits .f32 0x358637BD#32) g = qry 896 (by norm_num) y g := by
  refine tile_ext fun r c => ?_
  unfold qry nrm rms
  pointwise [k0_pay19, k0_pay17, k0_pay18, named_scale]

/-- Head 0 of the keys. -/
theorem k0 : k0_pay20 (F := Ideal) y g = nrm 1024 (by norm_num) y g := by
  refine tile_ext fun r c => ?_
  unfold nrm rms
  pointwise [k0_pay20]

/-- Head 1 of the keys. -/
theorem k1 : k0_pay1 (F := Ideal) (k0_pay22 y) g = nrm 1152 (by norm_num) y g := by
  refine tile_ext fun r c => ?_
  unfold nrm rms
  pointwise [k0_pay1, k0_pay22]

/-- Head 0 of the keys, stored. -/
theorem kb0 : k0_pay21 (F := Ideal) y g = nrm 1024 (by norm_num) y g := (show k0_pay21 (F := Ideal) y g = k0_pay20 y g from rfl).trans (k0 y g)

/-- Head 1 of the keys, stored. -/
theorem kb1 : k0_pay2 (F := Ideal) (k0_pay22 y) g = nrm 1152 (by norm_num) y g :=
  (show k0_pay2 (F := Ideal) (k0_pay22 y) g = k0_pay1 (k0_pay22 y) g from rfl).trans (k1 y g)

/-- The values. -/
theorem v_at (r : Fin 512) (c : Fin 256) : k0_pay3 (F := Ideal) y (ix2 r c) = y (ix2 r ⟨1280 + c.val, by omega⟩) := by
  pointwise [k0_pay3]

/-- The values, stored. -/
theorem vb_at (r : Fin 512) (c : Fin 256) : k0_pay4 (F := Ideal) y (ix2 r c) = y (ix2 r ⟨1280 + c.val, by omega⟩) := by
  pointwise [k0_pay4, k0_pay3]
end

section
variable (x0 : Vec Ideal S512x1024 .f32) (x1 : Vec Ideal S1x8x1024 .f32) (x2 : Vec Ideal S1x1024 .f32)
  (x3 : Vec Ideal S1024x1536 .bf16) (x4 x5 : Vec Ideal S1x128 .f32)

/-- The projection of a block, from the blocks of the arguments. -/
def prj (r : Fin 512) (j : Fin 1536) : EReal :=
  ∑ e : Fin 1024, modRow (fun d => x0 (ix2 r d)) (fun d => x2 (ix2 0 d)) (fun d => x1 (ix3 0 1 d))
    (fun d => x1 (ix3 0 0 d)) e * x3 (ix2 e j)

/-- The body's projection at an element. -/
theorem prj_eq (r : Fin 512) (j : Fin 1536) :
    k0_pay5 (F := Ideal) (View.ld x0 r0_0) (View.ld x2 r0_1) (View.ld x1 r0_2) (View.ld x3 r0_3) (ix2 r j)
      = prj x0 x1 x2 x3 r j := by
  rw [proj_at]
  unfold prj
  refine Finset.sum_congr rfl fun e _ => congrArg₂ (· * ·) (modRow_congr (fun d => ?_) (fun d => ?_)
    (fun d => ?_) (fun d => ?_) _) ?_
  · refine congrArg x0 (funext fun a => Fin.ext ?_); fin_cases a <;> simp [Rect.unit, Rect.emb]
  · refine congrArg x2 (funext fun a => Fin.ext ?_); fin_cases a <;> simp [Rect.unit, Rect.emb]
  · refine congrArg x1 (funext fun a => Fin.ext ?_); fin_cases a <;> simp [Rect.unit, Rect.emb]
  · refine congrArg x1 (funext fun a => Fin.ext ?_); fin_cases a <;> simp [Rect.unit, Rect.emb]
  · refine congrArg x3 (funext fun a => Fin.ext ?_); fin_cases a <;> simp [Rect.unit, Rect.emb]

/-- A head of the body, from the blocks of the arguments. -/
theorem nrm_piece (o : Nat) (ho : o + 128 ≤ 1536) (g : Vec Ideal S1x128 .f32) (i : S512x128.Idx) (r : Fin 512)
    (b : Nat) (k : Fin 128) (hb : ∀ d : Fin 128, b + d.val < 1536) (h0 : r.val = (i 0).val) (h1 : b = o)
    (h2 : k.val = (i 1).val) :
    nrm o ho (k0_pay5 (View.ld x0 r0_0) (View.ld x2 r0_1) (View.ld x1 r0_2) (View.ld x3 r0_3)) (View.ld g r0_4) i
      = rms 0x3C000000#32 (fun d : Fin 128 => prj x0 x1 x2 x3 r ⟨b + d.val, hb d⟩) k * g (ix2 0 k) := by
  subst h1
  obtain rfl : r = i 0 := Fin.ext h0
  obtain rfl : k = i 1 := Fin.ext h2
  unfold nrm
  refine congrArg₂ (· * ·) (rms_congr _ (fun d => ?_) rfl) ?_
  · exact prj_eq x0 x1 x2 x3 _ _
  · refine congrArg g (funext fun a => Fin.ext ?_)
    fin_cases a <;> simp [Rect.unit, Rect.emb]

/-- The query block: head `h` holds columns `128 h` to `128 h + 127`. -/
theorem outq_at (r : Fin 512) (c : Fin 1024) :
    out0_6 x0 x1 x2 x3 x4 x5 (ix2 r c)
      = rms 0x3C000000#32 (fun d : Fin 128 => prj x0 x1 x2 x3 r ⟨c.val / 128 * 128 + d.val, by omega⟩)
          ⟨c.val % 128, by omega⟩ * x4 (ix2 0 ⟨c.val % 128, by omega⟩) * qScale := by
  unfold_out out0_6
  rw [q0, q1, q2, q3, q4, q5, q6, q7]
  canon_tiles x h
  all_goals
    replace h0 : r.val = _ := h0
    replace h1 : c.val = _ := h1
    unfold qry
    exact congrArg (· * qScale) (nrm_piece x0 x1 x2 x3 _ _ x4 x r _ _ _ h0 (by omega) (by dsimp only; omega))

/-- The key block, as stored: two heads. -/
theorem outk_at (r : Fin 512) (c : Fin 256) :
    out0_7 x0 x1 x2 x3 x4 x5 (ix2 r c)
      = rms 0x3C000000#32 (fun d : Fin 128 => prj x0 x1 x2 x3 r ⟨1024 + c.val / 128 * 128 + d.val, by omega⟩)
          ⟨c.val % 128, by omega⟩ * x5 (ix2 0 ⟨c.val % 128, by omega⟩) := by
  unfold_out out0_7
  rw [kb0, kb1]
  canon_tiles x h
  all_goals
    replace h0 : r.val = _ := h0
    replace h1 : c.val = _ := h1
    exact nrm_piece x0 x1 x2 x3 _ _ x5 x r _ _ _ h0 (by omega) (by dsimp only; omega)

/-- The key block, kept wide: the same two heads. -/
theorem outkf_at (r : Fin 512) (c : Fin 256) :
    out0_9 x0 x1 x2 x3 x4 x5 (ix2 r c)
      = rms 0x3C000000#32 (fun d : Fin 128 => prj x0 x1 x2 x3 r ⟨1024 + c.val / 128 * 128 + d.val, by omega⟩)
          ⟨c.val % 128, by omega⟩ * x5 (ix2 0 ⟨c.val % 128, by omega⟩) := by
  unfold_out out0_9
  rw [k0, k1]
  canon_tiles x h
  all_goals
    replace h0 : r.val = _ := h0
    replace h1 : c.val = _ := h1
    exact nrm_piece x0 x1 x2 x3 _ _ x5 x r _ _ _ h0 (by omega) (by dsimp only; omega)

/-- The value block, as stored. -/
theorem outv_at (r : Fin 512) (c : Fin 256) :
    out0_8 x0 x1 x2 x3 x4 x5 (ix2 r c) = prj x0 x1 x2 x3 r ⟨1280 + c.val, by omega⟩ := by
  unfold_out out0_8
  canon_tiles x h
  all_goals
    replace h0 : r.val = _ := h0
    replace h1 : c.val = _ := h1
    obtain rfl : r = x 0 := Fin.ext h0
    obtain rfl : c = x 1 := Fin.ext h1
    rw [eq_ix2 x]
    exact (vb_at _ _ _).trans (prj_eq x0 x1 x2 x3 _ _)

/-- The value block, kept wide. -/
theorem outvf_at (r : Fin 512) (c : Fin 256) :
    out0_10 x0 x1 x2 x3 x4 x5 (ix2 r c) = prj x0 x1 x2 x3 r ⟨1280 + c.val, by omega⟩ := by
  unfold_out out0_10
  canon_tiles x h
  all_goals
    replace h0 : r.val = _ := h0
    replace h1 : c.val = _ := h1
    obtain rfl : r = x 0 := Fin.ext h0
    obtain rfl : c = x 1 := Fin.ext h1
    rw [eq_ix2 x]
    exact (v_at _ _ _).trans (prj_eq x0 x1 x2 x3 _ _)
end

end Cert.GqaPrepIdeal.Prep

end
-- ==== Proof.GqaRef.lean ====
/- The reference of the grouped-query preparation at an element: modulated norm, projection, norms of the heads. -/
module

public import proofs.«01_k».proof.Proof.Norm
public import proofs.«01_k».proof.Proof.MlpRef
public import proofs.«01_k».proof.Proof.Gen.GqaPrepRefIdeal.Read
public import Idealize.ShloMosaic.Lib.Pipeline.ValueKit

@[expose] public section

set_option maxRecDepth 16384

noncomputable section

open Idealize.ShloMosaic Idealize.ShloMosaic.TcCoe Idealize.SL.Sem

namespace Cert.GqaPrepRefIdeal.Prep
open Cert.GqaPrepRefIdeal Cert.GqaPrepRefIdeal.Read Cert.Norm

variable (x0 : Vec Ideal S4096x1024 .f32) (x1 : Vec Ideal S16x8x1024 .f32) (x2 : Vec Ideal S1x1024 .f32)
  (x3 : Vec Ideal S1024x1536 .bf16) (x4 x5 : Vec Ideal S1x128 .f32)

/-- The modulated norm of a row, with the context's row of the modulation table. -/
theorem mod_at (n : Fin 4096) (e : Fin 1024) :
    val_main_v25 (F := Ideal) x0 x1 x2 (ix2 n e)
      = modRow (fun d => x0 (ix2 n d)) (fun d => x2 (ix2 0 d)) (fun d => x1 (ix3 8 1 d)) (fun d => x1 (ix3 8 0 d)) e := by
  rw [val_main_v25_apply, val_main_v20_apply, val_main_v13_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_cst_apply, val_main_v12_apply, val_main_v11_apply, val_main_v10_apply,
    val_main_v19_apply, val_main_v18_apply, val_main_v17_apply, val_main_v16_apply, val_main_cst_2_apply,
    val_main_v15_apply, val_main_v14_apply, val_main_v24_apply, val_main_v23_apply, val_main_v22_apply, val_main_v21_apply]
  simp only [val_main_v0_apply]
  unfold modRow rms
  rw [← MixMlpRefIdeal.Mlp.div_1024]
  refine congrArg₂ (· + ·) (congrArg₂ (· * ·) (congrArg₂ (· * ·) (congrArg (x0 (ix2 n e) * ·) ?_) (congrArg x2 ?_))
    (congrArg (Ideal.ofBits .f32 0x3F800000#32 + ·) (congrArg x1 ?_))) (congrArg x1 ?_)
  · refine congrArg (fun s => Ideal.rsqrt (Ideal.div s (Ideal.ofBits .f32 0x44800000#32) + Ideal.ofBits .f32 0x358637BD#32)) ?_
    refine (congrArg₂ (· + ·) ofBits_zero (Finset.sum_congr rfl fun d _ => ?_)).trans (zero_add _)
    refine congrArg₂ (· * ·) (congrArg x0 ?_) (congrArg x0 ?_)
    all_goals
      refine funext fun a => Fin.ext ?_
      fin_cases a <;> simp
  all_goals
    refine funext fun a => Fin.ext ?_
    fin_cases a <;> simp <;> omega

/-- The projection of a token. -/
def prj (n : Fin 4096) (j : Fin 1536) : EReal :=
  ∑ e : Fin 1024, modRow (fun d => x0 (ix2 n d)) (fun d => x2 (ix2 0 d)) (fun d => x1 (ix3 8 1 d))
    (fun d => x1 (ix3 8 0 d)) e * x3 (ix2 e j)

/-- The reference's projection at an element. -/
theorem prj_at (i : S4096x1536.Idx) (n : Fin 4096) (j : Fin 1536) (h0 : (i 0).val = n.val) (h1 : (i 1).val = j.val) :
    val_main_v27 (F := Ideal) x0 x1 x2 x3 i = prj x0 x1 x2 x3 n j := by
  rw [val_main_v27_apply]
  unfold prj
  refine Finset.sum_congr rfl fun e _ => congrArg₂ (· * ·) ?_ ?_
  · refine Eq.trans (congrArg _ (funext fun a => Fin.ext ?_)) (mod_at x0 x1 x2 n e)
    fin_cases a <;> simp [h0]
  · rw [val_main_v26_apply]
    refine congrArg x3 (funext fun a => Fin.ext ?_)
    fin_cases a <;> simp [h1]

/-- The scale of the queries as the reference writes it: a division by `sqrt 128 * log 2`. -/
theorem scale_div (x : EReal) :
    Ideal.div x (Ideal.sqrt (Ideal.ofBits .f32 0x43000000#32) * Ideal.log (Ideal.ofBits .f32 0x40000000#32))
      = x * (((Real.log 2)⁻¹ * (Real.sqrt 128)⁻¹ : ℝ) : EReal) := by
  have h2 : Ideal.ofBits .f32 0x40000000#32 = ((2 : ℝ) : EReal) := by
    simp [Ideal.ofBits, Ideal.ieee]
    rw [← EReal.coe_mul]
    norm_num
  have hl : (0 : ℝ) < Real.log 2 := Real.log_pos (by norm_num)
  have hs : (0 : ℝ) < Real.sqrt 128 := Real.sqrt_pos.2 (by norm_num)
  rw [ofBits_128, h2, Ideal.sqrt_coe, if_neg (by norm_num), Ideal.log_coe, if_neg (by norm_num), ← EReal.coe_mul]
  unfold Ideal.div
  rw [if_neg (by exact_mod_cast (mul_pos hs hl).ne'), ← EReal.coe_inv, mul_inv, mul_comm (Real.sqrt 128)⁻¹]

/-- A head of the queries, normed. -/
theorem q_at (i : S4096x8x128.Idx) (n : Fin 4096) (b : Nat) (k : Fin 128) (hb : ∀ d : Fin 128, b + d.val < 1536)
    (h0 : (i 0).val = n.val) (h1 : (i 1).val * 128 = b) (h2 : (i 2).val = k.val) :
    val_main_v46 (F := Ideal) x0 x1 x2 x3 x4 i
      = rms 0x3C000000#32 (fun d : Fin 128 => prj x0 x1 x2 x3 n ⟨b + d.val, hb d⟩) k * x4 (ix2 0 k) := by
  have hp : ∀ (i' : S4096x8x128.Idx) (d : Fin 128), (i' 0).val = n.val → (i' 1).val * 128 = b → (i' 2).val = d.val →
      val_main_v29 (F := Ideal) x0 x1 x2 x3 i' = prj x0 x1 x2 x3 n ⟨b + d.val, hb d⟩ := fun i' d g0 g1 g2 => by
    have := d.isLt
    have : (i' 1).val < 8 := (i' 1).isLt
    rw [val_main_v29_apply, val_main_v28_apply]
    refine prj_at x0 x1 x2 x3 _ n _ ?_ ?_ <;> simp [g0, g2] <;> omega
  rw [val_main_v46_apply, val_main_v42_apply, val_main_v41_apply, val_main_v40_apply, val_main_v39_apply, val_main_v38_apply,
    val_main_cst_5_apply, val_main_v37_apply, val_main_v36_apply, val_main_cst_4_apply, val_main_v35_apply,
    val_main_v34_apply, val_main_cst_3_apply, val_main_v45_apply, val_main_v44_apply, val_main_v43_apply]
  simp only [val_main_v33_apply]
  unfold rms
  rw [← div_128]
  refine congrArg₂ (· * ·) (congrArg₂ (· * ·) (hp _ _ h0 h1 h2) ?_) (congrArg x4 ?_)
  · refine congrArg (fun s => Ideal.rsqrt (Ideal.div s (Ideal.ofBits .f32 0x43000000#32) + Ideal.ofBits .f32 0x358637BD#32)) ?_
    refine (congrArg₂ (· + ·) ofBits_zero (Finset.sum_congr rfl fun d _ => ?_)).trans (zero_add _)
    exact congrArg₂ (· * ·) (hp _ d h0 h1 rfl) (hp _ d h0 h1 rfl)
  · refine funext fun a => Fin.ext ?_
    fin_cases a <;> simp [h2]

/-- A head of the keys, normed. -/
theorem k_at (i : S4096x2x128.Idx) (n : Fin 4096) (b : Nat) (k : Fin 128) (hb : ∀ d : Fin 128, b + d.val < 1536)
    (h0 : (i 0).val = n.val) (h1 : 1024 + (i 1).val * 128 = b) (h2 : (i 2).val = k.val) :
    val_main_v60 (F := Ideal) x0 x1 x2 x3 x5 i
      = rms 0x3C000000#32 (fun d : Fin 128 => prj x0 x1 x2 x3 n ⟨b + d.val, hb d⟩) k * x5 (ix2 0 k) := by
  have hp : ∀ (i' : S4096x2x128.Idx) (d : Fin 128), (i' 0).val = n.val → 1024 + (i' 1).val * 128 = b →
      (i' 2).val = d.val →
      val_main_v31 (F := Ideal) x0 x1 x2 x3 i' = prj x0 x1 x2 x3 n ⟨b + d.val, hb d⟩ := fun i' d g0 g1 g2 => by
    have := d.isLt
    have : (i' 1).val < 2 := (i' 1).isLt
    rw [val_main_v31_apply, val_main_v30_apply]
    refine prj_at x0 x1 x2 x3 _ n _ ?_ ?_ <;> simp [g0, g2] <;> omega
  rw [val_main_v60_apply, val_main_v56_apply, val_main_v55_apply, val_main_v54_apply, val_main_v53_apply, val_main_v52_apply,
    val_main_cst_8_apply, val_main_v51_apply, val_main_v50_apply, val_main_cst_7_apply, val_main_v49_apply,
    val_main_v48_apply, val_main_cst_6_apply, val_main_v59_apply, val_main_v58_apply, val_main_v57_apply]
  simp only [val_main_v47_apply]
  unfold rms
  rw [← div_128]
  refine congrArg₂ (· * ·) (congrArg₂ (· * ·) (hp _ _ h0 h1 h2) ?_) (congrArg x5 ?_)
  · refine congrArg (fun s => Ideal.rsqrt (Ideal.div s (Ideal.ofBits .f32 0x43000000#32) + Ideal.ofBits .f32 0x358637BD#32)) ?_
    refine (congrArg₂ (· + ·) ofBits_zero (Finset.sum_congr rfl fun d _ => ?_)).trans (zero_add _)
    exact congrArg₂ (· * ·) (hp _ d h0 h1 rfl) (hp _ d h0 h1 rfl)
  · refine funext fun a => Fin.ext ?_
    fin_cases a <;> simp [h2]

/-- The queries handed on. -/
theorem resq_at (n : Fin 4096) (l : Fin 1024) :
    val_main_v68 (F := Ideal) x0 x1 x2 x3 x4 (ix2 n l)
      = rms 0x3C000000#32 (fun d : Fin 128 => prj x0 x1 x2 x3 n ⟨l.val / 128 * 128 + d.val, by omega⟩)
          ⟨l.val % 128, by omega⟩ * x4 (ix2 0 ⟨l.val % 128, by omega⟩)
        * (((Real.log 2)⁻¹ * (Real.sqrt 128)⁻¹ : ℝ) : EReal) := by
  have := n.isLt
  have := l.isLt
  rw [val_main_v68_apply, val_main_v67_apply, val_main_v66_apply, val_main_v65_apply, val_main_v63_apply,
    val_main_v64_apply, val_main_cst_9_apply, val_main_cst_10_apply, val_main_v62_apply]
  refine (scale_div _).trans (congrArg (· * _) ?_)
  refine q_at x0 x1 x2 x3 x4 _ n _ _ _ ?_ ?_ ?_ <;> simp <;> omega

/-- The keys kept. -/
theorem resk_at (n : Fin 4096) (l : Fin 256) :
    val_main_v61 (F := Ideal) x0 x1 x2 x3 x5 (ix2 n l)
      = rms 0x3C000000#32 (fun d : Fin 128 => prj x0 x1 x2 x3 n ⟨1024 + l.val / 128 * 128 + d.val, by omega⟩)
          ⟨l.val % 128, by omega⟩ * x5 (ix2 0 ⟨l.val % 128, by omega⟩) := by
  have := n.isLt
  have := l.isLt
  rw [val_main_v61_apply]
  refine k_at x0 x1 x2 x3 x5 _ n _ _ _ ?_ ?_ ?_ <;> simp <;> omega

/-- The values kept. -/
theorem resv_at (n : Fin 4096) (l : Fin 256) :
    val_main_v32 (F := Ideal) x0 x1 x2 x3 (ix2 n l) = prj x0 x1 x2 x3 n ⟨1280 + l.val, by omega⟩ := by
  rw [val_main_v32_apply]
  refine prj_at x0 x1 x2 x3 _ n _ ?_ ?_ <;> simp

end Cert.GqaPrepRefIdeal.Prep

end
-- ==== Proof.GqaValue.lean ====
/- The grouped-query preparation's five results are the reference's. -/
module

public import proofs.«01_k».proof.Proof.GqaHead
public import proofs.«01_k».proof.Proof.GqaRef
public import proofs.«01_k».proof.Proof.Gen.GqaPrepIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GqaPrepIdeal.Prep
open Cert.GqaPrepIdeal Cert.GqaPrepIdeal.Gen Cert.Norm

variable (m : (ℓ : Loc nD τ sig) → Buf (Elt Ideal) ℓ)

/-- The block of every window at every grid point. -/
theorem idx : ∀ t : Fin cfg0.N, win0_0.index t = ![t.val, 0] ∧ win0_1.index t = ![8, 0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0]
    ∧ win0_10.index t = ![t.val, 0] ∧ t.val < 8 :=
  (by decide +kernel : ∀ t : Fin grid0.N, _)

/-- A point's projection is the reference's at its tokens. -/
theorem prj_point (c : Dev nD) (t : Fin cfg0.N) (r : Fin 512) (j : Fin 1536) (n : Fin 4096)
    (hn : n.val = t.val * 512 + r.val) :
    prj (iblk m c 0 t) (iblk m c 1 t) (iblk m c 2 t) (iblk m c 3 t) r j
      = GqaPrepRefIdeal.Prep.prj (m ((c : Thread nD τ).loc main_arg0)) (m ((c : Thread nD τ).loc main_arg1))
          (m ((c : Thread nD τ).loc main_arg2)) (m ((c : Thread nD τ).loc main_arg3)) n j := by
  have h0 : ∀ d : Fin 1024, iblk m c 0 t (ix2 r d) = m ((c : Thread nD τ).loc main_arg0) (ix2 n d) := fun d => by
    blk_ext [iblk, V, idx t]
  have h1 : ∀ (a : Fin 8) (d : Fin 1024), iblk m c 1 t (ix3 0 a d) = m ((c : Thread nD τ).loc main_arg1) (ix3 8 a d) :=
    fun a d => by blk_ext [iblk, V, idx t]
  have h2 : ∀ d : Fin 1024, iblk m c 2 t (ix2 0 d) = m ((c : Thread nD τ).loc main_arg2) (ix2 0 d) := fun d => by
    blk_ext [iblk, V, idx t]
  have h3 : ∀ e : Fin 1024, iblk m c 3 t (ix2 e j) = m ((c : Thread nD τ).loc main_arg3) (ix2 e j) := fun e => by
    blk_ext [iblk, V, idx t]
  exact Finset.sum_congr rfl fun e _ => congrArg₂ (· * ·)
    (modRow_congr h0 h2 (fun d => h1 1 d) (fun d => h1 0 d) e) (h3 e)

/-- The gain of the queries. -/
theorem qg_point (c : Dev nD) (t : Fin cfg0.N) (k : Fin 128) :
    iblk m c 4 t (ix2 0 k) = m ((c : Thread nD τ).loc main_arg4) (ix2 0 k) := by blk_ext [iblk, V, idx t]

/-- The gain of the keys. -/
theorem kg_point (c : Dev nD) (t : Fin cfg0.N) (k : Fin 128) :
    iblk m c 5 t (ix2 0 k) = m ((c : Thread nD τ).loc main_arg5) (ix2 0 k) := by blk_ext [iblk, V, idx t]

/-- A point's queries. -/
theorem q_point (c : Dev nD) (t : Fin cfg0.N) (r : Fin 512) (l : Fin 1024) (n : Fin 4096)
    (hn : n.val = t.val * 512 + r.val) :
    out0_6 (iblk m c 0 t) (iblk m c 1 t) (iblk m c 2 t) (iblk m c 3 t) (iblk m c 4 t) (iblk m c 5 t) (ix2 r l)
      = GqaPrepRefIdeal.Read.val_main_v68 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) (ix2 n l) := by
  rw [outq_at, GqaPrepRefIdeal.Prep.resq_at]
  exact congrArg (· * _) (congrArg₂ (· * ·) (rms_congr _ (fun d => prj_point m c t r _ n hn) rfl) (qg_point m c t _))

/-- A point's keys. -/
theorem k_point (c : Dev nD) (t : Fin cfg0.N) (r : Fin 512) (l : Fin 256) (n : Fin 4096)
    (hn : n.val = t.val * 512 + r.val) :
    out0_9 (iblk m c 0 t) (iblk m c 1 t) (iblk m c 2 t) (iblk m c 3 t) (iblk m c 4 t) (iblk m c 5 t) (ix2 r l)
      = GqaPrepRefIdeal.Read.val_main_v61 (F := Ideal) (m ((c : Thread nD τ).loc main_arg0))
          (m ((c : Thread nD τ).loc main_arg1)) (m ((c : Thread nD τ).loc main_arg2))
          (m ((c : Thread nD τ).loc main_arg3)) (m ((c : Thread nD τ).loc main_arg5)) (ix2 n l) := by
  rw [outkf_at, GqaPrepRefIdeal.Prep.resk_at]
  exact congrArg₂ (· * ·) (rms_congr _ (fun d => prj_point m c t r _ n hn) rfl) (kg_point m c t _)

/-- A point's values. -/
theorem v_point (c : Dev nD) (t : Fin cfg0.N) (r : Fin 512) (l : Fin 256) (n : Fin 4096)
    (hn : n.val = t.val * 512 + r.val) :
    out0_10 (iblk m c 0 t) (iblk m c 1 t) (iblk m c 2 t) (iblk m c 3 t) (iblk m c 4 t) (iblk m c 5 t) (ix2 r l)
      = GqaPrepRefIdeal.Read.val_main_v32 (F := Ideal) (m ((c : Thread nD τ).loc main_arg0))
          (m ((c : Thread nD τ).loc main_arg1)) (m ((c : Thread nD τ).loc main_arg2))
          (m ((c : Thread nD τ).loc main_arg3)) (ix2 n l) := by
  rw [outvf_at, GqaPrepRefIdeal.Prep.resv_at]
  exact prj_point m c t r _ n hn

/-- The queries. -/
theorem final6 (c : Dev nD) :
    (dats m 0 c).arrAt 6 (cfgs 0).N
      = GqaPrepRefIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  have ht : t.val < 8 := (idx t).2.2.2.2.2.2.2.2.2.2.2
  blk_simp
  rw [after0_6]
  have hy0 : (y 0).val < 512 := (y 0).isLt
  have hy1 : (y 1).val < 1024 := (y 1).isLt
  refine Eq.trans ?_ ((q_point m c t (y 0) (y 1) ⟨t.val * 512 + (y 0).val, by omega⟩ rfl).trans ?_)
  · blk_ext
  · blk_ext [idx t]

/-- The keys, as the attention takes them. -/
theorem final7 (c : Dev nD) :
    (dats m 0 c).arrAt 7 (cfgs 0).N
      = GqaPrepRefIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 7 _ (by decide +kernel) fun t _ y => ?_
  have ht : t.val < 8 := (idx t).2.2.2.2.2.2.2.2.2.2.2
  blk_simp
  rw [after0_7]
  have hy0 : (y 0).val < 512 := (y 0).isLt
  have hy1 : (y 1).val < 256 := (y 1).isLt
  refine Eq.trans ?_ ((k_point m c t (y 0) (y 1) ⟨t.val * 512 + (y 0).val, by omega⟩ rfl).trans ?_)
  · refine Eq.trans ?_ ((outk_at _ _ _ _ (iblk m c 4 t) (iblk m c 5 t) _ _).trans (outkf_at _ _ _ _ _ _ _ _).symm)
    blk_ext
  · rw [GqaPrepRefIdeal.Read.val_main_v69_apply]
    blk_ext [idx t]

/-- The values, as the attention takes them. -/
theorem final8 (c : Dev nD) :
    (dats m 0 c).arrAt 8 (cfgs 0).N
      = GqaPrepRefIdeal.Read.val_main_v70 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  have ht : t.val < 8 := (idx t).2.2.2.2.2.2.2.2.2.2.2
  blk_simp
  rw [after0_8]
  have hy0 : (y 0).val < 512 := (y 0).isLt
  have hy1 : (y 1).val < 256 := (y 1).isLt
  refine Eq.trans ?_ ((v_point m c t (y 0) (y 1) ⟨t.val * 512 + (y 0).val, by omega⟩ rfl).trans ?_)
  · refine Eq.trans ?_ ((outv_at _ _ _ _ (iblk m c 4 t) (iblk m c 5 t) _ _).trans (outvf_at _ _ _ _ _ _ _ _).symm)
    blk_ext
  · rw [GqaPrepRefIdeal.Read.val_main_v70_apply]
    blk_ext [idx t]

/-- The keys kept. -/
theorem final9 (c : Dev nD) :
    (dats m 0 c).arrAt 9 (cfgs 0).N
      = GqaPrepRefIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 9 _ (by decide +kernel) fun t _ y => ?_
  have ht : t.val < 8 := (idx t).2.2.2.2.2.2.2.2.2.2.2
  blk_simp
  rw [after0_9]
  have hy0 : (y 0).val < 512 := (y 0).isLt
  have hy1 : (y 1).val < 256 := (y 1).isLt
  refine Eq.trans ?_ ((k_point m c t (y 0) (y 1) ⟨t.val * 512 + (y 0).val, by omega⟩ rfl).trans ?_)
  · blk_ext
  · blk_ext [idx t]

/-- The values kept. -/
theorem final10 (c : Dev nD) :
    (dats m 0 c).arrAt 10 (cfgs 0).N
      = GqaPrepRefIdeal.Read.val_main_v32 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  have ht : t.val < 8 := (idx t).2.2.2.2.2.2.2.2.2.2.2
  blk_simp
  rw [after0_10]
  have hy0 : (y 0).val < 512 := (y 0).isLt
  have hy1 : (y 1).val < 256 := (y 1).isLt
  refine Eq.trans ?_ ((v_point m c t (y 0) (y 1) ⟨t.val * 512 + (y 0).val, by omega⟩ rfl).trans ?_)
  · blk_ext
  · blk_ext [idx t]

end Cert.GqaPrepIdeal.Prep

end
-- ==== Proof.Rope.lean ====
/- The rotary turning of a head: each quarter and its partner are turned against each other. -/
module

public import proofs.«01_k».proof.Proof.Norm
public import Idealize.ShloMosaic.Lib.Pipeline.ValueKit

@[expose] public section

set_option maxRecDepth 16384

noncomputable section

open Idealize.ShloMosaic Idealize.ShloMosaic.TcCoe Idealize.SL.Sem

namespace Cert.Rope
open Cert.Norm

/-- The normed head of a projected row that starts at column `b`, with its gain. -/
def headRow (X : Fin 1536 → EReal) (g : Fin 128 → EReal) (b : ℕ) (hb : ∀ d : Fin 128, b + d.val < 1536) (k : Fin 128) : EReal :=
  rms 0x3C000000#32 (fun d : Fin 128 => X ⟨b + d.val, hb d⟩) k * g k

/-- Equal rows and gains give equal heads. -/
theorem headRow_congr {X X' : Fin 1536 → EReal} {g g' : Fin 128 → EReal} (b : ℕ) (hb : ∀ d : Fin 128, b + d.val < 1536)
    (hX : ∀ j, X j = X' j) (hg : ∀ d, g d = g' d) (k : Fin 128) : headRow X g b hb k = headRow X' g' b hb k :=
  congrArg₂ (· * ·) (rms_congr _ (fun d => hX _) rfl) (hg k)

/-- The lane a lane is turned against: 32 further in the even quarters, 32 back in the odd ones. -/
def partner (c : Fin 128) : Fin 128 := if h : c.val / 32 % 2 = 0 then ⟨c.val + 32, by omega⟩ else ⟨c.val - 32, by omega⟩

theorem partner_even (c : Fin 128) (h : c.val / 32 % 2 = 0) : (partner c).val = c.val + 32 := by
  unfold partner
  rw [dif_pos h]

theorem partner_odd (c : Fin 128) (h : ¬ c.val / 32 % 2 = 0) : (partner c).val = c.val - 32 := by
  unfold partner
  rw [dif_neg h]

/-- A head turned: a lane times its cosine and the partner times the lane's signed sine. -/
def rowTurn (u cs sn : Fin 128 → EReal) (c : Fin 128) : EReal := u c * cs c + u (partner c) * sn c

/-- Heads, cosines and sines with equal lanes are turned alike. -/
theorem rowTurn_congr {u u' cs cs' sn sn' : Fin 128 → EReal} (hu : ∀ d, u d = u' d) (hc : ∀ d, cs d = cs' d)
    (hs : ∀ d, sn d = sn' d) (c : Fin 128) : rowTurn u cs sn c = rowTurn u' cs' sn' c := by
  unfold rowTurn
  rw [hu, hc, hu, hs]

/-- The frequency of a lane of a quarter: ten thousand to the power of minus its share of the quarter. -/
def freq (q : Fin 32) : EReal :=
  FloatOps.hostPowf (F := Ideal) (φ := .f32) (FloatOps.ofBits .f32 0x461C4000#32)
    (FloatOps.hostDivf (F := Ideal) (φ := .f32) (FloatOps.hostNegf (F := Ideal) (φ := .f32)
      (FloatOps.sitofp (F := Ideal) .f32 (BitVec.ofNat 32 q.val))) (FloatOps.ofBits .f32 0x42000000#32))

/-- A lane's angle: the row's position in the first half of the head and the column's in the second, times the frequency. -/
def angle (row col : EReal) (c : Fin 128) : EReal := (if c.val < 64 then row else col) * freq ⟨c.val % 32, by omega⟩

/-- A lane's cosine. -/
def cosT (row col : EReal) (c : Fin 128) : EReal := FloatOps.hostUnary (F := Ideal) (φ := .f32) .cos (angle row col c)

/-- A lane's sine, negative in the even quarters. -/
def sinT (row col : EReal) (c : Fin 128) : EReal :=
  if c.val / 32 % 2 = 0 then -FloatOps.hostUnary (F := Ideal) (φ := .f32) .sin (angle row col c)
  else FloatOps.hostUnary (F := Ideal) (φ := .f32) .sin (angle row col c)

/-- Each half of a head turned by its own angles, its first quarter against its second: the turning of the head. -/
theorem halves_eq (u : Fin 128 → EReal) (f : Fin 32 → EReal) (hf : ∀ q, f q = freq q) (row col : EReal) (k : Fin 128) :
    (if h1 : k.val < 64 then
      if h2 : k.val < 32 then
        u k * Ideal.cos (row * f ⟨k.val, h2⟩) - u ⟨32 + k.val, by omega⟩ * Ideal.sin (row * f ⟨k.val, h2⟩)
      else
        u ⟨k.val - 32, by omega⟩ * Ideal.sin (row * f ⟨k.val - 32, by omega⟩)
          + u ⟨32 + (k.val - 32), by omega⟩ * Ideal.cos (row * f ⟨k.val - 32, by omega⟩)
    else
      if h2 : k.val - 64 < 32 then
        u ⟨64 + (k.val - 64), by omega⟩ * Ideal.cos (col * f ⟨k.val - 64, h2⟩)
          - u ⟨64 + (32 + (k.val - 64)), by omega⟩ * Ideal.sin (col * f ⟨k.val - 64, h2⟩)
      else
        u ⟨64 + (k.val - 64 - 32), by omega⟩ * Ideal.sin (col * f ⟨k.val - 64 - 32, by omega⟩)
          + u ⟨64 + (32 + (k.val - 64 - 32)), by omega⟩ * Ideal.cos (col * f ⟨k.val - 64 - 32, by omega⟩))
      = rowTurn u (cosT row col) (sinT row col) k := by
  have hk := k.isLt
  have hc : ∀ (x : EReal) (q : Fin 32), q.val = k.val % 32 → (if k.val < 64 then row else col) = x →
      cosT row col k = Ideal.cos (x * f q) := fun x q hq hx => by
    rw [hf]
    unfold cosT angle
    rw [hx]
    exact congrArg (fun q => Ideal.cos (x * freq q)) (Fin.ext hq.symm)
  have hs : ∀ (x : EReal) (q : Fin 32), q.val = k.val % 32 → (if k.val < 64 then row else col) = x →
      sinT row col k = if k.val / 32 % 2 = 0 then -Ideal.sin (x * f q) else Ideal.sin (x * f q) := fun x q hq hx => by
    rw [hf]
    unfold sinT angle
    rw [hx]
    exact congrArg (fun q => if k.val / 32 % 2 = 0 then -Ideal.sin (x * freq q) else Ideal.sin (x * freq q)) (Fin.ext hq.symm)
  have hu : ∀ a b : Fin 128, a.val = b.val → u a = u b := fun a b h => congrArg u (Fin.ext h)
  unfold rowTurn
  by_cases h1 : k.val < 64
  · rw [dif_pos h1]
    by_cases h2 : k.val < 32
    · rw [dif_pos h2, hc row ⟨k.val, h2⟩ (by dsimp only; omega) (if_pos h1), hs row ⟨k.val, h2⟩ (by dsimp only; omega) (if_pos h1),
        if_pos (by omega), mul_neg, sub_eq_add_neg,
        hu (partner k) ⟨32 + k.val, by omega⟩ (by rw [partner_even k (by omega)]; dsimp only; omega)]
    · rw [dif_neg h2, hc row ⟨k.val - 32, by omega⟩ (by dsimp only; omega) (if_pos h1),
        hs row ⟨k.val - 32, by omega⟩ (by dsimp only; omega) (if_pos h1), if_neg (by omega), add_comm,
        hu (partner k) ⟨k.val - 32, by omega⟩ (by rw [partner_odd k (by omega)]),
        hu ⟨32 + (k.val - 32), by omega⟩ k (by dsimp only; omega)]
  · rw [dif_neg h1]
    by_cases h2 : k.val - 64 < 32
    · rw [dif_pos h2, hc col ⟨k.val - 64, h2⟩ (by dsimp only; omega) (if_neg h1),
        hs col ⟨k.val - 64, h2⟩ (by dsimp only; omega) (if_neg h1), if_pos (by omega), mul_neg, sub_eq_add_neg,
        hu (partner k) ⟨64 + (32 + (k.val - 64)), by omega⟩ (by rw [partner_even k (by omega)]; dsimp only; omega),
        hu ⟨64 + (k.val - 64), by omega⟩ k (by dsimp only; omega)]
    · rw [dif_neg h2, hc col ⟨k.val - 64 - 32, by omega⟩ (by dsimp only; omega) (if_neg h1),
        hs col ⟨k.val - 64 - 32, by omega⟩ (by dsimp only; omega) (if_neg h1), if_neg (by omega), add_comm,
        hu (partner k) ⟨64 + (k.val - 64 - 32), by omega⟩ (by rw [partner_odd k (by omega)]; dsimp only; omega),
        hu ⟨64 + (32 + (k.val - 64 - 32)), by omega⟩ k (by dsimp only; omega)]

end Cert.Rope

end
-- ==== Proof.GqaPosHead.lean ====
/- The payloads of the kernel that prepares the latent tokens' queries, keys and values, at an element. -/
module

public import proofs.«01_k».proof.Proof.Gen.GqaPosIdeal.Frame
public import proofs.«01_k».proof.Proof.Rope
public import Idealize.ShloMosaic.Lib.Pipeline.ValueKit

@[expose] public section

set_option maxRecDepth 16384

noncomputable section

open Idealize.ShloMosaic Idealize.ShloMosaic.TcCoe Idealize.SL.Sem

namespace Cert.GqaPosIdeal.Pos
open Cert.GqaPosIdeal Cert.GqaPosIdeal.Gen Cert.Norm Cert.Rope

/-- What the queries are scaled by: the reciprocals of ln 2 and of the root of the head width. -/
abbrev qScale : EReal := (((Real.log 2)⁻¹ * (Real.sqrt 128)⁻¹ : ℝ) : EReal)

/-- The named constant denotes it. -/
theorem named_scale : Named.named (F := Ideal) κ "q_scale" (φ := .f32) 0x3E0293EE#32 = qScale :=
  IdealRules.named_const.ideal_named_scalar _ _ _ _ rfl

/-- Two tiles with equal elements are equal. -/
theorem tile_ext {α : Type} {a b : S512x128.Idx → α} (h : ∀ r c, a (ix2 r c) = b (ix2 r c)) : a = b := by
  funext i
  rw [eq_ix2 i]
  exact h _ _

/-- The lanes of the even quarters of a head, as the body finds them: 1 there and 0 elsewhere. -/
def even : IVec S512x128 1 :=
  cmpi .eq (select (andi (xori k0_pay14 (broadcastTo S512x128 (broadcast S512x128
      (Scalar.cmpi .slt (Scalar.select (Scalar.cmpi .eq 2#32 0#32) 1#32 2#32) 0#32)) broadcasts_S512x128_S512x128)) k0_pay13)
    (addi k0_pay12 (broadcast S512x128 (Scalar.select (Scalar.cmpi .eq 2#32 0#32) 1#32 2#32))) k0_pay12)
    (broadcast S512x128 0#32)

/-- The mask at a lane. -/
theorem even_at (r : Fin 512) (c : Fin 128) : even (ix2 r c) = if c.val / 32 % 2 = 0 then 1#1 else 0#1 := by
  pointwise [even, k0_pay12, k0_pay13, k0_pay14]
  revert c
  decide +kernel

/-- A tile of heads turned by the tables. -/
def turn (u cs sn : FVec Ideal S512x128 .f32) : FVec Ideal S512x128 .f32 := fun i =>
  rowTurn (fun d => u (ix2 (i 0) d)) (fun d => cs (ix2 (i 0) d)) (fun d => sn (ix2 (i 0) d)) (i 1)

/-- The body's turning of a head. -/
theorem turn_eq (u cs sn : FVec Ideal S512x128 .f32) :
    addf (F := Ideal) (mulf u (shapeCast S512x128 cs shapeCasts_S512x128_S512x128))
      (mulf (select even (dynamicRotate 1 96#32 none u rotates_S512x128_d1) (dynamicRotate 1 32#32 none u rotates_S512x128_d1))
        (shapeCast S512x128 sn shapeCasts_S512x128_S512x128)) = turn u cs sn := by
  refine tile_ext fun r c => ?_
  have hc := c.isLt
  unfold turn rowTurn
  by_cases h : c.val / 32 % 2 = 0
  · pointwise [even_at, h]
    exact congrArg₂ (· + ·) rfl (congrArg (· * _) (congrArg (fun k : Fin 128 => u (ix2 r k))
      (Fin.ext (by rw [partner_even c h]; dsimp only; omega))))
  · pointwise [even_at, h]
    exact congrArg₂ (· + ·) rfl (congrArg (· * _) (congrArg (fun k : Fin 128 => u (ix2 r k))
      (Fin.ext (by rw [partner_odd c h]; dsimp only; omega))))

/-- The projection of the modulated norm. -/
theorem proj_at (x : Vec Ideal S512x1024 .f32) (g : Vec Ideal S1x1024 .f32) (w : Vec Ideal S1x8x1024 .f32)
    (p : Vec Ideal S1024x1536 .bf16) (r : Fin 512) (j : Fin 1536) :
    k0_pay4 (F := Ideal) x g w p (ix2 r j)
      = ∑ e : Fin 1024, modRow (fun d => x (ix2 r d)) (fun d => g (ix2 0 d)) (fun d => w (ix3 0 1 d))
          (fun d => w (ix3 0 0 d)) e * p (ix2 e j) := by
  unfold modRow rms
  pointwise [k0_pay4]

/-- The normalized columns from `o` on, with their gain. -/
def nrm (o : ℕ) (ho : o + 128 ≤ 1536) (y : FVec Ideal S512x1536 .f32) (g : Vec Ideal S1x128 .f32) :
    FVec Ideal S512x128 .f32 :=
  fun i => rms 0x3C000000#32 (fun d : Fin 128 => y (ix2 (i 0) ⟨o + d.val, by omega⟩)) (i 1) * g (ix2 0 (i 1))

/-- The same, turned and scaled: a head of the queries. -/
def qry (o : ℕ) (ho : o + 128 ≤ 1536) (y : FVec Ideal S512x1536 .f32) (g : Vec Ideal S1x128 .f32)
    (cs sn : FVec Ideal S512x128 .f32) : FVec Ideal S512x128 .bf16 := fun i => turn (nrm o ho y g) cs sn i * qScale

/-- A turned head times the body's scale. -/
theorem scaled_eq (u cs sn : FVec Ideal S512x128 .f32) :
    truncf (F := Ideal) .bf16 (mulf (addf (mulf u (shapeCast S512x128 cs shapeCasts_S512x128_S512x128))
      (mulf (select even (dynamicRotate 1 96#32 none u rotates_S512x128_d1) (dynamicRotate 1 32#32 none u rotates_S512x128_d1))
        (shapeCast S512x128 sn shapeCasts_S512x128_S512x128)))
      (broadcast S512x128 (Named.named (F := Ideal) κ "q_scale" (φ := .f32) 0x3E0293EE#32))) bitsLt_bf16_f32
      = fun i => turn u cs sn i * qScale := by
  rw [turn_eq, named_scale]
  rfl

section
variable (x : Vec Ideal S512x1024 .f32) (gg : Vec Ideal S1x1024 .f32) (w : Vec Ideal S1x8x1024 .f32)
  (p : Vec Ideal S1024x1536 .bf16) (y : FVec Ideal S512x1536 .f32) (g : Vec Ideal S1x128 .f32)
  (cs sn : FVec Ideal S512x128 .f32)

/-- Head 1 of the queries, normed. -/
theorem n1 : k0_pay16 (F := Ideal) y g = nrm 128 (by norm_num) y g := by
  refine tile_ext fun r c => ?_
  unfold nrm rms
  pointwise [k0_pay16]

/-- Head 2 of the queries, normed. -/
theorem n2 : k0_pay24 (F := Ideal) y g = nrm 256 (by norm_num) y g := by
  refine tile_ext fun r c => ?_
  unfold nrm rms
  pointwise [k0_pay24]

/-- Head 3 of the queries, normed. -/
theorem n3 : k0_pay36 (F := Ideal) (k0_pay34 y) (k0_pay35 g) = nrm 384 (by norm_num) y g := by
  refine tile_ext fun r c => ?_
  unfold nrm rms
  pointwise [k0_pay34, k0_pay35, k0_pay36]

/-- Head 4 of the queries, normed. -/
theorem n4 : k0_pay45 (F := Ideal) y g = nrm 512 (by norm_num) y g := by
  refine tile_ext fun r c => ?_
  unfold nrm rms
  pointwise [k0_pay45]

/-- Head 5 of the queries, normed. -/
theorem n5 : k0_pay53 (F := Ideal) y g = nrm 640 (by norm_num) y g := by
  refine tile_ext fun r c => ?_
  unfold nrm rms
  pointwise [k0_pay53]

/-- Head 6 of the queries, normed. -/
theorem n6 : k0_pay65 (F := Ideal) (k0_pay63 y) (k0_pay64 g) = nrm 768 (by norm_num) y g := by
  refine tile_ext fun r c => ?_
  unfold nrm rms
  pointwise [k0_pay63, k0_pay64, k0_pay65]

/-- Head 7 of the queries, normed. -/
theorem n7 : k0_pay74 (F := Ideal) y g = nrm 896 (by norm_num) y g := by
  refine tile_ext fun r c => ?_
  unfold nrm rms
  pointwise [k0_pay74]

/-- Head 0 of the keys, normed. -/
theorem k0 : k0_pay82 (F := Ideal) y g = nrm 1024 (by norm_num) y g := by
  refine tile_ext fun r c => ?_
  unfold nrm rms
  pointwise [k0_pay82]

/-- Head 1 of the keys, normed. -/
theorem k1 : k0_pay91 (F := Ideal) (k0_pay90 y) g = nrm 1152 (by norm_num) y g := by
  refine tile_ext fun r c => ?_
  unfold nrm rms
  pointwise [k0_pay90, k0_pay91]

/-- Head 0 of the queries, normed. -/
theorem n0 : k0_pay7 (F := Ideal) (k0_pay5 x gg w p) (k0_pay6 g) = nrm 0 (by norm_num) (k0_pay4 x gg w p) g := by
  unfold k0_pay5
  generalize k0_pay4 (F := Ideal) x gg w p = y
  refine tile_ext fun r c => ?_
  unfold nrm rms
  pointwise [k0_pay6, k0_pay7]

/-- Head 0 of the queries. -/
theorem q0 : k0_pay15 (F := Ideal) (k0_pay8 sn) (k0_pay9 (k0_pay5 x gg w p) (k0_pay6 g) cs) (k0_pay10 (k0_pay5 x gg w p) (k0_pay6 g)) (k0_pay11 (k0_pay5 x gg w p) (k0_pay6 g)) (Scalar.select (Scalar.cmpi .eq 2#32 0#32) 1#32 2#32) k0_pay12 k0_pay13 k0_pay14 0#32
    = qry 0 (by norm_num) (k0_pay4 x gg w p) g cs sn :=
  (show _ = _ from scaled_eq (k0_pay7 (k0_pay5 x gg w p) (k0_pay6 g)) cs sn).trans (by rw [n0]; rfl)

/-- Head 1 of the queries. -/
theorem q1 : k0_pay23 (F := Ideal) (k0_pay17 sn) (k0_pay18 y g cs) (iota .tc S512x128 32 [1] iota_S512x128_d1_w32) (k0_pay19 y g) (k0_pay20 y g) 32#32 k0_pay21 k0_pay22
    = qry 128 (by norm_num) y g cs sn :=
  (show _ = _ from scaled_eq (k0_pay16 y g) cs sn).trans (by rw [n1]; rfl)

/-- Head 2 of the queries. -/
theorem q2 : k0_pay33 (F := Ideal) (k0_pay25 sn) (k0_pay26 y g cs) (k0_pay27 y g) (k0_pay28 y g) k0_pay29 k0_pay30 k0_pay31 k0_pay32
    = qry 256 (by norm_num) y g cs sn :=
  (show _ = _ from scaled_eq (k0_pay24 y g) cs sn).trans (by rw [n2]; rfl)

/-- Head 3 of the queries. -/
theorem q3 : k0_pay44 (F := Ideal) (k0_pay37 sn) (k0_pay38 (k0_pay34 y) (k0_pay35 g) cs) (k0_pay39 (k0_pay34 y) (k0_pay35 g)) (k0_pay40 (k0_pay34 y) (k0_pay35 g)) (Scalar.select (Scalar.cmpi .eq 2#32 0#32) 1#32 2#32) k0_pay41 k0_pay42 k0_pay43 0#32
    = qry 384 (by norm_num) y g cs sn :=
  (show _ = _ from scaled_eq (k0_pay36 (k0_pay34 y) (k0_pay35 g)) cs sn).trans (by rw [n3]; rfl)

/-- Head 4 of the queries. -/
theorem q4 : k0_pay52 (F := Ideal) (k0_pay46 sn) (k0_pay47 y g cs) (iota .tc S512x128 32 [1] iota_S512x128_d1_w32) (k0_pay48 y g) (k0_pay49 y g) 32#32 k0_pay50 k0_pay51
    = qry 512 (by norm_num) y g cs sn :=
  (show _ = _ from scaled_eq (k0_pay45 y g) cs sn).trans (by rw [n4]; rfl)

/-- Head 5 of the queries. -/
theorem q5 : k0_pay62 (F := Ideal) (k0_pay54 sn) (k0_pay55 y g cs) (k0_pay56 y g) (k0_pay57 y g) k0_pay58 k0_pay59 k0_pay60 k0_pay61
    = qry 640 (by norm_num) y g cs sn :=
  (show _ = _ from scaled_eq (k0_pay53 y g) cs sn).trans (by rw [n5]; rfl)

/-- Head 6 of the queries. -/
theorem q6 : k0_pay73 (F := Ideal) (k0_pay66 sn) (k0_pay67 (k0_pay63 y) (k0_pay64 g) cs) (k0_pay68 (k0_pay63 y) (k0_pay64 g)) (k0_pay69 (k0_pay63 y) (k0_pay64 g)) (Scalar.select (Scalar.cmpi .eq 2#32 0#32) 1#32 2#32) k0_pay70 k0_pay71 k0_pay72 0#32
    = qry 768 (by norm_num) y g cs sn :=
  (show _ = _ from scaled_eq (k0_pay65 (k0_pay63 y) (k0_pay64 g)) cs sn).trans (by rw [n6]; rfl)

/-- Head 7 of the queries. -/
theorem q7 : k0_pay81 (F := Ideal) (k0_pay75 sn) (k0_pay76 y g cs) (iota .tc S512x128 32 [1] iota_S512x128_d1_w32) (k0_pay77 y g) (k0_pay78 y g) 32#32 k0_pay79 k0_pay80
    = qry 896 (by norm_num) y g cs sn :=
  (show _ = _ from scaled_eq (k0_pay74 y g) cs sn).trans (by rw [n7]; rfl)

/-- Head 0 of the keys, turned. -/
theorem kt0 : k0_pay89 (F := Ideal) (k0_pay83 sn) (k0_pay84 y g cs) (iota .tc S512x128 32 [1] iota_S512x128_d1_w32) (k0_pay85 y g) (k0_pay86 y g) 32#32 k0_pay87 k0_pay88
    = turn (nrm 1024 (by norm_num) y g) cs sn :=
  (show _ = _ from turn_eq (k0_pay82 y g) cs sn).trans (by rw [k0])

/-- Head 1 of the keys, turned. -/
theorem kt1 : k0_pay1 (F := Ideal) (k0_pay92 sn) (k0_pay93 (k0_pay90 y) g cs) (k0_pay94 (k0_pay90 y) g) (k0_pay95 (k0_pay90 y) g)
      (Scalar.select (Scalar.cmpi .eq 2#32 0#32) 1#32 2#32) k0_pay96 k0_pay97
    = turn (nrm 1152 (by norm_num) y g) cs sn :=
  (show _ = _ from turn_eq (k0_pay91 (k0_pay90 y) g) cs sn).trans (by rw [k1])

/-- The values. -/
theorem v_at (r : Fin 512) (c : Fin 256) : k0_pay2 (F := Ideal) y (ix2 r c) = y (ix2 r ⟨1280 + c.val, by omega⟩) := by
  pointwise [k0_pay2]

/-- The values, stored. -/
theorem vb_at (r : Fin 512) (c : Fin 256) : k0_pay3 (F := Ideal) y (ix2 r c) = y (ix2 r ⟨1280 + c.val, by omega⟩) := by
  pointwise [k0_pay3, k0_pay2]
end

section
variable (x0 : Vec Ideal S512x1024 .f32) (x1 : Vec Ideal S1x8x1024 .f32) (x2 : Vec Ideal S1x1024 .f32)
  (x3 : Vec Ideal S1024x1536 .bf16) (x4 x5 : Vec Ideal S1x128 .f32) (x6 x7 : Vec Ideal S512x128 .f32)

/-- The projection of a block, from the blocks of the arguments. -/
def prj (r : Fin 512) (j : Fin 1536) : EReal :=
  ∑ e : Fin 1024, modRow (fun d => x0 (ix2 r d)) (fun d => x2 (ix2 0 d)) (fun d => x1 (ix3 0 1 d))
    (fun d => x1 (ix3 0 0 d)) e * x3 (ix2 e j)

/-- The body's projection at an element. -/
theorem prj_eq (r : Fin 512) (j : Fin 1536) :
    k0_pay4 (F := Ideal) (View.ld x0 r0_0) (View.ld x2 r0_1) (View.ld x1 r0_2) (View.ld x3 r0_3) (ix2 r j)
      = prj x0 x1 x2 x3 r j := by
  rw [proj_at]
  unfold prj
  refine Finset.sum_congr rfl fun e _ => congrArg₂ (· * ·) (modRow_congr (fun d => ?_) (fun d => ?_)
    (fun d => ?_) (fun d => ?_) _) ?_
  · refine congrArg x0 (funext fun a => Fin.ext ?_); fin_cases a <;> simp [Rect.unit, Rect.emb]
  · refine congrArg x2 (funext fun a => Fin.ext ?_); fin_cases a <;> simp [Rect.unit, Rect.emb]
  · refine congrArg x1 (funext fun a => Fin.ext ?_); fin_cases a <;> simp [Rect.unit, Rect.emb]
  · refine congrArg x1 (funext fun a => Fin.ext ?_); fin_cases a <;> simp [Rect.unit, Rect.emb]
  · refine congrArg x3 (funext fun a => Fin.ext ?_); fin_cases a <;> simp [Rect.unit, Rect.emb]

/-- A normed head of the body, from the blocks of the arguments. -/
theorem nrm_piece (o : ℕ) (ho : o + 128 ≤ 1536) (g : Vec Ideal S1x128 .f32) (i : S512x128.Idx) (r : Fin 512)
    (b : ℕ) (k : Fin 128) (hb : ∀ d : Fin 128, b + d.val < 1536) (h0 : r.val = (i 0).val) (h1 : b = o)
    (h2 : k.val = (i 1).val) :
    nrm o ho (k0_pay4 (View.ld x0 r0_0) (View.ld x2 r0_1) (View.ld x1 r0_2) (View.ld x3 r0_3)) (View.ld g r0_4) i
      = headRow (prj x0 x1 x2 x3 r) (fun d => g (ix2 0 d)) b hb k := by
  subst h1
  obtain rfl : r = i 0 := Fin.ext h0
  obtain rfl : k = i 1 := Fin.ext h2
  unfold nrm headRow
  refine congrArg₂ (· * ·) (rms_congr _ (fun d => ?_) rfl) ?_
  · exact prj_eq x0 x1 x2 x3 _ _
  · refine congrArg g (funext fun a => Fin.ext ?_)
    fin_cases a <;> simp [Rect.unit, Rect.emb]

/-- The whole block of a table. -/
theorem table_piece (z : Vec Ideal S512x128 .f32) (r : Fin 512) (d : Fin 128) : View.ld z r0_5 (ix2 r d) = z (ix2 r d) := by
  refine congrArg z (funext fun a => Fin.ext ?_)
  fin_cases a <;> simp [Rect.unit, Rect.emb]

/-- A turned head of the body, from the blocks of the arguments. -/
theorem turn_piece (o : ℕ) (ho : o + 128 ≤ 1536) (g : Vec Ideal S1x128 .f32) (i : S512x128.Idx) (r : Fin 512)
    (b : ℕ) (k : Fin 128) (hb : ∀ d : Fin 128, b + d.val < 1536) (h0 : r.val = (i 0).val) (h1 : b = o)
    (h2 : k.val = (i 1).val) :
    turn (nrm o ho (k0_pay4 (View.ld x0 r0_0) (View.ld x2 r0_1) (View.ld x1 r0_2) (View.ld x3 r0_3)) (View.ld g r0_4)) (View.ld x6 r0_5) (View.ld x7 r0_5) i
      = rowTurn (headRow (prj x0 x1 x2 x3 r) (fun d => g (ix2 0 d)) b hb) (fun d => x6 (ix2 r d)) (fun d => x7 (ix2 r d)) k := by
  obtain rfl : r = i 0 := Fin.ext h0
  obtain rfl : k = i 1 := Fin.ext h2
  exact rowTurn_congr (fun d => nrm_piece x0 x1 x2 x3 o ho g _ _ b d hb rfl h1 rfl) (fun d => table_piece x6 _ d)
    (fun d => table_piece x7 _ d) _

/-- The query block: head `h` holds columns `128 h` to `128 h + 127`. -/
theorem outq_at (r : Fin 512) (c : Fin 1024) :
    out0_8 x0 x1 x2 x3 x4 x5 x6 x7 (ix2 r c)
      = rowTurn (headRow (prj x0 x1 x2 x3 r) (fun d => x4 (ix2 0 d)) (c.val / 128 * 128) (by omega))
          (fun d => x6 (ix2 r d)) (fun d => x7 (ix2 r d)) ⟨c.val % 128, by omega⟩ * qScale := by
  unfold_out out0_8
  rw [q0, q1, q2, q3, q4, q5, q6, q7]
  canon_tiles x h
  all_goals
    replace h0 : r.val = _ := h0
    replace h1 : c.val = _ := h1
    unfold qry
    exact congrArg (· * qScale) (turn_piece x0 x1 x2 x3 x6 x7 _ _ x4 x r _ _ _ h0 (by omega) (by dsimp only; omega))

/-- The key block, turned and stored: two heads. -/
theorem outk_at (r : Fin 512) (c : Fin 256) :
    out0_9 x0 x1 x2 x3 x4 x5 x6 x7 (ix2 r c)
      = rowTurn (headRow (prj x0 x1 x2 x3 r) (fun d => x5 (ix2 0 d)) (1024 + c.val / 128 * 128) (by omega))
          (fun d => x6 (ix2 r d)) (fun d => x7 (ix2 r d)) ⟨c.val % 128, by omega⟩ := by
  unfold_out out0_9
  rw [kt0, kt1]
  canon_tiles x h
  all_goals
    replace h0 : r.val = _ := h0
    replace h1 : c.val = _ := h1
    exact turn_piece x0 x1 x2 x3 x6 x7 _ _ x5 x r _ _ _ h0 (by omega) (by dsimp only; omega)

/-- The key block kept wide: the same two heads, not turned. -/
theorem outkf_at (r : Fin 512) (c : Fin 256) :
    out0_11 x0 x1 x2 x3 x4 x5 x6 x7 (ix2 r c)
      = headRow (prj x0 x1 x2 x3 r) (fun d => x5 (ix2 0 d)) (1024 + c.val / 128 * 128) (by omega) ⟨c.val % 128, by omega⟩ := by
  unfold_out out0_11
  rw [k0, k1]
  canon_tiles x h
  all_goals
    replace h0 : r.val = _ := h0
    replace h1 : c.val = _ := h1
    exact nrm_piece x0 x1 x2 x3 _ _ x5 x r _ _ _ h0 (by omega) (by dsimp only; omega)

/-- The value block, as stored. -/
theorem outv_at (r : Fin 512) (c : Fin 256) :
    out0_10 x0 x1 x2 x3 x4 x5 x6 x7 (ix2 r c) = prj x0 x1 x2 x3 r ⟨1280 + c.val, by omega⟩ := by
  unfold_out out0_10
  canon_tiles x h
  all_goals
    replace h0 : r.val = _ := h0
    replace h1 : c.val = _ := h1
    obtain rfl : r = x 0 := Fin.ext h0
    obtain rfl : c = x 1 := Fin.ext h1
    rw [eq_ix2 x]
    exact (vb_at _ _ _).trans (prj_eq x0 x1 x2 x3 _ _)

/-- The value block, kept wide. -/
theorem outvf_at (r : Fin 512) (c : Fin 256) :
    out0_12 x0 x1 x2 x3 x4 x5 x6 x7 (ix2 r c) = prj x0 x1 x2 x3 r ⟨1280 + c.val, by omega⟩ := by
  unfold_out out0_12
  canon_tiles x h
  all_goals
    replace h0 : r.val = _ := h0
    replace h1 : c.val = _ := h1
    obtain rfl : r = x 0 := Fin.ext h0
    obtain rfl : c = x 1 := Fin.ext h1
    rw [eq_ix2 x]
    exact (v_at _ _ _).trans (prj_eq x0 x1 x2 x3 _ _)
end

end Cert.GqaPosIdeal.Pos

end
-- ==== Proof.GqaPosHost.lean ====
/- The tables of cosines and sines that the host computes before the grid. -/
module

public import proofs.«01_k».proof.Proof.Gen.GqaPosIdeal.Frame
public import proofs.«01_k».proof.Proof.Rope
public import Idealize.ShloMosaic.Lib.StableHlo.RunRead
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.GqaPosIdeal.Pos
open Cert.GqaPosIdeal Cert.GqaPosIdeal.Gen Cert.Rope

variable (m : (ℓ : Loc nD τ sig) → Buf (Elt Ideal) ℓ) (c : Dev nD)

/-- The frequencies as the host has them. -/
def freqs : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- Positions times frequencies. -/
def angles (pos : Vec Ideal S2048 .f32) : FVec Ideal S2048x32 .f32 :=
  mulf (broadcastInDim S2048x32 ![0, 1] bcast_S2048x1_S2048x32_0_1 (broadcastInDim S2048x1 ![0] bcast_S2048_S2048x1_0 pos))
    (broadcastInDim S2048x32 ![0, 1] bcast_S1x32_S2048x32_0_1 (broadcastInDim S1x32 ![1] bcast_S32_S1x32_1 freqs))

theorem angles_at (pos : Vec Ideal S2048 .f32) (s : Fin 2048) (q : Fin 32) :
    angles pos (ix2 s q) = pos (ix1 s) * freq q := by
  unfold freq
  pointwise [angles, freqs]

/-- Four quarters side by side, filled up by nothing. -/
def table (a b c d : FVec Ideal S2048x32 .f32) : FVec Ideal S2048x128 .f32 :=
  pad S2048x128 ![0, 0] ![0, 0] ![0, 0]
    (concatenate S2048x128 1 [⟨S2048x32, a⟩, ⟨S2048x32, b⟩, ⟨S2048x32, c⟩, ⟨S2048x32, d⟩]
      concatenates_S2048x32_S2048x32_S2048x32_S2048x32_S2048x128_d1)
    (sitofp (F := Ideal) .f32 (constantI S_ 32 0#32)) pads_S2048x128_S2048x128_000_000 h_S_

/-- Its elements. -/
theorem table_at (a b c d : FVec Ideal S2048x32 .f32) (s : Fin 2048) (l : Fin 128) :
    table a b c d (ix2 s l)
      = if l.val < 32 then a (ix2 s ⟨l.val % 32, by omega⟩) else if l.val < 64 then b (ix2 s ⟨l.val % 32, by omega⟩)
        else if l.val < 96 then c (ix2 s ⟨l.val % 32, by omega⟩) else d (ix2 s ⟨l.val % 32, by omega⟩) := by
  have hl := l.isLt
  unfold table
  rw [pad_apply_of_inside _ _ _ _ _ _ _ _ (ix2 s l : S2048x128.Idx) (by intro d; fin_cases d <;> simp)]
  pointwise
  repeat' split
  all_goals first
    | omega
    | exact congrArg (fun k : Fin 32 => a (ix2 s k)) (Fin.ext (by dsimp only; omega))
    | exact congrArg (fun k : Fin 32 => b (ix2 s k)) (Fin.ext (by dsimp only; omega))
    | exact congrArg (fun k : Fin 32 => c (ix2 s k)) (Fin.ext (by dsimp only; omega))
    | exact congrArg (fun k : Fin 32 => d (ix2 s k)) (Fin.ext (by dsimp only; omega))

/-- What the host has computed when the tables are put together. -/
abbrev U (n : Nat) (b : Ref sig .tc) : Buf (Elt Ideal) ((c : Thread nD τ).loc b) :=
  StableHlo.upto (List.flatten [hostOps0, hostOps0_1, hostOps0_2, hostOps0_3]) (fun b => m (c, b)) n (Proc.devRef .tc b)

theorem u16 : U m c 22 main_v16 = Host.cos (angles (m ((c : Thread nD τ).loc main_arg6))) := by
  show StableHlo.upto _ _ 22 (Proc.devRef .tc main_v16) = _
  after_reads_simp
  rfl

theorem u17 : U m c 22 main_v17 = Host.cos (angles (m ((c : Thread nD τ).loc main_arg6))) := by
  show StableHlo.upto _ _ 22 (Proc.devRef .tc main_v17) = _
  after_reads_simp
  rfl

theorem u18 : U m c 22 main_v18 = Host.cos (angles (m ((c : Thread nD τ).loc main_arg7))) := by
  show StableHlo.upto _ _ 22 (Proc.devRef .tc main_v18) = _
  after_reads_simp
  rfl

theorem u19 : U m c 22 main_v19 = Host.cos (angles (m ((c : Thread nD τ).loc main_arg7))) := by
  show StableHlo.upto _ _ 22 (Proc.devRef .tc main_v19) = _
  after_reads_simp
  rfl

theorem u22 : U m c 29 main_v22 = Host.negf (Host.sin (angles (m ((c : Thread nD τ).loc main_arg6)))) := by
  show StableHlo.upto _ _ 29 (Proc.devRef .tc main_v22) = _
  after_reads_simp
  rfl

theorem u23 : U m c 29 main_v23 = Host.sin (angles (m ((c : Thread nD τ).loc main_arg6))) := by
  show StableHlo.upto _ _ 29 (Proc.devRef .tc main_v23) = _
  after_reads_simp
  rfl

theorem u25 : U m c 29 main_v25 = Host.negf (Host.sin (angles (m ((c : Thread nD τ).loc main_arg7)))) := by
  show StableHlo.upto _ _ 29 (Proc.devRef .tc main_v25) = _
  after_reads_simp
  rfl

theorem u26 : U m c 29 main_v26 = Host.sin (angles (m ((c : Thread nD τ).loc main_arg7))) := by
  show StableHlo.upto _ _ 29 (Proc.devRef .tc main_v26) = _
  after_reads_simp
  rfl

/-- The table of cosines, as the host puts it together. -/
theorem cos_read (x0 x1 x2 x3 : FVec Ideal S2048x32 .f32) (h0 : U m c 22 main_v16 = x0) (h1 : U m c 22 main_v17 = x1) (h2 : U m c 22 main_v18 = x2) (h3 : U m c 22 main_v19 = x3) :
    V m c main_v28 = table x0 x1 x2 x3 := by
  dsimp only [V]
  after_reads_simp
  rw [← h0, ← h1, ← h2, ← h3]
  rfl

/-- The table of sines, as the host puts it together. -/
theorem sin_read (x0 x1 x2 x3 : FVec Ideal S2048x32 .f32) (h0 : U m c 29 main_v22 = x0) (h1 : U m c 29 main_v23 = x1) (h2 : U m c 29 main_v25 = x2) (h3 : U m c 29 main_v26 = x3) :
    V m c main_v29 = table x0 x1 x2 x3 := by
  dsimp only [V]
  after_reads_simp
  rw [← h0, ← h1, ← h2, ← h3]
  rfl

/-- The table of cosines. -/
theorem cos_table (s : Fin 2048) (l : Fin 128) :
    V m c main_v28 (ix2 s l)
      = cosT (m ((c : Thread nD τ).loc main_arg6) (ix1 s)) (m ((c : Thread nD τ).loc main_arg7) (ix1 s)) l := by
  rw [cos_read m c _ _ _ _ (u16 m c) (u17 m c) (u18 m c) (u19 m c), table_at]
  have hc : ∀ (pos : Vec Ideal S2048 .f32) (q : Fin 32), Host.cos (angles pos) (ix2 s q)
      = FloatOps.hostUnary (F := Ideal) (φ := .f32) .cos (pos (ix1 s) * freq q) := fun pos q =>
    congrArg (FloatOps.hostUnary (F := Ideal) (φ := .f32) .cos) (angles_at pos s q)
  unfold cosT angle
  rw [hc, hc]
  split_ifs
  all_goals first
    | omega
    | rfl

/-- The table of sines. -/
theorem sin_table (s : Fin 2048) (l : Fin 128) :
    V m c main_v29 (ix2 s l)
      = sinT (m ((c : Thread nD τ).loc main_arg6) (ix1 s)) (m ((c : Thread nD τ).loc main_arg7) (ix1 s)) l := by
  have hl := l.isLt
  rw [sin_read m c _ _ _ _ (u22 m c) (u23 m c) (u25 m c) (u26 m c), table_at]
  have hs : ∀ (pos : Vec Ideal S2048 .f32) (q : Fin 32), Host.sin (angles pos) (ix2 s q)
      = FloatOps.hostUnary (F := Ideal) (φ := .f32) .sin (pos (ix1 s) * freq q) := fun pos q =>
    congrArg (FloatOps.hostUnary (F := Ideal) (φ := .f32) .sin) (angles_at pos s q)
  have hn : ∀ (pos : Vec Ideal S2048 .f32) (q : Fin 32), Host.negf (Host.sin (angles pos)) (ix2 s q)
      = -FloatOps.hostUnary (F := Ideal) (φ := .f32) .sin (pos (ix1 s) * freq q) := fun pos q =>
    congrArg (fun y : EReal => -y) (hs pos q)
  unfold sinT angle
  rw [hs, hs, hn, hn]
  split_ifs
  all_goals first
    | omega
    | rfl

end Cert.GqaPosIdeal.Pos

end
-- ==== Proof.GqaPosRef.lean ====
/- The reference of the latent tokens' grouped-query preparation at an element: norms, projection and rotary turning. -/
module

public import proofs.«01_k».proof.Proof.Rope
public import proofs.«01_k».proof.Proof.GqaRef
public import proofs.«01_k».proof.Proof.MlpRef
public import proofs.«01_k».proof.Proof.Gen.GqaPosRefIdeal.Read
public import Idealize.ShloMosaic.Lib.Pipeline.ValueKit

@[expose] public section

set_option maxRecDepth 16384

noncomputable section

open Idealize.ShloMosaic Idealize.ShloMosaic.TcCoe Idealize.SL.Sem

namespace Cert.GqaPosRefIdeal.Pos
open Cert.GqaPosRefIdeal Cert.GqaPosRefIdeal.Read Cert.Norm Cert.Rope

variable (x0 : Vec Ideal S16384x1024 .f32) (x1 : Vec Ideal S16x8x1024 .f32) (x2 : Vec Ideal S1x1024 .f32)
  (x3 : Vec Ideal S1024x1536 .bf16) (x4 x5 : Vec Ideal S1x128 .f32) (x6 x7 : Vec Ideal S2048 .f32)

/-- The modulated norm of a row, with its batch's row of the modulation table. -/
theorem mod_at (b : Fin 8) (s : Fin 2048) (e : Fin 1024) (n : Fin 16384) (bb : Fin 16) (hn : n.val = b.val * 2048 + s.val)
    (hb : bb.val = b.val) :
    val_main_v26 (F := Ideal) x0 x1 x2 (ix3 b s e)
      = modRow (fun d => x0 (ix2 n d)) (fun d => x2 (ix2 0 d)) (fun d => x1 (ix3 bb 1 d)) (fun d => x1 (ix3 bb 0 d)) e := by
  have := b.isLt
  have := s.isLt
  have := e.isLt
  have hx : ∀ (i : S8x2048x1024.Idx) (d : Fin 1024), (i 0).val = b.val → (i 1).val = s.val → (i 2).val = d.val →
      val_main_v0 (F := Ideal) x0 i = x0 (ix2 n d) := fun i d g0 g1 g2 => by
    rw [val_main_v0_apply]
    refine congrArg x0 (funext fun a => Fin.ext ?_)
    have := d.isLt
    fin_cases a <;> simp [g0, g1, g2] <;> omega
  rw [val_main_v26_apply, val_main_v21_apply, val_main_v14_apply, val_main_v11_apply, val_main_v10_apply, val_main_v9_apply,
    val_main_v8_apply, val_main_v7_apply, val_main_cst_1_apply, val_main_v6_apply, val_main_v5_apply, val_main_cst_0_apply,
    val_main_v4_apply, val_main_v3_apply, val_main_cst_apply, val_main_v13_apply, val_main_v12_apply, val_main_v1_apply,
    val_main_v20_apply, val_main_v19_apply, val_main_v18_apply, val_main_cst_2_apply, val_main_v17_apply,
    val_main_v16_apply, val_main_v15_apply, val_main_v25_apply, val_main_v24_apply, val_main_v23_apply, val_main_v22_apply]
  simp only [val_main_v2_apply]
  unfold modRow rms
  rw [← MixMlpRefIdeal.Mlp.div_1024]
  refine congrArg₂ (· + ·) (congrArg₂ (· * ·) (congrArg₂ (· * ·) (congrArg₂ (· * ·) (hx _ e rfl rfl rfl) ?_) (congrArg x2 ?_))
    (congrArg (Ideal.ofBits .f32 0x3F800000#32 + ·) (congrArg x1 ?_))) (congrArg x1 ?_)
  · refine congrArg (fun s => Ideal.rsqrt (Ideal.div s (Ideal.ofBits .f32 0x44800000#32) + Ideal.ofBits .f32 0x358637BD#32)) ?_
    refine (congrArg₂ (· + ·) ofBits_zero (Finset.sum_congr rfl fun d _ => ?_)).trans (zero_add _)
    exact congrArg₂ (· * ·) (hx _ d rfl rfl rfl) (hx _ d rfl rfl rfl)
  all_goals
    refine funext fun a => Fin.ext ?_
    fin_cases a <;> simp [hb] <;> omega

/-- The projection of a token. -/
def prj (n : Fin 16384) (j : Fin 1536) : EReal :=
  ∑ e : Fin 1024, modRow (fun d => x0 (ix2 n d)) (fun d => x2 (ix2 0 d)) (fun d => x1 (ix3 ⟨n.val / 2048, by omega⟩ 1 d))
    (fun d => x1 (ix3 ⟨n.val / 2048, by omega⟩ 0 d)) e * x3 (ix2 e j)

/-- The reference's projection at an element. -/
theorem prj_at (i : S8x2048x1536.Idx) (n : Fin 16384) (j : Fin 1536) (h0 : n.val = (i 0).val * 2048 + (i 1).val)
    (h1 : (i 2).val = j.val) :
    val_main_v28 (F := Ideal) x0 x1 x2 x3 i = prj x0 x1 x2 x3 n j := by
  have := n.isLt
  have : (i 1).val < 2048 := (i 1).isLt
  rw [val_main_v28_apply]
  unfold prj
  refine Finset.sum_congr rfl fun e _ => congrArg₂ (· * ·) ?_ ?_
  · refine Eq.trans (congrArg _ (funext fun a => Fin.ext ?_))
      (mod_at x0 x1 x2 (i 0) (i 1) e n ⟨n.val / 2048, by omega⟩ h0 (by show n.val / 2048 = (i 0).val; omega))
    fin_cases a <;> simp
  · rw [val_main_v27_apply]
    refine congrArg x3 (funext fun a => Fin.ext ?_)
    fin_cases a <;> simp [h1]

/-- The projection with its columns in heads. -/
theorem heads_at (i : S8x2048x12x128.Idx) (n : Fin 16384) (j : Fin 1536) (h0 : n.val = (i 0).val * 2048 + (i 1).val)
    (h1 : (i 2).val * 128 + (i 3).val = j.val) :
    val_main_v29 (F := Ideal) x0 x1 x2 x3 i = prj x0 x1 x2 x3 n j := by
  have : (i 0).val < 8 := (i 0).isLt
  have : (i 1).val < 2048 := (i 1).isLt
  have : (i 2).val < 12 := (i 2).isLt
  have : (i 3).val < 128 := (i 3).isLt
  rw [val_main_v29_apply]
  refine prj_at x0 x1 x2 x3 _ n _ ?_ ?_ <;> simp <;> omega

/-- A head of the queries, normed. -/
theorem q_at (i : S8x2048x8x128.Idx) (n : Fin 16384) (b : ℕ) (k : Fin 128) (hb : ∀ d : Fin 128, b + d.val < 1536)
    (h0 : n.val = (i 0).val * 2048 + (i 1).val) (h1 : (i 2).val * 128 = b) (h2 : (i 3).val = k.val) :
    val_main_v50 (F := Ideal) x0 x1 x2 x3 x4 i = headRow (prj x0 x1 x2 x3 n) (fun d => x4 (ix2 0 d)) b hb k := by
  have hp : ∀ (i' : S8x2048x8x128.Idx) (d : Fin 128), n.val = (i' 0).val * 2048 + (i' 1).val → (i' 2).val * 128 = b →
      (i' 3).val = d.val →
      val_main_v36 (F := Ideal) x0 x1 x2 x3 i' = prj x0 x1 x2 x3 n ⟨b + d.val, hb d⟩ := fun i' d g0 g1 g2 => by
    have := d.isLt
    have : (i' 2).val < 8 := (i' 2).isLt
    rw [val_main_v36_apply]
    refine heads_at x0 x1 x2 x3 _ n _ ?_ ?_ <;> simp [g0, g2] <;> omega
  rw [val_main_v50_apply, val_main_v47_apply, val_main_v46_apply, val_main_v45_apply, val_main_v44_apply, val_main_v43_apply,
    val_main_cst_7_apply, val_main_v42_apply, val_main_v41_apply, val_main_cst_6_apply, val_main_v40_apply, val_main_v39_apply,
    val_main_cst_5_apply, val_main_v49_apply, val_main_v48_apply, val_main_v37_apply]
  simp only [val_main_v38_apply]
  unfold headRow rms
  rw [← div_128]
  refine congrArg₂ (· * ·) (congrArg₂ (· * ·) (hp _ _ h0 h1 h2) ?_) (congrArg x4 ?_)
  · refine congrArg (fun s => Ideal.rsqrt (Ideal.div s (Ideal.ofBits .f32 0x43000000#32) + Ideal.ofBits .f32 0x358637BD#32)) ?_
    refine (congrArg₂ (· + ·) ofBits_zero (Finset.sum_congr rfl fun d _ => ?_)).trans (zero_add _)
    exact congrArg₂ (· * ·) (hp _ d h0 h1 rfl) (hp _ d h0 h1 rfl)
  · refine funext fun a => Fin.ext ?_
    fin_cases a <;> simp [h2]

/-- A head of the keys, normed. -/
theorem k_at (i : S8x2048x2x128.Idx) (n : Fin 16384) (b : ℕ) (k : Fin 128) (hb : ∀ d : Fin 128, b + d.val < 1536)
    (h0 : n.val = (i 0).val * 2048 + (i 1).val) (h1 : 1024 + (i 2).val * 128 = b) (h2 : (i 3).val = k.val) :
    val_main_v117 (F := Ideal) x0 x1 x2 x3 x5 i = headRow (prj x0 x1 x2 x3 n) (fun d => x5 (ix2 0 d)) b hb k := by
  have hp : ∀ (i' : S8x2048x2x128.Idx) (d : Fin 128), n.val = (i' 0).val * 2048 + (i' 1).val → 1024 + (i' 2).val * 128 = b →
      (i' 3).val = d.val →
      val_main_v103 (F := Ideal) x0 x1 x2 x3 i' = prj x0 x1 x2 x3 n ⟨b + d.val, hb d⟩ := fun i' d g0 g1 g2 => by
    have := d.isLt
    have : (i' 2).val < 2 := (i' 2).isLt
    rw [val_main_v103_apply]
    refine heads_at x0 x1 x2 x3 _ n _ ?_ ?_ <;> simp [g0, g2] <;> omega
  rw [val_main_v117_apply, val_main_v114_apply, val_main_v113_apply, val_main_v112_apply, val_main_v111_apply, val_main_v110_apply,
    val_main_cst_12_apply, val_main_v109_apply, val_main_v108_apply, val_main_cst_11_apply, val_main_v107_apply, val_main_v106_apply,
    val_main_cst_10_apply, val_main_v116_apply, val_main_v115_apply, val_main_v104_apply]
  simp only [val_main_v105_apply]
  unfold headRow rms
  rw [← div_128]
  refine congrArg₂ (· * ·) (congrArg₂ (· * ·) (hp _ _ h0 h1 h2) ?_) (congrArg x5 ?_)
  · refine congrArg (fun s => Ideal.rsqrt (Ideal.div s (Ideal.ofBits .f32 0x43000000#32) + Ideal.ofBits .f32 0x358637BD#32)) ?_
    refine (congrArg₂ (· + ·) ofBits_zero (Finset.sum_congr rfl fun d _ => ?_)).trans (zero_add _)
    exact congrArg₂ (· * ·) (hp _ d h0 h1 rfl) (hp _ d h0 h1 rfl)
  · refine funext fun a => Fin.ext ?_
    fin_cases a <;> simp [h2]

/-- The reference's frequencies. -/
theorem freq_eq (q : Fin 32) : val_main_v35 (F := Ideal) (ix1 q) = freq q := by
  unfold freq
  pointwise [val_main_v35, val_main_v34, val_main_v33, val_main_v32, val_main_v31, val_main_v30, val_main_cst_3, val_main_cst_4]

/-- The turned queries. -/
theorem qt_at (b : Fin 8) (s : Fin 2048) (h : Fin 8) (k : Fin 128) :
    val_main_v97 (F := Ideal) x0 x1 x2 x3 x4 x6 x7 (ix4 b s h k)
      = rowTurn (fun d => val_main_v50 (F := Ideal) x0 x1 x2 x3 x4 (ix4 b s h d)) (cosT (x6 (ix1 s)) (x7 (ix1 s)))
          (sinT (x6 (ix1 s)) (x7 (ix1 s))) k := by
  unfold val_main_v97 val_main_v73 val_main_v96 val_main_v67 val_main_v72 val_main_v64 val_main_v66 val_main_v69 val_main_v71
    val_main_v61 val_main_v62 val_main_v51 val_main_v90 val_main_v95 val_main_v87 val_main_v89 val_main_v92 val_main_v94
    val_main_v84 val_main_v85 val_main_v74
  generalize val_main_v50 (F := Ideal) x0 x1 x2 x3 x4 = u
  pointwise [val_main_v63, val_main_v65, val_main_v68, val_main_v70, val_main_v86, val_main_v88, val_main_v91, val_main_v93,
    val_main_v58, val_main_v60, val_main_v81, val_main_v83, val_main_v57, val_main_v59, val_main_v80, val_main_v82,
    val_main_v56, val_main_v79, val_main_v54, val_main_v55, val_main_v77, val_main_v78, val_main_v52, val_main_v53, val_main_v75, val_main_v76]
  exact halves_eq (fun d => u (ix4 b s h d)) (fun q => val_main_v35 (F := Ideal) (ix1 q)) freq_eq _ _ k

/-- The turned keys. -/
theorem kt_at (b : Fin 8) (s : Fin 2048) (h : Fin 2) (k : Fin 128) :
    val_main_v168 (F := Ideal) x0 x1 x2 x3 x5 x6 x7 (ix4 b s h k)
      = rowTurn (fun d => val_main_v117 (F := Ideal) x0 x1 x2 x3 x5 (ix4 b s h d)) (cosT (x6 (ix1 s)) (x7 (ix1 s)))
          (sinT (x6 (ix1 s)) (x7 (ix1 s))) k := by
  unfold val_main_v168 val_main_v144 val_main_v167 val_main_v138 val_main_v143 val_main_v135 val_main_v137 val_main_v140
    val_main_v142 val_main_v132 val_main_v133 val_main_v122 val_main_v161 val_main_v166 val_main_v158 val_main_v160
    val_main_v163 val_main_v165 val_main_v155 val_main_v156 val_main_v145
  generalize val_main_v117 (F := Ideal) x0 x1 x2 x3 x5 = u
  pointwise [val_main_v134, val_main_v136, val_main_v139, val_main_v141, val_main_v157, val_main_v159, val_main_v162,
    val_main_v164, val_main_v129, val_main_v131, val_main_v152, val_main_v154, val_main_v128, val_main_v130, val_main_v151,
    val_main_v153, val_main_v127, val_main_v150, val_main_v125, val_main_v126, val_main_v148, val_main_v149, val_main_v123,
    val_main_v124, val_main_v146, val_main_v147]
  exact halves_eq (fun d => u (ix4 b s h d)) (fun q => val_main_v35 (F := Ideal) (ix1 q)) freq_eq _ _ k

/-- The queries handed on. -/
theorem resq_at (n : Fin 16384) (l : Fin 1024) (s : Fin 2048) (hs : s.val = n.val % 2048) :
    val_main_v121 (F := Ideal) x0 x1 x2 x3 x4 x6 x7 (ix2 n l)
      = rowTurn (headRow (prj x0 x1 x2 x3 n) (fun d => x4 (ix2 0 d)) (l.val / 128 * 128) (by omega))
          (cosT (x6 (ix1 s)) (x7 (ix1 s))) (sinT (x6 (ix1 s)) (x7 (ix1 s))) ⟨l.val % 128, by omega⟩
        * (((Real.log 2)⁻¹ * (Real.sqrt 128)⁻¹ : ℝ) : EReal) := by
  have := n.isLt
  have := l.isLt
  rw [val_main_v121_apply, val_main_v120_apply, val_main_v102_apply, val_main_v101_apply, val_main_v100_apply,
    val_main_v98_apply, val_main_v99_apply, val_main_cst_8_apply, val_main_cst_9_apply]
  refine (GqaPrepRefIdeal.Prep.scale_div _).trans (congrArg (· * _) ?_)
  refine Eq.trans (congrArg (val_main_v97 (F := Ideal) x0 x1 x2 x3 x4 x6 x7) (funext fun a => Fin.ext ?_))
    ((qt_at x0 x1 x2 x3 x4 x6 x7 ⟨n.val / 2048, by omega⟩ s ⟨l.val / 128, by omega⟩ ⟨l.val % 128, by omega⟩).trans
      (rowTurn_congr (fun d => q_at x0 x1 x2 x3 x4 _ n _ d _ ?_ ?_ ?_) (fun _ => rfl) (fun _ => rfl) _))
  · fin_cases a <;> simp [hs] <;> omega
  · simp [hs]; omega
  · simp
  · simp

/-- The keys handed on. -/
theorem resk_at (n : Fin 16384) (l : Fin 256) (s : Fin 2048) (hs : s.val = n.val % 2048) :
    val_main_v170 (F := Ideal) x0 x1 x2 x3 x5 x6 x7 (ix2 n l)
      = rowTurn (headRow (prj x0 x1 x2 x3 n) (fun d => x5 (ix2 0 d)) (1024 + l.val / 128 * 128) (by omega))
          (cosT (x6 (ix1 s)) (x7 (ix1 s))) (sinT (x6 (ix1 s)) (x7 (ix1 s))) ⟨l.val % 128, by omega⟩ := by
  have := n.isLt
  have := l.isLt
  rw [val_main_v170_apply, val_main_v169_apply]
  refine Eq.trans (congrArg (val_main_v168 (F := Ideal) x0 x1 x2 x3 x5 x6 x7) (funext fun a => Fin.ext ?_))
    ((kt_at x0 x1 x2 x3 x5 x6 x7 ⟨n.val / 2048, by omega⟩ s ⟨l.val / 128, by omega⟩ ⟨l.val % 128, by omega⟩).trans
      (rowTurn_congr (fun d => k_at x0 x1 x2 x3 x5 _ n _ d _ ?_ ?_ ?_) (fun _ => rfl) (fun _ => rfl) _))
  · fin_cases a <;> simp [hs] <;> omega
  · simp [hs]; omega
  · simp
  · simp

/-- The keys kept. -/
theorem reskf_at (n : Fin 16384) (l : Fin 256) :
    val_main_v172 (F := Ideal) x0 x1 x2 x3 x5 (ix2 n l)
      = headRow (prj x0 x1 x2 x3 n) (fun d => x5 (ix2 0 d)) (1024 + l.val / 128 * 128) (by omega) ⟨l.val % 128, by omega⟩ := by
  have := n.isLt
  have := l.isLt
  rw [val_main_v172_apply]
  refine k_at x0 x1 x2 x3 x5 _ n _ _ _ ?_ ?_ ?_ <;> simp <;> omega

/-- The values kept. -/
theorem resv_at (n : Fin 16384) (l : Fin 256) :
    val_main_v119 (F := Ideal) x0 x1 x2 x3 (ix2 n l) = prj x0 x1 x2 x3 n ⟨1280 + l.val, by omega⟩ := by
  have := n.isLt
  have := l.isLt
  rw [val_main_v119_apply, val_main_v118_apply]
  refine heads_at x0 x1 x2 x3 _ n _ ?_ ?_ <;> simp <;> omega

end Cert.GqaPosRefIdeal.Pos

end
-- ==== Proof.GqaPosValue.lean ====
/- The latent tokens' grouped-query preparation's five results are the reference's. -/
module

public import proofs.«01_k».proof.Proof.GqaPosHead
public import proofs.«01_k».proof.Proof.GqaPosHost
public import proofs.«01_k».proof.Proof.GqaPosRef
public import proofs.«01_k».proof.Proof.Gen.GqaPosIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GqaPosIdeal.Pos
open Cert.GqaPosIdeal Cert.GqaPosIdeal.Gen Cert.Norm Cert.Rope

variable (m : (ℓ : Loc nD τ sig) → Buf (Elt Ideal) ℓ)

/-- The block of every window at every grid point. -/
theorem idx : ∀ t : Fin cfg0.N, win0_0.index t = ![t.val, 0] ∧ win0_1.index t = ![t.val / 4, 0, 0] ∧ win0_2.index t = ![0, 0]
    ∧ win0_3.index t = ![0, 0] ∧ win0_4.index t = ![0, 0] ∧ win0_5.index t = ![0, 0] ∧ win0_6.index t = ![t.val % 4, 0]
    ∧ win0_7.index t = ![t.val % 4, 0] ∧ win0_8.index t = ![t.val, 0] ∧ win0_9.index t = ![t.val, 0]
    ∧ win0_10.index t = ![t.val, 0] ∧ win0_11.index t = ![t.val, 0] ∧ win0_12.index t = ![t.val, 0] ∧ t.val < 32 :=
  (by decide +kernel : ∀ t : Fin grid0.N, _)

/-- A point's projection is the reference's at its tokens. -/
theorem prj_point (c : Dev nD) (t : Fin cfg0.N) (r : Fin 512) (j : Fin 1536) (n : Fin 16384)
    (hn : n.val = t.val * 512 + r.val) :
    prj (iblk m c 0 t) (iblk m c 1 t) (iblk m c 2 t) (iblk m c 3 t) r j
      = GqaPosRefIdeal.Pos.prj (m ((c : Thread nD τ).loc main_arg0)) (m ((c : Thread nD τ).loc main_arg1))
          (m ((c : Thread nD τ).loc main_arg2)) (m ((c : Thread nD τ).loc main_arg3)) n j := by
  have h0 : ∀ d : Fin 1024, iblk m c 0 t (ix2 r d) = m ((c : Thread nD τ).loc main_arg0) (ix2 n d) := fun d => by
    rw [← V_main_arg0 m c]
    blk_ext [iblk, idx t]
  have h1 : ∀ (a : Fin 8) (d : Fin 1024), iblk m c 1 t (ix3 0 a d)
      = m ((c : Thread nD τ).loc main_arg1) (ix3 ⟨n.val / 2048, by omega⟩ a d) := fun a d => by
    have hb : n.val / 2048 = t.val / 4 := by omega
    rw [← V_main_arg1 m c]
    blk_ext [iblk, idx t, hb]
  have h2 : ∀ d : Fin 1024, iblk m c 2 t (ix2 0 d) = m ((c : Thread nD τ).loc main_arg2) (ix2 0 d) := fun d => by
    rw [← V_main_arg2 m c]
    blk_ext [iblk, idx t]
  have h3 : ∀ e : Fin 1024, iblk m c 3 t (ix2 e j) = m ((c : Thread nD τ).loc main_arg3) (ix2 e j) := fun e => by
    rw [← V_main_arg3 m c]
    blk_ext [iblk, idx t]
  exact Finset.sum_congr rfl fun e _ => congrArg₂ (· * ·)
    (modRow_congr h0 h2 (fun d => h1 1 d) (fun d => h1 0 d) e) (h3 e)

/-- The gain of the queries. -/
theorem qg_point (c : Dev nD) (t : Fin cfg0.N) (k : Fin 128) :
    iblk m c 4 t (ix2 0 k) = m ((c : Thread nD τ).loc main_arg4) (ix2 0 k) := by
  rw [← V_main_arg4 m c]
  blk_ext [iblk, idx t]

/-- The gain of the keys. -/
theorem kg_point (c : Dev nD) (t : Fin cfg0.N) (k : Fin 128) :
    iblk m c 5 t (ix2 0 k) = m ((c : Thread nD τ).loc main_arg5) (ix2 0 k) := by
  rw [← V_main_arg5 m c]
  blk_ext [iblk, idx t]

/-- The cosines of a point's rows. -/
theorem cos_point (c : Dev nD) (t : Fin cfg0.N) (r : Fin 512) (k : Fin 128) (s : Fin 2048)
    (hs : s.val = t.val % 4 * 512 + r.val) :
    iblk m c 6 t (ix2 r k)
      = cosT (m ((c : Thread nD τ).loc main_arg6) (ix1 s)) (m ((c : Thread nD τ).loc main_arg7) (ix1 s)) k := by
  rw [← cos_table m c]
  blk_ext [iblk, idx t]

/-- The sines of a point's rows. -/
theorem sin_point (c : Dev nD) (t : Fin cfg0.N) (r : Fin 512) (k : Fin 128) (s : Fin 2048)
    (hs : s.val = t.val % 4 * 512 + r.val) :
    iblk m c 7 t (ix2 r k)
      = sinT (m ((c : Thread nD τ).loc main_arg6) (ix1 s)) (m ((c : Thread nD τ).loc main_arg7) (ix1 s)) k := by
  rw [← sin_table m c]
  blk_ext [iblk, idx t]

/-- A point's queries. -/
theorem q_point (c : Dev nD) (t : Fin cfg0.N) (r : Fin 512) (l : Fin 1024) (n : Fin 16384)
    (hn : n.val = t.val * 512 + r.val) :
    out0_8 (iblk m c 0 t) (iblk m c 1 t) (iblk m c 2 t) (iblk m c 3 t) (iblk m c 4 t) (iblk m c 5 t) (iblk m c 6 t) (iblk m c 7 t)
        (ix2 r l)
      = GqaPosRefIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (ix2 n l) := by
  have hs : n.val % 2048 = t.val % 4 * 512 + r.val := by omega
  rw [outq_at, GqaPosRefIdeal.Pos.resq_at _ _ _ _ _ _ _ n l ⟨n.val % 2048, by omega⟩ rfl]
  exact congrArg (· * _) (rowTurn_congr (fun d => headRow_congr _ _ (fun j => prj_point m c t r j n hn) (fun d => qg_point m c t d) d)
    (fun d => cos_point m c t r d _ hs) (fun d => sin_point m c t r d _ hs) _)

/-- A point's keys, turned. -/
theorem k_point (c : Dev nD) (t : Fin cfg0.N) (r : Fin 512) (l : Fin 256) (n : Fin 16384)
    (hn : n.val = t.val * 512 + r.val) :
    out0_9 (iblk m c 0 t) (iblk m c 1 t) (iblk m c 2 t) (iblk m c 3 t) (iblk m c 4 t) (iblk m c 5 t) (iblk m c 6 t) (iblk m c 7 t)
        (ix2 r l)
      = GqaPosRefIdeal.Read.val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (ix2 n l) := by
  have hs : n.val % 2048 = t.val % 4 * 512 + r.val := by omega
  rw [outk_at, GqaPosRefIdeal.Pos.resk_at _ _ _ _ _ _ _ n l ⟨n.val % 2048, by omega⟩ rfl]
  exact rowTurn_congr (fun d => headRow_congr _ _ (fun j => prj_point m c t r j n hn) (fun d => kg_point m c t d) d)
    (fun d => cos_point m c t r d _ hs) (fun d => sin_point m c t r d _ hs) _

/-- A point's keys, not turned. -/
theorem kf_point (c : Dev nD) (t : Fin cfg0.N) (r : Fin 512) (l : Fin 256) (n : Fin 16384)
    (hn : n.val = t.val * 512 + r.val) :
    out0_11 (iblk m c 0 t) (iblk m c 1 t) (iblk m c 2 t) (iblk m c 3 t) (iblk m c 4 t) (iblk m c 5 t) (iblk m c 6 t) (iblk m c 7 t)
        (ix2 r l)
      = GqaPosRefIdeal.Read.val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 n l) := by
  rw [outkf_at, GqaPosRefIdeal.Pos.reskf_at]
  exact headRow_congr _ _ (fun j => prj_point m c t r j n hn) (fun d => kg_point m c t d) _

/-- A point's values. -/
theorem v_point (c : Dev nD) (t : Fin cfg0.N) (r : Fin 512) (l : Fin 256) (n : Fin 16384)
    (hn : n.val = t.val * 512 + r.val) :
    out0_12 (iblk m c 0 t) (iblk m c 1 t) (iblk m c 2 t) (iblk m c 3 t) (iblk m c 4 t) (iblk m c 5 t) (iblk m c 6 t) (iblk m c 7 t)
        (ix2 r l)
      = GqaPosRefIdeal.Read.val_main_v119 (F := Ideal) (m ((c : Thread nD τ).loc main_arg0)) (m ((c : Thread nD τ).loc main_arg1)) (m ((c : Thread nD τ).loc main_arg2)) (m ((c : Thread nD τ).loc main_arg3)) (ix2 n l) := by
  rw [outvf_at, GqaPosRefIdeal.Pos.resv_at]
  exact prj_point m c t r _ n hn

/-- The queries. -/
theorem final8 (c : Dev nD) :
    (dats m 0 c).arrAt 8 (cfgs 0).N
      = GqaPosRefIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_covers 8 _ (by decide +kernel) fun t _ y => ?_
  have ht : t.val < 32 := (idx t).2.2.2.2.2.2.2.2.2.2.2.2.2
  blk_simp
  rw [after0_8]
  have hy0 : (y 0).val < 512 := (y 0).isLt
  have hy1 : (y 1).val < 1024 := (y 1).isLt
  refine Eq.trans ?_ ((q_point m c t (y 0) (y 1) ⟨t.val * 512 + (y 0).val, by omega⟩ rfl).trans ?_)
  · blk_ext
  · blk_ext [idx t]

/-- The keys, as the attention takes them. -/
theorem final9 (c : Dev nD) :
    (dats m 0 c).arrAt 9 (cfgs 0).N
      = GqaPosRefIdeal.Read.val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 9 _ (by decide +kernel) fun t _ y => ?_
  have ht : t.val < 32 := (idx t).2.2.2.2.2.2.2.2.2.2.2.2.2
  blk_simp
  rw [after0_9]
  have hy0 : (y 0).val < 512 := (y 0).isLt
  have hy1 : (y 1).val < 256 := (y 1).isLt
  refine Eq.trans ?_ ((k_point m c t (y 0) (y 1) ⟨t.val * 512 + (y 0).val, by omega⟩ rfl).trans ?_)
  · blk_ext
  · blk_ext [idx t]

/-- The values, as the attention takes them. -/
theorem final10 (c : Dev nD) :
    (dats m 0 c).arrAt 10 (cfgs 0).N
      = GqaPosRefIdeal.Read.val_main_v171 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  have ht : t.val < 32 := (idx t).2.2.2.2.2.2.2.2.2.2.2.2.2
  blk_simp
  rw [after0_10]
  have hy0 : (y 0).val < 512 := (y 0).isLt
  have hy1 : (y 1).val < 256 := (y 1).isLt
  refine Eq.trans ?_ ((v_point m c t (y 0) (y 1) ⟨t.val * 512 + (y 0).val, by omega⟩ rfl).trans ?_)
  · refine Eq.trans ?_ ((outv_at _ _ _ _ (iblk m c 4 t) (iblk m c 5 t) (iblk m c 6 t) (iblk m c 7 t) _ _).trans
      (outvf_at _ _ _ _ _ _ _ _ _ _).symm)
    blk_ext
  · rw [GqaPosRefIdeal.Read.val_main_v171_apply]
    blk_ext [idx t]

/-- The keys kept. -/
theorem final11 (c : Dev nD) :
    (dats m 0 c).arrAt 11 (cfgs 0).N
      = GqaPosRefIdeal.Read.val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 11 _ (by decide +kernel) fun t _ y => ?_
  have ht : t.val < 32 := (idx t).2.2.2.2.2.2.2.2.2.2.2.2.2
  blk_simp
  rw [after0_11]
  have hy0 : (y 0).val < 512 := (y 0).isLt
  have hy1 : (y 1).val < 256 := (y 1).isLt
  refine Eq.trans ?_ ((kf_point m c t (y 0) (y 1) ⟨t.val * 512 + (y 0).val, by omega⟩ rfl).trans ?_)
  · blk_ext
  · blk_ext [idx t]

/-- The values kept. -/
theorem final12 (c : Dev nD) :
    (dats m 0 c).arrAt 12 (cfgs 0).N
      = GqaPosRefIdeal.Read.val_main_v119 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t _ y => ?_
  have ht : t.val < 32 := (idx t).2.2.2.2.2.2.2.2.2.2.2.2.2
  blk_simp
  rw [after0_12]
  have hy0 : (y 0).val < 512 := (y 0).isLt
  have hy1 : (y 1).val < 256 := (y 1).isLt
  refine Eq.trans ?_ ((v_point m c t (y 0) (y 1) ⟨t.val * 512 + (y 0).val, by omega⟩ rfl).trans ?_)
  · blk_ext
  · blk_ext [idx t]

end Cert.GqaPosIdeal.Pos

end
-- ==== Proof.MlaSpec.lean ====
/- The formulas of the latent preparation, from one token's projection: both sides of the value claim read as these. -/
module

public import proofs.«01_k».proof.Proof.Norm

@[expose] public section

noncomputable section

open Idealize.ShloMosaic

namespace Cert.MlaNorm

/-- A row divided by its root mean square; `κ` is the reciprocal of the length. -/
def rmsBy {n : ℕ} (κ : EReal) (x : Fin n → EReal) (c : Fin n) : EReal :=
  x c * Ideal.rsqrt ((∑ d, x d * x d) * κ + Ideal.ofBits .f32 0x358637BD#32)

/-- `rmsBy` at equal rows. -/
theorem rmsBy_congr {n : ℕ} (κ : EReal) {x y : Fin n → EReal} (h : ∀ d, x d = y d) {c c' : Fin n} (hc : c = c') :
    rmsBy κ x c = rmsBy κ y c' := by rw [funext h, hc]

/-- The reciprocal of 64. -/
abbrev i64 : EReal := Ideal.ofBits .f32 0x3C800000#32
/-- The reciprocal of 128. -/
abbrev i128 : EReal := Ideal.ofBits .f32 0x3C000000#32
/-- The reciprocal of 256. -/
abbrev i256 : EReal := Ideal.ofBits .f32 0x3B800000#32
/-- The reciprocal of 384, which no pattern denotes. -/
abbrev i384 : EReal := ((384⁻¹ : ℝ) : EReal)
/-- What the queries are scaled by: the reciprocals of ln 2 and of the root of the head width. -/
abbrev qScale : EReal := (((Real.log 2)⁻¹ * (Real.sqrt 192)⁻¹ : ℝ) : EReal)

/-- Division by a real is multiplication by its reciprocal. -/
theorem div_real (s : EReal) {x : ℝ} (hx : x ≠ 0) : Ideal.div s (x : EReal) = s * ((x⁻¹ : ℝ) : EReal) := by
  unfold Ideal.div
  rw [if_neg (by exact_mod_cast hx), EReal.coe_inv]

/-- Division by 64 is multiplication by its reciprocal. -/
theorem div_64 (s : EReal) : Ideal.div s (Ideal.ofBits .f32 0x42800000#32) = s * i64 := by
  have e1 : Ideal.ofBits .f32 0x42800000#32 = ((64 : ℝ) : EReal) := by
    simp [Ideal.ofBits, Ideal.ieee]
    rw [← EReal.coe_mul]
    norm_num
  have e2 : i64 = ((64⁻¹ : ℝ) : EReal) := by
    simp [i64, Ideal.ofBits, Ideal.ieee]
    rw [← EReal.coe_mul]
    norm_num
  rw [e1, e2, div_real s (by norm_num)]

/-- Division by 256 is multiplication by its reciprocal. -/
theorem div_256 (s : EReal) : Ideal.div s (Ideal.ofBits .f32 0x43800000#32) = s * i256 := by
  have e1 : Ideal.ofBits .f32 0x43800000#32 = ((256 : ℝ) : EReal) := by
    simp [Ideal.ofBits, Ideal.ieee]
    rw [← EReal.coe_mul]
    norm_num
  have e2 : i256 = ((256⁻¹ : ℝ) : EReal) := by
    simp [i256, Ideal.ofBits, Ideal.ieee]
    rw [← EReal.coe_mul]
    norm_num
  rw [e1, e2, div_real s (by norm_num)]

/-- Division by 384 is multiplication by its reciprocal. -/
theorem div_384 (s : EReal) : Ideal.div s (Ideal.ofBits .f32 0x43C00000#32) = s * i384 := by
  have e1 : Ideal.ofBits .f32 0x43C00000#32 = ((384 : ℝ) : EReal) := by
    simp [Ideal.ofBits, Ideal.ieee]
    rw [← EReal.coe_mul]
    norm_num
  rw [e1, div_real s (by norm_num)]

/-- The scale of the queries as the reference writes it: a division by `sqrt 192 * log 2`. -/
theorem scale_div (x : EReal) :
    Ideal.div x (Ideal.sqrt (Ideal.ofBits .f32 0x43400000#32) * Ideal.log (Ideal.ofBits .f32 0x40000000#32))
      = x * qScale := by
  have h1 : Ideal.ofBits .f32 0x43400000#32 = ((192 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  have hl : (0 : ℝ) < Real.log 2 := Real.log_pos (by norm_num)
  have hs : (0 : ℝ) < Real.sqrt 192 := Real.sqrt_pos.2 (by norm_num)
  rw [h1, h2, Ideal.sqrt_coe, if_neg (by norm_num), Ideal.log_coe, if_neg (by norm_num), ← EReal.coe_mul,
    div_real x (mul_pos hs hl).ne', mul_inv, mul_comm (Real.sqrt 192)⁻¹]

/-- A row of 128 whose upper half is zero, divided by the root mean square of its lower half: that half's, then zeros. -/
theorem rmsBy_half (κ : EReal) (x : Fin 128 → EReal) (hx : ∀ d : Fin 128, 64 ≤ d.val → x d = 0) (c : Fin 128) :
    rmsBy κ x c = if h : c.val < 64 then rmsBy κ (fun d : Fin 64 => x ⟨d.val, by omega⟩) ⟨c.val, h⟩ else 0 := by
  have hs : ∑ d, x d * x d = ∑ d : Fin 64, x ⟨d.val, by omega⟩ * x ⟨d.val, by omega⟩ := by
    refine (Fin.sum_univ_add (a := 64) (b := 64) fun d => x d * x d).trans ?_
    refine (congrArg₂ (· + ·) rfl (Finset.sum_eq_zero fun d _ => ?_)).trans (add_zero _)
    rw [hx _ (by simp), zero_mul]
  unfold rmsBy
  by_cases h : c.val < 64
  · rw [dif_pos h, hs]
  · rw [dif_neg h, hx c (by omega), zero_mul]

/-- The latent of the queries, normed. -/
def cq (p : Fin 704 → EReal) (g : Fin 384 → EReal) (e : Fin 384) : EReal :=
  rmsBy i384 (fun d : Fin 384 => p ⟨d.val, by omega⟩) e * g e

/-- The latent of the keys and values, normed. -/
def ckv (p : Fin 704 → EReal) (g : Fin 256 → EReal) (e : Fin 256) : EReal :=
  rmsBy i256 (fun d : Fin 256 => p ⟨384 + d.val, by omega⟩) e * g e

/-- The shared columns of the keys, normed. -/
def kr (p : Fin 704 → EReal) (g : Fin 64 → EReal) (e : Fin 64) : EReal :=
  rmsBy i64 (fun d : Fin 64 => p ⟨640 + d.val, by omega⟩) e * g e

/-- A token's query heads, 192 columns each. -/
def qh (p : Fin 704 → EReal) (g : Fin 384 → EReal) (w : Fin 384 → Fin 1536 → EReal) (l : Fin 1536) : EReal :=
  ∑ e : Fin 384, cq p g e * w e l

/-- A token's heads of keys and values, 256 columns each. -/
def kvh (p : Fin 704 → EReal) (g : Fin 256 → EReal) (w : Fin 256 → Fin 2048 → EReal) (l : Fin 2048) : EReal :=
  ∑ e : Fin 256, ckv p g e * w e l

/-- Column `j` of the slot of query head `h`: the normed 128 columns, the normed 64 columns, then zeros. -/
def qSlot (y : Fin 1536 → EReal) (gn : Fin 128 → EReal) (gr : Fin 64 → EReal) (h : Fin 8) (j : Fin 256) : EReal :=
  if h1 : j.val < 128 then
    rmsBy i128 (fun d : Fin 128 => y ⟨h.val * 192 + d.val, by omega⟩) ⟨j.val, h1⟩ * gn ⟨j.val, h1⟩ * qScale
  else if h2 : j.val < 192 then
    rmsBy i64 (fun d : Fin 64 => y ⟨h.val * 192 + 128 + d.val, by omega⟩) ⟨j.val - 128, by omega⟩
      * gr ⟨j.val - 128, by omega⟩ * qScale
  else 0

/-- Column `j` of the slot of key head `h`: its own normed 128 columns, the shared 64, then zeros. -/
def kSlot (y : Fin 2048 → EReal) (s : Fin 64 → EReal) (gn : Fin 128 → EReal) (h : Fin 8) (j : Fin 256) : EReal :=
  if h1 : j.val < 128 then
    rmsBy i128 (fun d : Fin 128 => y ⟨h.val * 256 + d.val, by omega⟩) ⟨j.val, h1⟩ * gn ⟨j.val, h1⟩
  else if h2 : j.val < 192 then s ⟨j.val - 128, by omega⟩
  else 0

end Cert.MlaNorm

end
-- ==== Proof.RopeMla.lean ====
/- The rotary turning of 64 columns, in quarters of 16, alone and at the start of 128 lanes. -/
module

public import proofs.«01_k».proof.Proof.MlaSpec
public import Idealize.ShloMosaic.Lib.Pipeline.ValueKit

@[expose] public section

set_option maxRecDepth 16384

noncomputable section

open Idealize.ShloMosaic Idealize.ShloMosaic.TcCoe Idealize.SL.Sem

namespace Cert.RopeMla
open Cert.MlaNorm

/-- The lane a lane is turned against: 16 further in the even quarters, 16 back in the odd ones. -/
def partner {n : ℕ} (hn : n % 32 = 0) (c : Fin n) : Fin n :=
  if h : c.val / 16 % 2 = 0 then ⟨c.val + 16, by omega⟩ else ⟨c.val - 16, by omega⟩

theorem partner_even {n : ℕ} (hn : n % 32 = 0) (c : Fin n) (h : c.val / 16 % 2 = 0) : (partner hn c).val = c.val + 16 := by
  unfold partner
  rw [dif_pos h]

theorem partner_odd {n : ℕ} (hn : n % 32 = 0) (c : Fin n) (h : ¬ c.val / 16 % 2 = 0) : (partner hn c).val = c.val - 16 := by
  unfold partner
  rw [dif_neg h]

/-- Lanes turned: a lane times its cosine and the partner times the lane's signed sine. -/
def rowTurn {n : ℕ} (hn : n % 32 = 0) (u cs sn : Fin n → EReal) (c : Fin n) : EReal :=
  u c * cs c + u (partner hn c) * sn c

/-- Rows, cosines and sines with equal lanes are turned alike. -/
theorem rowTurn_congr {n : ℕ} (hn : n % 32 = 0) {u u' cs cs' sn sn' : Fin n → EReal} (hu : ∀ d, u d = u' d)
    (hc : ∀ d, cs d = cs' d) (hs : ∀ d, sn d = sn' d) {c c' : Fin n} (h : c = c') :
    rowTurn hn u cs sn c = rowTurn hn u' cs' sn' c' := by
  unfold rowTurn
  rw [h, hu, hc, hu, hs]

/-- 128 lanes whose upper half is zero, turned: the lower half turned, then zeros. -/
theorem rowTurn_half (u cs sn : Fin 128 → EReal) (v ct st : Fin 64 → EReal)
    (hu : ∀ d : Fin 128, u d = if h : d.val < 64 then v ⟨d.val, h⟩ else 0)
    (hc : ∀ (d : Fin 128) (h : d.val < 64), cs d = ct ⟨d.val, h⟩) (hs : ∀ (d : Fin 128) (h : d.val < 64), sn d = st ⟨d.val, h⟩)
    (c : Fin 128) :
    rowTurn (by norm_num) u cs sn c = if h : c.val < 64 then rowTurn (by norm_num) v ct st ⟨c.val, h⟩ else 0 := by
  unfold rowTurn
  by_cases h : c.val < 64
  · have hp : (partner (by norm_num) c).val < 64 := by unfold partner; split <;> dsimp only <;> omega
    have he : (⟨(partner (by norm_num) c).val, hp⟩ : Fin 64) = partner (by norm_num) ⟨c.val, h⟩ := by
      unfold partner
      by_cases h2 : c.val / 16 % 2 = 0
      · simp only [dif_pos h2]
      · simp only [dif_neg h2]
    rw [dif_pos h, hu c, dif_pos h, hu (partner _ c), dif_pos hp, hc c h, hs c h, he]
  · have hp : ¬ (partner (by norm_num) c).val < 64 := by unfold partner; split <;> dsimp only <;> omega
    rw [dif_neg h, hu c, dif_neg h, hu (partner _ c), dif_neg hp, zero_mul, zero_mul, add_zero]

/-- The frequency of a lane of a quarter: ten thousand to the power of minus its share of the quarter. -/
def freq (q : Fin 16) : EReal :=
  FloatOps.hostPowf (F := Ideal) (φ := .f32) (FloatOps.ofBits .f32 0x461C4000#32)
    (FloatOps.hostDivf (F := Ideal) (φ := .f32) (FloatOps.hostNegf (F := Ideal) (φ := .f32)
      (FloatOps.sitofp (F := Ideal) .f32 (BitVec.ofNat 32 q.val))) (FloatOps.ofBits .f32 0x41800000#32))

/-- A lane's angle: the row's position in the first 32 columns and the column's in the last 32, times the frequency. -/
def angle (row col : EReal) (c : Fin 64) : EReal := (if c.val < 32 then row else col) * freq ⟨c.val % 16, by omega⟩

/-- A lane's cosine. -/
def cosT (row col : EReal) (c : Fin 64) : EReal := FloatOps.hostUnary (F := Ideal) (φ := .f32) .cos (angle row col c)

/-- A lane's sine, negative in the even quarters. -/
def sinT (row col : EReal) (c : Fin 64) : EReal :=
  if c.val / 16 % 2 = 0 then -FloatOps.hostUnary (F := Ideal) (φ := .f32) .sin (angle row col c)
  else FloatOps.hostUnary (F := Ideal) (φ := .f32) .sin (angle row col c)

/-- Each half of the 64 columns turned by its own angles, its first quarter against its second: their turning. -/
theorem halves_eq (u : Fin 64 → EReal) (f : Fin 16 → EReal) (hf : ∀ q, f q = freq q) (row col : EReal) (k : Fin 64) :
    (if h1 : k.val < 32 then
      if h2 : k.val < 16 then
        u k * Ideal.cos (row * f ⟨k.val, h2⟩) - u ⟨16 + k.val, by omega⟩ * Ideal.sin (row * f ⟨k.val, h2⟩)
      else
        u ⟨k.val - 16, by omega⟩ * Ideal.sin (row * f ⟨k.val - 16, by omega⟩)
          + u ⟨16 + (k.val - 16), by omega⟩ * Ideal.cos (row * f ⟨k.val - 16, by omega⟩)
    else
      if h2 : k.val - 32 < 16 then
        u ⟨32 + (k.val - 32), by omega⟩ * Ideal.cos (col * f ⟨k.val - 32, h2⟩)
          - u ⟨32 + (16 + (k.val - 32)), by omega⟩ * Ideal.sin (col * f ⟨k.val - 32, h2⟩)
      else
        u ⟨32 + (k.val - 32 - 16), by omega⟩ * Ideal.sin (col * f ⟨k.val - 32 - 16, by omega⟩)
          + u ⟨32 + (16 + (k.val - 32 - 16)), by omega⟩ * Ideal.cos (col * f ⟨k.val - 32 - 16, by omega⟩))
      = rowTurn (by norm_num) u (cosT row col) (sinT row col) k := by
  have hk := k.isLt
  have hc : ∀ (x : EReal) (q : Fin 16), q.val = k.val % 16 → (if k.val < 32 then row else col) = x →
      cosT row col k = Ideal.cos (x * f q) := fun x q hq hx => by
    rw [hf]
    unfold cosT angle
    rw [hx]
    exact congrArg (fun q => Ideal.cos (x * freq q)) (Fin.ext hq.symm)
  have hs : ∀ (x : EReal) (q : Fin 16), q.val = k.val % 16 → (if k.val < 32 then row else col) = x →
      sinT row col k = if k.val / 16 % 2 = 0 then -Ideal.sin (x * f q) else Ideal.sin (x * f q) := fun x q hq hx => by
    rw [hf]
    unfold sinT angle
    rw [hx]
    exact congrArg (fun q => if k.val / 16 % 2 = 0 then -Ideal.sin (x * freq q) else Ideal.sin (x * freq q)) (Fin.ext hq.symm)
  have hu : ∀ a b : Fin 64, a.val = b.val → u a = u b := fun a b h => congrArg u (Fin.ext h)
  unfold rowTurn
  by_cases h1 : k.val < 32
  · rw [dif_pos h1]
    by_cases h2 : k.val < 16
    · rw [dif_pos h2, hc row ⟨k.val, h2⟩ (by dsimp only; omega) (if_pos h1), hs row ⟨k.val, h2⟩ (by dsimp only; omega) (if_pos h1),
        if_pos (by omega), mul_neg, sub_eq_add_neg,
        hu (partner (by norm_num) k) ⟨16 + k.val, by omega⟩ (by rw [partner_even (by norm_num) k (by omega)]; dsimp only; omega)]
    · rw [dif_neg h2, hc row ⟨k.val - 16, by omega⟩ (by dsimp only; omega) (if_pos h1),
        hs row ⟨k.val - 16, by omega⟩ (by dsimp only; omega) (if_pos h1), if_neg (by omega), add_comm,
        hu (partner (by norm_num) k) ⟨k.val - 16, by omega⟩ (by rw [partner_odd (by norm_num) k (by omega)]),
        hu ⟨16 + (k.val - 16), by omega⟩ k (by dsimp only; omega)]
  · rw [dif_neg h1]
    by_cases h2 : k.val - 32 < 16
    · rw [dif_pos h2, hc col ⟨k.val - 32, h2⟩ (by dsimp only; omega) (if_neg h1),
        hs col ⟨k.val - 32, h2⟩ (by dsimp only; omega) (if_neg h1), if_pos (by omega), mul_neg, sub_eq_add_neg,
        hu (partner (by norm_num) k) ⟨32 + (16 + (k.val - 32)), by omega⟩ (by rw [partner_even (by norm_num) k (by omega)]; dsimp only; omega),
        hu ⟨32 + (k.val - 32), by omega⟩ k (by dsimp only; omega)]
    · rw [dif_neg h2, hc col ⟨k.val - 32 - 16, by omega⟩ (by dsimp only; omega) (if_neg h1),
        hs col ⟨k.val - 32 - 16, by omega⟩ (by dsimp only; omega) (if_neg h1), if_neg (by omega), add_comm,
        hu (partner (by norm_num) k) ⟨32 + (k.val - 32 - 16), by omega⟩ (by rw [partner_odd (by norm_num) k (by omega)]; dsimp only; omega),
        hu ⟨32 + (16 + (k.val - 32 - 16)), by omega⟩ k (by dsimp only; omega)]

/-- Column `j` of the slot of query head `h`: the normed 128 columns, the normed 64 columns turned, then zeros. -/
def qSlotT (y : Fin 1536 → EReal) (gn : Fin 128 → EReal) (gr cs sn : Fin 64 → EReal) (h : Fin 8) (j : Fin 256) : EReal :=
  if h1 : j.val < 128 then
    rmsBy i128 (fun d : Fin 128 => y ⟨h.val * 192 + d.val, by omega⟩) ⟨j.val, h1⟩ * gn ⟨j.val, h1⟩ * qScale
  else if h2 : j.val < 192 then
    rowTurn (by norm_num) (fun e : Fin 64 => rmsBy i64 (fun d : Fin 64 => y ⟨h.val * 192 + 128 + d.val, by omega⟩) e * gr e)
      cs sn ⟨j.val - 128, by omega⟩ * qScale
  else 0

end Cert.RopeMla

end
-- ==== Proof.MlaPosHead.lean ====
/- The payloads of the kernel that prepares the latent tokens' heads with their positions, at an element. -/
module

public import proofs.«01_k».proof.Proof.Gen.MlaPosIdeal.Frame
public import proofs.«01_k».proof.Proof.RopeMla
public import Idealize.ShloMosaic.Lib.Pipeline.ValueKit

@[expose] public section

set_option maxRecDepth 16384

noncomputable section

open Idealize.ShloMosaic Idealize.ShloMosaic.TcCoe Idealize.SL.Sem

namespace Cert.MlaPosIdeal.Pos
open Cert.MlaPosIdeal Cert.MlaPosIdeal.Gen Cert.MlaNorm Cert.RopeMla

/-- The named scale of the queries. -/
theorem named_scale : Named.named (F := Ideal) κ "q_scale" (φ := .f32) 0x3DD53B95#32 = qScale :=
  IdealRules.named_const.ideal_named_scalar _ _ _ _ rfl

/-- The named reciprocal of 384. -/
theorem named_384 : Named.named (F := Ideal) κ "inv_384" (φ := .f32) 0x3B2AAAAB#32 = i384 :=
  IdealRules.named_const.ideal_named_scalar _ _ _ _ rfl

/-- Two tiles with equal elements are equal. -/
theorem tile_ext {α : Type} {a b : S512x128.Idx → α} (h : ∀ r c, a (ix2 r c) = b (ix2 r c)) : a = b := by
  funext i
  rw [eq_ix2 i]
  exact h _ _

/-- The queries' latent of a block. -/
theorem cq_pay (x : Vec Ideal S512x384 .f32) (g : Vec Ideal S1x384 .f32) (r : Fin 512) (e : Fin 384) :
    k0_pay1 (F := Ideal) x g (ix2 r e) = rmsBy i384 (fun d => x (ix2 r d)) e * g (ix2 0 e) := by
  unfold rmsBy
  pointwise [k0_pay1, named_384]

/-- The latent of the keys and values of a block. -/
theorem ckv_pay (x : Vec Ideal S512x256 .f32) (g : Vec Ideal S1x256 .f32) (r : Fin 512) (e : Fin 256) :
    k0_pay2 (F := Ideal) x g (ix2 r e) = rmsBy i256 (fun d => x (ix2 r d)) e * g (ix2 0 e) := by
  unfold rmsBy
  pointwise [k0_pay2]

/-- The shared columns of the keys of a block, filled up to 128. -/
theorem kr_pay (x : Vec Ideal S512x128 .f32) (g : Vec Ideal S1x128 .f32) (r : Fin 512) (e : Fin 128) :
    k0_pay6 (F := Ideal) (k0_pay3 x) (k0_pay4 x) k0_pay5 g (ix2 r e) = rmsBy i64 (fun d => x (ix2 r d)) e * g (ix2 0 e) := by
  unfold rmsBy
  pointwise [k0_pay6, k0_pay3, k0_pay4, k0_pay5]

/-- The queries' product. -/
theorem q_pay (y : FVec Ideal S512x384 .f32) (w : Vec Ideal S384x2048 .bf16) (r : Fin 512) (l : Fin 2048) :
    k0_pay7 (F := Ideal) y w (ix2 r l) = ∑ e : Fin 384, y (ix2 r e) * w (ix2 e l) := by
  pointwise [k0_pay7]

/-- The product of the keys and values. -/
theorem kv_pay (y : FVec Ideal S512x256 .f32) (w : Vec Ideal S256x2048 .bf16) (r : Fin 512) (l : Fin 2048) :
    k0_pay104 (F := Ideal) y w (ix2 r l) = ∑ e : Fin 256, y (ix2 r e) * w (ix2 e l) := by
  pointwise [k0_pay104]

/-- The lanes of the even quarters, as the body finds them: 1 there and 0 elsewhere. -/
def even : IVec S512x128 1 :=
  cmpi .eq (select (andi (xori (cmpi .slt k0_pay15 (broadcast S512x128 0#32)) (broadcastTo S512x128 (broadcast S512x128
      (Scalar.cmpi .slt (Scalar.select (Scalar.cmpi .eq 2#32 0#32) 1#32 2#32) 0#32)) broadcasts_S512x128_S512x128)) k0_pay16)
    (addi k0_pay15 (broadcast S512x128 (Scalar.select (Scalar.cmpi .eq 2#32 0#32) 1#32 2#32))) k0_pay15)
    (broadcast S512x128 0#32)

/-- The mask at a lane. -/
theorem even_at (r : Fin 512) (c : Fin 128) : even (ix2 r c) = if c.val / 16 % 2 = 0 then 1#1 else 0#1 := by
  pointwise [even, k0_pay15, k0_pay16]
  revert c
  decide +kernel

/-- A tile turned by the tables. -/
def turn (u cs sn : FVec Ideal S512x128 .f32) : FVec Ideal S512x128 .f32 := fun i =>
  rowTurn (n := 128) (by norm_num) (fun d => u (ix2 (i 0) d)) (fun d => cs (ix2 (i 0) d)) (fun d => sn (ix2 (i 0) d)) (i 1)

/-- The body's turning of a tile. -/
theorem turn_eq (u cs sn : FVec Ideal S512x128 .f32) :
    addf (F := Ideal) (mulf u (shapeCast S512x128 cs shapeCasts_S512x128_S512x128))
      (mulf (select even (dynamicRotate 1 112#32 none u rotates_S512x128_d1) (dynamicRotate 1 16#32 none u rotates_S512x128_d1))
        (shapeCast S512x128 sn shapeCasts_S512x128_S512x128)) = turn u cs sn := by
  refine tile_ext fun r c => ?_
  have hc := c.isLt
  unfold turn rowTurn
  by_cases h : c.val / 16 % 2 = 0
  · pointwise [even_at, h]
    exact congrArg₂ (· + ·) rfl (congrArg (· * _) (congrArg (fun k : Fin 128 => u (ix2 r k))
      (Fin.ext (by rw [partner_even _ c h]; dsimp only; omega))))
  · pointwise [even_at, h]
    exact congrArg₂ (· + ·) rfl (congrArg (· * _) (congrArg (fun k : Fin 128 => u (ix2 r k))
      (Fin.ext (by rw [partner_odd _ c h]; dsimp only; omega))))

/-- A turned tile times the body's scale. -/
theorem scaled_eq (u cs sn : FVec Ideal S512x128 .f32) :
    truncf (F := Ideal) .bf16 (mulf (addf (mulf u (shapeCast S512x128 cs shapeCasts_S512x128_S512x128))
      (mulf (select even (dynamicRotate 1 112#32 none u rotates_S512x128_d1) (dynamicRotate 1 16#32 none u rotates_S512x128_d1))
        (shapeCast S512x128 sn shapeCasts_S512x128_S512x128)))
      (broadcast S512x128 (Named.named (F := Ideal) κ "q_scale" (φ := .f32) 0x3DD53B95#32))) bitsLt_bf16_f32
      = fun i => turn u cs sn i * qScale := by
  rw [turn_eq, named_scale]
  rfl

/-- The columns from `o` on, normed, with their gain. -/
def nrm (κ : EReal) (o : ℕ) (ho : o + 128 ≤ 2048) (y : FVec Ideal S512x2048 .f32) (g : Vec Ideal S1x128 .f32) :
    FVec Ideal S512x128 .f32 :=
  fun i => rmsBy κ (fun d : Fin 128 => y (ix2 (i 0) ⟨o + d.val, by omega⟩)) (i 1) * g (ix2 0 (i 1))

/-- The own columns of a query head: normed and scaled. -/
def qry (o : ℕ) (ho : o + 128 ≤ 2048) (y : FVec Ideal S512x2048 .f32) (g : Vec Ideal S1x128 .f32) :
    FVec Ideal S512x128 .bf16 := fun i => nrm i128 o ho y g i * qScale

/-- The last columns of a query head: normed, turned and scaled. -/
def qrt (o : ℕ) (ho : o + 128 ≤ 2048) (y : FVec Ideal S512x2048 .f32) (g : Vec Ideal S1x128 .f32)
    (cs sn : FVec Ideal S512x128 .f32) : FVec Ideal S512x128 .bf16 := fun i => turn (nrm i64 o ho y g) cs sn i * qScale

/-- The columns from `o` on. -/
def col (o : ℕ) (ho : o + 128 ≤ 2048) (y : FVec Ideal S512x2048 .f32) : FVec Ideal S512x128 .bf16 :=
  fun i => y (ix2 (i 0) ⟨o + (i 1).val, Nat.lt_of_lt_of_le (Nat.add_lt_add_left (i 1).isLt o) ho⟩)

section
variable (y : FVec Ideal S512x2048 .f32) (g : Vec Ideal S1x128 .f32) (a : FVec Ideal S512x384 .f32)
  (w : Vec Ideal S384x2048 .bf16) (b : FVec Ideal S512x256 .f32) (z : Vec Ideal S256x2048 .bf16) (x : Vec Ideal S512x128 .f32)
  (cs sn : FVec Ideal S512x128 .f32)

/-- The first columns of query head 0. -/
theorem q0 : k0_pay17 (F := Ideal) (k0_pay8 a w g) = qry 0 (by norm_num) (k0_pay7 a w) g := by
  unfold k0_pay8
  generalize k0_pay7 (F := Ideal) a w = y
  refine tile_ext fun r c => ?_
  unfold qry nrm rmsBy
  pointwise [k0_pay17, named_scale]

/-- The last columns of query head 0, normed. -/
theorem n0 : k0_pay10 (F := Ideal) (k0_pay9 a w) g = nrm i64 128 (by norm_num) (k0_pay7 a w) g := by
  unfold k0_pay9
  generalize k0_pay7 (F := Ideal) a w = y
  refine tile_ext fun r c => ?_
  unfold nrm rmsBy
  pointwise [k0_pay10]

/-- The first columns of query head 1. -/
theorem q2 : k0_pay28 (F := Ideal) (k0_pay19 y g) = qry 256 (by norm_num) y g := by
  refine tile_ext fun r c => ?_
  unfold qry nrm rmsBy
  pointwise [k0_pay28, k0_pay19, named_scale]

/-- The first columns of query head 2. -/
theorem q4 : k0_pay40 (F := Ideal) (k0_pay31 (k0_pay30 y) g) = qry 512 (by norm_num) y g := by
  refine tile_ext fun r c => ?_
  unfold qry nrm rmsBy
  pointwise [k0_pay40, k0_pay31, k0_pay30, named_scale]

/-- The first columns of query head 3. -/
theorem q6 : k0_pay52 (F := Ideal) (k0_pay44 (k0_pay42 y) (k0_pay43 y) g) = qry 768 (by norm_num) y g := by
  refine tile_ext fun r c => ?_
  unfold qry nrm rmsBy
  pointwise [k0_pay52, k0_pay44, k0_pay42, k0_pay43, named_scale]

/-- The first columns of query head 4. -/
theorem q8 : k0_pay63 (F := Ideal) (k0_pay54 y g) = qry 1024 (by norm_num) y g := by
  refine tile_ext fun r c => ?_
  unfold qry nrm rmsBy
  pointwise [k0_pay63, k0_pay54, named_scale]

/-- The first columns of query head 5. -/
theorem q10 : k0_pay72 (F := Ideal) (k0_pay65 y g) = qry 1280 (by norm_num) y g := by
  refine tile_ext fun r c => ?_
  unfold qry nrm rmsBy
  pointwise [k0_pay72, k0_pay65, named_scale]

/-- The first columns of query head 6. -/
theorem q12 : k0_pay84 (F := Ideal) (k0_pay74 y g) = qry 1536 (by norm_num) y g := by
  refine tile_ext fun r c => ?_
  unfold qry nrm rmsBy
  pointwise [k0_pay84, k0_pay74, named_scale]

/-- The first columns of query head 7. -/
theorem q14 : k0_pay95 (F := Ideal) (k0_pay86 y g) = qry 1792 (by norm_num) y g := by
  refine tile_ext fun r c => ?_
  unfold qry nrm rmsBy
  pointwise [k0_pay95, k0_pay86, named_scale]

/-- The last columns of query head 1, normed. -/
theorem n1 : k0_pay22 (F := Ideal) (k0_pay20 y) (k0_pay21 y) (Scalar.ofBits .f32 0x3C800000#32) g = nrm i64 384 (by norm_num) y g := by
  refine tile_ext fun r c => ?_
  unfold nrm rmsBy
  pointwise [k0_pay22, k0_pay20, k0_pay21]

/-- The last columns of query head 2, normed. -/
theorem n2 : k0_pay32 (F := Ideal) y g = nrm i64 640 (by norm_num) y g := by
  refine tile_ext fun r c => ?_
  unfold nrm rmsBy
  pointwise [k0_pay32]

/-- The last columns of query head 3, normed. -/
theorem n3 : k0_pay45 (F := Ideal) y g = nrm i64 896 (by norm_num) y g := by
  refine tile_ext fun r c => ?_
  unfold nrm rmsBy
  pointwise [k0_pay45]

/-- The last columns of query head 4, normed. -/
theorem n4 : k0_pay55 (F := Ideal) y g = nrm i64 1152 (by norm_num) y g := by
  refine tile_ext fun r c => ?_
  unfold nrm rmsBy
  pointwise [k0_pay55]

/-- The last columns of query head 5, normed. -/
theorem n5 : k0_pay66 (F := Ideal) y g = nrm i64 1408 (by norm_num) y g := by
  refine tile_ext fun r c => ?_
  unfold nrm rmsBy
  pointwise [k0_pay66]

/-- The last columns of query head 6, normed. -/
theorem n6 : k0_pay75 (F := Ideal) y g = nrm i64 1664 (by norm_num) y g := by
  refine tile_ext fun r c => ?_
  unfold nrm rmsBy
  pointwise [k0_pay75]

/-- The last columns of query head 7, normed. -/
theorem n7 : k0_pay89 (F := Ideal) (k0_pay87 y) (k0_pay88 y) g = nrm i64 1920 (by norm_num) y g := by
  refine tile_ext fun r c => ?_
  unfold nrm rmsBy
  pointwise [k0_pay89, k0_pay87, k0_pay88]

/-- The last columns of query head 0, turned and scaled. -/
theorem q1 : k0_pay18 (F := Ideal) (k0_pay11 sn) (k0_pay12 (k0_pay9 a w) g cs) (k0_pay13 (k0_pay9 a w) g) (k0_pay14 (k0_pay9 a w) g) (Scalar.select (Scalar.cmpi .eq 2#32 0#32) 1#32 2#32) k0_pay15 k0_pay16
    = qrt 128 (by norm_num) (k0_pay7 a w) g cs sn :=
  (show _ = _ from scaled_eq (k0_pay10 (k0_pay9 a w) g) cs sn).trans (by rw [n0]; rfl)

/-- The last columns of query head 1, turned and scaled. -/
theorem q3 : k0_pay29 (F := Ideal) (k0_pay23 sn) (k0_pay24 (k0_pay20 y) (k0_pay21 y) (Scalar.ofBits .f32 0x3C800000#32) g cs) (k0_pay25 (k0_pay20 y) (k0_pay21 y) (Scalar.ofBits .f32 0x3C800000#32) g) (k0_pay26 (k0_pay20 y) (k0_pay21 y) (Scalar.ofBits .f32 0x3C800000#32) g) k0_pay27 2#32
    = qrt 384 (by norm_num) y g cs sn :=
  (show _ = _ from scaled_eq (k0_pay22 (k0_pay20 y) (k0_pay21 y) (Scalar.ofBits .f32 0x3C800000#32) g) cs sn).trans (by rw [n1]; rfl)

/-- The last columns of query head 2, turned and scaled. -/
theorem q5 : k0_pay41 (F := Ideal) (k0_pay33 sn) (k0_pay34 y g cs) (k0_pay35 y g) (k0_pay36 y g) k0_pay37 k0_pay38 k0_pay39
    = qrt 640 (by norm_num) y g cs sn :=
  (show _ = _ from scaled_eq (k0_pay32 y g) cs sn).trans (by rw [n2]; rfl)

/-- The last columns of query head 3, turned and scaled. -/
theorem q7 : k0_pay53 (F := Ideal) (k0_pay46 sn) (k0_pay47 y g cs) (iota .tc S512x128 32 [1] iota_S512x128_d1_w32) (k0_pay48 y g) (k0_pay49 y g) 16#32 k0_pay50 k0_pay51 (Scalar.cmpi .sgt 16#32 0#32)
    = qrt 896 (by norm_num) y g cs sn :=
  (show _ = _ from scaled_eq (k0_pay45 y g) cs sn).trans (by rw [n3]; rfl)

/-- The last columns of query head 4, turned and scaled. -/
theorem q9 : k0_pay64 (F := Ideal) (k0_pay62 (k0_pay56 sn) (k0_pay57 y g cs) (iota .tc S512x128 32 [1] iota_S512x128_d1_w32) (k0_pay58 y g) (k0_pay59 y g) 16#32 k0_pay60 k0_pay61)
    = qrt 1152 (by norm_num) y g cs sn :=
  (show _ = _ from scaled_eq (k0_pay55 y g) cs sn).trans (by rw [n4]; rfl)

/-- The last columns of query head 5, turned and scaled. -/
theorem q11 : k0_pay73 (F := Ideal) (k0_pay67 sn) (k0_pay68 y g cs) (k0_pay69 (k0_pay66 y g)) (k0_pay70 (k0_pay66 y g)) (k0_pay71 (iota .tc S512x128 32 [1] iota_S512x128_d1_w32))
    = qrt 1408 (by norm_num) y g cs sn :=
  (show _ = _ from scaled_eq (k0_pay66 y g) cs sn).trans (by rw [n5]; rfl)

/-- The last columns of query head 6, turned and scaled. -/
theorem q13 : k0_pay85 (F := Ideal) (k0_pay76 sn) (k0_pay77 (k0_pay75 y g) cs) (k0_pay78 (k0_pay75 y g)) (k0_pay79 (k0_pay75 y g)) (Scalar.select (Scalar.cmpi .eq 2#32 0#32) 1#32 2#32) k0_pay80 k0_pay81 k0_pay82 k0_pay83
    = qrt 1664 (by norm_num) y g cs sn :=
  (show _ = _ from scaled_eq (k0_pay75 y g) cs sn).trans (by rw [n6]; rfl)

/-- The last columns of query head 7, turned and scaled. -/
theorem q15 : k0_pay96 (F := Ideal) (k0_pay90 sn) (k0_pay91 (k0_pay87 y) (k0_pay88 y) g cs) (k0_pay92 (k0_pay87 y) (k0_pay88 y) g) (k0_pay93 (k0_pay87 y) (k0_pay88 y) g) (Scalar.select (Scalar.cmpi .eq 2#32 0#32) 1#32 2#32) k0_pay94
    = qrt 1920 (by norm_num) y g cs sn :=
  (show _ = _ from scaled_eq (k0_pay89 (k0_pay87 y) (k0_pay88 y) g) cs sn).trans (by rw [n7]; rfl)

/-- The shared columns of the keys, turned. -/
theorem kt : k0_pay105 (F := Ideal) (k0_pay97 sn) (k0_pay98 x cs) (iota .tc S512x128 32 [1] iota_S512x128_d1_w32) (k0_pay99 x) (k0_pay100 x) 16#32 k0_pay101 k0_pay102 k0_pay103
    = turn x cs sn :=
  show _ = _ from turn_eq x cs sn

/-- The own columns of key head 0. -/
theorem k0 : k0_pay108 (F := Ideal) (k0_pay106 b z) (k0_pay107 b z) g = nrm i128 0 (by norm_num) (k0_pay104 b z) g := by
  unfold k0_pay106 k0_pay107
  unfold k0_pay106
  generalize k0_pay104 (F := Ideal) b z = y
  refine tile_ext fun r c => ?_
  unfold nrm rmsBy
  pointwise [k0_pay108]

/-- The own columns of key head 1. -/
theorem k1 : k0_pay110 (F := Ideal) y g = nrm i128 256 (by norm_num) y g := by
  refine tile_ext fun r c => ?_
  unfold nrm rmsBy
  pointwise [k0_pay110]

/-- The own columns of key head 2. -/
theorem k2 : k0_pay112 (F := Ideal) y g = nrm i128 512 (by norm_num) y g := by
  refine tile_ext fun r c => ?_
  unfold nrm rmsBy
  pointwise [k0_pay112]

/-- The own columns of key head 3. -/
theorem k3 : k0_pay115 (F := Ideal) (k0_pay114 y) g = nrm i128 768 (by norm_num) y g := by
  refine tile_ext fun r c => ?_
  unfold nrm rmsBy
  pointwise [k0_pay115, k0_pay114]

/-- The own columns of key head 4. -/
theorem k4 : k0_pay117 (F := Ideal) y g = nrm i128 1024 (by norm_num) y g := by
  refine tile_ext fun r c => ?_
  unfold nrm rmsBy
  pointwise [k0_pay117]

/-- The own columns of key head 5. -/
theorem k5 : k0_pay122 (F := Ideal) (k0_pay119 y) (k0_pay120 y) k0_pay121 g = nrm i128 1280 (by norm_num) y g := by
  refine tile_ext fun r c => ?_
  unfold nrm rmsBy
  pointwise [k0_pay122, k0_pay119, k0_pay120, k0_pay121]

/-- The own columns of key head 6. -/
theorem k6 : k0_pay124 (F := Ideal) y g = nrm i128 1536 (by norm_num) y g := by
  refine tile_ext fun r c => ?_
  unfold nrm rmsBy
  pointwise [k0_pay124]

/-- The own columns of key head 7. -/
theorem k7 : k0_pay126 (F := Ideal) y g = nrm i128 1792 (by norm_num) y g := by
  refine tile_ext fun r c => ?_
  unfold nrm rmsBy
  pointwise [k0_pay126]

/-- The values of head 0. -/
theorem v0 : k0_pay109 (F := Ideal) y = col 128 (by norm_num) y := by
  refine tile_ext fun r c => ?_
  unfold col
  pointwise [k0_pay109]

/-- The values of head 1. -/
theorem v1 : k0_pay111 (F := Ideal) y = col 384 (by norm_num) y := by
  refine tile_ext fun r c => ?_
  unfold col
  pointwise [k0_pay111]

/-- The values of head 2. -/
theorem v2 : k0_pay113 (F := Ideal) y = col 640 (by norm_num) y := by
  refine tile_ext fun r c => ?_
  unfold col
  pointwise [k0_pay113]

/-- The values of head 3. -/
theorem v3 : k0_pay116 (F := Ideal) y = col 896 (by norm_num) y := by
  refine tile_ext fun r c => ?_
  unfold col
  pointwise [k0_pay116]

/-- The values of head 4. -/
theorem v4 : k0_pay118 (F := Ideal) y = col 1152 (by norm_num) y := by
  refine tile_ext fun r c => ?_
  unfold col
  pointwise [k0_pay118]

/-- The values of head 5. -/
theorem v5 : k0_pay123 (F := Ideal) y = col 1408 (by norm_num) y := by
  refine tile_ext fun r c => ?_
  unfold col
  pointwise [k0_pay123]

/-- The values of head 6. -/
theorem v6 : k0_pay125 (F := Ideal) y = col 1664 (by norm_num) y := by
  refine tile_ext fun r c => ?_
  unfold col
  pointwise [k0_pay125]

/-- The values of head 7. -/
theorem v7 : k0_pay127 (F := Ideal) y = col 1920 (by norm_num) y := by
  refine tile_ext fun r c => ?_
  unfold col
  pointwise [k0_pay127]
end

section
variable (x0 : Vec Ideal S512x768 .f32) (x1 : Vec Ideal S1x384 .f32) (x2 : Vec Ideal S1x256 .f32) (x3 : Vec Ideal S1x128 .f32)
  (x4 : Vec Ideal S384x2048 .bf16) (x5 : Vec Ideal S256x2048 .bf16) (x6 x7 x8 : Vec Ideal S1x128 .f32)
  (x9 x10 : Vec Ideal S512x128 .f32)

/-- A block's query slots before the norm. -/
def qBlk (r : Fin 512) (l : Fin 2048) : EReal :=
  ∑ e : Fin 384, rmsBy i384 (fun d : Fin 384 => x0 (ix2 r ⟨d.val, by omega⟩)) e * x1 (ix2 0 e) * x4 (ix2 e l)

/-- A block's latent of the keys and values. -/
def cBlk (r : Fin 512) (e : Fin 256) : EReal :=
  rmsBy i256 (fun d : Fin 256 => x0 (ix2 r ⟨384 + d.val, by omega⟩)) e * x2 (ix2 0 e)

/-- A block's keys and values before the norm. -/
def kvBlk (r : Fin 512) (l : Fin 2048) : EReal := ∑ e : Fin 256, cBlk x0 x2 r e * x5 (ix2 e l)

/-- A block's shared columns of the keys, filled up to 128. -/
def rBlk (r : Fin 512) (e : Fin 128) : EReal :=
  rmsBy i64 (fun d : Fin 128 => x0 (ix2 r ⟨640 + d.val, by omega⟩)) e * x3 (ix2 0 e)

/-- The body's query slots at an element. -/
theorem qBlk_eq (r : Fin 512) (l : Fin 2048) :
    k0_pay7 (F := Ideal) (k0_pay1 (View.ld x0 r0_0) (View.ld x1 r0_1)) (View.ld x4 r0_8) (ix2 r l) = qBlk x0 x1 x4 r l := by
  rw [q_pay]
  unfold qBlk
  refine Finset.sum_congr rfl fun e _ => congrArg₂ (· * ·) ((cq_pay _ _ r e).trans (congrArg₂ (· * ·)
    (rmsBy_congr _ (fun d => ?_) rfl) ?_)) ?_
  · refine congrArg x0 (funext fun a => Fin.ext ?_); fin_cases a <;> simp [Rect.unit, Rect.emb]
  · refine congrArg x1 (funext fun a => Fin.ext ?_); fin_cases a <;> simp [Rect.unit, Rect.emb]
  · refine congrArg x4 (funext fun a => Fin.ext ?_); fin_cases a <;> simp [Rect.unit, Rect.emb]

/-- The body's latent of the keys and values at an element. -/
theorem cBlk_eq (r : Fin 512) (e : Fin 256) :
    k0_pay2 (F := Ideal) (View.ld x0 r0_2) (View.ld x2 r0_3) (ix2 r e) = cBlk x0 x2 r e := by
  refine (ckv_pay _ _ r e).trans (congrArg₂ (· * ·) (rmsBy_congr _ (fun d => ?_) rfl) ?_)
  · refine congrArg x0 (funext fun a => Fin.ext ?_); fin_cases a <;> simp [Rect.unit, Rect.emb]
  · refine congrArg x2 (funext fun a => Fin.ext ?_); fin_cases a <;> simp [Rect.unit, Rect.emb]

/-- The body's keys and values at an element. -/
theorem kvBlk_eq (r : Fin 512) (l : Fin 2048) :
    k0_pay104 (F := Ideal) (k0_pay2 (View.ld x0 r0_2) (View.ld x2 r0_3)) (View.ld x5 r0_25) (ix2 r l) = kvBlk x0 x2 x5 r l := by
  rw [kv_pay]
  unfold kvBlk
  refine Finset.sum_congr rfl fun e _ => congrArg₂ (· * ·) (cBlk_eq x0 x2 r e) ?_
  refine congrArg x5 (funext fun a => Fin.ext ?_); fin_cases a <;> simp [Rect.unit, Rect.emb]

/-- The body's shared columns at an element. -/
theorem rBlk_eq (r : Fin 512) (e : Fin 128) :
    k0_pay6 (F := Ideal) (k0_pay3 (View.ld x0 r0_4)) (k0_pay4 (View.ld x0 r0_4)) k0_pay5 (View.ld x3 r0_5) (ix2 r e)
      = rBlk x0 x3 r e := by
  refine (kr_pay _ _ r e).trans (congrArg₂ (· * ·) (rmsBy_congr _ (fun d => ?_) rfl) ?_)
  · refine congrArg x0 (funext fun a => Fin.ext ?_); fin_cases a <;> simp [Rect.unit, Rect.emb]
  · refine congrArg x3 (funext fun a => Fin.ext ?_); fin_cases a <;> simp [Rect.unit, Rect.emb]

/-- A normed tile at a column `c` of the whole, over columns `f` that the body holds. -/
theorem nrm_piece (κ : EReal) (o : ℕ) (ho : o + 128 ≤ 2048) (y : FVec Ideal S512x2048 .f32) (f : Fin 512 → Fin 2048 → EReal)
    (hy : ∀ r l, y (ix2 r l) = f r l) (g : Vec Ideal S1x128 .f32) (i : S512x128.Idx) (r : Fin 512) (c : Fin 2048)
    (h0 : r.val = (i 0).val) (h1 : c.val = o + (i 1).val) (h2 : o % 128 = 0) :
    nrm κ o ho y (View.ld g r0_5) i
      = rmsBy κ (fun d : Fin 128 => f r ⟨c.val / 128 * 128 + d.val, by omega⟩) ⟨c.val % 128, by omega⟩
        * g (ix2 0 ⟨c.val % 128, by omega⟩) := by
  have hi : (i 1).val < 128 := (i 1).isLt
  obtain rfl : r = i 0 := Fin.ext h0
  unfold nrm
  refine congrArg₂ (· * ·) (rmsBy_congr _ (fun d => (hy _ _).trans (congrArg (f _) (Fin.ext ?_))) (Fin.ext ?_)) ?_
  · dsimp only
    omega
  · dsimp only
    omega
  · refine congrArg g (funext fun a => Fin.ext ?_)
    fin_cases a <;> simp [Rect.unit, Rect.emb] <;> omega

/-- The whole block of a table. -/
theorem table_piece (z : Vec Ideal S512x128 .f32) (r : Fin 512) (d : Fin 128) : View.ld z r0_7 (ix2 r d) = z (ix2 r d) := by
  refine congrArg z (funext fun a => Fin.ext ?_)
  fin_cases a <;> simp [Rect.unit, Rect.emb]

/-- A block's last columns of a query head that starts at column `b`, turned. -/
def qtBlk (r : Fin 512) (b : ℕ) (hb : ∀ d : Fin 128, b + d.val < 2048) (c : Fin 128) : EReal :=
  rowTurn (n := 128) (by norm_num) (fun e => rmsBy i64 (fun d : Fin 128 => qBlk x0 x1 x4 r ⟨b + d.val, hb d⟩) e * x7 (ix2 0 e))
    (fun d => x9 (ix2 r d)) (fun d => x10 (ix2 r d)) c

/-- A block's shared columns of the keys, turned. -/
def rtBlk (r : Fin 512) (c : Fin 128) : EReal :=
  rowTurn (n := 128) (by norm_num) (rBlk x0 x3 r) (fun d => x9 (ix2 r d)) (fun d => x10 (ix2 r d)) c

/-- A turned tile of the body's queries, at a column `c` of the whole. -/
theorem turn_piece (o : ℕ) (ho : o + 128 ≤ 2048) (i : S512x128.Idx) (r : Fin 512) (c : Fin 2048)
    (h0 : r.val = (i 0).val) (h1 : c.val = o + (i 1).val) (h2 : o % 128 = 0) :
    turn (nrm i64 o ho (k0_pay7 (F := Ideal) (k0_pay1 (View.ld x0 r0_0) (View.ld x1 r0_1)) (View.ld x4 r0_8)) (View.ld x7 r0_5))
        (View.ld x9 r0_7) (View.ld x10 r0_7) i
      = qtBlk x0 x1 x4 x7 x9 x10 r (c.val / 128 * 128) (by omega) ⟨c.val % 128, by omega⟩ := by
  have hi : (i 1).val < 128 := (i 1).isLt
  obtain rfl : r = i 0 := Fin.ext h0
  unfold qtBlk turn
  refine rowTurn_congr _ (fun e => ?_) (fun d => table_piece x9 _ d) (fun d => table_piece x10 _ d) (Fin.ext (by dsimp only; omega))
  have he := e.isLt
  refine (nrm_piece i64 o ho _ _ (qBlk_eq x0 x1 x4) x7 (ix2 (i 0) e) (i 0) ⟨o + e.val, by omega⟩ rfl rfl h2).trans ?_
  refine congrArg₂ (· * ·) (rmsBy_congr _ (fun d => congrArg _ (Fin.ext ?_)) (Fin.ext ?_)) (congrArg x7 ?_)
  · dsimp only; omega
  · dsimp only; omega
  · refine funext fun a => Fin.ext ?_
    fin_cases a <;> simp <;> omega

/-- The query block: even tiles are the first columns of a head, odd tiles its last ones, turned. -/
theorem outq_at (r : Fin 512) (c : Fin 2048) :
    out0_11 x0 x1 x2 x3 x4 x5 x6 x7 x8 x9 x10 (ix2 r c)
      = (if c.val / 128 % 2 = 0 then
          rmsBy i128 (fun d : Fin 128 => qBlk x0 x1 x4 r ⟨c.val / 128 * 128 + d.val, by omega⟩) ⟨c.val % 128, by omega⟩
            * x6 (ix2 0 ⟨c.val % 128, by omega⟩)
        else qtBlk x0 x1 x4 x7 x9 x10 r (c.val / 128 * 128) (by omega) ⟨c.val % 128, by omega⟩) * qScale := by
  unfold_out out0_11
  rw [q0, q1, q2, q3, q4, q5, q6, q7, q8, q9, q10, q11, q12, q13, q14, q15]
  canon_tiles x h
  all_goals
    have hx : (x 1).val < 128 := (x 1).isLt
    replace h0 : r.val = _ := h0
    replace h1 : c.val = _ := h1
    first
      | rw [if_pos (by omega)]
        unfold qry
        exact congrArg (· * qScale) (nrm_piece _ _ _ _ _ (qBlk_eq x0 x1 x4) _ x r c (h0.trans (by omega)) (h1.trans (by omega)) (by norm_num))
      | rw [if_neg (by omega)]
        unfold qrt
        exact congrArg (· * qScale) (turn_piece x0 x1 x4 x7 x9 x10 _ _ x r c (h0.trans (by omega)) (h1.trans (by omega)) (by norm_num))

/-- The key block: even tiles are a head's own columns, odd tiles the shared ones, turned. -/
theorem outk_at (r : Fin 512) (c : Fin 2048) :
    out0_12 x0 x1 x2 x3 x4 x5 x6 x7 x8 x9 x10 (ix2 r c)
      = if c.val / 128 % 2 = 0 then
          rmsBy i128 (fun d : Fin 128 => kvBlk x0 x2 x5 r ⟨c.val / 128 * 128 + d.val, by omega⟩) ⟨c.val % 128, by omega⟩
            * x8 (ix2 0 ⟨c.val % 128, by omega⟩)
        else rtBlk x0 x3 x9 x10 r ⟨c.val % 128, by omega⟩ := by
  unfold_out out0_12
  rw [kt, k0, k1, k2, k3, k4, k5, k6, k7]
  canon_tiles x h
  all_goals
    have hx : (x 1).val < 128 := (x 1).isLt
    replace h0 : r.val = _ := h0
    replace h1 : c.val = _ := h1
    first
      | rw [if_pos (by omega)]
        exact nrm_piece _ _ _ _ _ (kvBlk_eq x0 x2 x5) _ x r c (h0.trans (by omega)) (h1.trans (by omega)) (by norm_num)
      | rw [if_neg (by omega)]
        obtain rfl : r = x 0 := Fin.ext (h0.trans (by omega))
        unfold turn rtBlk
        exact rowTurn_congr _ (fun e => rBlk_eq x0 x3 _ e) (fun d => table_piece x9 _ d) (fun d => table_piece x10 _ d)
          (Fin.ext (by dsimp only; omega))

/-- The value block. -/
theorem outv_at (r : Fin 512) (c : Fin 1024) :
    out0_13 x0 x1 x2 x3 x4 x5 x6 x7 x8 x9 x10 (ix2 r c)
      = kvBlk x0 x2 x5 r ⟨c.val / 128 * 256 + 128 + c.val % 128, by omega⟩ := by
  unfold_out out0_13
  rw [v0, v1, v2, v3, v4, v5, v6, v7]
  canon_tiles x h
  all_goals
    have hx : (x 1).val < 128 := (x 1).isLt
    replace h0 : r.val = _ := h0
    replace h1 : c.val = _ := h1
    obtain rfl : r = x 0 := Fin.ext (h0.trans (by omega))
    unfold col
    exact (kvBlk_eq x0 x2 x5 _ _).trans (congrArg (kvBlk x0 x2 x5 _) (Fin.ext (by dsimp only; omega)))

/-- The latent of the keys and values, kept. -/
theorem outc_at (r : Fin 512) (e : Fin 256) :
    out0_14 x0 x1 x2 x3 x4 x5 x6 x7 x8 x9 x10 (ix2 r e) = cBlk x0 x2 r e := by
  unfold_out out0_14
  canon_tiles x h
  all_goals
    replace h0 : r.val = _ := h0
    replace h1 : e.val = _ := h1
    obtain rfl : r = x 0 := Fin.ext h0
    obtain rfl : e = x 1 := Fin.ext h1
    rw [eq_ix2 x]
    exact cBlk_eq x0 x2 _ _

/-- The shared columns, kept. -/
theorem outr_at (r : Fin 512) (e : Fin 128) :
    out0_15 x0 x1 x2 x3 x4 x5 x6 x7 x8 x9 x10 (ix2 r e) = rBlk x0 x3 r e := by
  unfold_out out0_15
  canon_tiles x h
  all_goals
    replace h0 : r.val = _ := h0
    replace h1 : e.val = _ := h1
    obtain rfl : r = x 0 := Fin.ext h0
    obtain rfl : e = x 1 := Fin.ext h1
    rw [eq_ix2 x]
    exact rBlk_eq x0 x3 _ _
end

end Cert.MlaPosIdeal.Pos

end
-- ==== Proof.MlaPosHost.lean ====
/- What the host computes before the grid: filled-up arguments and the tables of cosines and sines. -/
module

public import proofs.«01_k».proof.Proof.Gen.MlaPosIdeal.Frame
public import proofs.«01_k».proof.Proof.RopeMla
public import Idealize.ShloMosaic.Lib.StableHlo.RunRead
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.MlaPosIdeal.Pos
open Cert.MlaPosIdeal Cert.MlaPosIdeal.Gen Cert.RopeMla

variable (m : (ℓ : Loc nD τ sig) → Buf (Elt Ideal) ℓ) (c : Dev nD)

/-- The value the host fills up with. -/
theorem fill (i : S_.Idx) : sitofp (F := Ideal) .f32 (constantI S_ 32 0#32) i = 0 := by
  show (((0#32 : BitVec 32).toInt : ℝ) : EReal) = 0
  simp

/-- A narrowed array at an element is the array. -/
theorem narrow_at {s : Shape} (x : FVec Ideal s .f32) (i : s.Idx) :
    truncf (F := Ideal) .bf16 x bitsLt_bf16_f32 i = x i := rfl

/-- The projection, with its columns filled up. -/
theorem proj_pad (n : Fin 16384) (j : Fin 768) :
    V m c main_v13 (ix2 n j) = if h : j.val < 704 then m ((c : Thread nD τ).loc main_arg0) (ix2 n ⟨j.val, h⟩) else (0 : EReal) := by
  have hv : V m c main_v13
      = pad S16384x768 ![0, 0] ![0, 64] ![0, 0] (m ((c : Thread nD τ).loc main_arg0))
        (sitofp (F := Ideal) .f32 (constantI S_ 32 0#32)) pads_S16384x704_S16384x768_000_0640 h_S_ := by
    dsimp only [V]
    after_reads_simp
    rfl
  rw [hv]
  by_cases h : j.val < 704
  · rw [dif_pos h, pad_apply_of_inside _ _ _ _ _ _ _ _ (ix2 n ⟨j.val, h⟩ : S16384x704.Idx) (by intro d; fin_cases d <;> simp)]
  · rw [dif_neg h, pad_apply_of_not_inside _ _ _ _ _ _ _ _ 1 (by simp; omega), fill]

/-- The gain of the queries' latent. -/
theorem q_lat (d : Fin 384) : V m c main_v2 (ix2 0 d) = m ((c : Thread nD τ).loc main_arg1) (ix1 d) := by
  have hv : V m c main_v2 = shapeCast _ (m ((c : Thread nD τ).loc main_arg1)) shapeCasts_S384_S1x384 := by
    dsimp only [V]
    after_reads_simp
    rfl
  rw [hv]
  pointwise

/-- The gain of the keys' and values' latent. -/
theorem kv_lat (d : Fin 256) : V m c main_v3 (ix2 0 d) = m ((c : Thread nD τ).loc main_arg2) (ix1 d) := by
  have hv : V m c main_v3 = shapeCast _ (m ((c : Thread nD τ).loc main_arg2)) shapeCasts_S256_S1x256 := by
    dsimp only [V]
    after_reads_simp
    rfl
  rw [hv]
  pointwise

/-- The gain of the queries' first columns. -/
theorem qn_nope (d : Fin 128) : V m c main_v8 (ix2 0 d) = m ((c : Thread nD τ).loc main_arg6) (ix1 d) := by
  have hv : V m c main_v8 = shapeCast _ (m ((c : Thread nD τ).loc main_arg6)) shapeCasts_S128_S1x128 := by
    dsimp only [V]
    after_reads_simp
    rfl
  rw [hv]
  pointwise

/-- The gain of the keys' own columns. -/
theorem kn_nope (d : Fin 128) : V m c main_v9 (ix2 0 d) = m ((c : Thread nD τ).loc main_arg8) (ix1 d) := by
  have hv : V m c main_v9 = shapeCast _ (m ((c : Thread nD τ).loc main_arg8)) shapeCasts_S128_S1x128 := by
    dsimp only [V]
    after_reads_simp
    rfl
  rw [hv]
  pointwise

/-- The padded gain of the keys' shared columns. -/
theorem kn_rope (d : Fin 128) : V m c main_v5 (ix2 0 d)
    = if h : d.val < 64 then m ((c : Thread nD τ).loc main_arg3) (ix1 ⟨d.val, h⟩) else (0 : EReal) := by
  have hv : V m c main_v5 = pad S1x128 ![0, 0] ![0, 64] ![0, 0]
      (shapeCast _ (m ((c : Thread nD τ).loc main_arg3)) shapeCasts_S64_S1x64)
      (sitofp (F := Ideal) .f32 (constantI S_ 32 0#32)) pads_S1x64_S1x128_000_0640 h_S_ := by
    dsimp only [V]
    after_reads_simp
    rfl
  rw [hv]
  by_cases h : d.val < 64
  · rw [dif_pos h, pad_apply_of_inside _ _ _ _ _ _ _ _ (ix2 0 ⟨d.val, h⟩ : S1x64.Idx) (by intro d; fin_cases d <;> simp)]
    pointwise
  · rw [dif_neg h, pad_apply_of_not_inside _ _ _ _ _ _ _ _ 1 (by simp; omega), fill]

/-- The padded gain of the queries' last columns. -/
theorem qn_rope (d : Fin 128) : V m c main_v7 (ix2 0 d)
    = if h : d.val < 64 then m ((c : Thread nD τ).loc main_arg7) (ix1 ⟨d.val, h⟩) else (0 : EReal) := by
  have hv : V m c main_v7 = pad S1x128 ![0, 0] ![0, 64] ![0, 0]
      (shapeCast _ (m ((c : Thread nD τ).loc main_arg7)) shapeCasts_S64_S1x64)
      (sitofp (F := Ideal) .f32 (constantI S_ 32 0#32)) pads_S1x64_S1x128_000_0640 h_S_ := by
    dsimp only [V]
    after_reads_simp
    rfl
  rw [hv]
  by_cases h : d.val < 64
  · rw [dif_pos h, pad_apply_of_inside _ _ _ _ _ _ _ _ (ix2 0 ⟨d.val, h⟩ : S1x64.Idx) (by intro d; fin_cases d <;> simp)]
    pointwise
  · rw [dif_neg h, pad_apply_of_not_inside _ _ _ _ _ _ _ _ 1 (by simp; omega), fill]

/-- The weight of the keys and values. -/
theorem w_ukv (e : Fin 256) (l : Fin 2048) : V m c main_v12 (ix2 e l) = m ((c : Thread nD τ).loc main_arg5) (ix2 e l) := by
  have hv : V m c main_v12 = truncf (F := Ideal) .bf16 (m ((c : Thread nD τ).loc main_arg5)) bitsLt_bf16_f32 := by
    dsimp only [V]
    after_reads_simp
  rw [hv]
  rfl

/-- The queries' weight: every head's 192 columns in a slot of 256. -/
theorem w_uq (e : Fin 384) (l : Fin 2048) : V m c main_v11 (ix2 e l)
    = if h : l.val % 256 < 192 then m ((c : Thread nD τ).loc main_arg4) (ix2 e ⟨l.val / 256 * 192 + l.val % 256, by omega⟩)
      else (0 : EReal) := by
  have hv : V m c main_v11
      = truncf (F := Ideal) .bf16 (shapeCast _ (pad S384x8x256 ![0, 0, 0] ![0, 0, 64] ![0, 0, 0]
        (shapeCast _ (m ((c : Thread nD τ).loc main_arg4)) shapeCasts_S384x1536_S384x8x192)
        (sitofp (F := Ideal) .f32 (constantI S_ 32 0#32)) pads_S384x8x192_S384x8x256_000_000_0640 h_S_)
        shapeCasts_S384x8x256_S384x2048) bitsLt_bf16_f32 := by
    dsimp only [V]
    after_reads_simp
    rfl
  rw [hv]
  rw [narrow_at]
  rw [shapeCast_apply _ _ _ (ix3 e ⟨l.val / 256, by omega⟩ ⟨l.val % 256, by omega⟩) (by
    rewrite [Shape.rowMajor_val_three, Shape.rowMajor_val_two]; simp; omega)]
  by_cases h : l.val % 256 < 192
  · rw [dif_pos h, pad_apply_of_inside _ _ _ _ _ _ _ _ (ix3 e ⟨l.val / 256, by omega⟩ ⟨l.val % 256, h⟩ : S384x8x192.Idx)
      (by intro d; fin_cases d <;> simp)]
    rw [shapeCast_apply _ _ _ (ix2 e ⟨l.val / 256 * 192 + l.val % 256, by omega⟩ : S384x1536.Idx) (by
      rewrite [Shape.rowMajor_val_three, Shape.rowMajor_val_two]; simp; omega)]
  · rw [dif_neg h, pad_apply_of_not_inside _ _ _ _ _ _ _ _ 2 (by simp; omega), fill]

/-- The frequencies as the host has them. -/
def freqs : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- Positions times frequencies. -/
def angles (pos : Vec Ideal S2048 .f32) : FVec Ideal S2048x16 .f32 :=
  mulf (broadcastInDim S2048x16 ![0, 1] bcast_S2048x1_S2048x16_0_1 (broadcastInDim S2048x1 ![0] bcast_S2048_S2048x1_0 pos))
    (broadcastInDim S2048x16 ![0, 1] bcast_S1x16_S2048x16_0_1 (broadcastInDim S1x16 ![1] bcast_S16_S1x16_1 freqs))

theorem angles_at (pos : Vec Ideal S2048 .f32) (s : Fin 2048) (q : Fin 16) :
    angles pos (ix2 s q) = pos (ix1 s) * freq q := by
  unfold freq
  pointwise [angles, freqs]

/-- Four quarters side by side, filled up to 128 columns. -/
def table (a b c d : FVec Ideal S2048x16 .f32) : FVec Ideal S2048x128 .f32 :=
  pad S2048x128 ![0, 0] ![0, 64] ![0, 0]
    (concatenate S2048x64 1 [⟨S2048x16, a⟩, ⟨S2048x16, b⟩, ⟨S2048x16, c⟩, ⟨S2048x16, d⟩]
      concatenates_S2048x16_S2048x16_S2048x16_S2048x16_S2048x64_d1)
    (sitofp (F := Ideal) .f32 (constantI S_ 32 0#32)) pads_S2048x64_S2048x128_000_0640 h_S_

/-- The elements of its first half. -/
theorem table_at (a b c d : FVec Ideal S2048x16 .f32) (s : Fin 2048) (l : Fin 128) (hl : l.val < 64) :
    table a b c d (ix2 s l)
      = if l.val < 16 then a (ix2 s ⟨l.val % 16, by omega⟩) else if l.val < 32 then b (ix2 s ⟨l.val % 16, by omega⟩)
        else if l.val < 48 then c (ix2 s ⟨l.val % 16, by omega⟩) else d (ix2 s ⟨l.val % 16, by omega⟩) := by
  unfold table
  rw [pad_apply_of_inside _ _ _ _ _ _ _ _ (ix2 s ⟨l.val, hl⟩ : S2048x64.Idx) (by intro d; fin_cases d <;> simp)]
  pointwise
  repeat' split
  all_goals first
    | omega
    | exact congrArg (fun k : Fin 16 => a (ix2 s k)) (Fin.ext (by dsimp only; omega))
    | exact congrArg (fun k : Fin 16 => b (ix2 s k)) (Fin.ext (by dsimp only; omega))
    | exact congrArg (fun k : Fin 16 => c (ix2 s k)) (Fin.ext (by dsimp only; omega))
    | exact congrArg (fun k : Fin 16 => d (ix2 s k)) (Fin.ext (by dsimp only; omega))

/-- What the host has computed when the tables are put together. -/
abbrev U (n : Nat) (b : Ref sig .tc) : Buf (Elt Ideal) ((c : Thread nD τ).loc b) :=
  StableHlo.upto (List.flatten [hostOps0, hostOps0_1, hostOps0_2, hostOps0_3, hostOps0_4, hostOps0_5, hostOps0_6, hostOps0_7, hostOps0_8, hostOps0_9, hostOps0_10, hostOps0_11]) (fun b => m (c, b)) n (Proc.devRef .tc b)

theorem u30 : U m c 44 main_v30 = Host.cos (angles (m ((c : Thread nD τ).loc main_arg9))) := by
  show StableHlo.upto _ _ 44 (Proc.devRef .tc main_v30) = _
  after_reads_simp
  rfl

theorem u31 : U m c 44 main_v31 = Host.cos (angles (m ((c : Thread nD τ).loc main_arg9))) := by
  show StableHlo.upto _ _ 44 (Proc.devRef .tc main_v31) = _
  after_reads_simp
  rfl

theorem u32 : U m c 44 main_v32 = Host.cos (angles (m ((c : Thread nD τ).loc main_arg10))) := by
  show StableHlo.upto _ _ 44 (Proc.devRef .tc main_v32) = _
  after_reads_simp
  rfl

theorem u33 : U m c 44 main_v33 = Host.cos (angles (m ((c : Thread nD τ).loc main_arg10))) := by
  show StableHlo.upto _ _ 44 (Proc.devRef .tc main_v33) = _
  after_reads_simp
  rfl

theorem u36 : U m c 51 main_v36 = Host.negf (Host.sin (angles (m ((c : Thread nD τ).loc main_arg9)))) := by
  show StableHlo.upto _ _ 51 (Proc.devRef .tc main_v36) = _
  after_reads_simp
  rfl

theorem u37 : U m c 51 main_v37 = Host.sin (angles (m ((c : Thread nD τ).loc main_arg9))) := by
  show StableHlo.upto _ _ 51 (Proc.devRef .tc main_v37) = _
  after_reads_simp
  rfl

theorem u39 : U m c 51 main_v39 = Host.negf (Host.sin (angles (m ((c : Thread nD τ).loc main_arg10)))) := by
  show StableHlo.upto _ _ 51 (Proc.devRef .tc main_v39) = _
  after_reads_simp
  rfl

theorem u40 : U m c 51 main_v40 = Host.sin (angles (m ((c : Thread nD τ).loc main_arg10))) := by
  show StableHlo.upto _ _ 51 (Proc.devRef .tc main_v40) = _
  after_reads_simp
  rfl

/-- The table of cosines, as the host puts it together. -/
theorem cos_read (x0 x1 x2 x3 : FVec Ideal S2048x16 .f32) (h0 : U m c 44 main_v30 = x0) (h1 : U m c 44 main_v31 = x1) (h2 : U m c 44 main_v32 = x2) (h3 : U m c 44 main_v33 = x3) :
    V m c main_v42 = table x0 x1 x2 x3 := by
  dsimp only [V]
  after_reads_simp
  rw [← h0, ← h1, ← h2, ← h3]
  rfl

/-- The table of sines, as the host puts it together. -/
theorem sin_read (x0 x1 x2 x3 : FVec Ideal S2048x16 .f32) (h0 : U m c 51 main_v36 = x0) (h1 : U m c 51 main_v37 = x1) (h2 : U m c 51 main_v39 = x2) (h3 : U m c 51 main_v40 = x3) :
    V m c main_v43 = table x0 x1 x2 x3 := by
  dsimp only [V]
  after_reads_simp
  rw [← h0, ← h1, ← h2, ← h3]
  rfl

/-- The table of cosines. -/
theorem cos_table (s : Fin 2048) (l : Fin 128) (h : l.val < 64) :
    V m c main_v42 (ix2 s l)
      = cosT (m ((c : Thread nD τ).loc main_arg9) (ix1 s)) (m ((c : Thread nD τ).loc main_arg10) (ix1 s)) ⟨l.val, h⟩ := by
  rw [cos_read m c _ _ _ _ (u30 m c) (u31 m c) (u32 m c) (u33 m c), table_at _ _ _ _ s l h]
  have hc : ∀ (pos : Vec Ideal S2048 .f32) (q : Fin 16), Host.cos (angles pos) (ix2 s q)
      = FloatOps.hostUnary (F := Ideal) (φ := .f32) .cos (pos (ix1 s) * freq q) := fun pos q =>
    congrArg (FloatOps.hostUnary (F := Ideal) (φ := .f32) .cos) (angles_at pos s q)
  unfold cosT angle
  rw [hc, hc]
  dsimp only
  split_ifs
  all_goals first
    | omega
    | rfl

/-- The table of sines. -/
theorem sin_table (s : Fin 2048) (l : Fin 128) (h : l.val < 64) :
    V m c main_v43 (ix2 s l)
      = sinT (m ((c : Thread nD τ).loc main_arg9) (ix1 s)) (m ((c : Thread nD τ).loc main_arg10) (ix1 s)) ⟨l.val, h⟩ := by
  have hl := l.isLt
  rw [sin_read m c _ _ _ _ (u36 m c) (u37 m c) (u39 m c) (u40 m c), table_at _ _ _ _ s l h]
  have hs : ∀ (pos : Vec Ideal S2048 .f32) (q : Fin 16), Host.sin (angles pos) (ix2 s q)
      = FloatOps.hostUnary (F := Ideal) (φ := .f32) .sin (pos (ix1 s) * freq q) := fun pos q =>
    congrArg (FloatOps.hostUnary (F := Ideal) (φ := .f32) .sin) (angles_at pos s q)
  have hn : ∀ (pos : Vec Ideal S2048 .f32) (q : Fin 16), Host.negf (Host.sin (angles pos)) (ix2 s q)
      = -FloatOps.hostUnary (F := Ideal) (φ := .f32) .sin (pos (ix1 s) * freq q) := fun pos q =>
    congrArg (fun y : EReal => -y) (hs pos q)
  unfold sinT angle
  rw [hs, hs, hn, hn]
  dsimp only
  split_ifs
  all_goals first
    | omega
    | rfl

end Cert.MlaPosIdeal.Pos

end
-- ==== Proof.MlaPosRef.lean ====
/- The reference of the latent preparation with positions at an element. -/
module

public import proofs.«01_k».proof.Proof.RopeMla
public import proofs.«01_k».proof.Proof.MlpRef
public import proofs.«01_k».proof.Proof.Gen.MlaPosRefIdeal.Read
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.MlaPosRefIdeal.Pos
open Cert.MlaPosRefIdeal Cert.MlaPosRefIdeal.Read Cert.Norm Cert.MlaNorm Cert.RopeMla

variable (x0 : Vec Ideal S16384x704 .f32) (x1 : Vec Ideal S384 .f32) (x2 : Vec Ideal S256 .f32) (x3 : Vec Ideal S64 .f32)
  (x4 : Vec Ideal S384x1536 .f32) (x5 : Vec Ideal S256x2048 .f32) (x6 : Vec Ideal S128 .f32) (x7 : Vec Ideal S64 .f32)
  (x8 : Vec Ideal S128 .f32) (x9 x10 : Vec Ideal S2048 .f32)

/-- The latent of the keys and values. -/
theorem ckv_at (i : S16384x256.Idx) (n : Fin 16384) (j : Fin 256) (h0 : (i 0).val = n.val) (h1 : (i 1).val = j.val) :
    val_main_v19 (F := Ideal) x0 x2 i = ckv (fun e => x0 (ix2 n e)) (fun d => x2 (ix1 d)) j := by
  have hp : ∀ (i' : S16384x256.Idx) (d : Fin 256), (i' 0).val = n.val → (i' 1).val = d.val →
      val_main_v6 (F := Ideal) x0 i' = x0 (ix2 n ⟨384 + d.val, by omega⟩) := fun i' d g0 g1 => by
    rw [val_main_v6_apply]
    refine congrArg x0 (funext fun a => Fin.ext ?_)
    fin_cases a <;> simp [g0, g1]
  rw [val_main_v19_apply, val_main_v16_apply, val_main_v15_apply, val_main_v14_apply, val_main_v13_apply, val_main_v12_apply,
    val_main_cst_3_apply, val_main_v11_apply, val_main_v10_apply, val_main_cst_2_apply, val_main_v9_apply,
    val_main_v8_apply, val_main_cst_1_apply, val_main_v18_apply, val_main_v17_apply]
  simp only [val_main_v7_apply]
  unfold ckv rmsBy
  rw [← div_256]
  refine congrArg₂ (· * ·) (congrArg₂ (· * ·) (hp _ _ h0 h1) ?_) (congrArg x2 ?_)
  · refine congrArg (fun s => Ideal.rsqrt (Ideal.div s (Ideal.ofBits .f32 0x43800000#32) + Ideal.ofBits .f32 0x358637BD#32)) ?_
    refine (congrArg₂ (· + ·) ofBits_zero (Finset.sum_congr rfl fun d _ => ?_)).trans (zero_add _)
    exact congrArg₂ (· * ·) (hp _ d h0 rfl) (hp _ d h0 rfl)
  · refine funext fun a => Fin.ext ?_
    fin_cases a <;> simp [h1]

/-- The shared columns of the keys. -/
theorem kr_at (i : S16384x64.Idx) (n : Fin 16384) (j : Fin 64) (h0 : (i 0).val = n.val) (h1 : (i 1).val = j.val) :
    val_main_v33 (F := Ideal) x0 x3 i = kr (fun e => x0 (ix2 n e)) (fun d => x3 (ix1 d)) j := by
  have hp : ∀ (i' : S16384x64.Idx) (d : Fin 64), (i' 0).val = n.val → (i' 1).val = d.val →
      val_main_v20 (F := Ideal) x0 i' = x0 (ix2 n ⟨640 + d.val, by omega⟩) := fun i' d g0 g1 => by
    rw [val_main_v20_apply]
    refine congrArg x0 (funext fun a => Fin.ext ?_)
    fin_cases a <;> simp [g0, g1]
  rw [val_main_v33_apply, val_main_v30_apply, val_main_v29_apply, val_main_v28_apply, val_main_v27_apply, val_main_v26_apply,
    val_main_cst_6_apply, val_main_v25_apply, val_main_v24_apply, val_main_cst_5_apply, val_main_v23_apply,
    val_main_v22_apply, val_main_cst_4_apply, val_main_v32_apply, val_main_v31_apply]
  simp only [val_main_v21_apply]
  unfold kr rmsBy
  rw [← div_64]
  refine congrArg₂ (· * ·) (congrArg₂ (· * ·) (hp _ _ h0 h1) ?_) (congrArg x3 ?_)
  · refine congrArg (fun s => Ideal.rsqrt (Ideal.div s (Ideal.ofBits .f32 0x42800000#32) + Ideal.ofBits .f32 0x358637BD#32)) ?_
    refine (congrArg₂ (· + ·) ofBits_zero (Finset.sum_congr rfl fun d _ => ?_)).trans (zero_add _)
    exact congrArg₂ (· * ·) (hp _ d h0 rfl) (hp _ d h0 rfl)
  · refine funext fun a => Fin.ext ?_
    fin_cases a <;> simp [h1]

/-- The latent of the queries. -/
theorem cq_at (i : S16384x384.Idx) (n : Fin 16384) (j : Fin 384) (h0 : (i 0).val = n.val) (h1 : (i 1).val = j.val) :
    val_main_v47 (F := Ideal) x0 x1 i = cq (fun e => x0 (ix2 n e)) (fun d => x1 (ix1 d)) j := by
  have hp : ∀ (i' : S16384x384.Idx) (d : Fin 384), (i' 0).val = n.val → (i' 1).val = d.val →
      val_main_v34 (F := Ideal) x0 i' = x0 (ix2 n ⟨d.val, by omega⟩) := fun i' d g0 g1 => by
    rw [val_main_v34_apply]
    refine congrArg x0 (funext fun a => Fin.ext ?_)
    fin_cases a <;> simp [g0, g1]
  rw [val_main_v47_apply, val_main_v44_apply, val_main_v43_apply, val_main_v42_apply, val_main_v41_apply, val_main_v40_apply,
    val_main_cst_9_apply, val_main_v39_apply, val_main_v38_apply, val_main_cst_8_apply, val_main_v37_apply,
    val_main_v36_apply, val_main_cst_7_apply, val_main_v46_apply, val_main_v45_apply]
  simp only [val_main_v35_apply]
  unfold cq rmsBy
  rw [← div_384]
  refine congrArg₂ (· * ·) (congrArg₂ (· * ·) (hp _ _ h0 h1) ?_) (congrArg x1 ?_)
  · refine congrArg (fun s => Ideal.rsqrt (Ideal.div s (Ideal.ofBits .f32 0x43C00000#32) + Ideal.ofBits .f32 0x358637BD#32)) ?_
    refine (congrArg₂ (· + ·) ofBits_zero (Finset.sum_congr rfl fun d _ => ?_)).trans (zero_add _)
    exact congrArg₂ (· * ·) (hp _ d h0 rfl) (hp _ d h0 rfl)
  · refine funext fun a => Fin.ext ?_
    fin_cases a <;> simp [h1]

/-- A token's query heads. -/
abbrev qHead (n : Fin 16384) : Fin 1536 → EReal :=
  qh (fun e => x0 (ix2 n e)) (fun d => x1 (ix1 d)) (fun e l => x4 (ix2 e l))

/-- A token's heads of keys and values. -/
abbrev kvHead (n : Fin 16384) : Fin 2048 → EReal :=
  kvh (fun e => x0 (ix2 n e)) (fun d => x2 (ix1 d)) (fun e l => x5 (ix2 e l))

/-- The query heads at an element. -/
theorem qh_at (i : S8x2048x8x192.Idx) (n : Fin 16384) (l : Fin 1536) (h0 : n.val = (i 0).val * 2048 + (i 1).val)
    (h1 : (i 2).val * 192 + (i 3).val = l.val) :
    val_main_v49 (F := Ideal) x0 x1 x4 i = qHead x0 x1 x4 n l := by
  have hi0 : (i 0).val < 8 := (i 0).isLt
  have hi1 : (i 1).val < 2048 := (i 1).isLt
  have hi2 : (i 2).val < 8 := (i 2).isLt
  have hi3 : (i 3).val < 192 := (i 3).isLt
  rw [val_main_v49_apply, val_main_v48_apply]
  unfold qHead qh
  refine Finset.sum_congr rfl fun e _ => congrArg₂ (· * ·) ?_ (congrArg x4 (funext fun a => Fin.ext ?_))
  · refine cq_at x0 x1 _ n e ?_ ?_ <;> simp <;> omega
  · fin_cases a <;> simp <;> omega

/-- The heads of keys and values at an element. -/
theorem kvh_at (i : S8x2048x8x256.Idx) (n : Fin 16384) (l : Fin 2048) (h0 : n.val = (i 0).val * 2048 + (i 1).val)
    (h1 : (i 2).val * 256 + (i 3).val = l.val) :
    val_main_v51 (F := Ideal) x0 x2 x5 i = kvHead x0 x2 x5 n l := by
  have hi0 : (i 0).val < 8 := (i 0).isLt
  have hi1 : (i 1).val < 2048 := (i 1).isLt
  have hi2 : (i 2).val < 8 := (i 2).isLt
  have hi3 : (i 3).val < 256 := (i 3).isLt
  rw [val_main_v51_apply, val_main_v50_apply]
  unfold kvHead kvh
  refine Finset.sum_congr rfl fun e _ => congrArg₂ (· * ·) ?_ (congrArg x5 (funext fun a => Fin.ext ?_))
  · refine ckv_at x0 x2 _ n e ?_ ?_ <;> simp <;> omega
  · fin_cases a <;> simp <;> omega

/-- The first 128 columns of a query head, normed and scaled. -/
theorem qn_at (i : S8x2048x8x128.Idx) (n : Fin 16384) (h : Fin 8) (k : Fin 128) (h0 : n.val = (i 0).val * 2048 + (i 1).val)
    (h1 : (i 2).val = h.val) (h2 : (i 3).val = k.val) :
    val_main_v70 (F := Ideal) x0 x1 x4 x6 i
      = rmsBy i128 (fun d : Fin 128 => qHead x0 x1 x4 n ⟨h.val * 192 + d.val, by omega⟩) k * x6 (ix1 k) * qScale := by
  have hp : ∀ (i' : S8x2048x8x128.Idx) (d : Fin 128), n.val = (i' 0).val * 2048 + (i' 1).val → (i' 2).val = h.val → (i' 3).val = d.val →
      val_main_v55 (F := Ideal) x0 x1 x4 i' = qHead x0 x1 x4 n ⟨h.val * 192 + d.val, by omega⟩ :=
    fun i' d g0 g1 g2 => by
      have := d.isLt
      rw [val_main_v55_apply]
      refine qh_at x0 x1 x4 _ n _ ?_ ?_ <;> simp [g0, g1, g2] <;> omega
  rw [val_main_v70_apply, val_main_v69_apply, val_main_v54_apply, val_main_v52_apply, val_main_v53_apply,
    val_main_cst_10_apply, val_main_cst_11_apply, val_main_v68_apply, val_main_v65_apply, val_main_v64_apply,
    val_main_v63_apply, val_main_v62_apply, val_main_v61_apply, val_main_cst_14_apply, val_main_v60_apply,
    val_main_v59_apply, val_main_cst_13_apply, val_main_v58_apply, val_main_v57_apply, val_main_cst_12_apply,
    val_main_v67_apply, val_main_v66_apply]
  refine (scale_div _).trans (congrArg (· * qScale) ?_)
  simp only [val_main_v56_apply]
  unfold rmsBy
  rw [← div_128]
  refine congrArg₂ (· * ·) (congrArg₂ (· * ·) (hp _ _ h0 h1 h2) ?_) (congrArg x6 ?_)
  · refine congrArg (fun s => Ideal.rsqrt (Ideal.div s (Ideal.ofBits .f32 0x43000000#32) + Ideal.ofBits .f32 0x358637BD#32)) ?_
    refine (congrArg₂ (· + ·) ofBits_zero (Finset.sum_congr rfl fun d _ => ?_)).trans (zero_add _)
    exact congrArg₂ (· * ·) (hp _ d h0 h1 rfl) (hp _ d h0 h1 rfl)
  · refine funext fun a => Fin.ext ?_
    fin_cases a <;> simp [h2]

/-- The last 64 columns of a query head, normed. -/
theorem qr_at (i : S8x2048x8x64.Idx) (n : Fin 16384) (h : Fin 8) (k : Fin 64) (h0 : n.val = (i 0).val * 2048 + (i 1).val)
    (h1 : (i 2).val = h.val) (h2 : (i 3).val = k.val) :
    val_main_v84 (F := Ideal) x0 x1 x4 x7 i
      = rmsBy i64 (fun d : Fin 64 => qHead x0 x1 x4 n ⟨h.val * 192 + 128 + d.val, by omega⟩) k * x7 (ix1 k) := by
  have hp : ∀ (i' : S8x2048x8x64.Idx) (d : Fin 64), n.val = (i' 0).val * 2048 + (i' 1).val → (i' 2).val = h.val → (i' 3).val = d.val →
      val_main_v71 (F := Ideal) x0 x1 x4 i' = qHead x0 x1 x4 n ⟨h.val * 192 + 128 + d.val, by omega⟩ :=
    fun i' d g0 g1 g2 => by
      have := d.isLt
      rw [val_main_v71_apply]
      refine qh_at x0 x1 x4 _ n _ ?_ ?_ <;> simp [g0, g1, g2] <;> omega
  rw [val_main_v84_apply, val_main_v81_apply, val_main_v80_apply,
    val_main_v79_apply, val_main_v78_apply, val_main_v77_apply, val_main_cst_17_apply, val_main_v76_apply,
    val_main_v75_apply, val_main_cst_16_apply, val_main_v74_apply, val_main_v73_apply, val_main_cst_15_apply,
    val_main_v83_apply, val_main_v82_apply]
  simp only [val_main_v72_apply]
  unfold rmsBy
  rw [← div_64]
  refine congrArg₂ (· * ·) (congrArg₂ (· * ·) (hp _ _ h0 h1 h2) ?_) (congrArg x7 ?_)
  · refine congrArg (fun s => Ideal.rsqrt (Ideal.div s (Ideal.ofBits .f32 0x42800000#32) + Ideal.ofBits .f32 0x358637BD#32)) ?_
    refine (congrArg₂ (· + ·) ofBits_zero (Finset.sum_congr rfl fun d _ => ?_)).trans (zero_add _)
    exact congrArg₂ (· * ·) (hp _ d h0 h1 rfl) (hp _ d h0 h1 rfl)
  · refine funext fun a => Fin.ext ?_
    fin_cases a <;> simp [h2]

/-- The own columns of a key head, normed. -/
theorem kn_at (i : S8x2048x8x128.Idx) (n : Fin 16384) (h : Fin 8) (k : Fin 128) (h0 : n.val = (i 0).val * 2048 + (i 1).val)
    (h1 : (i 2).val = h.val) (h2 : (i 3).val = k.val) :
    val_main_v150 (F := Ideal) x0 x2 x5 x8 i
      = rmsBy i128 (fun d : Fin 128 => kvHead x0 x2 x5 n ⟨h.val * 256 + d.val, by omega⟩) k * x8 (ix1 k) := by
  have hp : ∀ (i' : S8x2048x8x128.Idx) (d : Fin 128), n.val = (i' 0).val * 2048 + (i' 1).val → (i' 2).val = h.val → (i' 3).val = d.val →
      val_main_v137 (F := Ideal) x0 x2 x5 i' = kvHead x0 x2 x5 n ⟨h.val * 256 + d.val, by omega⟩ :=
    fun i' d g0 g1 g2 => by
      have := d.isLt
      rw [val_main_v137_apply]
      refine kvh_at x0 x2 x5 _ n _ ?_ ?_ <;> simp [g0, g1, g2] <;> omega
  rw [val_main_v150_apply, val_main_v147_apply, val_main_v146_apply,
    val_main_v145_apply, val_main_v144_apply, val_main_v143_apply, val_main_cst_20_apply, val_main_v142_apply,
    val_main_v141_apply, val_main_cst_19_apply, val_main_v140_apply, val_main_v139_apply, val_main_cst_18_apply,
    val_main_v149_apply, val_main_v148_apply]
  simp only [val_main_v138_apply]
  unfold rmsBy
  rw [← div_128]
  refine congrArg₂ (· * ·) (congrArg₂ (· * ·) (hp _ _ h0 h1 h2) ?_) (congrArg x8 ?_)
  · refine congrArg (fun s => Ideal.rsqrt (Ideal.div s (Ideal.ofBits .f32 0x43000000#32) + Ideal.ofBits .f32 0x358637BD#32)) ?_
    refine (congrArg₂ (· + ·) ofBits_zero (Finset.sum_congr rfl fun d _ => ?_)).trans (zero_add _)
    exact congrArg₂ (· * ·) (hp _ d h0 h1 rfl) (hp _ d h0 h1 rfl)
  · refine funext fun a => Fin.ext ?_
    fin_cases a <;> simp [h2]

/-- A head of 128 and 64 columns in its slot of 256, filled up with zeros. -/
theorem slot_at (a : FVec Ideal S8x2048x8x128 .f32) (b : FVec Ideal S8x2048x8x64 .f32)
    (hc : Shape.Concatenates ([(⟨S8x2048x8x128, a⟩ : (s : Shape) × (s.Idx → Ideal .f32)), ⟨S8x2048x8x64, b⟩].map (·.1)) S8x2048x8x192 3)
    (hp : S8x2048x8x192.Pads (![0, 0, 0, 0] : Fin 4 → Nat) ![0, 0, 0, 64] ![0, 0, 0, 0] S8x2048x8x256) (hu : 0 < S_.numel)
    (b0 : Fin 8) (s : Fin 2048) (h : Fin 8) (j : Fin 256) :
    pad S8x2048x8x256 ![0, 0, 0, 0] ![0, 0, 0, 64] ![0, 0, 0, 0] (concatenate S8x2048x8x192 3 [⟨S8x2048x8x128, a⟩, ⟨S8x2048x8x64, b⟩] hc)
        (sitofp (F := Ideal) .f32 (constantI S_ 32 0#32)) hp hu (ix4 b0 s h j)
      = if h1 : j.val < 128 then a (ix4 b0 s h ⟨j.val, h1⟩)
        else if h2 : j.val < 192 then b (ix4 b0 s h ⟨j.val - 128, by omega⟩) else 0 := by
  by_cases h2 : j.val < 192
  · rw [pad_apply_of_inside _ _ _ _ _ _ _ _ (ix4 b0 s h ⟨j.val, h2⟩ : S8x2048x8x192.Idx) (by
      intro d; fin_cases d <;> simp)]
    by_cases h1 : j.val < 128
    · rw [dif_pos h1]
      refine concatenate_apply_piece (t := S8x2048x8x192) 3 [⟨S8x2048x8x128, a⟩, ⟨S8x2048x8x64, b⟩] hc _ 0 (by simp) S8x2048x8x128 a rfl rfl
        0 rfl _ ?_ ?_
      · intro d hd; fin_cases d <;> simp at hd ⊢
      · simp
    · rw [dif_neg h1, dif_pos h2]
      refine concatenate_apply_piece (t := S8x2048x8x192) 3 [⟨S8x2048x8x128, a⟩, ⟨S8x2048x8x64, b⟩] hc _ 1 (by simp) S8x2048x8x64 b rfl rfl
        128 rfl _ ?_ ?_
      · intro d hd; fin_cases d <;> simp at hd ⊢
      · simp; omega
  · rw [pad_apply_of_not_inside _ _ _ _ _ _ _ _ 3 (by simp; omega), dif_neg (by omega), dif_neg h2]
    show (((0#32 : BitVec 32).toInt : ℝ) : EReal) = 0
    simp

/-- The reference's frequencies. -/
theorem freq_eq (q : Fin 16) : val_main_v5 (F := Ideal) (ix1 q) = freq q := by
  unfold freq
  pointwise [val_main_v5, val_main_v4, val_main_v3, val_main_v2, val_main_v1, val_main_v0, val_main_cst, val_main_cst_0]

/-- The turned last columns of the queries. -/
theorem qt_at (b : Fin 8) (s : Fin 2048) (h : Fin 8) (k : Fin 64) :
    val_main_v131 (F := Ideal) x0 x1 x4 x7 x9 x10 (ix4 b s h k)
      = rowTurn (n := 64) (by norm_num) (fun d => val_main_v84 (F := Ideal) x0 x1 x4 x7 (ix4 b s h d)) (cosT (x9 (ix1 s)) (x10 (ix1 s)))
          (sinT (x9 (ix1 s)) (x10 (ix1 s))) k := by
  unfold val_main_v131 val_main_v107 val_main_v130 val_main_v101 val_main_v106 val_main_v98 val_main_v100 val_main_v103 val_main_v105 val_main_v95 val_main_v96 val_main_v85 val_main_v124 val_main_v129 val_main_v121 val_main_v123 val_main_v126 val_main_v128 val_main_v118 val_main_v119 val_main_v108
  generalize val_main_v84 (F := Ideal) x0 x1 x4 x7 = u
  pointwise [val_main_v97, val_main_v99, val_main_v102, val_main_v104, val_main_v120, val_main_v122, val_main_v125, val_main_v127, val_main_v92, val_main_v94, val_main_v115, val_main_v117, val_main_v91, val_main_v93, val_main_v114, val_main_v116, val_main_v90, val_main_v113, val_main_v88, val_main_v89, val_main_v111, val_main_v112, val_main_v86, val_main_v87, val_main_v109, val_main_v110]
  exact halves_eq (fun d => u (ix4 b s h d)) (fun q => val_main_v5 (F := Ideal) (ix1 q)) freq_eq _ _ k

/-- The turned shared columns of the keys. -/
theorem kt_at (b : Fin 8) (s : Fin 2048) (h : Fin 1) (k : Fin 64) :
    val_main_v198 (F := Ideal) x0 x3 x9 x10 (ix4 b s h k)
      = rowTurn (n := 64) (by norm_num) (fun d => val_main_v151 (F := Ideal) x0 x3 (ix4 b s h d)) (cosT (x9 (ix1 s)) (x10 (ix1 s)))
          (sinT (x9 (ix1 s)) (x10 (ix1 s))) k := by
  obtain rfl : h = 0 := Subsingleton.elim _ _
  unfold val_main_v198 val_main_v174 val_main_v197 val_main_v168 val_main_v173 val_main_v165 val_main_v167 val_main_v170 val_main_v172 val_main_v162 val_main_v163 val_main_v152 val_main_v191 val_main_v196 val_main_v188 val_main_v190 val_main_v193 val_main_v195 val_main_v185 val_main_v186 val_main_v175
  generalize val_main_v151 (F := Ideal) x0 x3 = u
  pointwise [val_main_v164, val_main_v166, val_main_v169, val_main_v171, val_main_v187, val_main_v189, val_main_v192, val_main_v194, val_main_v159, val_main_v161, val_main_v182, val_main_v184, val_main_v158, val_main_v160, val_main_v181, val_main_v183, val_main_v157, val_main_v180, val_main_v155, val_main_v156, val_main_v178, val_main_v179, val_main_v153, val_main_v154, val_main_v176, val_main_v177]
  exact halves_eq (fun d => u (ix4 b s 0 d)) (fun q => val_main_v5 (F := Ideal) (ix1 q)) freq_eq _ _ k

/-- The queries handed on. -/
theorem resq_at (n : Fin 16384) (l : Fin 2048) (s : Fin 2048) (hs : s.val = n.val % 2048) :
    val_main_v205 (F := Ideal) x0 x1 x4 x6 x7 x9 x10 (ix2 n l)
      = qSlotT (qHead x0 x1 x4 n) (fun d => x6 (ix1 d)) (fun d => x7 (ix1 d)) (cosT (x9 (ix1 s)) (x10 (ix1 s)))
          (sinT (x9 (ix1 s)) (x10 (ix1 s))) ⟨l.val / 256, by omega⟩ ⟨l.val % 256, by omega⟩ := by
  have := n.isLt
  have := l.isLt
  rw [val_main_v205_apply, val_main_v136_apply]
  refine Eq.trans (congrArg (val_main_v135 (F := Ideal) x0 x1 x4 x6 x7 x9 x10) (funext fun a => Fin.ext ?_))
    ((slot_at _ _ _ _ _ ⟨n.val / 2048, by omega⟩ s ⟨l.val / 256, by omega⟩ ⟨l.val % 256, by omega⟩).trans ?_)
  · fin_cases a <;> simp [hs] <;> omega
  · unfold qSlotT
    refine dite_congr rfl (fun h1 => ?_) fun h1 => dite_congr rfl (fun h2 => ?_) fun _ => rfl
    · exact qn_at x0 x1 x4 x6 _ n _ _ (by simp [hs]; omega) rfl rfl
    · rw [val_main_v133_apply, val_main_v132_apply, val_main_v54_apply, val_main_v52_apply, val_main_v53_apply,
        val_main_cst_10_apply, val_main_cst_11_apply]
      refine (scale_div _).trans (congrArg (· * qScale) ((qt_at x0 x1 x4 x7 x9 x10 _ _ _ _).trans
        (rowTurn_congr _ (fun d => qr_at x0 x1 x4 x7 _ n _ d ?_ rfl rfl) (fun _ => rfl) (fun _ => rfl) rfl)))
      simp [hs]
      omega

/-- The keys handed on. -/
theorem resk_at (n : Fin 16384) (l : Fin 2048) (s : Fin 2048) (hs : s.val = n.val % 2048) :
    val_main_v206 (F := Ideal) x0 x2 x3 x5 x8 x9 x10 (ix2 n l)
      = kSlot (kvHead x0 x2 x5 n) (rowTurn (n := 64) (by norm_num) (kr (fun e => x0 (ix2 n e)) fun d => x3 (ix1 d))
          (cosT (x9 (ix1 s)) (x10 (ix1 s))) (sinT (x9 (ix1 s)) (x10 (ix1 s)))) (fun d => x8 (ix1 d))
          ⟨l.val / 256, by omega⟩ ⟨l.val % 256, by omega⟩ := by
  have := n.isLt
  have := l.isLt
  rw [val_main_v206_apply, val_main_v202_apply]
  refine Eq.trans (congrArg (val_main_v201 (F := Ideal) x0 x2 x3 x5 x8 x9 x10) (funext fun a => Fin.ext ?_))
    ((slot_at _ _ _ _ _ ⟨n.val / 2048, by omega⟩ s ⟨l.val / 256, by omega⟩ ⟨l.val % 256, by omega⟩).trans ?_)
  · fin_cases a <;> simp [hs] <;> omega
  · unfold kSlot
    refine dite_congr rfl (fun h1 => ?_) fun h1 => dite_congr rfl (fun h2 => ?_) fun _ => rfl
    · exact kn_at x0 x2 x5 x8 _ n _ _ (by simp [hs]; omega) rfl rfl
    · rw [val_main_v199_apply]
      refine Eq.trans (congrArg (val_main_v198 (F := Ideal) x0 x3 x9 x10) (funext fun a => Fin.ext ?_))
        ((kt_at x0 x3 x9 x10 ⟨n.val / 2048, by omega⟩ s 0 _).trans
          (rowTurn_congr _ (fun d => ?_) (fun _ => rfl) (fun _ => rfl) rfl))
      · fin_cases a <;> simp
      · have := d.isLt
        rw [val_main_v151_apply]
        refine kr_at x0 x3 _ n d ?_ ?_ <;> simp [hs] <;> omega

/-- The values handed on. -/
theorem resv_at (n : Fin 16384) (l : Fin 1024) :
    val_main_v207 (F := Ideal) x0 x2 x5 (ix2 n l) = kvHead x0 x2 x5 n ⟨l.val / 128 * 256 + 128 + l.val % 128, by omega⟩ := by
  have := n.isLt
  have := l.isLt
  rw [val_main_v207_apply, val_main_v204_apply, val_main_v203_apply]
  refine kvh_at x0 x2 x5 _ n _ ?_ ?_ <;> simp <;> omega

/-- The shared columns kept, filled up with zeros. -/
theorem resr_at (n : Fin 16384) (l : Fin 128) :
    val_main_v208 (F := Ideal) x0 x3 (ix2 n l)
      = if h : l.val < 64 then kr (fun e => x0 (ix2 n e)) (fun d => x3 (ix1 d)) ⟨l.val, h⟩ else 0 := by
  unfold val_main_v208
  by_cases h : l.val < 64
  · rw [dif_pos h, pad_apply_of_inside _ _ _ _ _ _ _ _ (ix2 n ⟨l.val, h⟩ : S16384x64.Idx) (by intro d; fin_cases d <;> simp)]
    exact kr_at x0 x3 _ n _ rfl rfl
  · rw [dif_neg h, pad_apply_of_not_inside _ _ _ _ _ _ _ _ 1 (by simp; omega)]
    show (((0#32 : BitVec 32).toInt : ℝ) : EReal) = 0
    simp

end Cert.MlaPosRefIdeal.Pos

end
-- ==== Proof.MlaPosValue.lean ====
/- The latent tokens' preparation's five results are the reference's. -/
module

public import proofs.«01_k».proof.Proof.MlaPosHead
public import proofs.«01_k».proof.Proof.MlaPosHost
public import proofs.«01_k».proof.Proof.MlaPosRef
public import proofs.«01_k».proof.Proof.Gen.MlaPosIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaPosIdeal.Pos
open Cert.MlaPosIdeal Cert.MlaPosIdeal.Gen Cert.Norm Cert.MlaNorm Cert.RopeMla

section
variable (x0 : Vec Ideal S512x768 .f32) (x1 : Vec Ideal S1x384 .f32) (x2 : Vec Ideal S1x256 .f32) (x3 : Vec Ideal S1x128 .f32)
  (x4 : Vec Ideal S384x2048 .bf16) (x5 : Vec Ideal S256x2048 .bf16) (x6 x7 x8 : Vec Ideal S1x128 .f32)
  (x9 x10 : Vec Ideal S512x128 .f32) (cs sn : Fin 64 → EReal)
  (p : Fin 704 → EReal) (gq : Fin 384 → EReal) (gc : Fin 256 → EReal) (gs gr : Fin 64 → EReal) (gn hn : Fin 128 → EReal)
  (wq : Fin 384 → Fin 1536 → EReal) (wk : Fin 256 → Fin 2048 → EReal) (r : Fin 512)
  (h0 : ∀ j : Fin 768, x0 (ix2 r j) = if h : j.val < 704 then p ⟨j.val, h⟩ else (0 : EReal))
  (h1 : ∀ d, x1 (ix2 0 d) = gq d) (h2 : ∀ d, x2 (ix2 0 d) = gc d)
  (h3 : ∀ d : Fin 128, x3 (ix2 0 d) = if h : d.val < 64 then gs ⟨d.val, h⟩ else (0 : EReal))
  (h4 : ∀ (e : Fin 384) (l : Fin 2048), x4 (ix2 e l)
    = if h : l.val % 256 < 192 then wq e ⟨l.val / 256 * 192 + l.val % 256, by omega⟩ else (0 : EReal))
  (h5 : ∀ e l, x5 (ix2 e l) = wk e l) (h6 : ∀ d, x6 (ix2 0 d) = gn d)
  (h7 : ∀ d : Fin 128, x7 (ix2 0 d) = if h : d.val < 64 then gr ⟨d.val, h⟩ else (0 : EReal))
  (h8 : ∀ d, x8 (ix2 0 d) = hn d)
  (h9 : ∀ (d : Fin 128) (h : d.val < 64), x9 (ix2 r d) = cs ⟨d.val, h⟩)
  (h10 : ∀ (d : Fin 128) (h : d.val < 64), x10 (ix2 r d) = sn ⟨d.val, h⟩)
include h0

include h2 in
/-- The block's latent is the token's. -/
theorem cBlk_spec (e : Fin 256) : cBlk x0 x2 r e = ckv p gc e :=
  congrArg₂ (· * ·) (rmsBy_congr _ (fun d => (h0 _).trans (dif_pos (by dsimp only; omega))) rfl) (h2 e)

include h2 h5 in
/-- The block's keys and values are the token's. -/
theorem kvBlk_spec (l : Fin 2048) : kvBlk x0 x2 x5 r l = kvh p gc wk l :=
  Finset.sum_congr rfl fun e _ => congrArg₂ (· * ·) (cBlk_spec x0 x2 p gc r h0 h2 e) (h5 e l)

include h3 in
/-- The block's shared columns are the token's, then zeros. -/
theorem rBlk_spec (e : Fin 128) : rBlk x0 x3 r e = if h : e.val < 64 then kr p gs ⟨e.val, h⟩ else 0 := by
  unfold rBlk
  rw [rmsBy_half _ _ (fun d hd => (h0 _).trans (dif_neg (by dsimp only; omega))), h3]
  by_cases h : e.val < 64
  · simp only [dif_pos h]
    exact congrArg (· * _) (rmsBy_congr _ (fun d => (h0 _).trans (dif_pos (by dsimp only; omega))) rfl)
  · simp only [dif_neg h, zero_mul]

include h1 h4 in
/-- The block's query slots are the token's heads, then zeros. -/
theorem qBlk_spec (l : Fin 2048) : qBlk x0 x1 x4 r l
    = if h : l.val % 256 < 192 then qh p gq wq ⟨l.val / 256 * 192 + l.val % 256, by omega⟩ else 0 := by
  unfold qBlk
  by_cases h : l.val % 256 < 192
  · rw [dif_pos h]
    refine Finset.sum_congr rfl fun e _ => congrArg₂ (· * ·) (congrArg₂ (· * ·)
      (rmsBy_congr _ (fun d => (h0 _).trans (dif_pos (by dsimp only; omega))) rfl) (h1 e)) ((h4 e l).trans (dif_pos h))
  · rw [dif_neg h]
    exact Finset.sum_eq_zero fun e _ => by rw [h4 e l, dif_neg h, mul_zero]

include h3 h9 h10 in
/-- The block's shared columns, turned, are the token's, then zeros. -/
theorem rtBlk_spec (e : Fin 128) : rtBlk x0 x3 x9 x10 r e
    = if h : e.val < 64 then rowTurn (n := 64) (by norm_num) (kr p gs) cs sn ⟨e.val, h⟩ else 0 :=
  rowTurn_half _ _ _ _ _ _ (rBlk_spec x0 x3 p gs r h0 h3) h9 h10 e

include h1 h4 h7 h9 h10 in
/-- The last columns of a block's query slot, turned, are the token's, then zeros. -/
theorem qtBlk_spec (b : ℕ) (hb : ∀ d : Fin 128, b + d.val < 2048) (h : Fin 8) (hh : b = h.val * 256 + 128) (e : Fin 128) :
    qtBlk x0 x1 x4 x7 x9 x10 r b hb e
      = if he : e.val < 64 then rowTurn (n := 64) (by norm_num)
          (fun e : Fin 64 => rmsBy i64 (fun d : Fin 64 => qh p gq wq ⟨h.val * 192 + 128 + d.val, by omega⟩) e * gr e) cs sn ⟨e.val, he⟩
        else 0 := by
  have hq := qBlk_spec x0 x1 x4 p gq wq r h0 h1 h4
  refine rowTurn_half _ _ _ _ _ _ (fun d => ?_) h9 h10 e
  rw [h7, rmsBy_half _ _ (fun d hd => (hq _).trans (dif_neg (by dsimp only; omega)))]
  by_cases hd : d.val < 64
  · simp only [dif_pos hd]
    refine congrArg (· * _) (rmsBy_congr _ (fun d => ?_) rfl)
    rw [hq, dif_pos (by dsimp only; omega)]
    refine congrArg (qh p gq wq) (Fin.ext ?_)
    dsimp only
    omega
  · simp only [dif_neg hd, zero_mul]

include h1 h4 h6 h7 h9 h10 in
/-- The query block is the token's slots. -/
theorem outq_spec (l : Fin 2048) : out0_11 x0 x1 x2 x3 x4 x5 x6 x7 x8 x9 x10 (ix2 r l)
    = qSlotT (qh p gq wq) gn gr cs sn ⟨l.val / 256, by omega⟩ ⟨l.val % 256, by omega⟩ := by
  have hq := qBlk_spec x0 x1 x4 p gq wq r h0 h1 h4
  rw [outq_at]
  unfold qSlotT
  by_cases ha : l.val / 128 % 2 = 0
  · rw [if_pos ha, h6, dif_pos (by dsimp only; omega)]
    refine congrArg (· * qScale) (congrArg₂ (· * ·) (rmsBy_congr _ (fun d => ?_) (Fin.ext ?_)) (congrArg gn (Fin.ext ?_)))
    · rw [hq, dif_pos (by dsimp only; omega)]
      refine congrArg (qh p gq wq) (Fin.ext ?_)
      dsimp only
      omega
    · dsimp only
      omega
    · dsimp only
      omega
  · rw [if_neg ha, qtBlk_spec x0 x1 x4 x7 x9 x10 cs sn p gq gr wq r h0 h1 h4 h7 h9 h10 _ _ ⟨l.val / 256, by omega⟩ (by dsimp only; omega)]
    by_cases h : l.val % 128 < 64
    · rw [dif_pos h, dif_neg (by dsimp only; omega), dif_pos (by dsimp only; omega)]
      exact congrArg (· * qScale) (rowTurn_congr _ (fun _ => rfl) (fun _ => rfl) (fun _ => rfl) (Fin.ext (by dsimp only; omega)))
    · rw [dif_neg h, dif_neg (by dsimp only; omega), dif_neg (by dsimp only; omega), zero_mul]

include h2 h3 h5 h8 h9 h10 in
/-- The key block is the token's slots. -/
theorem outk_spec (l : Fin 2048) : out0_12 x0 x1 x2 x3 x4 x5 x6 x7 x8 x9 x10 (ix2 r l)
    = kSlot (kvh p gc wk) (rowTurn (n := 64) (by norm_num) (kr p gs) cs sn) hn ⟨l.val / 256, by omega⟩ ⟨l.val % 256, by omega⟩ := by
  rw [outk_at]
  unfold kSlot
  by_cases ha : l.val / 128 % 2 = 0
  · rw [if_pos ha, h8, dif_pos (by dsimp only; omega)]
    refine congrArg₂ (· * ·) (rmsBy_congr _ (fun d => ?_) (Fin.ext ?_)) (congrArg hn (Fin.ext ?_))
    · rw [kvBlk_spec x0 x2 x5 p gc wk r h0 h2 h5]
      refine congrArg (kvh p gc wk) (Fin.ext ?_)
      dsimp only
      omega
    · dsimp only
      omega
    · dsimp only
      omega
  · rw [if_neg ha, rtBlk_spec x0 x3 x9 x10 cs sn p gs r h0 h3 h9 h10]
    by_cases h : l.val % 128 < 64
    · rw [dif_pos h, dif_neg (by dsimp only; omega), dif_pos (by dsimp only; omega)]
      exact congrArg (rowTurn (n := 64) (by norm_num) (kr p gs) cs sn) (Fin.ext (by dsimp only; omega))
    · rw [dif_neg h, dif_neg (by dsimp only; omega), dif_neg (by dsimp only; omega)]

end

variable (m : (ℓ : Loc nD τ sig) → Buf (Elt Ideal) ℓ) (c : Dev nD)

/-- The block of every window at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val % 4, 0] ∧ win0_10.index t = ![t.val % 4, 0]
    ∧ win0_11.index t = ![t.val, 0] ∧ win0_12.index t = ![t.val, 0] ∧ win0_13.index t = ![t.val, 0]
    ∧ win0_14.index t = ![t.val, 0] ∧ win0_15.index t = ![t.val, 0] ∧ t.val < 32 :=
  (by decide +kernel : ∀ t : Fin grid0.N, _)

section
variable (t : Fin cfg0.N)

/-- A block's projection is the tokens'. -/
theorem b0 (r : Fin 512) (n : Fin 16384) (hn : n.val = t.val * 512 + r.val) (j : Fin 768) : iblk m c 0 t (ix2 r j)
    = if h : j.val < 704 then (fun e : Fin 704 => m ((c : Thread nD τ).loc main_arg0) (ix2 n e)) ⟨j.val, h⟩ else (0 : EReal) := by
  refine Eq.trans ?_ (proj_pad m c n j)
  blk_ext [iblk, idx t]

/-- The gain of the queries' latent in a block. -/
theorem b1 (d : Fin 384) : iblk m c 1 t (ix2 0 d)
    = m ((c : Thread nD τ).loc main_arg1) (ix1 d) := by
  refine Eq.trans ?_ (q_lat m c d)
  blk_ext [iblk, idx t]

/-- The gain of the other latent in a block. -/
theorem b2 (d : Fin 256) : iblk m c 2 t (ix2 0 d)
    = m ((c : Thread nD τ).loc main_arg2) (ix1 d) := by
  refine Eq.trans ?_ (kv_lat m c d)
  blk_ext [iblk, idx t]

/-- The gain of the shared columns in a block. -/
theorem b3 (d : Fin 128) : iblk m c 3 t (ix2 0 d)
    = if h : d.val < 64 then m ((c : Thread nD τ).loc main_arg3) (ix1 ⟨d.val, h⟩) else (0 : EReal) := by
  refine Eq.trans ?_ (kn_rope m c d)
  blk_ext [iblk, idx t]

/-- The queries' weight in a block. -/
theorem b4 (e : Fin 384) (l : Fin 2048) : iblk m c 4 t (ix2 e l)
    = if h : l.val % 256 < 192 then m ((c : Thread nD τ).loc main_arg4)
      (ix2 e ⟨l.val / 256 * 192 + l.val % 256, by omega⟩) else (0 : EReal) := by
  refine Eq.trans ?_ (w_uq m c e l)
  blk_ext [iblk, idx t]

/-- The weight of the keys and values in a block. -/
theorem b5 (e : Fin 256) (l : Fin 2048) : iblk m c 5 t (ix2 e l)
    = m ((c : Thread nD τ).loc main_arg5) (ix2 e l) := by
  refine Eq.trans ?_ (w_ukv m c e l)
  blk_ext [iblk, idx t]

/-- The gain of the queries' first columns in a block. -/
theorem b6 (d : Fin 128) : iblk m c 6 t (ix2 0 d)
    = m ((c : Thread nD τ).loc main_arg6) (ix1 d) := by
  refine Eq.trans ?_ (qn_nope m c d)
  blk_ext [iblk, idx t]

/-- The gain of the queries' last columns in a block. -/
theorem b7 (d : Fin 128) : iblk m c 7 t (ix2 0 d)
    = if h : d.val < 64 then m ((c : Thread nD τ).loc main_arg7) (ix1 ⟨d.val, h⟩) else (0 : EReal) := by
  refine Eq.trans ?_ (qn_rope m c d)
  blk_ext [iblk, idx t]

/-- The gain of the keys' own columns in a block. -/
theorem b8 (d : Fin 128) : iblk m c 8 t (ix2 0 d)
    = m ((c : Thread nD τ).loc main_arg8) (ix1 d) := by
  refine Eq.trans ?_ (kn_nope m c d)
  blk_ext [iblk, idx t]

/-- The cosines of a block's rows. -/
theorem b9 (r : Fin 512) (s : Fin 2048) (hs : s.val = t.val % 4 * 512 + r.val) (d : Fin 128) (h : d.val < 64) : iblk m c 9 t (ix2 r d)
    = cosT (m ((c : Thread nD τ).loc main_arg9) (ix1 s)) (m ((c : Thread nD τ).loc main_arg10) (ix1 s)) ⟨d.val, h⟩ := by
  refine Eq.trans ?_ (cos_table m c s d h)
  blk_ext [iblk, idx t]

/-- The sines of a block's rows. -/
theorem b10 (r : Fin 512) (s : Fin 2048) (hs : s.val = t.val % 4 * 512 + r.val) (d : Fin 128) (h : d.val < 64) : iblk m c 10 t (ix2 r d)
    = sinT (m ((c : Thread nD τ).loc main_arg9) (ix1 s)) (m ((c : Thread nD τ).loc main_arg10) (ix1 s)) ⟨d.val, h⟩ := by
  refine Eq.trans ?_ (sin_table m c s d h)
  blk_ext [iblk, idx t]

end

/-- A point's queries. -/
theorem q_point (t : Fin cfg0.N) (r : Fin 512) (l : Fin 2048) (n : Fin 16384) (hn : n.val = t.val * 512 + r.val) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l)
      = MlaPosRefIdeal.Read.val_main_v205 (F := Ideal) (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg9)) (m ((c : Thread nD τ).loc main_arg10)) (ix2 n l) := by
  have hs : n.val % 2048 = t.val % 4 * 512 + r.val := by have := (idx t).2.2.2.2.2.2.2.2.2.2.2.2.2.2.2.2; omega
  exact (outq_spec _ _ _ _ _ _ _ _ _ _ _ _ _ (fun e : Fin 704 => m ((c : Thread nD τ).loc main_arg0) (ix2 n e)) _ _ _ _ r (b0 m c t r n hn) (b1 m c t) (b4 m c t) (b6 m c t) (b7 m c t)
      (b9 m c t r ⟨n.val % 2048, by omega⟩ hs) (b10 m c t r ⟨n.val % 2048, by omega⟩ hs) l).trans
    (MlaPosRefIdeal.Pos.resq_at _ _ _ _ _ _ _ n l ⟨n.val % 2048, by omega⟩ rfl).symm

/-- The queries. -/
theorem final11 :
    (dats m 0 c).arrAt 11 (cfgs 0).N
      = MlaPosRefIdeal.Read.val_main_v205 (F := Ideal) (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg9)) (m ((c : Thread nD τ).loc main_arg10)) := by
  refine (dats m 0 c).arrAt_eq_of_covers 11 _ (by decide +kernel) fun t _ y => ?_
  have ht : t.val < 32 := (idx t).2.2.2.2.2.2.2.2.2.2.2.2.2.2.2.2
  blk_simp
  rw [after0_11]
  have hy0 : (y 0).val < 512 := (y 0).isLt
  have hy1 : (y 1).val < 2048 := (y 1).isLt
  refine Eq.trans ?_ ((q_point m c t (y 0) (y 1) ⟨t.val * 512 + (y 0).val, by omega⟩ rfl).trans ?_)
  · blk_ext
  · blk_ext [idx t]

/-- A point's keys. -/
theorem k_point (t : Fin cfg0.N) (r : Fin 512) (l : Fin 2048) (n : Fin 16384) (hn : n.val = t.val * 512 + r.val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l)
      = MlaPosRefIdeal.Read.val_main_v206 (F := Ideal) (m ((c : Thread nD τ).loc main_arg0)) (m ((c : Thread nD τ).loc main_arg2)) (m ((c : Thread nD τ).loc main_arg3)) (m ((c : Thread nD τ).loc main_arg5)) (m ((c : Thread nD τ).loc main_arg8)) (m ((c : Thread nD τ).loc main_arg9)) (m ((c : Thread nD τ).loc main_arg10)) (ix2 n l) := by
  have hs : n.val % 2048 = t.val % 4 * 512 + r.val := by have := (idx t).2.2.2.2.2.2.2.2.2.2.2.2.2.2.2.2; omega
  exact (outk_spec _ _ _ _ _ _ _ _ _ _ _ _ _ (fun e : Fin 704 => m ((c : Thread nD τ).loc main_arg0) (ix2 n e)) _ _ _ _ r (b0 m c t r n hn) (b2 m c t) (b3 m c t) (b5 m c t) (b8 m c t)
      (b9 m c t r ⟨n.val % 2048, by omega⟩ hs) (b10 m c t r ⟨n.val % 2048, by omega⟩ hs) l).trans
    (MlaPosRefIdeal.Pos.resk_at _ _ _ _ _ _ _ n l ⟨n.val % 2048, by omega⟩ rfl).symm

/-- The keys. -/
theorem final12 :
    (dats m 0 c).arrAt 12 (cfgs 0).N
      = MlaPosRefIdeal.Read.val_main_v206 (F := Ideal) (m ((c : Thread nD τ).loc main_arg0)) (m ((c : Thread nD τ).loc main_arg2)) (m ((c : Thread nD τ).loc main_arg3)) (m ((c : Thread nD τ).loc main_arg5)) (m ((c : Thread nD τ).loc main_arg8)) (m ((c : Thread nD τ).loc main_arg9)) (m ((c : Thread nD τ).loc main_arg10)) := by
  refine (dats m 0 c).arrAt_eq_of_covers 12 _ (by decide +kernel) fun t _ y => ?_
  have ht : t.val < 32 := (idx t).2.2.2.2.2.2.2.2.2.2.2.2.2.2.2.2
  blk_simp
  rw [after0_12]
  have hy0 : (y 0).val < 512 := (y 0).isLt
  have hy1 : (y 1).val < 2048 := (y 1).isLt
  refine Eq.trans ?_ ((k_point m c t (y 0) (y 1) ⟨t.val * 512 + (y 0).val, by omega⟩ rfl).trans ?_)
  · blk_ext
  · blk_ext [idx t]

/-- A point's values. -/
theorem v_point (t : Fin cfg0.N) (r : Fin 512) (l : Fin 1024) (n : Fin 16384) (hn : n.val = t.val * 512 + r.val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l)
      = MlaPosRefIdeal.Read.val_main_v207 (F := Ideal) (m ((c : Thread nD τ).loc main_arg0)) (m ((c : Thread nD τ).loc main_arg2)) (m ((c : Thread nD τ).loc main_arg5)) (ix2 n l) :=
  (outv_at _ _ _ _ _ _ _ _ _ _ _ r l).trans ((kvBlk_spec _ _ _ (fun e : Fin 704 => m ((c : Thread nD τ).loc main_arg0) (ix2 n e)) _ _ r (b0 m c t r n hn) (b2 m c t) (b5 m c t) _).trans
    (MlaPosRefIdeal.Pos.resv_at _ _ _ n l).symm)

/-- The values. -/
theorem final13 :
    (dats m 0 c).arrAt 13 (cfgs 0).N
      = MlaPosRefIdeal.Read.val_main_v207 (F := Ideal) (m ((c : Thread nD τ).loc main_arg0)) (m ((c : Thread nD τ).loc main_arg2)) (m ((c : Thread nD τ).loc main_arg5)) := by
  refine (dats m 0 c).arrAt_eq_of_covers 13 _ (by decide +kernel) fun t _ y => ?_
  have ht : t.val < 32 := (idx t).2.2.2.2.2.2.2.2.2.2.2.2.2.2.2.2
  blk_simp
  rw [after0_13]
  have hy0 : (y 0).val < 512 := (y 0).isLt
  have hy1 : (y 1).val < 1024 := (y 1).isLt
  refine Eq.trans ?_ ((v_point m c t (y 0) (y 1) ⟨t.val * 512 + (y 0).val, by omega⟩ rfl).trans ?_)
  · blk_ext
  · blk_ext [idx t]

/-- A point's latent. -/
theorem c_point (t : Fin cfg0.N) (r : Fin 512) (l : Fin 256) (n : Fin 16384) (hn : n.val = t.val * 512 + r.val) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l)
      = MlaPosRefIdeal.Read.val_main_v19 (F := Ideal) (m ((c : Thread nD τ).loc main_arg0)) (m ((c : Thread nD τ).loc main_arg2)) (ix2 n l) :=
  (outc_at _ _ _ _ _ _ _ _ _ _ _ r l).trans ((cBlk_spec _ _ (fun e : Fin 704 => m ((c : Thread nD τ).loc main_arg0) (ix2 n e)) _ r (b0 m c t r n hn) (b2 m c t) l).trans
    (MlaPosRefIdeal.Pos.ckv_at _ _ _ n l rfl rfl).symm)

/-- The latent. -/
theorem final14 :
    (dats m 0 c).arrAt 14 (cfgs 0).N
      = MlaPosRefIdeal.Read.val_main_v19 (F := Ideal) (m ((c : Thread nD τ).loc main_arg0)) (m ((c : Thread nD τ).loc main_arg2)) := by
  refine (dats m 0 c).arrAt_eq_of_covers 14 _ (by decide +kernel) fun t _ y => ?_
  have ht : t.val < 32 := (idx t).2.2.2.2.2.2.2.2.2.2.2.2.2.2.2.2
  blk_simp
  rw [after0_14]
  have hy0 : (y 0).val < 512 := (y 0).isLt
  have hy1 : (y 1).val < 256 := (y 1).isLt
  refine Eq.trans ?_ ((c_point m c t (y 0) (y 1) ⟨t.val * 512 + (y 0).val, by omega⟩ rfl).trans ?_)
  · blk_ext
  · blk_ext [idx t]

/-- A point's shared columns. -/
theorem r_point (t : Fin cfg0.N) (r : Fin 512) (l : Fin 128) (n : Fin 16384) (hn : n.val = t.val * 512 + r.val) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l)
      = MlaPosRefIdeal.Read.val_main_v208 (F := Ideal) (m ((c : Thread nD τ).loc main_arg0)) (m ((c : Thread nD τ).loc main_arg3)) (ix2 n l) :=
  (outr_at _ _ _ _ _ _ _ _ _ _ _ r l).trans ((rBlk_spec _ _ (fun e : Fin 704 => m ((c : Thread nD τ).loc main_arg0) (ix2 n e)) _ r (b0 m c t r n hn) (b3 m c t) l).trans
    (MlaPosRefIdeal.Pos.resr_at _ _ n l).symm)

/-- The shared columns. -/
theorem final15 :
    (dats m 0 c).arrAt 15 (cfgs 0).N
      = MlaPosRefIdeal.Read.val_main_v208 (F := Ideal) (m ((c : Thread nD τ).loc main_arg0)) (m ((c : Thread nD τ).loc main_arg3)) := by
  refine (dats m 0 c).arrAt_eq_of_covers 15 _ (by decide +kernel) fun t _ y => ?_
  have ht : t.val < 32 := (idx t).2.2.2.2.2.2.2.2.2.2.2.2.2.2.2.2
  blk_simp
  rw [after0_15]
  have hy0 : (y 0).val < 512 := (y 0).isLt
  have hy1 : (y 1).val < 128 := (y 1).isLt
  refine Eq.trans ?_ ((r_point m c t (y 0) (y 1) ⟨t.val * 512 + (y 0).val, by omega⟩ rfl).trans ?_)
  · blk_ext
  · blk_ext [idx t]

end Cert.MlaPosIdeal.Pos

end
-- ==== Proof.MlaCtxHead.lean ====
/- The payloads of the kernel that prepares the latent cache's keys and values, at an element, and what the host hands it. -/
module

public import proofs.«01_k».proof.Proof.Gen.MlaCtxIdeal.Frame
public import proofs.«01_k».proof.Proof.MlaSpec
public import Idealize.ShloMosaic.Lib.StableHlo.RunRead
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.MlaCtxIdeal.Ctx
open Cert.MlaCtxIdeal Cert.MlaCtxIdeal.Gen Cert.MlaNorm

/-- Two tiles with equal elements are equal. -/
theorem tile_ext {α : Type} {a b : S512x128.Idx → α} (h : ∀ r c, a (ix2 r c) = b (ix2 r c)) : a = b := by
  funext i
  rw [eq_ix2 i]
  exact h _ _

/-- The product of the keys and values. -/
theorem kv_pay (x : Vec Ideal S512x256 .f32) (w : Vec Ideal S256x2048 .bf16) (r : Fin 512) (l : Fin 2048) :
    k0_pay1 (F := Ideal) x w (ix2 r l) = ∑ e : Fin 256, x (ix2 r e) * w (ix2 e l) := by
  pointwise [k0_pay1]

/-- The columns from `o` on, normed, with their gain. -/
def nrm (o : ℕ) (ho : o + 128 ≤ 2048) (y : FVec Ideal S512x2048 .f32) (g : Vec Ideal S1x128 .f32) : FVec Ideal S512x128 .bf16 :=
  fun i => rmsBy i128 (fun d : Fin 128 => y (ix2 (i 0) ⟨o + d.val, by omega⟩)) (i 1) * g (ix2 0 (i 1))

/-- The columns from `o` on. -/
def col (o : ℕ) (ho : o + 128 ≤ 2048) (y : FVec Ideal S512x2048 .f32) : FVec Ideal S512x128 .bf16 :=
  fun i => y (ix2 (i 0) ⟨o + (i 1).val, Nat.lt_of_lt_of_le (Nat.add_lt_add_left (i 1).isLt o) ho⟩)

section
variable (y : FVec Ideal S512x2048 .f32) (g : Vec Ideal S1x128 .f32) (a : Vec Ideal S512x256 .f32) (w : Vec Ideal S256x2048 .bf16)

/-- The own columns of key head 0. -/
theorem k0 : k0_pay3 (F := Ideal) a w g = nrm 0 (by norm_num) (k0_pay1 a w) g := by
  unfold k0_pay3
  generalize k0_pay1 (F := Ideal) a w = y
  refine tile_ext fun r c => ?_
  unfold nrm rmsBy
  pointwise

/-- The own columns of key head 1. -/
theorem k1 : k0_pay7 (F := Ideal) (k0_pay5 a w) (k0_pay6 a w) g = nrm 256 (by norm_num) (k0_pay1 a w) g := by
  unfold k0_pay6 k0_pay5
  generalize k0_pay1 (F := Ideal) a w = y
  refine tile_ext fun r c => ?_
  unfold nrm rmsBy
  pointwise [k0_pay7]

/-- The own columns of key head 2. -/
theorem k2 : k0_pay9 (F := Ideal) y g = nrm 512 (by norm_num) y g := by
  refine tile_ext fun r c => ?_
  unfold nrm rmsBy
  pointwise [k0_pay9]

/-- The own columns of key head 3. -/
theorem k3 : k0_pay11 (F := Ideal) y g = nrm 768 (by norm_num) y g := by
  refine tile_ext fun r c => ?_
  unfold nrm rmsBy
  pointwise [k0_pay11]

/-- The own columns of key head 4. -/
theorem k4 : k0_pay13 (F := Ideal) y g = nrm 1024 (by norm_num) y g := by
  refine tile_ext fun r c => ?_
  unfold nrm rmsBy
  pointwise [k0_pay13]

/-- The own columns of key head 5. -/
theorem k5 : k0_pay15 (F := Ideal) y g = nrm 1280 (by norm_num) y g := by
  refine tile_ext fun r c => ?_
  unfold nrm rmsBy
  pointwise [k0_pay15]

/-- The own columns of key head 6. -/
theorem k6 : k0_pay19 (F := Ideal) (k0_pay17 y) (k0_pay18 y) g = nrm 1536 (by norm_num) y g := by
  refine tile_ext fun r c => ?_
  unfold nrm rmsBy
  pointwise [k0_pay19, k0_pay18, k0_pay17]

/-- The own columns of key head 7. -/
theorem k7 : k0_pay21 (F := Ideal) y g = nrm 1792 (by norm_num) y g := by
  refine tile_ext fun r c => ?_
  unfold nrm rmsBy
  pointwise [k0_pay21]

/-- The values of head 0. -/
theorem v0 : k0_pay4 (F := Ideal) a w = col 128 (by norm_num) (k0_pay1 a w) := by
  unfold k0_pay4
  generalize k0_pay1 (F := Ideal) a w = y
  refine tile_ext fun r c => ?_
  unfold col
  pointwise

/-- The values of head 1. -/
theorem v1 : k0_pay8 (F := Ideal) y = col 384 (by norm_num) y := by
  refine tile_ext fun r c => ?_
  unfold col
  pointwise [k0_pay8]

/-- The values of head 2. -/
theorem v2 : k0_pay10 (F := Ideal) y = col 640 (by norm_num) y := by
  refine tile_ext fun r c => ?_
  unfold col
  pointwise [k0_pay10]

/-- The values of head 3. -/
theorem v3 : k0_pay12 (F := Ideal) y = col 896 (by norm_num) y := by
  refine tile_ext fun r c => ?_
  unfold col
  pointwise [k0_pay12]

/-- The values of head 4. -/
theorem v4 : k0_pay14 (F := Ideal) y = col 1152 (by norm_num) y := by
  refine tile_ext fun r c => ?_
  unfold col
  pointwise [k0_pay14]

/-- The values of head 5. -/
theorem v5 : k0_pay16 (F := Ideal) y = col 1408 (by norm_num) y := by
  refine tile_ext fun r c => ?_
  unfold col
  pointwise [k0_pay16]

/-- The values of head 6. -/
theorem v6 : k0_pay20 (F := Ideal) y = col 1664 (by norm_num) y := by
  refine tile_ext fun r c => ?_
  unfold col
  pointwise [k0_pay20]

/-- The values of head 7. -/
theorem v7 : k0_pay22 (F := Ideal) y = col 1920 (by norm_num) y := by
  refine tile_ext fun r c => ?_
  unfold col
  pointwise [k0_pay22]

end

section
variable (x0 : Vec Ideal S512x256 .f32) (x1 : Vec Ideal S512x128 .f32) (x2 : Vec Ideal S256x2048 .bf16) (x3 : Vec Ideal S1x128 .f32)

/-- A block's keys and values before the norm. -/
def kvBlk (r : Fin 512) (l : Fin 2048) : EReal := ∑ e : Fin 256, x0 (ix2 r e) * x2 (ix2 e l)

/-- The body's keys and values at an element. -/
theorem kvBlk_eq (r : Fin 512) (l : Fin 2048) :
    k0_pay1 (F := Ideal) (View.ld x0 r0_0) (View.ld x2 r0_2) (ix2 r l) = kvBlk x0 x2 r l := by
  rw [kv_pay]
  unfold kvBlk
  refine Finset.sum_congr rfl fun e _ => congrArg₂ (· * ·) ?_ ?_
  · refine congrArg x0 (funext fun a => Fin.ext ?_); fin_cases a <;> simp [Rect.unit, Rect.emb]
  · refine congrArg x2 (funext fun a => Fin.ext ?_); fin_cases a <;> simp [Rect.unit, Rect.emb]

/-- The cached shared columns at an element. -/
theorem shared_eq (i : S512x128.Idx) : k0_pay2 (F := Ideal) (View.ld x1 r0_1) i = x1 (ix2 (i 0) (i 1)) := by
  rw [eq_ix2 i]
  pointwise [k0_pay2]

/-- A normed tile at a column `c` of the whole, over columns `f` that the body holds. -/
theorem nrm_piece (o : ℕ) (ho : o + 128 ≤ 2048) (y : FVec Ideal S512x2048 .f32) (f : Fin 512 → Fin 2048 → EReal)
    (hy : ∀ r l, y (ix2 r l) = f r l) (g : Vec Ideal S1x128 .f32) (i : S512x128.Idx) (r : Fin 512) (c : Fin 2048)
    (h0 : r.val = (i 0).val) (h1 : c.val = o + (i 1).val) (h2 : o % 128 = 0) :
    nrm o ho y (View.ld g r0_3) i
      = rmsBy i128 (fun d : Fin 128 => f r ⟨c.val / 128 * 128 + d.val, by omega⟩) ⟨c.val % 128, by omega⟩
        * g (ix2 0 ⟨c.val % 128, by omega⟩) := by
  have hi : (i 1).val < 128 := (i 1).isLt
  obtain rfl : r = i 0 := Fin.ext h0
  unfold nrm
  refine congrArg₂ (· * ·) (rmsBy_congr _ (fun d => (hy _ _).trans (congrArg (f _) (Fin.ext ?_))) (Fin.ext ?_)) ?_
  · dsimp only
    omega
  · dsimp only
    omega
  · refine congrArg g (funext fun a => Fin.ext ?_)
    fin_cases a <;> simp [Rect.unit, Rect.emb] <;> omega

/-- The key block: even tiles are a head's own columns, odd tiles the shared ones. -/
theorem outk_at (r : Fin 512) (c : Fin 2048) :
    out0_4 x0 x1 x2 x3 (ix2 r c)
      = if c.val / 128 % 2 = 0 then
          rmsBy i128 (fun d : Fin 128 => kvBlk x0 x2 r ⟨c.val / 128 * 128 + d.val, by omega⟩) ⟨c.val % 128, by omega⟩
            * x3 (ix2 0 ⟨c.val % 128, by omega⟩)
        else x1 (ix2 r ⟨c.val % 128, by omega⟩) := by
  unfold_out out0_4
  rw [k0, k1, k2, k3, k4, k5, k6, k7]
  canon_tiles x h
  all_goals
    have hx : (x 1).val < 128 := (x 1).isLt
    replace h0 : r.val = _ := h0
    replace h1 : c.val = _ := h1
    first
      | rw [if_pos (by omega)]
        exact nrm_piece _ _ _ _ (kvBlk_eq x0 x2) _ x r c (h0.trans (by omega)) (h1.trans (by omega)) (by norm_num)
      | rw [if_neg (by omega)]
        obtain rfl : r = x 0 := Fin.ext (h0.trans (by omega))
        exact (shared_eq x1 x).trans (congrArg (fun k : Fin 128 => x1 (ix2 (x 0) k)) (Fin.ext (by dsimp only; omega)))

/-- The value block. -/
theorem outv_at (r : Fin 512) (c : Fin 1024) :
    out0_5 x0 x1 x2 x3 (ix2 r c) = kvBlk x0 x2 r ⟨c.val / 128 * 256 + 128 + c.val % 128, by omega⟩ := by
  unfold_out out0_5
  rw [v0, v1, v2, v3, v4, v5, v6, v7]
  canon_tiles x h
  all_goals
    have hx : (x 1).val < 128 := (x 1).isLt
    replace h0 : r.val = _ := h0
    replace h1 : c.val = _ := h1
    obtain rfl : r = x 0 := Fin.ext (h0.trans (by omega))
    unfold col
    exact (kvBlk_eq x0 x2 _ _).trans (congrArg (kvBlk x0 x2 _) (Fin.ext (by dsimp only; omega)))

end

variable (m : (ℓ : Loc nD τ sig) → Buf (Elt Ideal) ℓ) (c : Dev nD)

/-- The cached latent, one row per token. -/
theorem cache_rows (n : Fin 4096) (e : Fin 256) :
    V m c main_v2 (ix2 n e) = m ((c : Thread nD τ).loc main_arg0) (ix3 ⟨n.val / 512, by omega⟩ ⟨n.val % 512, by omega⟩ e) := by
  have hv : V m c main_v2 = shapeCast _ (m ((c : Thread nD τ).loc main_arg0)) shapeCasts_S8x512x256_S4096x256 := by
    dsimp only [V]
    after_reads_simp
    rfl
  rw [hv, shapeCast_apply _ _ _ (ix3 ⟨n.val / 512, by omega⟩ ⟨n.val % 512, by omega⟩ e : S8x512x256.Idx) (by
    rewrite [Shape.rowMajor_val_three, Shape.rowMajor_val_two]; simp; omega)]

/-- The cached shared columns, one row per token, filled up to 128. -/
theorem shared_rows (n : Fin 4096) (j : Fin 128) :
    V m c main_v4 (ix2 n j) = if h : j.val < 64 then
        m ((c : Thread nD τ).loc main_arg1) (ix3 ⟨n.val / 512, by omega⟩ ⟨n.val % 512, by omega⟩ ⟨j.val, h⟩) else (0 : EReal) := by
  have hv : V m c main_v4 = pad S4096x128 ![0, 0] ![0, 64] ![0, 0]
      (shapeCast _ (m ((c : Thread nD τ).loc main_arg1)) shapeCasts_S8x512x64_S4096x64)
      (sitofp (F := Ideal) .f32 (constantI S_ 32 0#32)) pads_S4096x64_S4096x128_000_0640 h_S_ := by
    dsimp only [V]
    after_reads_simp
    rfl
  rw [hv]
  by_cases h : j.val < 64
  · rw [dif_pos h, pad_apply_of_inside _ _ _ _ _ _ _ _ (ix2 n ⟨j.val, h⟩ : S4096x64.Idx) (by intro d; fin_cases d <;> simp),
      shapeCast_apply _ _ _ (ix3 ⟨n.val / 512, by omega⟩ ⟨n.val % 512, by omega⟩ ⟨j.val, h⟩ : S8x512x64.Idx) (by
        rewrite [Shape.rowMajor_val_three, Shape.rowMajor_val_two]; simp; omega)]
  · rw [dif_neg h, pad_apply_of_not_inside _ _ _ _ _ _ _ _ 1 (by simp; omega)]
    show (((0#32 : BitVec 32).toInt : ℝ) : EReal) = 0
    simp

/-- The weight of the keys and values. -/
theorem w_ukv (e : Fin 256) (l : Fin 2048) : V m c main_v0 (ix2 e l) = m ((c : Thread nD τ).loc main_arg2) (ix2 e l) := by
  have hv : V m c main_v0 = truncf (F := Ideal) .bf16 (m ((c : Thread nD τ).loc main_arg2)) bitsLt_bf16_f32 := by
    dsimp only [V]
    after_reads_simp
  rw [hv]
  rfl

/-- The gain of the keys' own columns. -/
theorem kn_nope (d : Fin 128) : V m c main_v1 (ix2 0 d) = m ((c : Thread nD τ).loc main_arg3) (ix1 d) := by
  have hv : V m c main_v1 = shapeCast _ (m ((c : Thread nD τ).loc main_arg3)) shapeCasts_S128_S1x128 := by
    dsimp only [V]
    after_reads_simp
    rfl
  rw [hv]
  pointwise

end Cert.MlaCtxIdeal.Ctx

end
-- ==== Proof.MlaCtxRef.lean ====
/- The reference of the latent cache's preparation at an element. -/
module

public import proofs.«01_k».proof.Proof.MlaSpec
public import proofs.«01_k».proof.Proof.MlpRef
public import proofs.«01_k».proof.Proof.Gen.MlaCtxRefIdeal.Read
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.MlaCtxRefIdeal.Ctx
open Cert.MlaCtxRefIdeal Cert.MlaCtxRefIdeal.Read Cert.Norm Cert.MlaNorm

variable (x0 : Vec Ideal S8x512x256 .f32) (x1 : Vec Ideal S8x512x64 .f32) (x2 : Vec Ideal S256x2048 .f32) (x3 : Vec Ideal S128 .f32)

/-- A cached token's heads of keys and values. -/
def kvHead (b : Fin 8) (s : Fin 512) (l : Fin 2048) : EReal := ∑ e : Fin 256, x0 (ix3 b s e) * x2 (ix2 e l)

/-- The heads of keys and values at an element. -/
theorem kvh_at (i : S8x512x8x256.Idx) (b : Fin 8) (s : Fin 512) (l : Fin 2048) (h0 : (i 0).val = b.val) (h1 : (i 1).val = s.val)
    (h2 : (i 2).val * 256 + (i 3).val = l.val) :
    val_main_v1 (F := Ideal) x0 x2 i = kvHead x0 x2 b s l := by
  have hi2 : (i 2).val < 8 := (i 2).isLt
  have hi3 : (i 3).val < 256 := (i 3).isLt
  rw [val_main_v1_apply, val_main_v0_apply]
  unfold kvHead
  refine Finset.sum_congr rfl fun e _ => congrArg₂ (· * ·) (congrArg x0 (funext fun a => Fin.ext ?_))
    (congrArg x2 (funext fun a => Fin.ext ?_))
  · fin_cases a <;> simp <;> omega
  · fin_cases a <;> simp <;> omega

/-- The own columns of a key head, normed. -/
theorem kn_at (i : S8x512x8x128.Idx) (b : Fin 8) (s : Fin 512) (h : Fin 8) (k : Fin 128) (h0 : (i 0).val = b.val)
    (h1 : (i 1).val = s.val) (h2 : (i 2).val = h.val) (h3 : (i 3).val = k.val) :
    val_main_v17 (F := Ideal) x0 x2 x3 i
      = rmsBy i128 (fun d : Fin 128 => kvHead x0 x2 b s ⟨h.val * 256 + d.val, by omega⟩) k * x3 (ix1 k) := by
  have hp : ∀ (i' : S8x512x8x128.Idx) (d : Fin 128), (i' 0).val = b.val → (i' 1).val = s.val → (i' 2).val = h.val →
      (i' 3).val = d.val → val_main_v4 (F := Ideal) x0 x2 i' = kvHead x0 x2 b s ⟨h.val * 256 + d.val, by omega⟩ :=
    fun i' d g0 g1 g2 g3 => by
      rw [val_main_v4_apply]
      exact kvh_at x0 x2 _ b s _ g0 g1 (by simp [g2, g3])
  rw [val_main_v17_apply, val_main_v14_apply, val_main_v13_apply, val_main_v12_apply, val_main_v11_apply, val_main_v10_apply,
    val_main_cst_1_apply, val_main_v9_apply, val_main_v8_apply, val_main_cst_0_apply, val_main_v7_apply, val_main_v6_apply,
    val_main_cst_apply, val_main_v16_apply, val_main_v15_apply]
  simp only [val_main_v5_apply]
  unfold rmsBy
  rw [← div_128]
  refine congrArg₂ (· * ·) (congrArg₂ (· * ·) (hp _ _ h0 h1 h2 h3) ?_) (congrArg x3 ?_)
  · refine congrArg (fun s => Ideal.rsqrt (Ideal.div s (Ideal.ofBits .f32 0x43000000#32) + Ideal.ofBits .f32 0x358637BD#32)) ?_
    refine (congrArg₂ (· + ·) ofBits_zero (Finset.sum_congr rfl fun d _ => ?_)).trans (zero_add _)
    exact congrArg₂ (· * ·) (hp _ d h0 h1 h2 rfl) (hp _ d h0 h1 h2 rfl)
  · refine funext fun a => Fin.ext ?_
    fin_cases a <;> simp [h3]

/-- A head of 128 and 64 columns in its slot of 256, filled up with zeros. -/
theorem slot_at (a : FVec Ideal S8x512x8x128 .f32) (b : FVec Ideal S8x512x8x64 .f32)
    (hc : Shape.Concatenates ([(⟨S8x512x8x128, a⟩ : (s : Shape) × (s.Idx → Ideal .f32)), ⟨S8x512x8x64, b⟩].map (·.1)) S8x512x8x192 3)
    (hp : S8x512x8x192.Pads (![0, 0, 0, 0] : Fin 4 → Nat) ![0, 0, 0, 64] ![0, 0, 0, 0] S8x512x8x256) (hu : 0 < S_.numel)
    (b0 : Fin 8) (s : Fin 512) (h : Fin 8) (j : Fin 256) :
    pad S8x512x8x256 ![0, 0, 0, 0] ![0, 0, 0, 64] ![0, 0, 0, 0] (concatenate S8x512x8x192 3 [⟨S8x512x8x128, a⟩, ⟨S8x512x8x64, b⟩] hc)
        (sitofp (F := Ideal) .f32 (constantI S_ 32 0#32)) hp hu (ix4 b0 s h j)
      = if h1 : j.val < 128 then a (ix4 b0 s h ⟨j.val, h1⟩)
        else if h2 : j.val < 192 then b (ix4 b0 s h ⟨j.val - 128, by omega⟩) else 0 := by
  by_cases h2 : j.val < 192
  · rw [pad_apply_of_inside _ _ _ _ _ _ _ _ (ix4 b0 s h ⟨j.val, h2⟩ : S8x512x8x192.Idx) (by
      intro d; fin_cases d <;> simp)]
    by_cases h1 : j.val < 128
    · rw [dif_pos h1]
      refine concatenate_apply_piece (t := S8x512x8x192) 3 [⟨S8x512x8x128, a⟩, ⟨S8x512x8x64, b⟩] hc _ 0 (by simp) S8x512x8x128 a rfl rfl
        0 rfl _ ?_ ?_
      · intro d hd; fin_cases d <;> simp at hd ⊢
      · simp
    · rw [dif_neg h1, dif_pos h2]
      refine concatenate_apply_piece (t := S8x512x8x192) 3 [⟨S8x512x8x128, a⟩, ⟨S8x512x8x64, b⟩] hc _ 1 (by simp) S8x512x8x64 b rfl rfl
        128 rfl _ ?_ ?_
      · intro d hd; fin_cases d <;> simp at hd ⊢
      · simp; omega
  · rw [pad_apply_of_not_inside _ _ _ _ _ _ _ _ 3 (by simp; omega), dif_neg (by omega), dif_neg h2]
    show (((0#32 : BitVec 32).toInt : ℝ) : EReal) = 0
    simp

/-- The keys handed on. -/
theorem resk_at (n : Fin 4096) (l : Fin 2048) :
    val_main_v21 (F := Ideal) x0 x1 x2 x3 (ix2 n l)
      = kSlot (kvHead x0 x2 ⟨n.val / 512, by omega⟩ ⟨n.val % 512, by omega⟩)
          (fun d => x1 (ix3 ⟨n.val / 512, by omega⟩ ⟨n.val % 512, by omega⟩ d)) (fun d => x3 (ix1 d))
          ⟨l.val / 256, by omega⟩ ⟨l.val % 256, by omega⟩ := by
  have := n.isLt
  have := l.isLt
  rw [val_main_v21_apply, val_main_v20_apply]
  refine Eq.trans (congrArg (val_main_v19 (F := Ideal) x0 x1 x2 x3) (funext fun a => Fin.ext ?_))
    ((slot_at _ _ _ _ _ ⟨n.val / 512, by omega⟩ ⟨n.val % 512, by omega⟩ ⟨l.val / 256, by omega⟩ ⟨l.val % 256, by omega⟩).trans ?_)
  · fin_cases a <;> simp <;> omega
  · unfold kSlot
    refine dite_congr rfl (fun h1 => ?_) fun h1 => dite_congr rfl (fun h2 => ?_) fun _ => rfl
    · exact kn_at x0 x2 x3 _ _ _ _ _ rfl rfl rfl rfl
    · rw [val_main_v3_apply, val_main_v2_apply]
      refine congrArg x1 (funext fun a => Fin.ext ?_)
      fin_cases a <;> simp

/-- The values handed on. -/
theorem resv_at (n : Fin 4096) (l : Fin 1024) :
    val_main_v24 (F := Ideal) x0 x2 (ix2 n l)
      = kvHead x0 x2 ⟨n.val / 512, by omega⟩ ⟨n.val % 512, by omega⟩ ⟨l.val / 128 * 256 + 128 + l.val % 128, by omega⟩ := by
  have := n.isLt
  have := l.isLt
  rw [val_main_v24_apply, val_main_v23_apply, val_main_v22_apply]
  refine kvh_at x0 x2 _ _ _ _ ?_ ?_ ?_ <;> simp <;> omega

end Cert.MlaCtxRefIdeal.Ctx

end
-- ==== Proof.MlaCtxValue.lean ====
/- The latent cache's keys and values are the reference's. -/
module

public import proofs.«01_k».proof.Proof.MlaCtxHead
public import proofs.«01_k».proof.Proof.MlaCtxRef
public import proofs.«01_k».proof.Proof.Gen.MlaCtxIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaCtxIdeal.Ctx
open Cert.MlaCtxIdeal Cert.MlaCtxIdeal.Gen Cert.MlaNorm
open Cert.MlaCtxRefIdeal.Ctx (kvHead)

variable (m : (ℓ : Loc nD τ sig) → Buf (Elt Ideal) ℓ) (c : Dev nD)

/-- The block of every window at every grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ t.val < 8 :=
  (by decide +kernel : ∀ t : Fin grid0.N, _)

section
variable (t : Fin cfg0.N) (r : Fin 512) (n : Fin 4096) (hn : n.val = t.val * 512 + r.val)

include hn in
/-- A block's cached latent is the tokens'. -/
theorem b0 (e : Fin 256) : iblk m c 0 t (ix2 r e)
    = m ((c : Thread nD τ).loc main_arg0) (ix3 ⟨n.val / 512, by omega⟩ ⟨n.val % 512, by omega⟩ e) := by
  refine Eq.trans ?_ (cache_rows m c n e)
  blk_ext [iblk, idx t]

include hn in
/-- A block's cached shared columns are the tokens', then zeros. -/
theorem b1 (j : Fin 128) : iblk m c 1 t (ix2 r j)
    = if h : j.val < 64 then
        m ((c : Thread nD τ).loc main_arg1) (ix3 ⟨n.val / 512, by omega⟩ ⟨n.val % 512, by omega⟩ ⟨j.val, h⟩) else (0 : EReal) := by
  refine Eq.trans ?_ (shared_rows m c n j)
  blk_ext [iblk, idx t]

/-- The weight in a block. -/
theorem b2 (e : Fin 256) (l : Fin 2048) : iblk m c 2 t (ix2 e l) = m ((c : Thread nD τ).loc main_arg2) (ix2 e l) := by
  refine Eq.trans ?_ (w_ukv m c e l)
  blk_ext [iblk, idx t]

/-- The gain in a block. -/
theorem b3 (d : Fin 128) : iblk m c 3 t (ix2 0 d) = m ((c : Thread nD τ).loc main_arg3) (ix1 d) := by
  refine Eq.trans ?_ (kn_nope m c d)
  blk_ext [iblk, idx t]

include hn in
/-- A block's keys and values before the norm are the tokens'. -/
theorem kv_point (l : Fin 2048) : kvBlk (iblk m c 0 t) (iblk m c 2 t) r l
    = kvHead (m ((c : Thread nD τ).loc main_arg0)) (m ((c : Thread nD τ).loc main_arg2)) ⟨n.val / 512, by omega⟩ ⟨n.val % 512, by omega⟩ l :=
  Finset.sum_congr rfl fun e _ => congrArg₂ (· * ·) (b0 m c t r n hn e) (b2 m c t e l)

end

/-- A point's keys. -/
theorem k_point (t : Fin cfg0.N) (r : Fin 512) (l : Fin 2048) (n : Fin 4096) (hn : n.val = t.val * 512 + r.val) :
    out0_4 (iblk m c 0 t) (iblk m c 1 t) (iblk m c 2 t) (iblk m c 3 t) (ix2 r l)
      = MlaCtxRefIdeal.Read.val_main_v21 (F := Ideal) (m ((c : Thread nD τ).loc main_arg0)) (m ((c : Thread nD τ).loc main_arg1)) (m ((c : Thread nD τ).loc main_arg2)) (m ((c : Thread nD τ).loc main_arg3)) (ix2 n l) := by
  rw [MlaCtxRefIdeal.Ctx.resk_at, outk_at]
  unfold kSlot
  by_cases ha : l.val / 128 % 2 = 0
  · rw [if_pos ha, dif_pos (by dsimp only; omega)]
    refine congrArg₂ (· * ·) (rmsBy_congr _ (fun d => (kv_point m c t r n hn _).trans (congrArg _ (Fin.ext ?_))) (Fin.ext ?_))
      ((b3 m c t _).trans (congrArg _ (congrArg ix1 (Fin.ext ?_))))
    all_goals
      dsimp only
      omega
  · rw [if_neg ha]
    refine (b1 m c t r n hn _).trans ?_
    by_cases h : l.val % 128 < 64
    · rw [dif_pos h, dif_neg (by dsimp only; omega), dif_pos (by dsimp only; omega)]
      exact congrArg (fun k : Fin 64 => (m ((c : Thread nD τ).loc main_arg1)) (ix3 ⟨n.val / 512, by omega⟩ ⟨n.val % 512, by omega⟩ k))
        (Fin.ext (by dsimp only; omega))
    · rw [dif_neg h, dif_neg (by dsimp only; omega), dif_neg (by dsimp only; omega)]

/-- The keys. -/
theorem final4 :
    (dats m 0 c).arrAt 4 (cfgs 0).N
      = MlaCtxRefIdeal.Read.val_main_v21 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 8 := (idx t).2.2.2.2.2.2
  blk_simp
  rw [after0_4]
  have hy0 : (y 0).val < 512 := (y 0).isLt
  have hy1 : (y 1).val < 2048 := (y 1).isLt
  refine Eq.trans ?_ ((k_point m c t (y 0) (y 1) ⟨t.val * 512 + (y 0).val, by omega⟩ rfl).trans ?_)
  · blk_ext
  · blk_ext [idx t]

/-- A point's values. -/
theorem v_point (t : Fin cfg0.N) (r : Fin 512) (l : Fin 1024) (n : Fin 4096) (hn : n.val = t.val * 512 + r.val) :
    out0_5 (iblk m c 0 t) (iblk m c 1 t) (iblk m c 2 t) (iblk m c 3 t) (ix2 r l)
      = MlaCtxRefIdeal.Read.val_main_v24 (F := Ideal) (m ((c : Thread nD τ).loc main_arg0)) (m ((c : Thread nD τ).loc main_arg2)) (ix2 n l) := by
  rw [MlaCtxRefIdeal.Ctx.resv_at, outv_at]
  exact kv_point m c t r n hn _

/-- The values. -/
theorem final5 :
    (dats m 0 c).arrAt 5 (cfgs 0).N
      = MlaCtxRefIdeal.Read.val_main_v24 (F := Ideal) (m ((c : Thread nD τ).loc main_arg0)) (m ((c : Thread nD τ).loc main_arg2)) := by
  refine (dats m 0 c).arrAt_eq_of_covers 5 _ (by decide +kernel) fun t _ y => ?_
  have ht : t.val < 8 := (idx t).2.2.2.2.2.2
  blk_simp
  rw [after0_5]
  have hy0 : (y 0).val < 512 := (y 0).isLt
  have hy1 : (y 1).val < 1024 := (y 1).isLt
  refine Eq.trans ?_ ((v_point m c t (y 0) (y 1) ⟨t.val * 512 + (y 0).val, by omega⟩ rfl).trans ?_)
  · blk_ext
  · blk_ext [idx t]

end Cert.MlaCtxIdeal.Ctx

end
-- ==== Proof.AdalnValue.lean ====
/- The modulation's rows are the reference's. -/
module

public import proofs.«01_k».proof.Proof.Gen.AdalnIdeal.Frame
public import proofs.«01_k».proof.Proof.Gen.AdalnIdeal.Value
public import proofs.«01_k».proof.Proof.Gen.AdalnRefIdeal.Read
public import proofs.«01_k».proof.Proof.Norm
public import Idealize.ShloMosaic.Lib.StableHlo.RunRead
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.AdalnIdeal.Mod
open Cert.AdalnIdeal Cert.AdalnIdeal.Gen

/-- A number times its logistic. -/
def gate (x : EReal) : EReal := x * Ideal.logistic x

/-- The payload: the gated rows times the weight, plus the offset. -/
theorem pay_at (x : Vec Ideal S16x1024 .f32) (w : Vec Ideal S1x1024x1024 .f32) (b : Vec Ideal S1x1x1024 .f32) (r : Fin 16)
    (l : Fin 1024) :
    k0_pay1 (F := Ideal) x w b (ix3 0 r l) = (∑ e : Fin 1024, gate (x (ix2 r e)) * w (ix3 0 e l)) + b (ix3 0 0 l) := by
  unfold gate
  pointwise [k0_pay1]

/-- What a block holds. -/
theorem out_at (x : Vec Ideal S16x1024 .f32) (w : Vec Ideal S1x1024x1024 .f32) (b : Vec Ideal S1x1x1024 .f32) (r : Fin 16)
    (l : Fin 1024) :
    out0_3 x w b (ix3 0 r l) = (∑ e : Fin 1024, gate (x (ix2 r e)) * w (ix3 0 e l)) + b (ix3 0 0 l) := by
  unfold out0_3
  canon_tiles y h
  all_goals
    replace h1 : r.val = _ := h1
    replace h2 : l.val = _ := h2
    obtain rfl : r = y 1 := Fin.ext (h1.trans (by omega))
    obtain rfl : l = y 2 := Fin.ext (h2.trans (by omega))
    have hy : y = ix3 0 (y 1) (y 2) := by
      refine funext fun a => Fin.ext ?_
      have := (y 0).isLt
      fin_cases a <;> simp at this ⊢
    rw [hy]
    refine (pay_at _ _ _ _ _).trans ?_
    refine congrArg₂ (· + ·) (Finset.sum_congr rfl fun e _ => congrArg₂ (· * ·) (congrArg gate ?_) ?_) ?_
    · refine congrArg x (funext fun a => Fin.ext ?_); fin_cases a <;> simp [Rect.unit, Rect.emb]
    · refine congrArg w (funext fun a => Fin.ext ?_); fin_cases a <;> simp [Rect.unit, Rect.emb]
    · refine congrArg b (funext fun a => Fin.ext ?_); fin_cases a <;> simp [Rect.unit, Rect.emb]

/-- The reference at an element. -/
theorem ref_at (x : Vec Ideal S16x1024 .f32) (w : Vec Ideal S4x1024x6144 .f32) (b : Vec Ideal S4x6144 .f32) (i : Fin 4) (r : Fin 16)
    (l : Fin 6144) :
    AdalnRefIdeal.Read.val_main_v5 (F := Ideal) x w b (ix3 i r l)
      = (∑ e : Fin 1024, gate (x (ix2 r e)) * w (ix3 i e l)) + b (ix2 i l) := by
  rw [AdalnRefIdeal.Read.val_main_v5_apply, AdalnRefIdeal.Read.val_main_v2_apply, AdalnRefIdeal.Read.val_main_v1_apply,
    AdalnRefIdeal.Read.val_main_v4_apply, AdalnRefIdeal.Read.val_main_v3_apply]
  have h1 : Ideal.ofBits .f32 0x3F800000#32 = 1 := by
    simp [Ideal.ofBits, Ideal.ieee]
    rw [← EReal.coe_mul]
    norm_num
  have hg : ∀ j, AdalnRefIdeal.Read.val_main_v0 (F := Ideal) x j = gate (x j) := fun j => by
    unfold gate
    rw [AdalnRefIdeal.Read.val_main_v0_apply, AdalnRefIdeal.Read.val_main_call0_v5_apply, AdalnRefIdeal.Read.val_main_call0_v4_apply,
      AdalnRefIdeal.Read.val_main_call0_cst_0_apply, AdalnRefIdeal.Read.val_main_call0_v3_apply,
      AdalnRefIdeal.Read.val_main_call0_v2_apply, AdalnRefIdeal.Read.val_main_call0_cst_apply,
      AdalnRefIdeal.Read.val_main_call0_v1_apply, AdalnRefIdeal.Read.val_main_call0_v0_apply]
    refine congrArg (x j * ·) ?_
    show Ideal.div (Ideal.ofBits .f32 0x3F800000#32) (Ideal.ofBits .f32 0x3F800000#32 + Ideal.exp (-x j)) = _
    rw [h1]
    rfl
  refine congrArg₂ (· + ·) (Finset.sum_congr rfl fun e _ => ?_) (congrArg b (funext fun a => Fin.ext ?_))
  · rw [hg, mul_comm]
    refine congrArg₂ (· * ·) (congrArg gate (congrArg x (funext fun a => Fin.ext ?_))) (congrArg w (funext fun a => Fin.ext ?_))
    · fin_cases a <;> simp
    · fin_cases a <;> simp
  · fin_cases a <;> simp

variable (m : (ℓ : Loc nD τ sig) → Buf (Elt Ideal) ℓ) (c : Dev nD)

/-- The offsets as the host hands them on. -/
theorem offset (i : Fin 4) (l : Fin 6144) : V m c main_v0 (ix3 i 0 l) = m ((c : Thread nD τ).loc main_arg2) (ix2 i l) := by
  have hv : V m c main_v0 = shapeCast _ (m ((c : Thread nD τ).loc main_arg2)) shapeCasts_S4x6144_S4x1x6144 := by
    dsimp only [V]
    after_reads_simp
    rfl
  rw [hv, shapeCast_apply _ _ _ (ix2 i l : S4x6144.Idx) (by
    rewrite [Shape.rowMajor_val_three, Shape.rowMajor_val_two]; simp)]

/-- The block of every window at every grid point. -/
theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] ∧ t.val < 24 :=
  (by decide +kernel : ∀ t : Fin grid0.N, _)

section
variable (t : Fin cfg0.N) (i : Fin 4) (hi : i.val = t.val / 6)

/-- The conditioning rows in a block. -/
theorem b0 (r : Fin 16) (e : Fin 1024) : iblk m c 0 t (ix2 r e) = m ((c : Thread nD τ).loc main_arg0) (ix2 r e) := by
  blk_ext [iblk, V, idx t]

include hi in
/-- The weight in a block. -/
theorem b1 (e k : Fin 1024) (l : Fin 6144) (hl : l.val = t.val % 6 * 1024 + k.val) :
    iblk m c 1 t (ix3 0 e k) = m ((c : Thread nD τ).loc main_arg1) (ix3 i e l) := by
  blk_ext [iblk, V, idx t]

include hi in
/-- The offset in a block. -/
theorem b2 (k : Fin 1024) (l : Fin 6144) (hl : l.val = t.val % 6 * 1024 + k.val) :
    iblk m c 2 t (ix3 0 0 k) = m ((c : Thread nD τ).loc main_arg2) (ix2 i l) := by
  refine Eq.trans ?_ (offset m c i l)
  blk_ext [iblk, idx t]

include hi in
/-- A point's rows. -/
theorem point (r : Fin 16) (k : Fin 1024) (l : Fin 6144) (hl : l.val = t.val % 6 * 1024 + k.val) :
    out0_3 (iblk m c 0 t) (iblk m c 1 t) (iblk m c 2 t) (ix3 0 r k)
      = AdalnRefIdeal.Read.val_main_v5 (F := Ideal) (m ((c : Thread nD τ).loc main_arg0)) (m ((c : Thread nD τ).loc main_arg1)) (m ((c : Thread nD τ).loc main_arg2)) (ix3 i r l) := by
  rw [out_at, ref_at]
  exact congrArg₂ (· + ·) (Finset.sum_congr rfl fun e _ => congrArg₂ (· * ·) (congrArg gate (b0 m c t r e))
    (b1 m c t i hi e k l hl)) (b2 m c t i hi k l hl)

end

/-- The modulation's rows. -/
theorem final3 :
    (dats m 0 c).arrAt 3 (cfgs 0).N
      = AdalnRefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 24 := (idx t).2.2.2.2
  blk_simp
  rw [after0_3]
  have hy0 : (y 0).val < 1 := (y 0).isLt
  have hy1 : (y 1).val < 16 := (y 1).isLt
  have hy2 : (y 2).val < 1024 := (y 2).isLt
  refine Eq.trans ?_ ((point m c t ⟨t.val / 6, by omega⟩ rfl (y 1) (y 2) ⟨t.val % 6 * 1024 + (y 2).val, by omega⟩ rfl).trans ?_)
  · refine congrArg (out0_3 _ _ _) (funext fun a => Fin.ext ?_)
    match a with
    | ⟨0, _⟩ =>
      show (y 0).val = 0
      omega
    | ⟨1, _⟩ => rfl
    | ⟨2, _⟩ => rfl
  · blk_ext [idx t]

end Cert.AdalnIdeal.Mod

end
-- ==== Proof.MlaRun.lean ====
/- What a run of the latent preparation leaves in its results: the contents the last stretch of @main ends with. -/
module

public import proofs.«01_k».proof.Proof.Gen.MlaIdeal.Frame

@[expose] public section

set_option maxRecDepth 16384

noncomputable section

namespace Cert.MlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

set_option backward.isDefEq.respectTransparency.types false in
/-- Every run ends with the results at the contents the last stretch leaves, and the arguments as they were. -/
theorem results : θ_run defs (onTc (τ := τ) (main (F := F))) ⟨m, fun _ => 0, ρ⟩ (fun r => ∀ c : Dev nD,
      r.2.mem ((c.tc : Thread nD τ).loc main_v16_0) = W12 m ρ c (Proc.devRef .tc main_v16_0)
      ∧ r.2.mem ((c.tc : Thread nD τ).loc main_v16_1) = W12 m ρ c (Proc.devRef .tc main_v16_1)
      ∧ r.2.mem ((c.tc : Thread nD τ).loc main_v16_2) = W12 m ρ c (Proc.devRef .tc main_v16_2)
      ∧ r.2.mem ((c.tc : Thread nD τ).loc main_v16_3) = W12 m ρ c (Proc.devRef .tc main_v16_3)
      ∧ r.2.mem ((c.tc : Thread nD τ).loc main_v17) = W12 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c => ⟨h c _ (mem_uc main_v16_0 (by decide)),
      h c _ (mem_uc main_v16_1 (by decide)),
      h c _ (mem_uc main_v16_2 (by decide)),
      h c _ (mem_uc main_v16_3 (by decide)),
      h c _ (mem_uc main_v17 (by decide)),
      (h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c)⟩)

end Cert.MlaIdeal.Gen

end
-- ==== Proof.MlaHead.lean ====
/- The payloads of the kernel that prepares the latent tokens' queries, keys and values, at an element. -/
module

public import proofs.«01_k».proof.Proof.Gen.MlaIdeal.Frame
public import proofs.«01_k».proof.Proof.MlaSpec
public import Idealize.ShloMosaic.Lib.Pipeline.ValueKit

@[expose] public section

set_option maxRecDepth 16384

noncomputable section

open Idealize.ShloMosaic Idealize.ShloMosaic.TcCoe Idealize.SL.Sem

namespace Cert.MlaIdeal.Prep
open Cert.MlaIdeal Cert.MlaIdeal.Gen Cert.MlaNorm

/-- The named scale of the queries. -/
theorem named_scale : Named.named (F := Ideal) κ "q_scale" (φ := .f32) 0x3DD53B95#32 = qScale :=
  IdealRules.named_const.ideal_named_scalar _ _ _ _ rfl

/-- The named reciprocal of 384. -/
theorem named_384 : Named.named (F := Ideal) κ "inv_384" (φ := .f32) 0x3B2AAAAB#32 = i384 :=
  IdealRules.named_const.ideal_named_scalar _ _ _ _ rfl

/-- The queries' latent of a block. -/
theorem cq_pay (x : Vec Ideal S512x384 .f32) (g : Vec Ideal S1x384 .f32) (r : Fin 512) (e : Fin 384) :
    k1_pay4 (F := Ideal) x g (ix2 r e) = rmsBy i384 (fun d => x (ix2 r d)) e * g (ix2 0 e) := by
  unfold rmsBy
  pointwise [k1_pay4, named_384]

/-- The latent of the keys and values of a block. -/
theorem ckv_pay (x : Vec Ideal S512x256 .f32) (g : Vec Ideal S1x256 .f32) (r : Fin 512) (e : Fin 256) :
    k1_pay5 (F := Ideal) x g (ix2 r e) = rmsBy i256 (fun d => x (ix2 r d)) e * g (ix2 0 e) := by
  unfold rmsBy
  pointwise [k1_pay5]

/-- The shared columns of the keys of a block, filled up to 128. -/
theorem kr_pay (x : Vec Ideal S512x128 .f32) (g : Vec Ideal S1x128 .f32) (r : Fin 512) (e : Fin 128) :
    k1_pay9 (F := Ideal) (k1_pay6 x) (k1_pay7 x) k1_pay8 g (ix2 r e) = rmsBy i64 (fun d => x (ix2 r d)) e * g (ix2 0 e) := by
  unfold rmsBy
  pointwise [k1_pay9, k1_pay6, k1_pay7, k1_pay8]

/-- The queries' product. -/
theorem q_pay (y : FVec Ideal S512x384 .f32) (w : Vec Ideal S384x2048 .bf16) (r : Fin 512) (l : Fin 2048) :
    k1_pay10 (F := Ideal) y w (ix2 r l) = ∑ e : Fin 384, y (ix2 r e) * w (ix2 e l) := by
  pointwise [k1_pay10]

/-- The product of the keys and values. -/
theorem kv_pay (y : FVec Ideal S512x256 .f32) (w : Vec Ideal S256x2048 .bf16) (r : Fin 512) (l : Fin 2048) :
    k1_pay38 (F := Ideal) y w (ix2 r l) = ∑ e : Fin 256, y (ix2 r e) * w (ix2 e l) := by
  pointwise [k1_pay38]

/-- The columns from `o` on, normed, with their gain. -/
def nrm (κ : EReal) (o : ℕ) (ho : o + 128 ≤ 2048) (y : FVec Ideal S512x2048 .f32) (g : Vec Ideal S1x128 .f32) :
    FVec Ideal S512x128 .bf16 :=
  fun i => rmsBy κ (fun d : Fin 128 => y (ix2 (i 0) ⟨o + d.val, by omega⟩)) (i 1) * g (ix2 0 (i 1))

/-- The same, scaled. -/
def qry (κ : EReal) (o : ℕ) (ho : o + 128 ≤ 2048) (y : FVec Ideal S512x2048 .f32) (g : Vec Ideal S1x128 .f32) :
    FVec Ideal S512x128 .bf16 := fun i => nrm κ o ho y g i * qScale

/-- The columns from `o` on. -/
def col (o : ℕ) (ho : o + 128 ≤ 2048) (y : FVec Ideal S512x2048 .f32) : FVec Ideal S512x128 .bf16 :=
  fun i => y (ix2 (i 0) ⟨o + (i 1).val, Nat.lt_of_lt_of_le (Nat.add_lt_add_left (i 1).isLt o) ho⟩)

/-- Two tiles with equal elements are equal. -/
theorem tile_ext {φ : FTy} {a b : FVec Ideal S512x128 φ} (h : ∀ r c, a (ix2 r c) = b (ix2 r c)) : a = b := by
  funext i
  rw [eq_ix2 i]
  exact h _ _

section
variable (y : FVec Ideal S512x2048 .f32) (g : Vec Ideal S1x128 .f32) (a : FVec Ideal S512x384 .f32)
  (w : Vec Ideal S384x2048 .bf16)

/-- The first columns of query head 0. -/
theorem q0 : k1_pay13 (F := Ideal) (k1_pay11 a w g) = qry i128 0 (by norm_num) (k1_pay10 a w) g := by
  unfold k1_pay11
  generalize k1_pay10 (F := Ideal) a w = y
  refine tile_ext fun r c => ?_
  unfold qry nrm rmsBy
  pointwise [k1_pay13, named_scale]

/-- The last columns of query head 0. -/
theorem q1 : k1_pay14 (F := Ideal) (k1_pay12 a w) g = qry i64 128 (by norm_num) (k1_pay10 a w) g := by
  unfold k1_pay12
  generalize k1_pay10 (F := Ideal) a w = y
  refine tile_ext fun r c => ?_
  unfold qry nrm rmsBy
  pointwise [k1_pay14, named_scale]

/-- The first columns of query head 1. -/
theorem q2 : k1_pay18 (F := Ideal) (k1_pay15 y g) = qry i128 256 (by norm_num) y g := by
  refine tile_ext fun r c => ?_
  unfold qry nrm rmsBy
  pointwise [k1_pay18, k1_pay15, named_scale]

/-- The last columns of query head 1. -/
theorem q3 : k1_pay19 (F := Ideal) (k1_pay16 y) (k1_pay17 g) = qry i64 384 (by norm_num) y g := by
  refine tile_ext fun r c => ?_
  unfold qry nrm rmsBy
  pointwise [k1_pay19, k1_pay16, k1_pay17, named_scale]

/-- The first columns of query head 2. -/
theorem q4 : k1_pay22 (F := Ideal) (k1_pay21 y g) = qry i128 512 (by norm_num) y g := by
  refine tile_ext fun r c => ?_
  unfold qry nrm rmsBy
  pointwise [k1_pay22, k1_pay21, named_scale]

/-- The last columns of query head 2. -/
theorem q5 : k1_pay23 (F := Ideal) (k1_pay20 y g) = qry i64 640 (by norm_num) y g := by
  refine tile_ext fun r c => ?_
  unfold qry nrm rmsBy
  pointwise [k1_pay23, k1_pay20, named_scale]

/-- The first columns of query head 3. -/
theorem q6 : k1_pay25 (F := Ideal) y g = qry i128 768 (by norm_num) y g := by
  refine tile_ext fun r c => ?_
  unfold qry nrm rmsBy
  pointwise [k1_pay25, named_scale]

/-- The last columns of query head 3. -/
theorem q7 : k1_pay26 (F := Ideal) (k1_pay24 y g) = qry i64 896 (by norm_num) y g := by
  refine tile_ext fun r c => ?_
  unfold qry nrm rmsBy
  pointwise [k1_pay26, k1_pay24, named_scale]

/-- The first columns of query head 4. -/
theorem q8 : k1_pay27 (F := Ideal) y g = qry i128 1024 (by norm_num) y g := by
  refine tile_ext fun r c => ?_
  unfold qry nrm rmsBy
  pointwise [k1_pay27, named_scale]

/-- The last columns of query head 4. -/
theorem q9 : k1_pay29 (F := Ideal) (k1_pay28 y g) = qry i64 1152 (by norm_num) y g := by
  refine tile_ext fun r c => ?_
  unfold qry nrm rmsBy
  pointwise [k1_pay29, k1_pay28, named_scale]

/-- The first columns of query head 5. -/
theorem q10 : k1_pay30 (F := Ideal) y g = qry i128 1280 (by norm_num) y g := by
  refine tile_ext fun r c => ?_
  unfold qry nrm rmsBy
  pointwise [k1_pay30, named_scale]

/-- The last columns of query head 5. -/
theorem q11 : k1_pay31 (F := Ideal) y g = qry i64 1408 (by norm_num) y g := by
  refine tile_ext fun r c => ?_
  unfold qry nrm rmsBy
  pointwise [k1_pay31, named_scale]

/-- The first columns of query head 6. -/
theorem q12 : k1_pay32 (F := Ideal) y g = qry i128 1536 (by norm_num) y g := by
  refine tile_ext fun r c => ?_
  unfold qry nrm rmsBy
  pointwise [k1_pay32, named_scale]

/-- The last columns of query head 6. -/
theorem q13 : k1_pay33 (F := Ideal) y g = qry i64 1664 (by norm_num) y g := by
  refine tile_ext fun r c => ?_
  unfold qry nrm rmsBy
  pointwise [k1_pay33, named_scale]

/-- The first columns of query head 7. -/
theorem q14 : k1_pay36 (F := Ideal) (k1_pay34 y) (k1_pay35 y) g = qry i128 1792 (by norm_num) y g := by
  refine tile_ext fun r c => ?_
  unfold qry nrm rmsBy
  pointwise [k1_pay36, k1_pay34, k1_pay35, named_scale]

/-- The last columns of query head 7. -/
theorem q15 : k1_pay37 (F := Ideal) y g = qry i64 1920 (by norm_num) y g := by
  refine tile_ext fun r c => ?_
  unfold qry nrm rmsBy
  pointwise [k1_pay37, named_scale]

/-- The own columns of key head 0. -/
theorem k0 : k1_pay40 (F := Ideal) y g = nrm i128 0 (by norm_num) y g := by
  refine tile_ext fun r c => ?_
  unfold nrm rmsBy
  pointwise [k1_pay40]

/-- The own columns of key head 1. -/
theorem k1 : k1_pay42 (F := Ideal) y g = nrm i128 256 (by norm_num) y g := by
  refine tile_ext fun r c => ?_
  unfold nrm rmsBy
  pointwise [k1_pay42]

/-- The own columns of key head 2. -/
theorem k2 : k1_pay44 (F := Ideal) y g = nrm i128 512 (by norm_num) y g := by
  refine tile_ext fun r c => ?_
  unfold nrm rmsBy
  pointwise [k1_pay44]

/-- The own columns of key head 3. -/
theorem k3 : k1_pay47 (F := Ideal) (k1_pay46 y) g = nrm i128 768 (by norm_num) y g := by
  refine tile_ext fun r c => ?_
  unfold nrm rmsBy
  pointwise [k1_pay47, k1_pay46]

/-- The own columns of key head 4. -/
theorem k4 : k1_pay49 (F := Ideal) y g = nrm i128 1024 (by norm_num) y g := by
  refine tile_ext fun r c => ?_
  unfold nrm rmsBy
  pointwise [k1_pay49]

/-- The own columns of key head 5. -/
theorem k5 : k1_pay53 (F := Ideal) (k1_pay51 y) (k1_pay52 y) g = nrm i128 1280 (by norm_num) y g := by
  refine tile_ext fun r c => ?_
  unfold nrm rmsBy
  pointwise [k1_pay53, k1_pay51, k1_pay52]

/-- The own columns of key head 6. -/
theorem k6 : k1_pay55 (F := Ideal) y g = nrm i128 1536 (by norm_num) y g := by
  refine tile_ext fun r c => ?_
  unfold nrm rmsBy
  pointwise [k1_pay55]

/-- The own columns of key head 7. -/
theorem k7 : k1_pay2 (F := Ideal) y g = nrm i128 1792 (by norm_num) y g := by
  refine tile_ext fun r c => ?_
  unfold nrm rmsBy
  pointwise [k1_pay2]

/-- The values of head 0. -/
theorem v0 : k1_pay41 (F := Ideal) y = col 128 (by norm_num) y := by
  refine tile_ext fun r c => ?_
  unfold col
  pointwise [k1_pay41]

/-- The values of head 1. -/
theorem v1 : k1_pay43 (F := Ideal) y = col 384 (by norm_num) y := by
  refine tile_ext fun r c => ?_
  unfold col
  pointwise [k1_pay43]

/-- The values of head 2. -/
theorem v2 : k1_pay45 (F := Ideal) y = col 640 (by norm_num) y := by
  refine tile_ext fun r c => ?_
  unfold col
  pointwise [k1_pay45]

/-- The values of head 3. -/
theorem v3 : k1_pay48 (F := Ideal) y = col 896 (by norm_num) y := by
  refine tile_ext fun r c => ?_
  unfold col
  pointwise [k1_pay48]

/-- The values of head 4. -/
theorem v4 : k1_pay50 (F := Ideal) y = col 1152 (by norm_num) y := by
  refine tile_ext fun r c => ?_
  unfold col
  pointwise [k1_pay50]

/-- The values of head 5. -/
theorem v5 : k1_pay54 (F := Ideal) y = col 1408 (by norm_num) y := by
  refine tile_ext fun r c => ?_
  unfold col
  pointwise [k1_pay54]

/-- The values of head 6. -/
theorem v6 : k1_pay1 (F := Ideal) y = col 1664 (by norm_num) y := by
  refine tile_ext fun r c => ?_
  unfold col
  pointwise [k1_pay1]

/-- The values of head 7. -/
theorem v7 : k1_pay3 (F := Ideal) y = col 1920 (by norm_num) y := by
  refine tile_ext fun r c => ?_
  unfold col
  pointwise [k1_pay3]

end

section
variable (x0 : Vec Ideal S512x768 .f32) (x1 : Vec Ideal S1x384 .f32) (x2 : Vec Ideal S1x256 .f32) (x3 : Vec Ideal S1x128 .f32)
  (x4 : Vec Ideal S384x2048 .bf16) (x5 : Vec Ideal S256x2048 .bf16) (x6 x7 x8 : Vec Ideal S1x128 .f32)

/-- A block's query slots before the norm. -/
def qBlk (r : Fin 512) (l : Fin 2048) : EReal :=
  ∑ e : Fin 384, rmsBy i384 (fun d : Fin 384 => x0 (ix2 r ⟨d.val, by omega⟩)) e * x1 (ix2 0 e) * x4 (ix2 e l)

/-- A block's latent of the keys and values. -/
def cBlk (r : Fin 512) (e : Fin 256) : EReal :=
  rmsBy i256 (fun d : Fin 256 => x0 (ix2 r ⟨384 + d.val, by omega⟩)) e * x2 (ix2 0 e)

/-- A block's keys and values before the norm. -/
def kvBlk (r : Fin 512) (l : Fin 2048) : EReal := ∑ e : Fin 256, cBlk x0 x2 r e * x5 (ix2 e l)

/-- A block's shared columns of the keys, filled up to 128. -/
def rBlk (r : Fin 512) (e : Fin 128) : EReal :=
  rmsBy i64 (fun d : Fin 128 => x0 (ix2 r ⟨640 + d.val, by omega⟩)) e * x3 (ix2 0 e)

/-- The body's query slots at an element. -/
theorem qBlk_eq (r : Fin 512) (l : Fin 2048) :
    k1_pay10 (F := Ideal) (k1_pay4 (View.ld x0 r1_0) (View.ld x1 r1_1)) (View.ld x4 r1_8) (ix2 r l) = qBlk x0 x1 x4 r l := by
  rw [q_pay]
  unfold qBlk
  refine Finset.sum_congr rfl fun e _ => congrArg₂ (· * ·) ((cq_pay _ _ r e).trans (congrArg₂ (· * ·)
    (rmsBy_congr _ (fun d => ?_) rfl) ?_)) ?_
  · refine congrArg x0 (funext fun a => Fin.ext ?_); fin_cases a <;> simp [Rect.unit, Rect.emb]
  · refine congrArg x1 (funext fun a => Fin.ext ?_); fin_cases a <;> simp [Rect.unit, Rect.emb]
  · refine congrArg x4 (funext fun a => Fin.ext ?_); fin_cases a <;> simp [Rect.unit, Rect.emb]

/-- The body's latent of the keys and values at an element. -/
theorem cBlk_eq (r : Fin 512) (e : Fin 256) :
    k1_pay5 (F := Ideal) (View.ld x0 r1_2) (View.ld x2 r1_3) (ix2 r e) = cBlk x0 x2 r e := by
  refine (ckv_pay _ _ r e).trans (congrArg₂ (· * ·) (rmsBy_congr _ (fun d => ?_) rfl) ?_)
  · refine congrArg x0 (funext fun a => Fin.ext ?_); fin_cases a <;> simp [Rect.unit, Rect.emb]
  · refine congrArg x2 (funext fun a => Fin.ext ?_); fin_cases a <;> simp [Rect.unit, Rect.emb]

/-- The body's keys and values at an element. -/
theorem kvBlk_eq (r : Fin 512) (l : Fin 2048) :
    k1_pay38 (F := Ideal) (k1_pay5 (View.ld x0 r1_2) (View.ld x2 r1_3)) (View.ld x5 r1_25) (ix2 r l) = kvBlk x0 x2 x5 r l := by
  rw [kv_pay]
  unfold kvBlk
  refine Finset.sum_congr rfl fun e _ => congrArg₂ (· * ·) (cBlk_eq x0 x2 r e) ?_
  refine congrArg x5 (funext fun a => Fin.ext ?_); fin_cases a <;> simp [Rect.unit, Rect.emb]

/-- The body's shared columns at an element. -/
theorem rBlk_eq (r : Fin 512) (e : Fin 128) :
    k1_pay9 (F := Ideal) (k1_pay6 (View.ld x0 r1_4)) (k1_pay7 (View.ld x0 r1_4)) k1_pay8 (View.ld x3 r1_5) (ix2 r e)
      = rBlk x0 x3 r e := by
  refine (kr_pay _ _ r e).trans (congrArg₂ (· * ·) (rmsBy_congr _ (fun d => ?_) rfl) ?_)
  · refine congrArg x0 (funext fun a => Fin.ext ?_); fin_cases a <;> simp [Rect.unit, Rect.emb]
  · refine congrArg x3 (funext fun a => Fin.ext ?_); fin_cases a <;> simp [Rect.unit, Rect.emb]

/-- A normed tile at a column `c` of the whole, over columns `f` that the body holds. -/
theorem nrm_piece (κ : EReal) (o : ℕ) (ho : o + 128 ≤ 2048) (y : FVec Ideal S512x2048 .f32) (f : Fin 512 → Fin 2048 → EReal)
    (hy : ∀ r l, y (ix2 r l) = f r l) (g : Vec Ideal S1x128 .f32) (i : S512x128.Idx) (r : Fin 512) (c : Fin 2048)
    (h0 : r.val = (i 0).val) (h1 : c.val = o + (i 1).val) (h2 : o % 128 = 0) :
    nrm κ o ho y (View.ld g r1_5) i
      = rmsBy κ (fun d : Fin 128 => f r ⟨c.val / 128 * 128 + d.val, by omega⟩) ⟨c.val % 128, by omega⟩
        * g (ix2 0 ⟨c.val % 128, by omega⟩) := by
  have hi : (i 1).val < 128 := (i 1).isLt
  obtain rfl : r = i 0 := Fin.ext h0
  unfold nrm
  refine congrArg₂ (· * ·) (rmsBy_congr _ (fun d => (hy _ _).trans (congrArg (f _) (Fin.ext ?_))) (Fin.ext ?_)) ?_
  · dsimp only
    omega
  · dsimp only
    omega
  · refine congrArg g (funext fun a => Fin.ext ?_)
    fin_cases a <;> simp [Rect.unit, Rect.emb] <;> omega

/-- The query block: even tiles are the first columns of a head, odd tiles its last ones. -/
theorem outq_at (r : Fin 512) (c : Fin 2048) :
    out1_9 x0 x1 x2 x3 x4 x5 x6 x7 x8 (ix2 r c)
      = rmsBy (if c.val / 128 % 2 = 0 then i128 else i64)
          (fun d : Fin 128 => qBlk x0 x1 x4 r ⟨c.val / 128 * 128 + d.val, by omega⟩) ⟨c.val % 128, by omega⟩
        * (if c.val / 128 % 2 = 0 then x6 else x7) (ix2 0 ⟨c.val % 128, by omega⟩) * qScale := by
  unfold_out out1_9
  rw [q0, q1, q2, q3, q4, q5, q6, q7, q8, q9, q10, q11, q12, q13, q14, q15]
  canon_tiles x h
  all_goals
    have hx : (x 1).val < 128 := (x 1).isLt
    replace h0 : r.val = _ := h0
    replace h1 : c.val = _ := h1
    unfold qry
    refine congrArg (· * qScale) ((nrm_piece _ _ _ _ _ (qBlk_eq x0 x1 x4) _ x r c (h0.trans (by omega)) (h1.trans (by omega)) (by norm_num)).trans ?_)
    first
      | rw [if_pos (by omega), if_pos (by omega)]
      | rw [if_neg (by omega), if_neg (by omega)]

/-- The key block: even tiles are a head's own columns, odd tiles the shared ones. -/
theorem outk_at (r : Fin 512) (c : Fin 2048) :
    out1_10 x0 x1 x2 x3 x4 x5 x6 x7 x8 (ix2 r c)
      = if c.val / 128 % 2 = 0 then
          rmsBy i128 (fun d : Fin 128 => kvBlk x0 x2 x5 r ⟨c.val / 128 * 128 + d.val, by omega⟩) ⟨c.val % 128, by omega⟩
            * x8 (ix2 0 ⟨c.val % 128, by omega⟩)
        else rBlk x0 x3 r ⟨c.val % 128, by omega⟩ := by
  unfold_out out1_10
  rw [k0, k1, k2, k3, k4, k5, k6, k7]
  canon_tiles x h
  all_goals
    have hx : (x 1).val < 128 := (x 1).isLt
    replace h0 : r.val = _ := h0
    replace h1 : c.val = _ := h1
    first
      | rw [if_pos (by omega)]
        exact nrm_piece _ _ _ _ _ (kvBlk_eq x0 x2 x5) _ x r c (h0.trans (by omega)) (h1.trans (by omega)) (by norm_num)
      | rw [if_neg (by omega), ← rBlk_eq, eq_ix2 x]
        exact congrArg _ (funext fun a => Fin.ext (by fin_cases a <;> simp <;> omega))

/-- The value block. -/
theorem outv_at (r : Fin 512) (c : Fin 1024) :
    out1_11 x0 x1 x2 x3 x4 x5 x6 x7 x8 (ix2 r c)
      = kvBlk x0 x2 x5 r ⟨c.val / 128 * 256 + 128 + c.val % 128, by omega⟩ := by
  unfold_out out1_11
  rw [v0, v1, v2, v3, v4, v5, v6, v7]
  canon_tiles x h
  all_goals
    have hx : (x 1).val < 128 := (x 1).isLt
    replace h0 : r.val = _ := h0
    replace h1 : c.val = _ := h1
    obtain rfl : r = x 0 := Fin.ext (h0.trans (by omega))
    unfold col
    exact (kvBlk_eq x0 x2 x5 _ _).trans (congrArg (kvBlk x0 x2 x5 _) (Fin.ext (by dsimp only; omega)))

/-- The latent of the keys and values, kept. -/
theorem outc_at (r : Fin 512) (e : Fin 256) :
    out1_12 x0 x1 x2 x3 x4 x5 x6 x7 x8 (ix2 r e) = cBlk x0 x2 r e := by
  unfold_out out1_12
  canon_tiles x h
  all_goals
    replace h0 : r.val = _ := h0
    replace h1 : e.val = _ := h1
    obtain rfl : r = x 0 := Fin.ext h0
    obtain rfl : e = x 1 := Fin.ext h1
    rw [eq_ix2 x]
    exact cBlk_eq x0 x2 _ _

/-- The shared columns, kept. -/
theorem outr_at (r : Fin 512) (e : Fin 128) :
    out1_13 x0 x1 x2 x3 x4 x5 x6 x7 x8 (ix2 r e) = rBlk x0 x3 r e := by
  unfold_out out1_13
  canon_tiles x h
  all_goals
    replace h0 : r.val = _ := h0
    replace h1 : e.val = _ := h1
    obtain rfl : r = x 0 := Fin.ext h0
    obtain rfl : e = x 1 := Fin.ext h1
    rw [eq_ix2 x]
    exact rBlk_eq x0 x3 _ _
end

end Cert.MlaIdeal.Prep

end
-- ==== Proof.MlaHost.lean ====
/- What the host operations before the two grids leave in the arrays the grids read. -/
module

public import proofs.«01_k».proof.Proof.Gen.MlaIdeal.Frame
public import proofs.«01_k».proof.Proof.Norm
public import Idealize.ShloMosaic.Lib.StableHlo.RunRead
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.MlaIdeal.Prep
open Cert.MlaIdeal Cert.MlaIdeal.Gen Cert.Norm

variable (m : (ℓ : Loc nD τ sig) → Buf (Elt Ideal) ℓ) (ρ : Dev nD → PrngReg) (c : Dev nD)

/-- The value the host fills up with. -/
theorem fill (i : S_.Idx) : sitofp (F := Ideal) .f32 (constantI S_ 32 0#32) i = 0 := by
  show (((0#32 : BitVec 32).toInt : ℝ) : EReal) = 0
  simp

/-- A narrowed array at an element is the array. -/
theorem narrow_at {s : Shape} (x : FVec Ideal s .f32) (i : s.Idx) :
    truncf (F := Ideal) .bf16 x bitsLt_bf16_f32 i = x i := rfl

/-- The projection's weight, with its columns filled up. -/
theorem w_down (e : Fin 1024) (j : Fin 768) :
    V9 m ρ c main_v14 (ix2 e j) = if h : j.val < 704 then m ((c : Thread nD τ).loc main_arg3) (ix2 e ⟨j.val, h⟩) else (0 : EReal) := by
  have hv : V9 m ρ c main_v14
      = truncf (F := Ideal) .bf16 (pad S1024x768 ![0, 0] ![0, 64] ![0, 0] (m ((c : Thread nD τ).loc main_arg3))
        (sitofp (F := Ideal) .f32 (constantI S_ 32 0#32)) pads_S1024x704_S1024x768_000_0640 h_S_) bitsLt_bf16_f32 := by
    show W9 m ρ c (Proc.devRef .tc main_v14) = _
    after_reads_simp
    rfl
  rw [hv]
  rw [narrow_at]
  by_cases h : j.val < 704
  · rw [dif_pos h, pad_apply_of_inside _ _ _ _ _ _ _ _ (ix2 e ⟨j.val, h⟩ : S1024x704.Idx) (by intro d; fin_cases d <;> simp)]
  · rw [dif_neg h, pad_apply_of_not_inside _ _ _ _ _ _ _ _ 1 (by simp; omega), fill]

/-- The gain of the queries' latent. -/
theorem q_lat (d : Fin 384) : V10 m ρ c main_v2 (ix2 0 d) = m ((c : Thread nD τ).loc main_arg4) (ix1 d) := by
  have hv : V10 m ρ c main_v2 = shapeCast _ (m ((c : Thread nD τ).loc main_arg4)) shapeCasts_S384_S1x384 := by
    refine (W10_of m ρ c main_v2 (by decide)).trans ?_
    after_reads_simp
    rfl
  rw [hv]
  pointwise

/-- The gain of the keys' and values' latent. -/
theorem kv_lat (d : Fin 256) : V10 m ρ c main_v3 (ix2 0 d) = m ((c : Thread nD τ).loc main_arg5) (ix1 d) := by
  have hv : V10 m ρ c main_v3 = shapeCast _ (m ((c : Thread nD τ).loc main_arg5)) shapeCasts_S256_S1x256 := by
    refine (W10_of m ρ c main_v3 (by decide)).trans ?_
    after_reads_simp
    rfl
  rw [hv]
  pointwise

/-- The gain of the queries' first columns. -/
theorem qn_nope (d : Fin 128) : V10 m ρ c main_v8 (ix2 0 d) = m ((c : Thread nD τ).loc main_arg9) (ix1 d) := by
  have hv : V10 m ρ c main_v8 = shapeCast _ (m ((c : Thread nD τ).loc main_arg9)) shapeCasts_S128_S1x128 := by
    refine (W10_of m ρ c main_v8 (by decide)).trans ?_
    after_reads_simp
    rfl
  rw [hv]
  pointwise

/-- The gain of the keys' own columns. -/
theorem kn_nope (d : Fin 128) : V10 m ρ c main_v9 (ix2 0 d) = m ((c : Thread nD τ).loc main_arg11) (ix1 d) := by
  have hv : V10 m ρ c main_v9 = shapeCast _ (m ((c : Thread nD τ).loc main_arg11)) shapeCasts_S128_S1x128 := by
    refine (W10_of m ρ c main_v9 (by decide)).trans ?_
    after_reads_simp
    rfl
  rw [hv]
  pointwise

/-- The padded gain of the keys' shared columns. -/
theorem kn_rope (d : Fin 128) : V10 m ρ c main_v5 (ix2 0 d)
    = if h : d.val < 64 then m ((c : Thread nD τ).loc main_arg6) (ix1 ⟨d.val, h⟩) else (0 : EReal) := by
  have hv : V10 m ρ c main_v5 = pad S1x128 ![0, 0] ![0, 64] ![0, 0]
      (shapeCast _ (m ((c : Thread nD τ).loc main_arg6)) shapeCasts_S64_S1x64)
      (sitofp (F := Ideal) .f32 (constantI S_ 32 0#32)) pads_S1x64_S1x128_000_0640 h_S_ := by
    refine (W10_of m ρ c main_v5 (by decide)).trans ?_
    after_reads_simp
    rfl
  rw [hv]
  by_cases h : d.val < 64
  · rw [dif_pos h, pad_apply_of_inside _ _ _ _ _ _ _ _ (ix2 0 ⟨d.val, h⟩ : S1x64.Idx) (by intro d; fin_cases d <;> simp)]
    pointwise
  · rw [dif_neg h, pad_apply_of_not_inside _ _ _ _ _ _ _ _ 1 (by simp; omega), fill]

/-- The padded gain of the queries' last columns. -/
theorem qn_rope (d : Fin 128) : V10 m ρ c main_v7 (ix2 0 d)
    = if h : d.val < 64 then m ((c : Thread nD τ).loc main_arg10) (ix1 ⟨d.val, h⟩) else (0 : EReal) := by
  have hv : V10 m ρ c main_v7 = pad S1x128 ![0, 0] ![0, 64] ![0, 0]
      (shapeCast _ (m ((c : Thread nD τ).loc main_arg10)) shapeCasts_S64_S1x64)
      (sitofp (F := Ideal) .f32 (constantI S_ 32 0#32)) pads_S1x64_S1x128_000_0640 h_S_ := by
    refine (W10_of m ρ c main_v7 (by decide)).trans ?_
    after_reads_simp
    rfl
  rw [hv]
  by_cases h : d.val < 64
  · rw [dif_pos h, pad_apply_of_inside _ _ _ _ _ _ _ _ (ix2 0 ⟨d.val, h⟩ : S1x64.Idx) (by intro d; fin_cases d <;> simp)]
    pointwise
  · rw [dif_neg h, pad_apply_of_not_inside _ _ _ _ _ _ _ _ 1 (by simp; omega), fill]

/-- The weight of the keys and values. -/
theorem w_ukv (e : Fin 256) (l : Fin 2048) : V10 m ρ c main_v12 (ix2 e l) = m ((c : Thread nD τ).loc main_arg8) (ix2 e l) := by
  have hv : V10 m ρ c main_v12 = truncf (F := Ideal) .bf16 (m ((c : Thread nD τ).loc main_arg8)) bitsLt_bf16_f32 := by
    refine (W10_of m ρ c main_v12 (by decide)).trans ?_
    after_reads_simp
  rw [hv]
  rfl

/-- The queries' weight: every head's 192 columns in a slot of 256. -/
theorem w_uq (e : Fin 384) (l : Fin 2048) : V10 m ρ c main_v11 (ix2 e l)
    = if h : l.val % 256 < 192 then m ((c : Thread nD τ).loc main_arg7) (ix2 e ⟨l.val / 256 * 192 + l.val % 256, by omega⟩)
      else (0 : EReal) := by
  have hv : V10 m ρ c main_v11
      = truncf (F := Ideal) .bf16 (shapeCast _ (pad S384x8x256 ![0, 0, 0] ![0, 0, 64] ![0, 0, 0]
        (shapeCast _ (m ((c : Thread nD τ).loc main_arg7)) shapeCasts_S384x1536_S384x8x192)
        (sitofp (F := Ideal) .f32 (constantI S_ 32 0#32)) pads_S384x8x192_S384x8x256_000_000_0640 h_S_)
        shapeCasts_S384x8x256_S384x2048) bitsLt_bf16_f32 := by
    refine (W10_of m ρ c main_v11 (by decide)).trans ?_
    after_reads_simp
    rfl
  rw [hv]
  rw [narrow_at]
  rw [shapeCast_apply _ _ _ (ix3 e ⟨l.val / 256, by omega⟩ ⟨l.val % 256, by omega⟩) (by
    rewrite [Shape.rowMajor_val_three, Shape.rowMajor_val_two]; simp; omega)]
  by_cases h : l.val % 256 < 192
  · rw [dif_pos h, pad_apply_of_inside _ _ _ _ _ _ _ _ (ix3 e ⟨l.val / 256, by omega⟩ ⟨l.val % 256, h⟩ : S384x8x192.Idx)
      (by intro d; fin_cases d <;> simp)]
    rw [shapeCast_apply _ _ _ (ix2 e ⟨l.val / 256 * 192 + l.val % 256, by omega⟩ : S384x1536.Idx) (by
      rewrite [Shape.rowMajor_val_three, Shape.rowMajor_val_two]; simp; omega)]
  · rw [dif_neg h, pad_apply_of_not_inside _ _ _ _ _ _ _ _ 2 (by simp; omega), fill]

end Cert.MlaIdeal.Prep

end
-- ==== Proof.MlaRef.lean ====
/- The reference of the latent preparation at an element. -/
module

public import proofs.«01_k».proof.Proof.MlaSpec
public import proofs.«01_k».proof.Proof.MlpRef
public import proofs.«01_k».proof.Proof.Gen.MlaRefIdeal.Read
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.MlaRefIdeal.Prep
open Cert.MlaRefIdeal Cert.MlaRefIdeal.Read Cert.Norm Cert.MlaNorm

variable (x0 : Vec Ideal S4096x1024 .f32) (x1 : Vec Ideal S16x8x1024 .f32) (x2 : Vec Ideal S1x1024 .f32)
  (x3 : Vec Ideal S1024x704 .f32) (x4 : Vec Ideal S384 .f32) (x5 : Vec Ideal S256 .f32) (x6 : Vec Ideal S64 .f32)
  (x7 : Vec Ideal S384x1536 .f32) (x8 : Vec Ideal S256x2048 .f32) (x9 : Vec Ideal S128 .f32) (x10 : Vec Ideal S64 .f32)
  (x11 : Vec Ideal S128 .f32)

/-- The modulated norm of a row, with the context's row of the modulation table. -/
theorem mod_at (n : Fin 4096) (e : Fin 1024) :
    val_main_v25 (F := Ideal) x0 x1 x2 (ix2 n e)
      = modRow (fun d => x0 (ix2 n d)) (fun d => x2 (ix2 0 d)) (fun d => x1 (ix3 8 1 d)) (fun d => x1 (ix3 8 0 d)) e := by
  rw [val_main_v25_apply, val_main_v20_apply, val_main_v13_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_cst_apply, val_main_v12_apply, val_main_v11_apply, val_main_v0_apply,
    val_main_v19_apply, val_main_v18_apply, val_main_v17_apply, val_main_v16_apply, val_main_cst_2_apply,
    val_main_v15_apply, val_main_v14_apply, val_main_v24_apply, val_main_v23_apply, val_main_v22_apply, val_main_v21_apply]
  simp only [val_main_v1_apply]
  unfold modRow rms
  rw [← MixMlpRefIdeal.Mlp.div_1024]
  refine congrArg₂ (· + ·) (congrArg₂ (· * ·) (congrArg₂ (· * ·) (congrArg (x0 (ix2 n e) * ·) ?_) (congrArg x2 ?_))
    (congrArg (Ideal.ofBits .f32 0x3F800000#32 + ·) (congrArg x1 ?_))) (congrArg x1 ?_)
  · refine congrArg (fun s => Ideal.rsqrt (Ideal.div s (Ideal.ofBits .f32 0x44800000#32) + Ideal.ofBits .f32 0x358637BD#32)) ?_
    refine (congrArg₂ (· + ·) ofBits_zero (Finset.sum_congr rfl fun d _ => ?_)).trans (zero_add _)
    refine congrArg₂ (· * ·) (congrArg x0 ?_) (congrArg x0 ?_)
    all_goals
      refine funext fun a => Fin.ext ?_
      fin_cases a <;> simp
  all_goals
    refine funext fun a => Fin.ext ?_
    fin_cases a <;> simp <;> omega

/-- The projection of a token. -/
def prj (n : Fin 4096) (j : Fin 704) : EReal :=
  ∑ e : Fin 1024, modRow (fun d => x0 (ix2 n d)) (fun d => x2 (ix2 0 d)) (fun d => x1 (ix3 8 1 d))
    (fun d => x1 (ix3 8 0 d)) e * x3 (ix2 e j)

/-- The reference's projection at an element. -/
theorem prj_at (i : S4096x704.Idx) (n : Fin 4096) (j : Fin 704) (h0 : (i 0).val = n.val) (h1 : (i 1).val = j.val) :
    val_main_v26 (F := Ideal) x0 x1 x2 x3 i = prj x0 x1 x2 x3 n j := by
  rw [val_main_v26_apply]
  unfold prj
  refine Finset.sum_congr rfl fun e _ => congrArg₂ (· * ·) ?_ ?_
  · refine Eq.trans (congrArg _ (funext fun a => Fin.ext ?_)) (mod_at x0 x1 x2 n e)
    fin_cases a <;> simp [h0]
  · refine congrArg x3 (funext fun a => Fin.ext ?_)
    fin_cases a <;> simp [h1]

/-- The latent of the keys and values. -/
theorem ckv_at (i : S4096x256.Idx) (n : Fin 4096) (j : Fin 256) (h0 : (i 0).val = n.val) (h1 : (i 1).val = j.val) :
    val_main_v40 (F := Ideal) x0 x1 x2 x3 x5 i = ckv (prj x0 x1 x2 x3 n) (fun d => x5 (ix1 d)) j := by
  have hp : ∀ (i' : S4096x256.Idx) (d : Fin 256), (i' 0).val = n.val → (i' 1).val = d.val →
      val_main_v27 (F := Ideal) x0 x1 x2 x3 i' = prj x0 x1 x2 x3 n ⟨384 + d.val, by omega⟩ := fun i' d g0 g1 => by
    rw [val_main_v27_apply]
    refine prj_at x0 x1 x2 x3 _ n _ ?_ ?_ <;> simp [g0, g1]
  rw [val_main_v40_apply, val_main_v37_apply, val_main_v36_apply, val_main_v35_apply, val_main_v34_apply, val_main_v33_apply,
    val_main_cst_5_apply, val_main_v32_apply, val_main_v31_apply, val_main_cst_4_apply, val_main_v30_apply,
    val_main_v29_apply, val_main_cst_3_apply, val_main_v39_apply, val_main_v38_apply]
  simp only [val_main_v28_apply]
  unfold ckv rmsBy
  rw [← div_256]
  refine congrArg₂ (· * ·) (congrArg₂ (· * ·) (hp _ _ h0 h1) ?_) (congrArg x5 ?_)
  · refine congrArg (fun s => Ideal.rsqrt (Ideal.div s (Ideal.ofBits .f32 0x43800000#32) + Ideal.ofBits .f32 0x358637BD#32)) ?_
    refine (congrArg₂ (· + ·) ofBits_zero (Finset.sum_congr rfl fun d _ => ?_)).trans (zero_add _)
    exact congrArg₂ (· * ·) (hp _ d h0 rfl) (hp _ d h0 rfl)
  · refine funext fun a => Fin.ext ?_
    fin_cases a <;> simp [h1]

/-- The shared columns of the keys. -/
theorem kr_at (i : S4096x64.Idx) (n : Fin 4096) (j : Fin 64) (h0 : (i 0).val = n.val) (h1 : (i 1).val = j.val) :
    val_main_v54 (F := Ideal) x0 x1 x2 x3 x6 i = kr (prj x0 x1 x2 x3 n) (fun d => x6 (ix1 d)) j := by
  have hp : ∀ (i' : S4096x64.Idx) (d : Fin 64), (i' 0).val = n.val → (i' 1).val = d.val →
      val_main_v41 (F := Ideal) x0 x1 x2 x3 i' = prj x0 x1 x2 x3 n ⟨640 + d.val, by omega⟩ := fun i' d g0 g1 => by
    rw [val_main_v41_apply]
    refine prj_at x0 x1 x2 x3 _ n _ ?_ ?_ <;> simp [g0, g1]
  rw [val_main_v54_apply, val_main_v51_apply, val_main_v50_apply, val_main_v49_apply, val_main_v48_apply, val_main_v47_apply,
    val_main_cst_8_apply, val_main_v46_apply, val_main_v45_apply, val_main_cst_7_apply, val_main_v44_apply,
    val_main_v43_apply, val_main_cst_6_apply, val_main_v53_apply, val_main_v52_apply]
  simp only [val_main_v42_apply]
  unfold kr rmsBy
  rw [← div_64]
  refine congrArg₂ (· * ·) (congrArg₂ (· * ·) (hp _ _ h0 h1) ?_) (congrArg x6 ?_)
  · refine congrArg (fun s => Ideal.rsqrt (Ideal.div s (Ideal.ofBits .f32 0x42800000#32) + Ideal.ofBits .f32 0x358637BD#32)) ?_
    refine (congrArg₂ (· + ·) ofBits_zero (Finset.sum_congr rfl fun d _ => ?_)).trans (zero_add _)
    exact congrArg₂ (· * ·) (hp _ d h0 rfl) (hp _ d h0 rfl)
  · refine funext fun a => Fin.ext ?_
    fin_cases a <;> simp [h1]

/-- The latent of the queries. -/
theorem cq_at (i : S4096x384.Idx) (n : Fin 4096) (j : Fin 384) (h0 : (i 0).val = n.val) (h1 : (i 1).val = j.val) :
    val_main_v68 (F := Ideal) x0 x1 x2 x3 x4 i = cq (prj x0 x1 x2 x3 n) (fun d => x4 (ix1 d)) j := by
  have hp : ∀ (i' : S4096x384.Idx) (d : Fin 384), (i' 0).val = n.val → (i' 1).val = d.val →
      val_main_v55 (F := Ideal) x0 x1 x2 x3 i' = prj x0 x1 x2 x3 n ⟨d.val, by omega⟩ := fun i' d g0 g1 => by
    rw [val_main_v55_apply]
    refine prj_at x0 x1 x2 x3 _ n _ ?_ ?_ <;> simp [g0, g1]
  rw [val_main_v68_apply, val_main_v65_apply, val_main_v64_apply, val_main_v63_apply, val_main_v62_apply, val_main_v61_apply,
    val_main_cst_11_apply, val_main_v60_apply, val_main_v59_apply, val_main_cst_10_apply, val_main_v58_apply,
    val_main_v57_apply, val_main_cst_9_apply, val_main_v67_apply, val_main_v66_apply]
  simp only [val_main_v56_apply]
  unfold cq rmsBy
  rw [← div_384]
  refine congrArg₂ (· * ·) (congrArg₂ (· * ·) (hp _ _ h0 h1) ?_) (congrArg x4 ?_)
  · refine congrArg (fun s => Ideal.rsqrt (Ideal.div s (Ideal.ofBits .f32 0x43C00000#32) + Ideal.ofBits .f32 0x358637BD#32)) ?_
    refine (congrArg₂ (· + ·) ofBits_zero (Finset.sum_congr rfl fun d _ => ?_)).trans (zero_add _)
    exact congrArg₂ (· * ·) (hp _ d h0 rfl) (hp _ d h0 rfl)
  · refine funext fun a => Fin.ext ?_
    fin_cases a <;> simp [h1]

/-- A token's query heads. -/
abbrev qHead (n : Fin 4096) : Fin 1536 → EReal :=
  qh (prj x0 x1 x2 x3 n) (fun d => x4 (ix1 d)) (fun e l => x7 (ix2 e l))

/-- A token's heads of keys and values. -/
abbrev kvHead (n : Fin 4096) : Fin 2048 → EReal :=
  kvh (prj x0 x1 x2 x3 n) (fun d => x5 (ix1 d)) (fun e l => x8 (ix2 e l))

/-- The query heads at an element. -/
theorem qh_at (i : S4096x8x192.Idx) (n : Fin 4096) (l : Fin 1536) (h0 : (i 0).val = n.val)
    (h1 : (i 1).val * 192 + (i 2).val = l.val) :
    val_main_v70 (F := Ideal) x0 x1 x2 x3 x4 x7 i = qHead x0 x1 x2 x3 x4 x7 n l := by
  have hi1 : (i 1).val < 8 := (i 1).isLt
  have hi2 : (i 2).val < 192 := (i 2).isLt
  rw [val_main_v70_apply, val_main_v69_apply]
  unfold qHead qh
  refine Finset.sum_congr rfl fun e _ => congrArg₂ (· * ·) ?_ (congrArg x7 (funext fun a => Fin.ext ?_))
  · refine cq_at x0 x1 x2 x3 x4 _ n e ?_ ?_ <;> simp [h0] <;> omega
  · fin_cases a <;> simp <;> omega

/-- The heads of keys and values at an element. -/
theorem kvh_at (i : S4096x8x256.Idx) (n : Fin 4096) (l : Fin 2048) (h0 : (i 0).val = n.val)
    (h1 : (i 1).val * 256 + (i 2).val = l.val) :
    val_main_v72 (F := Ideal) x0 x1 x2 x3 x5 x8 i = kvHead x0 x1 x2 x3 x5 x8 n l := by
  have hi1 : (i 1).val < 8 := (i 1).isLt
  have hi2 : (i 2).val < 256 := (i 2).isLt
  rw [val_main_v72_apply, val_main_v71_apply]
  unfold kvHead kvh
  refine Finset.sum_congr rfl fun e _ => congrArg₂ (· * ·) ?_ (congrArg x8 (funext fun a => Fin.ext ?_))
  · refine ckv_at x0 x1 x2 x3 x5 _ n e ?_ ?_ <;> simp [h0] <;> omega
  · fin_cases a <;> simp <;> omega

/-- The first 128 columns of a query head, normed and scaled. -/
theorem qn_at (i : S4096x8x128.Idx) (n : Fin 4096) (h : Fin 8) (k : Fin 128) (h0 : (i 0).val = n.val)
    (h1 : (i 1).val = h.val) (h2 : (i 2).val = k.val) :
    val_main_v91 (F := Ideal) x0 x1 x2 x3 x4 x7 x9 i
      = rmsBy i128 (fun d : Fin 128 => qHead x0 x1 x2 x3 x4 x7 n ⟨h.val * 192 + d.val, by omega⟩) k * x9 (ix1 k) * qScale := by
  have hp : ∀ (i' : S4096x8x128.Idx) (d : Fin 128), (i' 0).val = n.val → (i' 1).val = h.val → (i' 2).val = d.val →
      val_main_v76 (F := Ideal) x0 x1 x2 x3 x4 x7 i' = qHead x0 x1 x2 x3 x4 x7 n ⟨h.val * 192 + d.val, by omega⟩ :=
    fun i' d g0 g1 g2 => by
      rw [val_main_v76_apply]
      refine qh_at x0 x1 x2 x3 x4 x7 _ n _ ?_ ?_ <;> simp [g0, g1, g2]
  rw [val_main_v91_apply, val_main_v90_apply, val_main_v75_apply, val_main_v73_apply, val_main_v74_apply,
    val_main_cst_12_apply, val_main_cst_13_apply, val_main_v89_apply, val_main_v86_apply, val_main_v85_apply,
    val_main_v84_apply, val_main_v83_apply, val_main_v82_apply, val_main_cst_16_apply, val_main_v81_apply,
    val_main_v80_apply, val_main_cst_15_apply, val_main_v79_apply, val_main_v78_apply, val_main_cst_14_apply,
    val_main_v88_apply, val_main_v87_apply]
  refine (scale_div _).trans (congrArg (· * qScale) ?_)
  simp only [val_main_v77_apply]
  unfold rmsBy
  rw [← div_128]
  refine congrArg₂ (· * ·) (congrArg₂ (· * ·) (hp _ _ h0 h1 h2) ?_) (congrArg x9 ?_)
  · refine congrArg (fun s => Ideal.rsqrt (Ideal.div s (Ideal.ofBits .f32 0x43000000#32) + Ideal.ofBits .f32 0x358637BD#32)) ?_
    refine (congrArg₂ (· + ·) ofBits_zero (Finset.sum_congr rfl fun d _ => ?_)).trans (zero_add _)
    exact congrArg₂ (· * ·) (hp _ d h0 h1 rfl) (hp _ d h0 h1 rfl)
  · refine funext fun a => Fin.ext ?_
    fin_cases a <;> simp [h2]

/-- The last 64 columns of a query head, normed and scaled. -/
theorem qr_at (i : S4096x8x64.Idx) (n : Fin 4096) (h : Fin 8) (k : Fin 64) (h0 : (i 0).val = n.val)
    (h1 : (i 1).val = h.val) (h2 : (i 2).val = k.val) :
    val_main_v107 (F := Ideal) x0 x1 x2 x3 x4 x7 x10 i
      = rmsBy i64 (fun d : Fin 64 => qHead x0 x1 x2 x3 x4 x7 n ⟨h.val * 192 + 128 + d.val, by omega⟩) k * x10 (ix1 k)
        * qScale := by
  have hp : ∀ (i' : S4096x8x64.Idx) (d : Fin 64), (i' 0).val = n.val → (i' 1).val = h.val → (i' 2).val = d.val →
      val_main_v92 (F := Ideal) x0 x1 x2 x3 x4 x7 i' = qHead x0 x1 x2 x3 x4 x7 n ⟨h.val * 192 + 128 + d.val, by omega⟩ :=
    fun i' d g0 g1 g2 => by
      rw [val_main_v92_apply]
      refine qh_at x0 x1 x2 x3 x4 x7 _ n _ ?_ ?_ <;> simp [g0, g1, g2] <;> omega
  rw [val_main_v107_apply, val_main_v106_apply, val_main_v75_apply, val_main_v73_apply, val_main_v74_apply,
    val_main_cst_12_apply, val_main_cst_13_apply, val_main_v105_apply, val_main_v102_apply, val_main_v101_apply,
    val_main_v100_apply, val_main_v99_apply, val_main_v98_apply, val_main_cst_19_apply, val_main_v97_apply,
    val_main_v96_apply, val_main_cst_18_apply, val_main_v95_apply, val_main_v94_apply, val_main_cst_17_apply,
    val_main_v104_apply, val_main_v103_apply]
  refine (scale_div _).trans (congrArg (· * qScale) ?_)
  simp only [val_main_v93_apply]
  unfold rmsBy
  rw [← div_64]
  refine congrArg₂ (· * ·) (congrArg₂ (· * ·) (hp _ _ h0 h1 h2) ?_) (congrArg x10 ?_)
  · refine congrArg (fun s => Ideal.rsqrt (Ideal.div s (Ideal.ofBits .f32 0x42800000#32) + Ideal.ofBits .f32 0x358637BD#32)) ?_
    refine (congrArg₂ (· + ·) ofBits_zero (Finset.sum_congr rfl fun d _ => ?_)).trans (zero_add _)
    exact congrArg₂ (· * ·) (hp _ d h0 h1 rfl) (hp _ d h0 h1 rfl)
  · refine funext fun a => Fin.ext ?_
    fin_cases a <;> simp [h2]

/-- The own columns of a key head, normed. -/
theorem kn_at (i : S4096x8x128.Idx) (n : Fin 4096) (h : Fin 8) (k : Fin 128) (h0 : (i 0).val = n.val)
    (h1 : (i 1).val = h.val) (h2 : (i 2).val = k.val) :
    val_main_v124 (F := Ideal) x0 x1 x2 x3 x5 x8 x11 i
      = rmsBy i128 (fun d : Fin 128 => kvHead x0 x1 x2 x3 x5 x8 n ⟨h.val * 256 + d.val, by omega⟩) k * x11 (ix1 k) := by
  have hp : ∀ (i' : S4096x8x128.Idx) (d : Fin 128), (i' 0).val = n.val → (i' 1).val = h.val → (i' 2).val = d.val →
      val_main_v111 (F := Ideal) x0 x1 x2 x3 x5 x8 i' = kvHead x0 x1 x2 x3 x5 x8 n ⟨h.val * 256 + d.val, by omega⟩ :=
    fun i' d g0 g1 g2 => by
      rw [val_main_v111_apply]
      refine kvh_at x0 x1 x2 x3 x5 x8 _ n _ ?_ ?_ <;> simp [g0, g1, g2]
  rw [val_main_v124_apply, val_main_v121_apply, val_main_v120_apply,
    val_main_v119_apply, val_main_v118_apply, val_main_v117_apply, val_main_cst_22_apply, val_main_v116_apply,
    val_main_v115_apply, val_main_cst_21_apply, val_main_v114_apply, val_main_v113_apply, val_main_cst_20_apply,
    val_main_v123_apply, val_main_v122_apply]
  simp only [val_main_v112_apply]
  unfold rmsBy
  rw [← div_128]
  refine congrArg₂ (· * ·) (congrArg₂ (· * ·) (hp _ _ h0 h1 h2) ?_) (congrArg x11 ?_)
  · refine congrArg (fun s => Ideal.rsqrt (Ideal.div s (Ideal.ofBits .f32 0x43000000#32) + Ideal.ofBits .f32 0x358637BD#32)) ?_
    refine (congrArg₂ (· + ·) ofBits_zero (Finset.sum_congr rfl fun d _ => ?_)).trans (zero_add _)
    exact congrArg₂ (· * ·) (hp _ d h0 h1 rfl) (hp _ d h0 h1 rfl)
  · refine funext fun a => Fin.ext ?_
    fin_cases a <;> simp [h2]

/-- A head of 128 and 64 columns in its slot of 256, filled up with zeros. -/
theorem slot_at (a : FVec Ideal S4096x8x128 .f32) (b : FVec Ideal S4096x8x64 .f32)
    (hc : Shape.Concatenates ([(⟨S4096x8x128, a⟩ : (s : Shape) × (s.Idx → Ideal .f32)), ⟨S4096x8x64, b⟩].map (·.1)) S4096x8x192 2)
    (hp : S4096x8x192.Pads (![0, 0, 0] : Fin 3 → Nat) ![0, 0, 64] ![0, 0, 0] S4096x8x256) (hu : 0 < S_.numel)
    (n : Fin 4096) (h : Fin 8) (j : Fin 256) :
    pad S4096x8x256 ![0, 0, 0] ![0, 0, 64] ![0, 0, 0] (concatenate S4096x8x192 2 [⟨S4096x8x128, a⟩, ⟨S4096x8x64, b⟩] hc)
        (sitofp (F := Ideal) .f32 (constantI S_ 32 0#32)) hp hu (ix3 n h j)
      = if h1 : j.val < 128 then a (ix3 n h ⟨j.val, h1⟩)
        else if h2 : j.val < 192 then b (ix3 n h ⟨j.val - 128, by omega⟩) else 0 := by
  by_cases h2 : j.val < 192
  · rw [pad_apply_of_inside _ _ _ _ _ _ _ _ (ix3 n h ⟨j.val, h2⟩ : S4096x8x192.Idx) (by
      intro d; fin_cases d <;> simp)]
    by_cases h1 : j.val < 128
    · rw [dif_pos h1]
      refine concatenate_apply_piece (t := S4096x8x192) 2 [⟨S4096x8x128, a⟩, ⟨S4096x8x64, b⟩] hc _ 0 (by simp) S4096x8x128 a rfl rfl
        0 rfl _ ?_ ?_
      · intro d hd; fin_cases d <;> simp at hd ⊢
      · simp
    · rw [dif_neg h1, dif_pos h2]
      refine concatenate_apply_piece (t := S4096x8x192) 2 [⟨S4096x8x128, a⟩, ⟨S4096x8x64, b⟩] hc _ 1 (by simp) S4096x8x64 b rfl rfl
        128 rfl _ ?_ ?_
      · intro d hd; fin_cases d <;> simp at hd ⊢
      · simp; omega
  · rw [pad_apply_of_not_inside _ _ _ _ _ _ _ _ 2 (by simp; omega), dif_neg (by omega), dif_neg h2]
    show (((0#32 : BitVec 32).toInt : ℝ) : EReal) = 0
    simp

/-- The queries handed on. -/
theorem resq_at (n : Fin 4096) (l : Fin 2048) :
    val_main_v132 (F := Ideal) x0 x1 x2 x3 x4 x7 x9 x10 (ix2 n l)
      = qSlot (qHead x0 x1 x2 x3 x4 x7 n) (fun d => x9 (ix1 d)) (fun d => x10 (ix1 d)) ⟨l.val / 256, by omega⟩
          ⟨l.val % 256, by omega⟩ := by
  rw [val_main_v132_apply, val_main_v110_apply]
  refine Eq.trans (congrArg (val_main_v109 (F := Ideal) x0 x1 x2 x3 x4 x7 x9 x10) (funext fun a => Fin.ext ?_))
    ((slot_at _ _ _ _ _ n ⟨l.val / 256, by omega⟩ ⟨l.val % 256, by omega⟩).trans ?_)
  · have := n.isLt
    have := l.isLt
    fin_cases a <;> simp <;> omega
  · unfold qSlot
    refine dite_congr rfl (fun h1 => ?_) fun h1 => dite_congr rfl (fun h2 => ?_) fun _ => rfl
    · exact qn_at x0 x1 x2 x3 x4 x7 x9 _ n _ _ rfl rfl rfl
    · exact qr_at x0 x1 x2 x3 x4 x7 x10 _ n _ _ rfl rfl rfl

/-- The keys handed on. -/
theorem resk_at (n : Fin 4096) (l : Fin 2048) :
    val_main_v133 (F := Ideal) x0 x1 x2 x3 x5 x6 x8 x11 (ix2 n l)
      = kSlot (kvHead x0 x1 x2 x3 x5 x8 n) (kr (prj x0 x1 x2 x3 n) fun d => x6 (ix1 d)) (fun d => x11 (ix1 d))
          ⟨l.val / 256, by omega⟩ ⟨l.val % 256, by omega⟩ := by
  rw [val_main_v133_apply, val_main_v129_apply]
  refine Eq.trans (congrArg (val_main_v128 (F := Ideal) x0 x1 x2 x3 x5 x6 x8 x11) (funext fun a => Fin.ext ?_))
    ((slot_at _ _ _ _ _ n ⟨l.val / 256, by omega⟩ ⟨l.val % 256, by omega⟩).trans ?_)
  · have := n.isLt
    have := l.isLt
    fin_cases a <;> simp <;> omega
  · unfold kSlot
    refine dite_congr rfl (fun h1 => ?_) fun h1 => dite_congr rfl (fun h2 => ?_) fun _ => rfl
    · exact kn_at x0 x1 x2 x3 x5 x8 x11 _ n _ _ rfl rfl rfl
    · rw [val_main_v126_apply, val_main_v125_apply]
      exact kr_at x0 x1 x2 x3 x6 _ n _ rfl rfl

/-- The values handed on. -/
theorem resv_at (n : Fin 4096) (l : Fin 1024) :
    val_main_v134 (F := Ideal) x0 x1 x2 x3 x5 x8 (ix2 n l)
      = kvHead x0 x1 x2 x3 x5 x8 n ⟨l.val / 128 * 256 + 128 + l.val % 128, by omega⟩ := by
  rw [val_main_v134_apply, val_main_v131_apply, val_main_v130_apply]
  refine kvh_at x0 x1 x2 x3 x5 x8 _ n _ ?_ ?_ <;> simp <;> omega

end Cert.MlaRefIdeal.Prep

end
-- ==== Proof.MlaValue.lean ====
/- The five results of the kernel that prepares the latent tokens' queries, keys and values are the reference's. -/
module

public import proofs.«01_k».proof.Proof.MlaHead
public import proofs.«01_k».proof.Proof.MlaHost
public import proofs.«01_k».proof.Proof.MlaRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaIdeal.Prep
open Cert.MlaIdeal Cert.MlaIdeal.Gen Cert.Norm Cert.MlaNorm

section
variable (x0 : Vec Ideal S512x768 .f32) (x1 : Vec Ideal S1x384 .f32) (x2 : Vec Ideal S1x256 .f32) (x3 : Vec Ideal S1x128 .f32)
  (x4 : Vec Ideal S384x2048 .bf16) (x5 : Vec Ideal S256x2048 .bf16) (x6 x7 x8 : Vec Ideal S1x128 .f32)
  (p : Fin 704 → EReal) (gq : Fin 384 → EReal) (gc : Fin 256 → EReal) (gs gr : Fin 64 → EReal) (gn hn : Fin 128 → EReal)
  (wq : Fin 384 → Fin 1536 → EReal) (wk : Fin 256 → Fin 2048 → EReal) (r : Fin 512)
  (h0 : ∀ j : Fin 768, x0 (ix2 r j) = if h : j.val < 704 then p ⟨j.val, h⟩ else (0 : EReal))
  (h1 : ∀ d, x1 (ix2 0 d) = gq d) (h2 : ∀ d, x2 (ix2 0 d) = gc d)
  (h3 : ∀ d : Fin 128, x3 (ix2 0 d) = if h : d.val < 64 then gs ⟨d.val, h⟩ else (0 : EReal))
  (h4 : ∀ (e : Fin 384) (l : Fin 2048), x4 (ix2 e l)
    = if h : l.val % 256 < 192 then wq e ⟨l.val / 256 * 192 + l.val % 256, by omega⟩ else (0 : EReal))
  (h5 : ∀ e l, x5 (ix2 e l) = wk e l) (h6 : ∀ d, x6 (ix2 0 d) = gn d)
  (h7 : ∀ d : Fin 128, x7 (ix2 0 d) = if h : d.val < 64 then gr ⟨d.val, h⟩ else (0 : EReal))
  (h8 : ∀ d, x8 (ix2 0 d) = hn d)
include h0

include h2 in
/-- The block's latent is the token's. -/
theorem cBlk_spec (e : Fin 256) : cBlk x0 x2 r e = ckv p gc e :=
  congrArg₂ (· * ·) (rmsBy_congr _ (fun d => (h0 _).trans (dif_pos (by dsimp only; omega))) rfl) (h2 e)

include h2 h5 in
/-- The block's keys and values are the token's. -/
theorem kvBlk_spec (l : Fin 2048) : kvBlk x0 x2 x5 r l = kvh p gc wk l :=
  Finset.sum_congr rfl fun e _ => congrArg₂ (· * ·) (cBlk_spec x0 x2 p gc r h0 h2 e) (h5 e l)

include h3 in
/-- The block's shared columns are the token's, then zeros. -/
theorem rBlk_spec (e : Fin 128) : rBlk x0 x3 r e = if h : e.val < 64 then kr p gs ⟨e.val, h⟩ else 0 := by
  unfold rBlk
  rw [rmsBy_half _ _ (fun d hd => (h0 _).trans (dif_neg (by dsimp only; omega))), h3]
  by_cases h : e.val < 64
  · simp only [dif_pos h]
    exact congrArg (· * _) (rmsBy_congr _ (fun d => (h0 _).trans (dif_pos (by dsimp only; omega))) rfl)
  · simp only [dif_neg h, zero_mul]

include h1 h4 in
/-- The block's query slots are the token's heads, then zeros. -/
theorem qBlk_spec (l : Fin 2048) : qBlk x0 x1 x4 r l
    = if h : l.val % 256 < 192 then qh p gq wq ⟨l.val / 256 * 192 + l.val % 256, by omega⟩ else 0 := by
  unfold qBlk
  by_cases h : l.val % 256 < 192
  · rw [dif_pos h]
    refine Finset.sum_congr rfl fun e _ => congrArg₂ (· * ·) (congrArg₂ (· * ·)
      (rmsBy_congr _ (fun d => (h0 _).trans (dif_pos (by dsimp only; omega))) rfl) (h1 e)) ((h4 e l).trans (dif_pos h))
  · rw [dif_neg h]
    exact Finset.sum_eq_zero fun e _ => by rw [h4 e l, dif_neg h, mul_zero]

include h1 h4 h6 h7 in
/-- The query block is the token's slots. -/
theorem outq_spec (l : Fin 2048) : out1_9 x0 x1 x2 x3 x4 x5 x6 x7 x8 (ix2 r l)
    = qSlot (qh p gq wq) gn gr ⟨l.val / 256, by omega⟩ ⟨l.val % 256, by omega⟩ := by
  have hq := qBlk_spec x0 x1 x4 p gq wq r h0 h1 h4
  rw [outq_at]
  unfold qSlot
  by_cases ha : l.val / 128 % 2 = 0
  · rw [if_pos ha, if_pos ha, h6, dif_pos (by dsimp only; omega)]
    refine congrArg (· * qScale) (congrArg₂ (· * ·) (rmsBy_congr _ (fun d => ?_) (Fin.ext ?_)) (congrArg gn (Fin.ext ?_)))
    · rw [hq, dif_pos (by dsimp only; omega)]
      refine congrArg (qh p gq wq) (Fin.ext ?_)
      dsimp only
      omega
    · dsimp only
      omega
    · dsimp only
      omega
  · rw [if_neg ha, if_neg ha, h7,
      rmsBy_half _ _ (fun d hd => (hq _).trans (dif_neg (by dsimp only; omega)))]
    by_cases h : l.val % 128 < 64
    · simp only [dif_pos h]
      rw [dif_neg (by omega), dif_pos (by omega)]
      refine congrArg (· * qScale) (congrArg₂ (· * ·) (rmsBy_congr _ (fun d => ?_) (Fin.ext ?_)) (congrArg gr (Fin.ext ?_)))
      · rw [hq, dif_pos (by dsimp only; omega)]
        refine congrArg (qh p gq wq) (Fin.ext ?_)
        dsimp only
        omega
      · dsimp only
        omega
      · dsimp only
        omega
    · simp only [dif_neg h]
      rw [dif_neg (by omega), dif_neg (by omega), zero_mul, zero_mul]

include h2 h3 h5 h8 in
/-- The key block is the token's slots. -/
theorem outk_spec (l : Fin 2048) : out1_10 x0 x1 x2 x3 x4 x5 x6 x7 x8 (ix2 r l)
    = kSlot (kvh p gc wk) (kr p gs) hn ⟨l.val / 256, by omega⟩ ⟨l.val % 256, by omega⟩ := by
  rw [outk_at]
  unfold kSlot
  by_cases ha : l.val / 128 % 2 = 0
  · rw [if_pos ha, h8, dif_pos (by dsimp only; omega)]
    refine congrArg₂ (· * ·) (rmsBy_congr _ (fun d => ?_) (Fin.ext ?_)) (congrArg hn (Fin.ext ?_))
    · rw [kvBlk_spec x0 x2 x5 p gc wk r h0 h2 h5]
      refine congrArg (kvh p gc wk) (Fin.ext ?_)
      dsimp only
      omega
    · dsimp only
      omega
    · dsimp only
      omega
  · rw [if_neg ha, rBlk_spec x0 x3 p gs r h0 h3]
    by_cases h : l.val % 128 < 64
    · rw [dif_pos h, dif_neg (by dsimp only; omega), dif_pos (by dsimp only; omega)]
      exact congrArg (kr p gs) (Fin.ext (by dsimp only; omega))
    · rw [dif_neg h, dif_neg (by dsimp only; omega), dif_neg (by dsimp only; omega)]

end

variable (m : (ℓ : Loc nD τ sig) → Buf (Elt Ideal) ℓ) (ρ : Dev nD → PrngReg) (c : Dev nD)

/-- The block of every window of the projection at every grid point. -/
theorem idx0 : ∀ t : Fin cfg0.N, win0_0.index t = ![t.val, 0] ∧ win0_1.index t = ![8, 0, 0] ∧ win0_2.index t = ![0, 0]
    ∧ win0_3.index t = ![0, 0] ∧ win0_4.index t = ![t.val, 0] ∧ t.val < 4
    ∧ (grid0.coords t 1).val = 0 :=
  (by decide +kernel : ∀ t : Fin grid0.N, _)

/-- The block of every window of the heads at every grid point. -/
theorem idx1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![t.val, 0] ∧ win1_10.index t = ![t.val, 0]
    ∧ win1_11.index t = ![t.val, 0] ∧ win1_12.index t = ![t.val, 0] ∧ win1_13.index t = ![t.val, 0] ∧ t.val < 8 :=
  (by decide +kernel : ∀ t : Fin grid1.N, _)

/-- The modulated norm of a block. -/
theorem norm_pay (x : Vec Ideal S1024x1024 .f32) (g : Vec Ideal S1x1024 .f32) (w : Vec Ideal S1x8x1024 .f32)
    (r e : Fin 1024) :
    k0_pay1 (F := Ideal) x g w (ix2 r e)
      = modRow (fun d => x (ix2 r d)) (fun d => g (ix2 0 d)) (fun d => w (ix3 0 1 d)) (fun d => w (ix3 0 0 d)) e := by
  unfold modRow rms
  pointwise [k0_pay1]

/-- The projection of a block. -/
theorem proj_pay (w : Vec Ideal S1024x768 .bf16) (h : Vec Ideal S1024x1024 .bf16) (r : Fin 1024) (j : Fin 768) :
    k0_pay2 (F := Ideal) w h (ix2 r j) = ∑ e : Fin 1024, h (ix2 r e) * w (ix2 e j) := by
  pointwise [k0_pay2]

/-- A token's projection, from the kernel's arguments. -/
abbrev prjA (n : Fin 4096) : Fin 704 → EReal :=
  MlaRefIdeal.Prep.prj (m ((c : Thread nD τ).loc main_arg0)) (m ((c : Thread nD τ).loc main_arg1))
    (m ((c : Thread nD τ).loc main_arg2)) (m ((c : Thread nD τ).loc main_arg3)) n

/-- The projection and its filling columns, as an array. -/
def wide : Vec Ideal S4096x768 .f32 :=
  fun i => if h : (i 1).val < 704 then prjA m c (i 0) ⟨(i 1).val, h⟩ else (0 : EReal)

/-- What a point of the projection leaves. -/
theorem proj_point (t : Fin cfg0.N) (r : Fin 1024) (j : Fin 768) (n : Fin 4096) (hn : n.val = t.val * 1024 + r.val) :
    outsAt0 (V9 m ρ) c t (ix2 r j) = wide m c (ix2 n j) := by
  have a0 : ∀ d : Fin 1024, iblk0 (V9 m ρ) c 0 t (ix2 r d) = m ((c : Thread nD τ).loc main_arg0) (ix2 n d) := fun d => by
    refine Eq.trans ?_ (congrFun (W9_args m ρ c main_arg0 (by decide)) _)
    blk_ext [iblk0, idx0 t]
  have a1 : ∀ (a : Fin 8) (d : Fin 1024),
      iblk0 (V9 m ρ) c 1 t (ix3 0 a d) = m ((c : Thread nD τ).loc main_arg1) (ix3 8 a d) := fun a d => by
    refine Eq.trans ?_ (congrFun (W9_args m ρ c main_arg1 (by decide)) _)
    blk_ext [iblk0, idx0 t]
  have a2 : ∀ d : Fin 1024, iblk0 (V9 m ρ) c 2 t (ix2 0 d) = m ((c : Thread nD τ).loc main_arg2) (ix2 0 d) := fun d => by
    refine Eq.trans ?_ (congrFun (W9_args m ρ c main_arg2 (by decide)) _)
    blk_ext [iblk0, idx0 t]
  have a3 : ∀ e : Fin 1024, View.ld (iblk0 (V9 m ρ) c 3 t) (Rect.unit (s := S1024x768) (k0_off1 (grid0.coords t)) ![1024, 768]
      (k0_off1_inb (grid0.coords t))) (ix2 e j) = if h : j.val < 704 then
      m ((c : Thread nD τ).loc main_arg3) (ix2 e ⟨j.val, h⟩) else (0 : EReal) := fun e => by
    have hv : iblk0 (V9 m ρ) c 3 t (ix2 e j) = V9 m ρ c main_v14 (ix2 e j) := by blk_ext [iblk0, idx0 t]
    refine Eq.trans (congrArg (iblk0 (V9 m ρ) c 3 t) ?_) (hv.trans (w_down m ρ c e j))
    refine funext fun a => Fin.ext ?_
    have ho := congrFun (k0_off1_eq (grid0.coords t)) a
    have hj : (grid0.coords t 1).val = 0 := (idx0 t).2.2.2.2.2.2
    fin_cases a <;> simp [Rect.unit, Rect.emb] at ho ⊢ <;> omega
  unfold outsAt0
  frame_out
  rw [proj_pay]
  unfold wide
  by_cases h : j.val < 704
  · refine Eq.trans ?_ (dif_pos h).symm
    refine Finset.sum_congr rfl fun e _ => congrArg₂ (· * ·) ((norm_pay _ _ _ r e).trans
      (modRow_congr a0 a2 (fun d => a1 1 d) (fun d => a1 0 d) e)) ((a3 e).trans (dif_pos h))
  · refine Eq.trans ?_ (dif_neg h).symm
    exact Finset.sum_eq_zero fun e _ => (congrArg (_ * ·) ((a3 e).trans (dif_neg h))).trans (mul_zero _)

/-- The projection the heads are made from. -/
theorem proj_final : W10 m ρ c (Proc.devRef .tc main_v15) = wide m c := by
  refine (W10_arr m ρ c 4).trans ?_
  refine (dat0 (V9 m ρ) c).arrAt_eq_of_covers 4 _ (by decide +kernel) fun t _ y => ?_
  have ht : t.val < 4 := (idx0 t).2.2.2.2.2.1
  blk_simp
  rw [after0_4]
  have hy0 : (y 0).val < 1024 := (y 0).isLt
  have hy1 : (y 1).val < 768 := (y 1).isLt
  refine Eq.trans ?_ ((proj_point m ρ c t (y 0) (y 1) ⟨t.val * 1024 + (y 0).val, by omega⟩ rfl).trans ?_)
  · blk_ext
  · blk_ext [idx0 t]

section
variable (t : Fin cfg1.N)

/-- A block's projection is the tokens'. -/
theorem b0 (r : Fin 512) (n : Fin 4096) (hn : n.val = t.val * 512 + r.val) (j : Fin 768) : iblk1 (V10 m ρ) c 0 t (ix2 r j)
    = if h : j.val < 704 then prjA m c n ⟨j.val, h⟩ else (0 : EReal) := by
  refine Eq.trans ?_ (congrFun (proj_final m ρ c) (ix2 n j))
  blk_ext [iblk1, idx1 t]

/-- The gain of the queries' latent in a block. -/
theorem b1 (d : Fin 384) : iblk1 (V10 m ρ) c 1 t (ix2 0 d)
    = m ((c : Thread nD τ).loc main_arg4) (ix1 d) := by
  refine Eq.trans ?_ (q_lat m ρ c d)
  blk_ext [iblk1, idx1 t]

/-- The gain of the other latent in a block. -/
theorem b2 (d : Fin 256) : iblk1 (V10 m ρ) c 2 t (ix2 0 d)
    = m ((c : Thread nD τ).loc main_arg5) (ix1 d) := by
  refine Eq.trans ?_ (kv_lat m ρ c d)
  blk_ext [iblk1, idx1 t]

/-- The gain of the shared columns in a block. -/
theorem b3 (d : Fin 128) : iblk1 (V10 m ρ) c 3 t (ix2 0 d)
    = if h : d.val < 64 then m ((c : Thread nD τ).loc main_arg6) (ix1 ⟨d.val, h⟩) else (0 : EReal) := by
  refine Eq.trans ?_ (kn_rope m ρ c d)
  blk_ext [iblk1, idx1 t]

/-- The queries' weight in a block. -/
theorem b4 (e : Fin 384) (l : Fin 2048) : iblk1 (V10 m ρ) c 4 t (ix2 e l)
    = if h : l.val % 256 < 192 then m ((c : Thread nD τ).loc main_arg7)
      (ix2 e ⟨l.val / 256 * 192 + l.val % 256, by omega⟩) else (0 : EReal) := by
  refine Eq.trans ?_ (w_uq m ρ c e l)
  blk_ext [iblk1, idx1 t]

/-- The weight of the keys and values in a block. -/
theorem b5 (e : Fin 256) (l : Fin 2048) : iblk1 (V10 m ρ) c 5 t (ix2 e l)
    = m ((c : Thread nD τ).loc main_arg8) (ix2 e l) := by
  refine Eq.trans ?_ (w_ukv m ρ c e l)
  blk_ext [iblk1, idx1 t]

/-- The gain of the queries' first columns in a block. -/
theorem b6 (d : Fin 128) : iblk1 (V10 m ρ) c 6 t (ix2 0 d)
    = m ((c : Thread nD τ).loc main_arg9) (ix1 d) := by
  refine Eq.trans ?_ (qn_nope m ρ c d)
  blk_ext [iblk1, idx1 t]

/-- The gain of the queries' last columns in a block. -/
theorem b7 (d : Fin 128) : iblk1 (V10 m ρ) c 7 t (ix2 0 d)
    = if h : d.val < 64 then m ((c : Thread nD τ).loc main_arg10) (ix1 ⟨d.val, h⟩) else (0 : EReal) := by
  refine Eq.trans ?_ (qn_rope m ρ c d)
  blk_ext [iblk1, idx1 t]

/-- The gain of the keys' own columns in a block. -/
theorem b8 (d : Fin 128) : iblk1 (V10 m ρ) c 8 t (ix2 0 d)
    = m ((c : Thread nD τ).loc main_arg11) (ix1 d) := by
  refine Eq.trans ?_ (kn_nope m ρ c d)
  blk_ext [iblk1, idx1 t]

end

/-- A point's queries. -/
theorem q_point (t : Fin cfg1.N) (r : Fin 512) (l : Fin 2048) (n : Fin 4096) (hn : n.val = t.val * 512 + r.val) :
    out1_9 (iblk1 (V10 m ρ) c 0 t) (iblk1 (V10 m ρ) c 1 t) (iblk1 (V10 m ρ) c 2 t) (iblk1 (V10 m ρ) c 3 t) (iblk1 (V10 m ρ) c 4 t) (iblk1 (V10 m ρ) c 5 t) (iblk1 (V10 m ρ) c 6 t) (iblk1 (V10 m ρ) c 7 t) (iblk1 (V10 m ρ) c 8 t) (ix2 r l)
      = MlaRefIdeal.Read.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg9)) (m ((c : Thread nD τ).loc main_arg10)) (ix2 n l) :=
  (outq_spec _ _ _ _ _ _ _ _ _ (prjA m c n) _ _ _ _ r (b0 m ρ c t r n hn) (b1 m ρ c t) (b4 m ρ c t) (b6 m ρ c t) (b7 m ρ c t) l).trans
    (MlaRefIdeal.Prep.resq_at _ _ _ _ _ _ _ _ n l).symm

/-- The queries. -/
theorem q_final : W12 m ρ c (Proc.devRef .tc main_v16_0)
    = MlaRefIdeal.Read.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg9)) (m ((c : Thread nD τ).loc main_arg10)) := by
  refine (W12_of m ρ c main_v16_0 (by decide)).trans ((W11_arr m ρ c 9).trans ?_)
  refine (dat1 (V10 m ρ) c).arrAt_eq_of_covers 9 _ (by decide +kernel) fun t _ y => ?_
  have ht : t.val < 8 := (idx1 t).2.2.2.2.2.2.2.2.2.2.2.2.2.2
  blk_simp
  rw [after1_9]
  have hy0 : (y 0).val < 512 := (y 0).isLt
  have hy1 : (y 1).val < 2048 := (y 1).isLt
  refine Eq.trans ?_ ((q_point m ρ c t (y 0) (y 1) ⟨t.val * 512 + (y 0).val, by omega⟩ rfl).trans ?_)
  · blk_ext
  · blk_ext [idx1 t]

/-- A point's keys. -/
theorem k_point (t : Fin cfg1.N) (r : Fin 512) (l : Fin 2048) (n : Fin 4096) (hn : n.val = t.val * 512 + r.val) :
    out1_10 (iblk1 (V10 m ρ) c 0 t) (iblk1 (V10 m ρ) c 1 t) (iblk1 (V10 m ρ) c 2 t) (iblk1 (V10 m ρ) c 3 t) (iblk1 (V10 m ρ) c 4 t) (iblk1 (V10 m ρ) c 5 t) (iblk1 (V10 m ρ) c 6 t) (iblk1 (V10 m ρ) c 7 t) (iblk1 (V10 m ρ) c 8 t) (ix2 r l)
      = MlaRefIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) (m ((c : Thread nD τ).loc main_arg11)) (ix2 n l) :=
  (outk_spec _ _ _ _ _ _ _ _ _ (prjA m c n) _ _ _ _ r (b0 m ρ c t r n hn) (b2 m ρ c t) (b3 m ρ c t) (b5 m ρ c t) (b8 m ρ c t) l).trans
    (MlaRefIdeal.Prep.resk_at _ _ _ _ _ _ _ _ n l).symm

/-- The keys. -/
theorem k_final : W12 m ρ c (Proc.devRef .tc main_v16_1)
    = MlaRefIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) (m ((c : Thread nD τ).loc main_arg11)) := by
  refine (W12_of m ρ c main_v16_1 (by decide)).trans ((W11_arr m ρ c 10).trans ?_)
  refine (dat1 (V10 m ρ) c).arrAt_eq_of_covers 10 _ (by decide +kernel) fun t _ y => ?_
  have ht : t.val < 8 := (idx1 t).2.2.2.2.2.2.2.2.2.2.2.2.2.2
  blk_simp
  rw [after1_10]
  have hy0 : (y 0).val < 512 := (y 0).isLt
  have hy1 : (y 1).val < 2048 := (y 1).isLt
  refine Eq.trans ?_ ((k_point m ρ c t (y 0) (y 1) ⟨t.val * 512 + (y 0).val, by omega⟩ rfl).trans ?_)
  · blk_ext
  · blk_ext [idx1 t]

/-- A point's values. -/
theorem v_point (t : Fin cfg1.N) (r : Fin 512) (l : Fin 1024) (n : Fin 4096) (hn : n.val = t.val * 512 + r.val) :
    out1_11 (iblk1 (V10 m ρ) c 0 t) (iblk1 (V10 m ρ) c 1 t) (iblk1 (V10 m ρ) c 2 t) (iblk1 (V10 m ρ) c 3 t) (iblk1 (V10 m ρ) c 4 t) (iblk1 (V10 m ρ) c 5 t) (iblk1 (V10 m ρ) c 6 t) (iblk1 (V10 m ρ) c 7 t) (iblk1 (V10 m ρ) c 8 t) (ix2 r l)
      = MlaRefIdeal.Read.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg8)) (ix2 n l) :=
  (outv_at _ _ _ _ _ _ _ _ _ r l).trans ((kvBlk_spec _ _ _ (prjA m c n) _ _ r (b0 m ρ c t r n hn) (b2 m ρ c t) (b5 m ρ c t) _).trans
    (MlaRefIdeal.Prep.resv_at _ _ _ _ _ _ n l).symm)

/-- The values. -/
theorem v_final : W12 m ρ c (Proc.devRef .tc main_v16_2)
    = MlaRefIdeal.Read.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg8)) := by
  refine (W12_of m ρ c main_v16_2 (by decide)).trans ((W11_arr m ρ c 11).trans ?_)
  refine (dat1 (V10 m ρ) c).arrAt_eq_of_covers 11 _ (by decide +kernel) fun t _ y => ?_
  have ht : t.val < 8 := (idx1 t).2.2.2.2.2.2.2.2.2.2.2.2.2.2
  blk_simp
  rw [after1_11]
  have hy0 : (y 0).val < 512 := (y 0).isLt
  have hy1 : (y 1).val < 1024 := (y 1).isLt
  refine Eq.trans ?_ ((v_point m ρ c t (y 0) (y 1) ⟨t.val * 512 + (y 0).val, by omega⟩ rfl).trans ?_)
  · blk_ext
  · blk_ext [idx1 t]

/-- A point's latent. -/
theorem c_point (t : Fin cfg1.N) (r : Fin 512) (l : Fin 256) (n : Fin 4096) (hn : n.val = t.val * 512 + r.val) :
    out1_12 (iblk1 (V10 m ρ) c 0 t) (iblk1 (V10 m ρ) c 1 t) (iblk1 (V10 m ρ) c 2 t) (iblk1 (V10 m ρ) c 3 t) (iblk1 (V10 m ρ) c 4 t) (iblk1 (V10 m ρ) c 5 t) (iblk1 (V10 m ρ) c 6 t) (iblk1 (V10 m ρ) c 7 t) (iblk1 (V10 m ρ) c 8 t) (ix2 r l)
      = MlaRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 n l) :=
  (outc_at _ _ _ _ _ _ _ _ _ r l).trans ((cBlk_spec _ _ (prjA m c n) _ r (b0 m ρ c t r n hn) (b2 m ρ c t) l).trans
    (MlaRefIdeal.Prep.ckv_at _ _ _ _ _ _ n l rfl rfl).symm)

/-- The latent. -/
theorem c_final : W12 m ρ c (Proc.devRef .tc main_v16_3)
    = MlaRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (W12_of m ρ c main_v16_3 (by decide)).trans ((W11_arr m ρ c 12).trans ?_)
  refine (dat1 (V10 m ρ) c).arrAt_eq_of_covers 12 _ (by decide +kernel) fun t _ y => ?_
  have ht : t.val < 8 := (idx1 t).2.2.2.2.2.2.2.2.2.2.2.2.2.2
  blk_simp
  rw [after1_12]
  have hy0 : (y 0).val < 512 := (y 0).isLt
  have hy1 : (y 1).val < 256 := (y 1).isLt
  refine Eq.trans ?_ ((c_point m ρ c t (y 0) (y 1) ⟨t.val * 512 + (y 0).val, by omega⟩ rfl).trans ?_)
  · blk_ext
  · blk_ext [idx1 t]

/-- The shared columns and the columns they are filled up with, as an array. -/
def shared : Vec Ideal S4096x128 .f32 :=
  fun i => if h : (i 1).val < 64 then kr (prjA m c (i 0)) (fun d => m ((c : Thread nD τ).loc main_arg6) (ix1 d)) ⟨(i 1).val, h⟩
    else (0 : EReal)

/-- A point's shared columns. -/
theorem r_point (t : Fin cfg1.N) (r : Fin 512) (l : Fin 128) (n : Fin 4096) (hn : n.val = t.val * 512 + r.val) :
    out1_13 (iblk1 (V10 m ρ) c 0 t) (iblk1 (V10 m ρ) c 1 t) (iblk1 (V10 m ρ) c 2 t) (iblk1 (V10 m ρ) c 3 t) (iblk1 (V10 m ρ) c 4 t) (iblk1 (V10 m ρ) c 5 t) (iblk1 (V10 m ρ) c 6 t) (iblk1 (V10 m ρ) c 7 t) (iblk1 (V10 m ρ) c 8 t) (ix2 r l)
      = shared m c (ix2 n l) :=
  (outr_at _ _ _ _ _ _ _ _ _ r l).trans (rBlk_spec _ _ (prjA m c n) _ r (b0 m ρ c t r n hn) (b3 m ρ c t) l)

/-- The shared columns, with their filling. -/
theorem r_full : W11 m ρ c (Proc.devRef .tc main_v16_4) = shared m c := by
  refine (W11_arr m ρ c 13).trans ?_
  refine (dat1 (V10 m ρ) c).arrAt_eq_of_covers 13 _ (by decide +kernel) fun t _ y => ?_
  have ht : t.val < 8 := (idx1 t).2.2.2.2.2.2.2.2.2.2.2.2.2.2
  blk_simp
  rw [after1_13]
  have hy0 : (y 0).val < 512 := (y 0).isLt
  have hy1 : (y 1).val < 128 := (y 1).isLt
  refine Eq.trans ?_ ((r_point m ρ c t (y 0) (y 1) ⟨t.val * 512 + (y 0).val, by omega⟩ rfl).trans ?_)
  · blk_ext
  · blk_ext [idx1 t]

/-- The shared columns. -/
theorem r_final : W12 m ρ c (Proc.devRef .tc main_v17)
    = MlaRefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  have hv : W12 m ρ c (Proc.devRef .tc main_v17) = extractStridedSlice S4096x64 ![0, 0] (shared m c)
      slices_S4096x128_S4096x64_0_0 := by
    rw [← r_full m ρ c]
    after_reads_simp
  rw [hv]
  funext i
  have hi : (i 1).val < 64 := (i 1).isLt
  rw [MlaRefIdeal.Prep.kr_at _ _ _ _ _ i (i 0) (i 1) rfl rfl, eq_ix2 i]
  pointwise
  unfold shared
  exact (dif_pos (by simpa using hi)).trans (by rfl)

end Cert.MlaIdeal.Prep

end
-- ==== Proof.lean ====
/- The claims about the two attention calls, the feed-forward call, the norm with its projections and the preparations
   of queries, keys and values, from the value theorems of Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MixMlp
public import proofs.«01_k».proof.Proof.Gen.MixMlp.Frame
public import proofs.«01_k».proof.Proof.Gen.MixMlpIdeal
public import proofs.«01_k».proof.Proof.Gen.MixMlpIdeal.Frame
public import proofs.«01_k».proof.Proof.Gen.MixMlpIdeal.Value
public import proofs.«01_k».proof.Proof.Gen.MixMlpRefIdeal
public import proofs.«01_k».proof.Proof.Gen.MixMlpRefIdeal.Run
public import proofs.«01_k».proof.Proof.Gen.MixMlpRefIdeal.Read
public import proofs.«01_k».proof.Proof.Gen.Latent
public import proofs.«01_k».proof.Proof.Gen.Latent.Frame
public import proofs.«01_k».proof.Proof.Gen.LatentIdeal
public import proofs.«01_k».proof.Proof.Gen.LatentIdeal.Frame
public import proofs.«01_k».proof.Proof.Gen.LatentIdeal.Value
public import proofs.«01_k».proof.Proof.Gen.LatentRefIdeal
public import proofs.«01_k».proof.Proof.Gen.LatentRefIdeal.Run
public import proofs.«01_k».proof.Proof.Gen.LatentRefIdeal.Read
public import proofs.«01_k».proof.Proof.Gen.NormProj
public import proofs.«01_k».proof.Proof.Gen.NormProj.Skeleton
public import proofs.«01_k».proof.Proof.Gen.NormProj.Launch
public import proofs.«01_k».proof.Proof.Gen.NormProj.Points
public import proofs.«01_k».proof.Proof.Gen.NormProjIdeal
public import proofs.«01_k».proof.Proof.Gen.NormProjIdeal.Skeleton
public import proofs.«01_k».proof.Proof.Gen.NormProjIdeal.Launch
public import proofs.«01_k».proof.Proof.Gen.NormProjIdeal.Points
public import proofs.«01_k».proof.Proof.Gen.NormProjRefIdeal
public import proofs.«01_k».proof.Proof.Gen.NormProjRefIdeal.Run
public import proofs.«01_k».proof.Proof.Gen.NormProjRefIdeal.Read
public import proofs.«01_k».proof.Proof.Gen.GqaPrep
public import proofs.«01_k».proof.Proof.Gen.GqaPrep.Frame
public import proofs.«01_k».proof.Proof.Gen.GqaPrepIdeal
public import proofs.«01_k».proof.Proof.Gen.GqaPrepIdeal.Frame
public import proofs.«01_k».proof.Proof.Gen.GqaPrepIdeal.Value
public import proofs.«01_k».proof.Proof.Gen.GqaPrepRefIdeal
public import proofs.«01_k».proof.Proof.Gen.GqaPrepRefIdeal.Run
public import proofs.«01_k».proof.Proof.Gen.GqaPrepRefIdeal.Read
public import proofs.«01_k».proof.Proof.Gen.Mla
public import proofs.«01_k».proof.Proof.Gen.Mla.Frame
public import proofs.«01_k».proof.Proof.Gen.MlaIdeal
public import proofs.«01_k».proof.Proof.Gen.MlaIdeal.Frame
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.GqaPos
public import proofs.«01_k».proof.Proof.Gen.GqaPos.Frame
public import proofs.«01_k».proof.Proof.Gen.GqaPosIdeal
public import proofs.«01_k».proof.Proof.Gen.GqaPosIdeal.Frame
public import proofs.«01_k».proof.Proof.Gen.GqaPosIdeal.Value
public import proofs.«01_k».proof.Proof.Gen.GqaPosRefIdeal
public import proofs.«01_k».proof.Proof.Gen.GqaPosRefIdeal.Run
public import proofs.«01_k».proof.Proof.Gen.GqaPosRefIdeal.Read
public import proofs.«01_k».proof.Proof.Gen.MlaPos
public import proofs.«01_k».proof.Proof.Gen.MlaPos.Frame
public import proofs.«01_k».proof.Proof.Gen.MlaPosIdeal
public import proofs.«01_k».proof.Proof.Gen.MlaPosIdeal.Frame
public import proofs.«01_k».proof.Proof.Gen.MlaPosIdeal.Value
public import proofs.«01_k».proof.Proof.Gen.MlaPosRefIdeal
public import proofs.«01_k».proof.Proof.Gen.MlaPosRefIdeal.Run
public import proofs.«01_k».proof.Proof.Gen.MlaPosRefIdeal.Read
public import proofs.«01_k».proof.Proof.Gen.MlaCtx
public import proofs.«01_k».proof.Proof.Gen.MlaCtx.Frame
public import proofs.«01_k».proof.Proof.Gen.MlaCtxIdeal
public import proofs.«01_k».proof.Proof.Gen.MlaCtxIdeal.Frame
public import proofs.«01_k».proof.Proof.Gen.MlaCtxIdeal.Value
public import proofs.«01_k».proof.Proof.Gen.MlaCtxRefIdeal
public import proofs.«01_k».proof.Proof.Gen.MlaCtxRefIdeal.Run
public import proofs.«01_k».proof.Proof.Gen.MlaCtxRefIdeal.Read
public import proofs.«01_k».proof.Proof.Gen.Adaln
public import proofs.«01_k».proof.Proof.Gen.Adaln.Frame
public import proofs.«01_k».proof.Proof.Gen.AdalnIdeal
public import proofs.«01_k».proof.Proof.Gen.AdalnIdeal.Frame
public import proofs.«01_k».proof.Proof.Gen.AdalnIdeal.Value
public import proofs.«01_k».proof.Proof.Gen.AdalnRefIdeal
public import proofs.«01_k».proof.Proof.Gen.AdalnRefIdeal.Run
public import proofs.«01_k».proof.Proof.Gen.AdalnRefIdeal.Read
public import proofs.«01_k».proof.Proof.AttnValue
public import proofs.«01_k».proof.Proof.MlpValue
public import proofs.«01_k».proof.Proof.LatentValue
public import proofs.«01_k».proof.Proof.NormProjFrame
public import proofs.«01_k».proof.Proof.NormProjValue
public import proofs.«01_k».proof.Proof.GqaValue
public import proofs.«01_k».proof.Proof.GqaPosValue
public import proofs.«01_k».proof.Proof.MlaPosValue
public import proofs.«01_k».proof.Proof.MlaCtxValue
public import proofs.«01_k».proof.Proof.AdalnValue
public import proofs.«01_k».proof.Proof.MlaRun
public import proofs.«01_k».proof.Proof.MlaValue
public import Idealize.ShloMosaic.Adequacy
public import Idealize.ShloMosaic.Init

@[expose] public section

noncomputable section

namespace Cert.Proof

open Idealize.ShloMosaic Idealize.SL.Sem

/-- The attention call computes the reference's attention, when the scores' arguments are finite. -/
theorem attention : letI := Cert.KernelIdeal.Gen.facts; letI := Cert.ReferenceIdeal.Gen.facts
    letI := Cert.KernelIdeal.Attn.preFacts; Cert.algebraic_KernelIdeal_ReferenceIdeal_pre_finite_scores := by
  pair_intro
  · run_from Cert.KernelIdeal.Gen.run_main m g
  · run_from Cert.ReferenceIdeal.Value.run m' g'
    rw [Cert.ReferenceIdeal.Read.val_main_v27_eq m' c, (hagree c).1, (hagree c).2.1, (hagree c).2.2.1, (hagree c).2.2.2.1,
      (hagree c).2.2.2.2]
    obtain ⟨h0, h1, h3⟩ := Cert.KernelIdeal.Attn.finite _ _ _ _ _ (hpre c)
    exact (Cert.KernelIdeal.Attn.final m c h0 h1 h3).symm

/-- The feed-forward call computes the reference's output projection, residual and feed-forward. -/
theorem mixMlp : letI := Cert.MixMlpIdeal.Gen.facts; letI := Cert.MixMlpRefIdeal.Gen.facts
    Cert.algebraic_MixMlpIdeal_MixMlpRefIdeal := by
  pair_intro
  · run_from Cert.MixMlpIdeal.Gen.run_main m g
  · run_from Cert.MixMlpRefIdeal.Value.run m' g'
    rw [Cert.MixMlpRefIdeal.Read.val_main_v51_eq m' c, (hagree c).1, (hagree c).2.1, (hagree c).2.2.1, (hagree c).2.2.2.1,
      (hagree c).2.2.2.2.1, (hagree c).2.2.2.2.2.1, (hagree c).2.2.2.2.2.2]
    exact (Cert.MixMlpIdeal.Mlp.final m c).symm

/-- The latent attention call computes the reference's attention, when the scores' arguments are finite. -/
theorem latent : letI := Cert.LatentIdeal.Gen.facts; letI := Cert.LatentRefIdeal.Gen.facts
    letI := Cert.LatentIdeal.Attn.preFacts; Cert.algebraic_LatentIdeal_LatentRefIdeal_pre_finite_latent := by
  pair_intro
  · run_from Cert.LatentIdeal.Gen.run_main m g
  · run_from Cert.LatentRefIdeal.Value.run m' g'
    rw [Cert.LatentRefIdeal.Read.val_main_v30_eq m' c, (hagree c).1, (hagree c).2.1, (hagree c).2.2.1, (hagree c).2.2.2.1,
      (hagree c).2.2.2.2]
    obtain ⟨h0, h1, h3⟩ := Cert.LatentIdeal.Attn.finite _ _ _ _ _ (hpre c)
    exact (Cert.LatentIdeal.Attn.final m c h0 h1 h3).symm

/-- The call that norms its rows and projects them computes the reference's two projections. -/
theorem normProj : letI := Cert.NormProjIdeal.Gen.facts; letI := Cert.NormProjRefIdeal.Gen.facts
    Cert.algebraic_NormProjIdeal_NormProjRefIdeal := by
  pair_intro
  · run_from Cert.NormProjIdeal.Gen.run_main m g
  · run_from Cert.NormProjRefIdeal.Value.run m' g'
    · exact (Cert.NormProjRefIdeal.Read.val_main_v30_eq _ _ _ _).trans (Cert.NormProjIdeal.Proj.final5 m c).symm
    · exact (Cert.NormProjRefIdeal.Read.val_main_v33_eq _ _ _ _).trans (Cert.NormProjIdeal.Proj.final6 m c).symm

set_option maxHeartbeats 1000000 in
/-- The call that prepares queries, keys and values computes the reference's, in all five results. -/
theorem gqaPrep : letI := Cert.GqaPrepIdeal.Gen.facts; letI := Cert.GqaPrepRefIdeal.Gen.facts
    Cert.algebraic_GqaPrepIdeal_GqaPrepRefIdeal := by
  pair_intro
  · run_from Cert.GqaPrepIdeal.Gen.run_main m g
  · run_from Cert.GqaPrepRefIdeal.Value.run m' g'
    · rw [Cert.GqaPrepRefIdeal.Read.val_main_v68_eq m' c, (hagree c).1, (hagree c).2.1, (hagree c).2.2.1, (hagree c).2.2.2.1,
        (hagree c).2.2.2.2.1]
      exact (Cert.GqaPrepIdeal.Prep.final6 m c).symm
    · rw [Cert.GqaPrepRefIdeal.Read.val_main_v69_eq m' c, (hagree c).1, (hagree c).2.1, (hagree c).2.2.1, (hagree c).2.2.2.1,
        (hagree c).2.2.2.2.2]
      exact (Cert.GqaPrepIdeal.Prep.final7 m c).symm
    · exact (Cert.GqaPrepRefIdeal.Read.val_main_v70_eq _ _ _ _).trans (Cert.GqaPrepIdeal.Prep.final8 m c).symm
    · rw [Cert.GqaPrepRefIdeal.Read.val_main_v61_eq m' c, (hagree c).1, (hagree c).2.1, (hagree c).2.2.1, (hagree c).2.2.2.1,
        (hagree c).2.2.2.2.2]
      exact (Cert.GqaPrepIdeal.Prep.final9 m c).symm
    · exact (Cert.GqaPrepRefIdeal.Read.val_main_v32_eq _ _ _ _).trans (Cert.GqaPrepIdeal.Prep.final10 m c).symm

/-- The query scale is one literal of the kernel, named by its real value. -/
theorem scale : Cert.preserves_GqaPrep_GqaPrepIdeal :=
  IdealRules.named_const.statement Cert.GqaPrepIdeal.κ "q_scale" .f32 0x3E0293EE#32
    (((Real.log 2)⁻¹ * (Real.sqrt 128)⁻¹ : ℝ) : EReal) rfl

set_option maxHeartbeats 1000000 in
/-- The call that prepares the latent mixer's queries, keys, values and cache computes the reference's, in all five results. -/
theorem mla : letI := Cert.MlaIdeal.Gen.facts; letI := Cert.MlaRefIdeal.Gen.facts
    Cert.algebraic_MlaIdeal_MlaRefIdeal := by
  pair_intro
  · run_from Cert.MlaIdeal.Gen.results m g
  · run_from Cert.MlaRefIdeal.Value.run m' g'
    · rw [Cert.MlaRefIdeal.Read.val_main_v132_eq m' c, (hagree c).1, (hagree c).2.1, (hagree c).2.2.1, (hagree c).2.2.2.1, (hagree c).2.2.2.2.1, (hagree c).2.2.2.2.2.2.2.1, (hagree c).2.2.2.2.2.2.2.2.2.1, (hagree c).2.2.2.2.2.2.2.2.2.2.1]
      exact (Cert.MlaIdeal.Prep.q_final m g c).symm
    · rw [Cert.MlaRefIdeal.Read.val_main_v133_eq m' c, (hagree c).1, (hagree c).2.1, (hagree c).2.2.1, (hagree c).2.2.2.1, (hagree c).2.2.2.2.2.1, (hagree c).2.2.2.2.2.2.1, (hagree c).2.2.2.2.2.2.2.2.1, (hagree c).2.2.2.2.2.2.2.2.2.2.2]
      exact (Cert.MlaIdeal.Prep.k_final m g c).symm
    · rw [Cert.MlaRefIdeal.Read.val_main_v134_eq m' c, (hagree c).1, (hagree c).2.1, (hagree c).2.2.1, (hagree c).2.2.2.1, (hagree c).2.2.2.2.2.1, (hagree c).2.2.2.2.2.2.2.2.1]
      exact (Cert.MlaIdeal.Prep.v_final m g c).symm
    · rw [Cert.MlaRefIdeal.Read.val_main_v40_eq m' c, (hagree c).1, (hagree c).2.1, (hagree c).2.2.1, (hagree c).2.2.2.1, (hagree c).2.2.2.2.2.1]
      exact (Cert.MlaIdeal.Prep.c_final m g c).symm
    · rw [Cert.MlaRefIdeal.Read.val_main_v54_eq m' c, (hagree c).1, (hagree c).2.1, (hagree c).2.2.1, (hagree c).2.2.2.1, (hagree c).2.2.2.2.2.2.1]
      exact (Cert.MlaIdeal.Prep.r_final m g c).symm

/-- The two named literals of the preparation of the latent mixer. -/
theorem latentNames : Cert.preserves_Mla_MlaIdeal :=
  ⟨IdealRules.named_const.statement Cert.MlaIdeal.κ "inv_384" .f32 0x3B2AAAAB#32 ((384⁻¹ : ℝ) : EReal) rfl,
    IdealRules.named_const.statement Cert.MlaIdeal.κ "q_scale" .f32 0x3DD53B95#32
      (((Real.log 2)⁻¹ * (Real.sqrt 192)⁻¹ : ℝ) : EReal) rfl⟩

set_option maxHeartbeats 1000000 in
/-- The call that prepares the latent tokens' queries, keys and values, with positions, computes the reference's five results. -/
theorem gqaPos : letI := Cert.GqaPosIdeal.Gen.facts; letI := Cert.GqaPosRefIdeal.Gen.facts
    Cert.algebraic_GqaPosIdeal_GqaPosRefIdeal := by
  pair_intro
  · run_from Cert.GqaPosIdeal.Value.run_blocks m g
  · run_from Cert.GqaPosRefIdeal.Value.run m' g'
    · refine Eq.trans ?_ (Cert.GqaPosIdeal.Pos.final8 m c).symm
      rw [← (hagree c).1, ← (hagree c).2.1, ← (hagree c).2.2.1,
        ← (hagree c).2.2.2.1, ← (hagree c).2.2.2.2.1, ← (hagree c).2.2.2.2.2.2.1, ← (hagree c).2.2.2.2.2.2.2]
      exact Cert.GqaPosRefIdeal.Read.val_main_v121_eq (StableHlo.launchContents m' c)
    · refine Eq.trans ?_ (Cert.GqaPosIdeal.Pos.final9 m c).symm
      rw [← (hagree c).1, ← (hagree c).2.1, ← (hagree c).2.2.1,
        ← (hagree c).2.2.2.1, ← (hagree c).2.2.2.2.2.1, ← (hagree c).2.2.2.2.2.2.1, ← (hagree c).2.2.2.2.2.2.2]
      exact Cert.GqaPosRefIdeal.Read.val_main_v170_eq (StableHlo.launchContents m' c)
    · refine Eq.trans ?_ (Cert.GqaPosIdeal.Pos.final10 m c).symm
      rw [← (hagree c).1, ← (hagree c).2.1, ← (hagree c).2.2.1,
        ← (hagree c).2.2.2.1]
      exact Cert.GqaPosRefIdeal.Read.val_main_v171_eq (StableHlo.launchContents m' c)
    · refine Eq.trans ?_ (Cert.GqaPosIdeal.Pos.final11 m c).symm
      rw [← (hagree c).1, ← (hagree c).2.1, ← (hagree c).2.2.1,
        ← (hagree c).2.2.2.1, ← (hagree c).2.2.2.2.2.1]
      exact Cert.GqaPosRefIdeal.Read.val_main_v172_eq (StableHlo.launchContents m' c)
    · refine Eq.trans ?_ (Cert.GqaPosIdeal.Pos.final12 m c).symm
      rw [← (hagree c).1, ← (hagree c).2.1, ← (hagree c).2.2.1,
        ← (hagree c).2.2.2.1]
      exact Cert.GqaPosRefIdeal.Read.val_main_v119_eq (StableHlo.launchContents m' c)

/-- The same query scale in the call with positions. -/
theorem scalePos : Cert.preserves_GqaPos_GqaPosIdeal :=
  IdealRules.named_const.statement Cert.GqaPosIdeal.κ "q_scale" .f32 0x3E0293EE#32
    (((Real.log 2)⁻¹ * (Real.sqrt 128)⁻¹ : ℝ) : EReal) rfl

/-- The named constants of the latent tokens' preparation. -/
theorem mlaPosNames : Cert.preserves_MlaPos_MlaPosIdeal :=
  ⟨IdealRules.named_const.statement Cert.MlaPosIdeal.κ "inv_384" .f32 0x3B2AAAAB#32 ((384⁻¹ : ℝ) : EReal) rfl,
    IdealRules.named_const.statement Cert.MlaPosIdeal.κ "q_scale" .f32 0x3DD53B95#32
      (((Real.log 2)⁻¹ * (Real.sqrt 192)⁻¹ : ℝ) : EReal) rfl⟩

set_option maxHeartbeats 1000000 in
/-- The latent tokens' preparation, positions included: its five results are the reference's. -/
theorem mlaPos : letI := Cert.MlaPosIdeal.Gen.facts; letI := Cert.MlaPosRefIdeal.Gen.facts
    Cert.algebraic_MlaPosIdeal_MlaPosRefIdeal := by
  pair_intro
  · run_from Cert.MlaPosIdeal.Value.run_blocks m g
  · run_from Cert.MlaPosRefIdeal.Value.run m' g'
    · refine Eq.trans ?_ (Cert.MlaPosIdeal.Pos.final11 m c).symm
      rw [← (hagree c).1, ← (hagree c).2.1, ← (hagree c).2.2.2.2.1, ← (hagree c).2.2.2.2.2.2.1, ← (hagree c).2.2.2.2.2.2.2.1, ← (hagree c).2.2.2.2.2.2.2.2.2.1, ← (hagree c).2.2.2.2.2.2.2.2.2.2]
      exact Cert.MlaPosRefIdeal.Read.val_main_v205_eq (StableHlo.launchContents m' c)
    · refine Eq.trans ?_ (Cert.MlaPosIdeal.Pos.final12 m c).symm
      rw [← (hagree c).1, ← (hagree c).2.2.1, ← (hagree c).2.2.2.1, ← (hagree c).2.2.2.2.2.1, ← (hagree c).2.2.2.2.2.2.2.2.1, ← (hagree c).2.2.2.2.2.2.2.2.2.1, ← (hagree c).2.2.2.2.2.2.2.2.2.2]
      exact Cert.MlaPosRefIdeal.Read.val_main_v206_eq (StableHlo.launchContents m' c)
    · refine Eq.trans ?_ (Cert.MlaPosIdeal.Pos.final13 m c).symm
      rw [← (hagree c).1, ← (hagree c).2.2.1, ← (hagree c).2.2.2.2.2.1]
      exact Cert.MlaPosRefIdeal.Read.val_main_v207_eq (StableHlo.launchContents m' c)
    · refine Eq.trans ?_ (Cert.MlaPosIdeal.Pos.final14 m c).symm
      rw [← (hagree c).1, ← (hagree c).2.2.1]
      exact Cert.MlaPosRefIdeal.Read.val_main_v19_eq (StableHlo.launchContents m' c)
    · refine Eq.trans ?_ (Cert.MlaPosIdeal.Pos.final15 m c).symm
      rw [← (hagree c).1, ← (hagree c).2.2.2.1]
      exact Cert.MlaPosRefIdeal.Read.val_main_v208_eq (StableHlo.launchContents m' c)

/-- The call that prepares the cache of the latent mixer computes the reference's keys and values. -/
theorem mlaCtx : letI := Cert.MlaCtxIdeal.Gen.facts; letI := Cert.MlaCtxRefIdeal.Gen.facts
    Cert.algebraic_MlaCtxIdeal_MlaCtxRefIdeal := by
  pair_intro
  · run_from Cert.MlaCtxIdeal.Value.run_blocks m g
  · run_from Cert.MlaCtxRefIdeal.Value.run m' g'
    · refine Eq.trans ?_ (Cert.MlaCtxIdeal.Ctx.final4 m c).symm
      rw [← (hagree c).1, ← (hagree c).2.1, ← (hagree c).2.2.1, ← (hagree c).2.2.2]
      exact Cert.MlaCtxRefIdeal.Read.val_main_v21_eq _ _ _ _
    · refine Eq.trans ?_ (Cert.MlaCtxIdeal.Ctx.final5 m c).symm
      rw [← (hagree c).1, ← (hagree c).2.2.1]
      exact Cert.MlaCtxRefIdeal.Read.val_main_v24_eq _ _

/-- The call that makes the modulation's rows computes the reference's. -/
theorem adaln : letI := Cert.AdalnIdeal.Gen.facts; letI := Cert.AdalnRefIdeal.Gen.facts
    Cert.algebraic_AdalnIdeal_AdalnRefIdeal := by
  pair_intro
  · run_from Cert.AdalnIdeal.Value.run_blocks m g
  · run_from Cert.AdalnRefIdeal.Value.run m' g'
    refine Eq.trans ?_ (Cert.AdalnIdeal.Mod.final3 m c).symm
    rw [← (hagree c).1, ← (hagree c).2.1, ← (hagree c).2.2]
    exact Cert.AdalnRefIdeal.Read.val_main_v5_eq _ _ _

theorem claim : Cert.Claim :=
  ⟨Cert.Kernel.Gen.facts, Cert.KernelIdeal.Gen.facts, Cert.ReferenceIdeal.Gen.facts, Cert.MixMlp.Gen.facts,
    Cert.MixMlpIdeal.Gen.facts, Cert.MixMlpRefIdeal.Gen.facts, Cert.Latent.Gen.facts, Cert.LatentIdeal.Gen.facts,
    Cert.LatentRefIdeal.Gen.facts, Cert.NormProj.Gen.facts, Cert.NormProjIdeal.Gen.facts, Cert.NormProjRefIdeal.Gen.facts,
    Cert.GqaPrep.Gen.facts, Cert.GqaPrepIdeal.Gen.facts, Cert.GqaPrepRefIdeal.Gen.facts,
    Cert.Mla.Gen.facts, Cert.MlaIdeal.Gen.facts, Cert.MlaRefIdeal.Gen.facts,
    Cert.GqaPos.Gen.facts, Cert.GqaPosIdeal.Gen.facts, Cert.GqaPosRefIdeal.Gen.facts,
    Cert.MlaPos.Gen.facts, Cert.MlaPosIdeal.Gen.facts, Cert.MlaPosRefIdeal.Gen.facts,
    Cert.MlaCtx.Gen.facts, Cert.MlaCtxIdeal.Gen.facts, Cert.MlaCtxRefIdeal.Gen.facts,
    Cert.Adaln.Gen.facts, Cert.AdalnIdeal.Gen.facts, Cert.AdalnRefIdeal.Gen.facts,
    Cert.KernelIdeal.Attn.preFacts, Cert.LatentIdeal.Attn.preFacts,
    fun m g _ => Cert.Kernel.Gen.frame m g,
    fun m g _ => Cert.KernelIdeal.Gen.frame m g,
    fun m g _ => Cert.KernelIdeal.Gen.frame m g,
    fun m g _ => θ_run_mono (Cert.ReferenceIdeal.Value.run m g) fun _ h => ⟨fun c => (h c).2, sem_eq_zero_of_no_sems (by decide) _⟩,
    fun m g _ => θ_run_mono (Cert.ReferenceIdeal.Value.run m g) fun _ h => ⟨fun c => (h c).2, sem_eq_zero_of_no_sems (by decide) _⟩,
    fun m g _ => Cert.MixMlp.Gen.frame m g,
    fun m g _ => Cert.MixMlpIdeal.Gen.frame m g,
    fun m g _ => θ_run_mono (Cert.MixMlpRefIdeal.Value.run m g) fun _ h => ⟨fun c => (h c).2, sem_eq_zero_of_no_sems (by decide) _⟩,
    fun m g _ => Cert.Latent.Gen.frame m g,
    fun m g _ => Cert.LatentIdeal.Gen.frame m g,
    fun m g _ => Cert.LatentIdeal.Gen.frame m g,
    fun m g _ => θ_run_mono (Cert.LatentRefIdeal.Value.run m g) fun _ h => ⟨fun c => (h c).2, sem_eq_zero_of_no_sems (by decide) _⟩,
    fun m g _ => θ_run_mono (Cert.LatentRefIdeal.Value.run m g) fun _ h => ⟨fun c => (h c).2, sem_eq_zero_of_no_sems (by decide) _⟩,
    fun m g _ => Cert.NormProj.Gen.frame m g,
    fun m g _ => Cert.NormProjIdeal.Gen.frame m g,
    fun m g _ => θ_run_mono (Cert.NormProjRefIdeal.Value.run m g) fun _ h => ⟨fun c => (h c).2.2, sem_eq_zero_of_no_sems (by decide) _⟩,
    fun m g _ => Cert.GqaPrep.Gen.frame m g,
    fun m g _ => Cert.GqaPrepIdeal.Gen.frame m g,
    fun m g _ => θ_run_mono (Cert.GqaPrepRefIdeal.Value.run m g) fun _ h => ⟨fun c => (h c).2.2.2.2.2, sem_eq_zero_of_no_sems (by decide) _⟩,
    fun m g _ => Cert.Mla.Gen.frame m g,
    fun m g _ => Cert.MlaIdeal.Gen.frame m g,
    fun m g _ => θ_run_mono (Cert.MlaRefIdeal.Value.run m g) fun _ h => ⟨fun c => (h c).2.2.2.2.2, sem_eq_zero_of_no_sems (by decide) _⟩,
    fun m g _ => Cert.GqaPos.Gen.frame m g,
    fun m g _ => Cert.GqaPosIdeal.Gen.frame m g,
    fun m g _ => θ_run_mono (Cert.GqaPosRefIdeal.Value.run m g) fun _ h => ⟨fun c => (h c).2.2.2.2.2, sem_eq_zero_of_no_sems (by decide) _⟩,
    fun m g _ => Cert.MlaPos.Gen.frame m g,
    fun m g _ => Cert.MlaPosIdeal.Gen.frame m g,
    fun m g _ => θ_run_mono (Cert.MlaPosRefIdeal.Value.run m g) fun _ h => ⟨fun c => (h c).2.2.2.2.2, sem_eq_zero_of_no_sems (by decide) _⟩,
    fun m g _ => Cert.MlaCtx.Gen.frame m g,
    fun m g _ => Cert.MlaCtxIdeal.Gen.frame m g,
    fun m g _ => θ_run_mono (Cert.MlaCtxRefIdeal.Value.run m g) fun _ h => ⟨fun c => (h c).2.2, sem_eq_zero_of_no_sems (by decide) _⟩,
    fun m g _ => Cert.Adaln.Gen.frame m g,
    fun m g _ => Cert.AdalnIdeal.Gen.frame m g,
    fun m g _ => θ_run_mono (Cert.AdalnRefIdeal.Value.run m g) fun _ h => ⟨fun c => (h c).2, sem_eq_zero_of_no_sems (by decide) _⟩,
    trivial, attention, trivial, mixMlp, trivial, latent, trivial, normProj, scale, gqaPrep,
    latentNames, mla, scalePos, gqaPos, mlaPosNames, mlaPos, trivial, mlaCtx, trivial, adaln⟩

end Cert.Proof
